-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "scale2" .f32 0x3E0293EE#32 (((11863283 / 134217728) * (Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v48_0)) (v1 : (c : Dev Cert.KernelIdeal.nD) → Buf (Elt Ideal) ((c.tc : Thread Cert.KernelIdeal.nD Cert.KernelIdeal.τ).loc Cert.KernelIdeal.main_v48_1)) (v2 : (c : Dev Cert.KernelIdeal.nD) → Buf (Elt Ideal) ((c.tc : Thread Cert.KernelIdeal.nD Cert.KernelIdeal.τ).loc Cert.KernelIdeal.main_v48_2)) (v3 : (c : Dev Cert.KernelIdeal.nD) → Buf (Elt Ideal) ((c.tc : Thread Cert.KernelIdeal.nD Cert.KernelIdeal.τ).loc Cert.KernelIdeal.main_v48_3)) (v4 : (c : Dev Cert.KernelIdeal.nD) → Buf (Elt Ideal) ((c.tc : Thread Cert.KernelIdeal.nD Cert.KernelIdeal.τ).loc Cert.KernelIdeal.main_v48_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48_0) = v0 c
          ∧ r.2.mem ((c.tc : Thread Cert.KernelIdeal.nD Cert.KernelIdeal.τ).loc Cert.KernelIdeal.main_v48_1) = v1 c
          ∧ r.2.mem ((c.tc : Thread Cert.KernelIdeal.nD Cert.KernelIdeal.τ).loc Cert.KernelIdeal.main_v48_2) = v2 c
          ∧ r.2.mem ((c.tc : Thread Cert.KernelIdeal.nD Cert.KernelIdeal.τ).loc Cert.KernelIdeal.main_v48_3) = v3 c
          ∧ r.2.mem ((c.tc : Thread Cert.KernelIdeal.nD Cert.KernelIdeal.τ).loc Cert.KernelIdeal.main_v48_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v103) = v1 c
          ∧ r.2.mem ((c.tc : Thread Cert.ReferenceIdeal.nD Cert.ReferenceIdeal.τ).loc Cert.ReferenceIdeal.main_v104) = v2 c
          ∧ r.2.mem ((c.tc : Thread Cert.ReferenceIdeal.nD Cert.ReferenceIdeal.τ).loc Cert.ReferenceIdeal.main_v106) = v3 c
          ∧ r.2.mem ((c.tc : Thread Cert.ReferenceIdeal.nD Cert.ReferenceIdeal.τ).loc Cert.ReferenceIdeal.main_v108) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v28) = v0 c
          ∧ r.2.mem ((c.tc : Thread Cert.Reference8Ideal.nD Cert.Reference8Ideal.τ).loc Cert.Reference8Ideal.main_v30) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S4096x6144 : Shape := ⟨2, ![4096, 6144]⟩
abbrev S4096x8 : Shape := ⟨2, ![4096, 8]⟩
abbrev S4096x1024 : Shape := ⟨2, ![4096, 1024]⟩
abbrev S4096x3072 : Shape := ⟨2, ![4096, 3072]⟩
abbrev S_ : Shape := ⟨0, ![]⟩

class Facts : Prop where
  slices_S4096x6144_S4096x3072_0_0 : S4096x6144.Slices ![0, 0] S4096x3072
  bitsLt_bf16_f32 : FTy.bits .bf16 < FTy.bits .f32
  bcast_S_S4096x3072 : S_.BroadcastsInDim S4096x3072 (![] : Fin 0 → Fin S4096x3072.rank)
  bcast_S_S4096x8 : S_.BroadcastsInDim S4096x8 (![] : Fin 0 → Fin S4096x8.rank)
  bcast_S_S4096x1024 : S_.BroadcastsInDim S4096x1024 (![] : Fin 0 → Fin S4096x1024.rank)

variable [Facts]

def fn {F : FTy → Type} [FloatOps F] (main_arg0 : FVec F S4096x6144 .bf16) (main_arg1 : FVec F S4096x8 .f32) (main_arg2 : FVec F S4096x1024 .f32) : IVec S4096x3072 1 × IVec S4096x8 1 × IVec S4096x1024 1 :=
  let main_v0 : FVec F S4096x3072 .bf16 := (extractStridedSlice S4096x3072 ![0, 0] · slices_S4096x6144_S4096x3072_0_0) main_arg0
  let main_v1 : FVec F S4096x3072 .f32 := (extf .f32 · bitsLt_bf16_f32) main_v0
  let main_v2 : FVec F S4096x3072 .f32 := Host.absf main_v1
  let main_cst : FVec F S_ .f32 := constant S_ .f32 0x7F800000#32
  let main_v3 : FVec F S4096x3072 .f32 := broadcastInDim S4096x3072 ![] bcast_S_S4096x3072 main_cst
  let main_v4 : IVec S4096x3072 1 := cmpf .olt main_v2 main_v3
  let main_v5 : FVec F S4096x8 .f32 := Host.absf main_arg1
  let main_cst_0 : FVec F S_ .f32 := constant S_ .f32 0x7F800000#32
  let main_v6 : FVec F S4096x8 .f32 := broadcastInDim S4096x8 ![] bcast_S_S4096x8 main_cst_0
  let main_v7 : IVec S4096x8 1 := cmpf .olt main_v5 main_v6
  let main_v8 : FVec F S4096x1024 .f32 := Host.absf main_arg2
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  (main_v4, main_v7, main_v10)
-- ==== Kernel.lean ====
abbrev S4096x6144 : Shape := ⟨2, ![4096, 6144]⟩
abbrev S4096x8 : Shape := ⟨2, ![4096, 8]⟩
abbrev S4096x1024 : Shape := ⟨2, ![4096, 1024]⟩
abbrev S10 : Shape := ⟨1, ![10]⟩
abbrev S4096x8x128 : Shape := ⟨3, ![4096, 8, 128]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x128x4096 : Shape := ⟨3, ![8, 128, 4096]⟩
abbrev S8x4096x128 : Shape := ⟨3, ![8, 4096, 128]⟩
abbrev S1024x128 : Shape := ⟨2, ![1024, 128]⟩
abbrev S1 : Shape := ⟨1, ![1]⟩
abbrev S1x1x1024 : Shape := ⟨3, ![1, 1, 1024]⟩
abbrev S1x1024x128 : Shape := ⟨3, ![1, 1024, 128]⟩
abbrev S4096x128 : Shape := ⟨2, ![4096, 128]⟩
abbrev S1x1x4096 : Shape := ⟨3, ![1, 1, 4096]⟩
abbrev S128x1024 : Shape := ⟨2, ![128, 1024]⟩
abbrev S1024x1024 : Shape := ⟨2, ![1024, 1024]⟩
abbrev S8x1024 : Shape := ⟨2, ![8, 1024]⟩
abbrev S1x1024 : Shape := ⟨2, ![1, 1024]⟩
abbrev S8x128 : Shape := ⟨2, ![8, 128]⟩
abbrev S1x128 : Shape := ⟨2, ![1, 128]⟩
abbrev S1x1x128 : Shape := ⟨3, ![1, 1, 128]⟩
abbrev S128 : Shape := ⟨1, ![128]⟩

abbrev nBuf : Space → Nat
  | .hbm => 63
  | .vmem => 37
  | .smem => 2
  | _ => 0

abbrev bufTy : (tb : Table) → Fin (tcTables nBuf tb) → BufTy
  | .hbm, ⟨0, _⟩ => ⟨S4096x6144, .bf16⟩
  | .hbm, ⟨1, _⟩ => ⟨S4096x8, .f32⟩
  | .hbm, ⟨2, _⟩ => ⟨S4096x1024, .f32⟩
  | .hbm, ⟨3, _⟩ => ⟨S4096x1024, .bf16⟩
  | .hbm, ⟨4, _⟩ => ⟨S4096x1024, .f32⟩
  | .hbm, ⟨5, _⟩ => ⟨S4096x8x128, .f32⟩
  | .hbm, ⟨6, _⟩ => ⟨S4096x1024, .bf16⟩
  | .hbm, ⟨7, _⟩ => ⟨S4096x1024, .f32⟩
  | .hbm, ⟨8, _⟩ => ⟨S4096x8x128, .f32⟩
  | .hbm, ⟨9, _⟩ => ⟨S4096x1024, .bf16⟩
  | .hbm, ⟨10, _⟩ => ⟨S4096x1024, .f32⟩
  | .hbm, ⟨11, _⟩ => ⟨S4096x8x128, .f32⟩
  | .hbm, ⟨12, _⟩ => ⟨S8x4096x4096, .f32⟩
  | .hbm, ⟨13, _⟩ => ⟨S_, .f32⟩
  | .hbm, ⟨14, _⟩ => ⟨S8x4096x4096, .f32⟩
  | .hbm, ⟨15, _⟩ => ⟨S8x4096x4096, .f32⟩
  | .hbm, ⟨16, _⟩ => ⟨S8x4096, .f32⟩
  | .hbm, ⟨17, _⟩ => ⟨S8x4096x1, .f32⟩
  | .hbm, ⟨18, _⟩ => ⟨S8x4096, .f32⟩
  | .hbm, ⟨19, _⟩ => ⟨S8x1x4096, .f32⟩
  | .hbm, ⟨20, _⟩ => ⟨S8x4096x4096, .f32⟩
  | .hbm, ⟨21, _⟩ => ⟨S8x4096x4096, .f32⟩
  | .hbm, ⟨22, _⟩ => ⟨S8x4096x4096, .f32⟩
  | .hbm, ⟨23, _⟩ => ⟨S8x4096x4096, .f32⟩
  | .hbm, ⟨24, _⟩ => ⟨S4096, .i32⟩
  | .hbm, ⟨25, _⟩ => ⟨S1x4096, .i32⟩
  | .hbm, ⟨26, _⟩ => ⟨S4096, .i32⟩
  | .hbm, ⟨27, _⟩ => ⟨S4096x1, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S_, .f32⟩
  | .hbm, ⟨32, _⟩ => ⟨S_, .f32⟩
  | .hbm, ⟨33, _⟩ => ⟨S8x4096x4096, .i1⟩
  | .hbm, ⟨34, _⟩ => ⟨S8x4096x4096, .f32⟩
  | .hbm, ⟨35, _⟩ => ⟨S8x4096x4096, .f32⟩
  | .hbm, ⟨36, _⟩ => ⟨S_, .f32⟩
  | .hbm, ⟨37, _⟩ => ⟨S8x4096, .f32⟩
  | .hbm, ⟨38, _⟩ => ⟨S8x4096x1, .f32⟩
  | .hbm, ⟨39, _⟩ => ⟨S8x4096x4096, .f32⟩
  | .hbm, ⟨40, _⟩ => ⟨S8x4096x4096, .f32⟩
  | .hbm, ⟨41, _⟩ => ⟨S8x4096x4096, .f32⟩
  | .hbm, ⟨42, _⟩ => ⟨S_, .f32⟩
  | .hbm, ⟨43, _⟩ => ⟨S8x4096, .f32⟩
  | .hbm, ⟨44, _⟩ => ⟨S8x4096x1, .f32⟩
  | .hbm, ⟨45, _⟩ => ⟨S8x4096x4096, .f32⟩
  | .hbm, ⟨46, _⟩ => ⟨S8x4096x4096, .f32⟩
  | .hbm, ⟨47, _⟩ => ⟨S8x128x4096, .f32⟩
  | .hbm, ⟨48, _⟩ => ⟨S4096x8x128, .f32⟩
  | .hbm, ⟨49, _⟩ => ⟨S8x4096x1, .f32⟩
  | .hbm, ⟨50, _⟩ => ⟨S8x4096x1, .f32⟩
  | .hbm, ⟨51, _⟩ => ⟨S8x4096, .f32⟩
  | .hbm, ⟨52, _⟩ => ⟨S8x4096, .f32⟩
  | .hbm, ⟨53, _⟩ => ⟨S8x1x4096, .f32⟩
  | .hbm, ⟨54, _⟩ => ⟨S8x4096x1, .f32⟩
  | .hbm, ⟨55, _⟩ => ⟨S8x4096x128, .f32⟩
  | .hbm, ⟨56, _⟩ => ⟨S8x1x4096, .f32⟩
  | .hbm, ⟨57, _⟩ => ⟨S4096x1024, .f32⟩
  | .hbm, ⟨58, _⟩ => ⟨S4096x1024, .bf16⟩
  | .hbm, ⟨59, _⟩ => ⟨S4096x1024, .bf16⟩
  | .hbm, ⟨60, _⟩ => ⟨S4096x1024, .bf16⟩
  | .hbm, ⟨61, _⟩ => ⟨S8x1x4096, .f32⟩
  | .hbm, ⟨62, _⟩ => ⟨S8x1x4096, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1x1x1024, .f32⟩
  | .local _ .vmem, ⟨7, _⟩ => ⟨S1x1x1024, .f32⟩
  | .local _ .vmem, ⟨8, _⟩ => ⟨S1x1024x128, .f32⟩
  | .local _ .vmem, ⟨9, _⟩ => ⟨S1x1024x128, .f32⟩
  | .local _ .vmem, ⟨10, _⟩ => ⟨S1x1x1024, .f32⟩
  | .local _ .vmem, ⟨11, _⟩ => ⟨S1x1x1024, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .bf16⟩
  | .local _ .vmem, ⟨17, _⟩ => ⟨S1024x128, .bf16⟩
  | .local _ .vmem, ⟨18, _⟩ => ⟨S4096x128, .bf16⟩
  | .local _ .vmem, ⟨19, _⟩ => ⟨S4096x128, .bf16⟩
  | .local _ .vmem, ⟨20, _⟩ => ⟨S4096x128, .bf16⟩
  | .local _ .vmem, ⟨21, _⟩ => ⟨S4096x128, .bf16⟩
  | .local _ .vmem, ⟨22, _⟩ => ⟨S1x1x1024, .f32⟩
  | .local _ .vmem, ⟨23, _⟩ => ⟨S1x1x1024, .f32⟩
  | .local _ .vmem, ⟨24, _⟩ => ⟨S1x1x4096, .f32⟩
  | .local _ .vmem, ⟨25, _⟩ => ⟨S1x1x4096, .f32⟩
  | .local _ .vmem, ⟨26, _⟩ => ⟨S128x1024, .f32⟩
  | .local _ .vmem, ⟨27, _⟩ => ⟨S4096x128, .f32⟩
  | .local _ .vmem, ⟨28, _⟩ => ⟨S4096x128, .f32⟩
  | .local _ .vmem, ⟨29, _⟩ => ⟨S4096x128, .f32⟩
  | .local _ .vmem, ⟨30, _⟩ => ⟨S1024x1024, .f32⟩
  | .local _ .vmem, ⟨31, _⟩ => ⟨S1024x1024, .f32⟩
  | .local _ .vmem, ⟨32, _⟩ => ⟨S1024x1024, .bf16⟩
  | .local _ .vmem, ⟨33, _⟩ => ⟨S1024x1024, .bf16⟩
  | .local _ .vmem, ⟨34, _⟩ => ⟨S1024x128, .bf16⟩
  | .local _ .vmem, ⟨35, _⟩ => ⟨S8x1024, .f32⟩
  | .local _ .vmem, ⟨36, _⟩ => ⟨S1x1024, .f32⟩
  | .local _ .smem, ⟨0, _⟩ => ⟨S10, .i32⟩
  | .local _ .smem, ⟨1, _⟩ => ⟨S10, .i32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_1 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48_0 : Ref sig .tc := ⟨.hbm, 58, rfl⟩
abbrev main_v48_1 : Ref sig .tc := ⟨.hbm, 59, rfl⟩
abbrev main_v48_2 : Ref sig .tc := ⟨.hbm, 60, rfl⟩
abbrev main_v48_3 : Ref sig .tc := ⟨.hbm, 61, rfl⟩
abbrev main_v48_4 : Ref sig .tc := ⟨.hbm, 62, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_scratch6 : Ref sig .tc := ⟨.vmem, 32, rfl⟩
abbrev cc0_scratch7 : Ref sig .tc := ⟨.vmem, 33, rfl⟩
abbrev cc0_scratch8 : Ref sig .tc := ⟨.vmem, 34, rfl⟩
abbrev cc0_scratch9 : Ref sig .tc := ⟨.vmem, 35, rfl⟩
abbrev cc0_scratch10 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 10], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v3 : BitVec 32) : BitVec 32 :=
  let c1024_i32 : BitVec 32 := 1024#32
  let v35 : BitVec 32 := Scalar.muli v3 c1024_i32
  v35
def k0_cond3 (v1 : BitVec 32) (v3 : BitVec 32) : BitVec 1 :=
  let v10 : BitVec 1 := Scalar.cmpi .slt v3 v1
  let v11 : BitVec 32 := Scalar.extui v10
  let c0_i32_3 : BitVec 32 := 0#32
  let v12 : BitVec 1 := Scalar.cmpi .ne v11 c0_i32_3
  v12

def k0_off2 (v3 : BitVec 32) : Fin 2 → Nat :=
  let c1024_i32 : BitVec 32 := 1024#32
  let v35 : BitVec 32 := Scalar.muli v3 c1024_i32
  let v36 : BitVec 32 := v35
  let v58 : Index := Scalar.indexCast v36
  let c0_38 : Index := 0#32
  ![v58.toNat, 0]
def k0_mult2 (v3 : BitVec 32) : BitVec 32 :=
  let c1024_i32 : BitVec 32 := 1024#32
  let v35 : BitVec 32 := Scalar.muli v3 c1024_i32
  v35
def k0_cond4 (v1 : BitVec 32) (v3 : BitVec 32) : BitVec 1 :=
  let v13 : BitVec 1 := Scalar.cmpi .eq v3 v1
  let v14 : BitVec 32 := Scalar.extui v13
  let c0_i32_4 : BitVec 32 := 0#32
  let v15 : BitVec 1 := Scalar.cmpi .ne v14 c0_i32_4
  v15

def k0_off3 (v3 : BitVec 32) : Fin 2 → Nat :=
  let c1024_i32 : BitVec 32 := 1024#32
  let v35 : BitVec 32 := Scalar.muli v3 c1024_i32
  let v36 : BitVec 32 := v35
  let v65 : Index := Scalar.indexCast v36
  let c0_40 : Index := 0#32
  ![v65.toNat, 0]

def k0_chk1 (v1 : BitVec 32) (v3 : BitVec 32) : Prop :=
  (∀ (k0_h3 : k0_cond3 v1 v3 = 1#1), 1024 ∣ (k0_mult1 v3).toNat) ∧
  (∀ (k0_h3 : k0_cond3 v1 v3 = 1#1), ∀ a, (k0_off2 v3) a + S1024x128.size a ≤ S4096x128.size a) ∧
  (∀ (k0_h4 : k0_cond4 v1 v3 = 1#1), 1024 ∣ (k0_mult2 v3).toNat) ∧
  (∀ (k0_h4 : k0_cond4 v1 v3 = 1#1), ∀ a, (k0_off3 v3) a + S1024x128.size a ≤ S4096x128.size a)
theorem k0_mult1_dvd : ∀ (v1 : BitVec 32) (v3 : BitVec 32) (k0_hw1 : k0_chk1 v1 v3), ∀ (k0_h3 : k0_cond3 v1 v3 = 1#1), 1024 ∣ (k0_mult1 v3).toNat := fun v1 v3 k0_hw1 k0_h3 => k0_hw1.1 k0_h3
theorem k0_off2_inb : ∀ (v1 : BitVec 32) (v3 : BitVec 32) (k0_hw1 : k0_chk1 v1 v3), ∀ (k0_h3 : k0_cond3 v1 v3 = 1#1), ∀ a, (k0_off2 v3) a + S1024x128.size a ≤ S4096x128.size a := fun v1 v3 k0_hw1 k0_h3 => k0_hw1.2.1 k0_h3
theorem k0_mult2_dvd : ∀ (v1 : BitVec 32) (v3 : BitVec 32) (k0_hw1 : k0_chk1 v1 v3), ∀ (k0_h4 : k0_cond4 v1 v3 = 1#1), 1024 ∣ (k0_mult2 v3).toNat := fun v1 v3 k0_hw1 k0_h4 => k0_hw1.2.2.1 k0_h4
theorem k0_off3_inb : ∀ (v1 : BitVec 32) (v3 : BitVec 32) (k0_hw1 : k0_chk1 v1 v3), ∀ (k0_h4 : k0_cond4 v1 v3 = 1#1), ∀ a, (k0_off3 v3) a + S1024x128.size a ≤ S4096x128.size a := fun v1 v3 k0_hw1 k0_h4 => k0_hw1.2.2.2 k0_h4

def k0_cond5 (i : grid0.Coords) : BitVec 1 :=
  let arg1 : BitVec 32 := BitVec.ofNat 32 (i 1).val
  let c9_i32 : BitVec 32 := 9#32
  let v16 : BitVec 1 := Scalar.cmpi .eq arg1 c9_i32
  let v17 : BitVec 32 := Scalar.extui v16
  let c0_i32_5 : BitVec 32 := 0#32
  let v18 : BitVec 1 := Scalar.cmpi .ne v17 c0_i32_5
  v18

def k0_cond2 (v3 : BitVec 32) : BitVec 1 :=
  let c0_i32_1 : BitVec 32 := 0#32
  let v7 : BitVec 1 := Scalar.cmpi .eq v3 c0_i32_1
  let v8 : BitVec 32 := Scalar.extui v7
  let c0_i32_2 : BitVec 32 := 0#32
  let v9 : BitVec 1 := Scalar.cmpi .ne v8 c0_i32_2
  v9

def cc0_transform_0 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c8_i32 : BitVec 32 := 8#32
  let v2 : BitVec 32 := Scalar.addi c8_i32 arg0
  let c0_i32 : BitVec 32 := 0#32
  ![v1.toNat, v2.toNat]

def cc0_transform_2 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c16_i32 : BitVec 32 := 16#32
  let v2 : BitVec 32 := Scalar.addi c16_i32 arg0
  let c0_i32 : BitVec 32 := 0#32
  ![v1.toNat, v2.toNat]

def cc0_transform_3 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  let c0_i32_0 : BitVec 32 := 0#32
  ![arg0.toNat, c0_i32.toNat, v1.toNat]

def cc0_transform_4 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  let c0_i32_0 : BitVec 32 := 0#32
  ![arg0.toNat, v1.toNat, c0_i32.toNat]

def cc0_transform_5 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  let c0_i32_0 : BitVec 32 := 0#32
  ![arg0.toNat, c0_i32.toNat, v1.toNat]

def cc0_transform_6 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_7 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_8 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  let c0_i32_0 : BitVec 32 := 0#32
  ![arg0.toNat, c0_i32.toNat, v1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S4096x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x4096 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== KernelIdeal.lean ====
variable {F : FTy → Type} [FloatOps F] [Named F]
def κ : String → Option EReal := fun
  | "log2e" => some (((Real.log 2)⁻¹ : ℝ) : EReal)
  | "mask" => some ⊥
  | "scale2" => some (((11863283 / 134217728) * (Real.log 2)⁻¹ : ℝ) : EReal)
  | _ => none
-- ==== ReferenceIdeal.lean ====
abbrev S4096x6144 : Shape := ⟨2, ![4096, 6144]⟩
abbrev S4096x8 : Shape := ⟨2, ![4096, 8]⟩
abbrev S4096x1024 : Shape := ⟨2, ![4096, 1024]⟩
abbrev S4096x8x128 : Shape := ⟨3, ![4096, 8, 128]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x128x4096 : Shape := ⟨3, ![8, 128, 4096]⟩
abbrev S8x4096x128 : Shape := ⟨3, ![8, 4096, 128]⟩

abbrev nBuf : Space → Nat
  | .hbm => 138
  | .vmem => 0
  | .smem => 0
  | _ => 0

abbrev hbmTy0_0 (i : Nat) : BufTy := match i % 128 with
  | 0 => ⟨S4096x6144, .bf16⟩
  | 1 => ⟨S4096x8, .f32⟩
  | 2 => ⟨S4096x1024, .f32⟩
  | 3 => ⟨S4096x1024, .bf16⟩
  | 4 => ⟨S4096x8x128, .bf16⟩
  | 5 => ⟨S4096x1024, .bf16⟩
  | 6 => ⟨S4096x8x128, .bf16⟩
  | 7 => ⟨S4096x1024, .bf16⟩
  | 8 => ⟨S4096x8x128, .bf16⟩
  | 9 => ⟨S4096x8x128, .f32⟩
  | 10 => ⟨S4096x8x128, .f32⟩
  | 11 => ⟨S8x4096x4096, .f32⟩
  | 12 => ⟨S_, .f32⟩
  | 13 => ⟨S8x4096x4096, .f32⟩
  | 14 => ⟨S8x4096x4096, .f32⟩
  | 15 => ⟨S8x4096, .f32⟩
  | 16 => ⟨S8x4096x1, .f32⟩
  | 17 => ⟨S8x4096, .f32⟩
  | 18 => ⟨S8x1x4096, .f32⟩
  | 19 => ⟨S8x4096x4096, .f32⟩
  | 20 => ⟨S8x4096x4096, .f32⟩
  | 21 => ⟨S8x4096x4096, .f32⟩
  | 22 => ⟨S8x4096x4096, .f32⟩
  | 23 => ⟨S4096, .i32⟩
  | 24 => ⟨S1x4096, .i32⟩
  | 25 => ⟨S4096, .i32⟩
  | 26 => ⟨S4096x1, .i32⟩
  | 27 => ⟨S4096x4096, .i32⟩
  | 28 => ⟨S4096x4096, .i32⟩
  | 29 => ⟨S4096x4096, .i1⟩
  | 30 => ⟨S_, .f32⟩
  | 31 => ⟨S_, .f32⟩
  | 32 => ⟨S8x4096x4096, .i1⟩
  | 33 => ⟨S8x4096x4096, .f32⟩
  | 34 => ⟨S8x4096x4096, .f32⟩
  | 35 => ⟨S_, .f32⟩
  | 36 => ⟨S8x4096x4096, .f32⟩
  | 37 => ⟨S_, .f32⟩
  | 38 => ⟨S8x4096, .f32⟩
  | 39 => ⟨S8x4096x1, .f32⟩
  | 40 => ⟨S8x4096x4096, .f32⟩
  | 41 => ⟨S8x4096x4096, .i1⟩
  | 42 => ⟨S8x4096x4096, .f32⟩
  | 43 => ⟨S_, .f32⟩
  | 44 => ⟨S8x4096, .f32⟩
  | 45 => ⟨S_, .f32⟩
  | 46 => ⟨S8x4096, .f32⟩
  | 47 => ⟨S8x4096, .f32⟩
  | 48 => ⟨S_, .f32⟩
  | 49 => ⟨S8x4096, .f32⟩
  | 50 => ⟨S8x4096, .i1⟩
  | 51 => ⟨S_, .f32⟩
  | 52 => ⟨S8x4096, .f32⟩
  | 53 => ⟨S8x4096, .i1⟩
  | 54 => ⟨S_, .f32⟩
  | 55 => ⟨S8x4096, .f32⟩
  | 56 => ⟨S_, .f32⟩
  | 57 => ⟨S8x4096, .f32⟩
  | 58 => ⟨S_, .f32⟩
  | 59 => ⟨S8x4096, .f32⟩
  | 60 => ⟨S8x4096, .f32⟩
  | 61 => ⟨S8x4096, .f32⟩
  | 62 => ⟨S8x4096x1, .f32⟩
  | 63 => ⟨S8x4096x4096, .f32⟩
  | 64 => ⟨S8x4096x4096, .f32⟩
  | 65 => ⟨S8x4096x4096, .f32⟩
  | 66 => ⟨S_, .f32⟩
  | 67 => ⟨S8x4096, .f32⟩
  | 68 => ⟨S8x4096x1, .f32⟩
  | 69 => ⟨S8x4096x4096, .f32⟩
  | 70 => ⟨S8x4096x4096, .f32⟩
  | 71 => ⟨S8x4096x1, .f32⟩
  | 72 => ⟨S_, .f32⟩
  | 73 => ⟨S8x4096x1, .f32⟩
  | 74 => ⟨S8x4096x1, .f32⟩
  | 75 => ⟨S8x4096x4096, .bf16⟩
  | 76 => ⟨S8x4096x4096, .f32⟩
  | 77 => ⟨S4096x8x128, .f32⟩
  | 78 => ⟨S8x128x4096, .f32⟩
  | 79 => ⟨S4096x8x128, .f32⟩
  | 80 => ⟨S4096x8x128, .bf16⟩
  | 81 => ⟨S4096x8x128, .f32⟩
  | 82 => ⟨S4096x8x128, .f32⟩
  | 83 => ⟨S4096x8x128, .bf16⟩
  | 84 => ⟨S4096x8x128, .f32⟩
  | 85 => ⟨S8x128x4096, .f32⟩
  | 86 => ⟨S8x4096x4096, .f32⟩
  | 87 => ⟨S8x128x4096, .f32⟩
  | 88 => ⟨S4096x8x128, .f32⟩
  | 89 => ⟨S4096x8x128, .bf16⟩
  | 90 => ⟨S8x4096x4096, .bf16⟩
  | 91 => ⟨S8x4096x4096, .f32⟩
  | 92 => ⟨S8x4096x4096, .f32⟩
  | 93 => ⟨S8x4096x4096, .f32⟩
  | 94 => ⟨S8x4096x4096, .f32⟩
  | 95 => ⟨S_, .f32⟩
  | 96 => ⟨S8x4096, .f32⟩
  | 97 => ⟨S8x4096x1, .f32⟩
  | 98 => ⟨S8x4096x1, .f32⟩
  | 99 => ⟨S8x4096x4096, .f32⟩
  | 100 => ⟨S8x4096x4096, .f32⟩
  | 101 => ⟨S_, .f32⟩
  | 102 => ⟨S8x4096, .f32⟩
  | 103 => ⟨S8x4096x4096, .f32⟩
  | 104 => ⟨S8x4096x4096, .f32⟩
  | 105 => ⟨S8x4096x4096, .f32⟩
  | 106 => ⟨S_, .f32⟩
  | 107 => ⟨S8x4096x4096, .f32⟩
  | 108 => ⟨S8x4096x4096, .f32⟩
  | 109 => ⟨S_, .f32⟩
  | 110 => ⟨S8x4096, .f32⟩
  | 111 => ⟨S8x4096x1, .f32⟩
  | 112 => ⟨S8x4096x4096, .f32⟩
  | 113 => ⟨S_, .f32⟩
  | 114 => ⟨S8x4096, .f32⟩
  | 115 => ⟨S8x1x4096, .f32⟩
  | 116 => ⟨S_, .f32⟩
  | 117 => ⟨S8x4096, .f32⟩
  | 118 => ⟨S4096x8, .f32⟩
  | 119 => ⟨S_, .f32⟩
  | 120 => ⟨S8x4096, .f32⟩
  | 121 => ⟨S4096x8, .f32⟩
  | 122 => ⟨S_, .f32⟩
  | 123 => ⟨S8x4096x4096, .f32⟩
  | 124 => ⟨S8x4096x4096, .f32⟩
  | 125 => ⟨S8x4096x128, .f32⟩
  | 126 => ⟨S4096x8x128, .f32⟩
  | 127 => ⟨S8x4096x128, .f32⟩
  | _ => ⟨S4096x6144, .bf16⟩

abbrev hbmTy0_1 (i : Nat) : BufTy := match i % 128 with
  | 0 => ⟨S4096x8x128, .f32⟩
  | 1 => ⟨S4096x8x128, .bf16⟩
  | 2 => ⟨S4096x8x128, .bf16⟩
  | 3 => ⟨S4096x1024, .bf16⟩
  | 4 => ⟨S4096x1024, .bf16⟩
  | 5 => ⟨S4096x1024, .bf16⟩
  | 6 => ⟨S8x4096, .f32⟩
  | 7 => ⟨S8x1x4096, .f32⟩
  | 8 => ⟨S8x4096, .f32⟩
  | 9 => ⟨S8x1x4096, .f32⟩
  | _ => ⟨S4096x6144, .bf16⟩

abbrev hbmTy (i : Nat) : BufTy := match i / 128 with
  | 0 => hbmTy0_0 i
  | 1 => hbmTy0_1 i
  | _ => ⟨S4096x6144, .bf16⟩

abbrev bufTy : (tb : Table) → Fin (tcTables nBuf tb) → BufTy
  | .hbm, ⟨i, _⟩ => hbmTy i
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_call0_v0 : Ref sig .tc := ⟨.hbm, 31, rfl⟩
abbrev main_v26_1 : Ref sig .tc := ⟨.hbm, 32, rfl⟩
abbrev main_call0_v2 : Ref sig .tc := ⟨.hbm, 33, rfl⟩
abbrev main_v26_0 : Ref sig .tc := ⟨.hbm, 34, rfl⟩
abbrev main_call0_cst : Ref sig .tc := ⟨.hbm, 35, rfl⟩
abbrev main_v26_2 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_11 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_12 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_call1_cst : Ref sig .tc := ⟨.hbm, 106, rfl⟩
abbrev main_call1_v0 : Ref sig .tc := ⟨.hbm, 107, rfl⟩
abbrev main_v84 : Ref sig .tc := ⟨.hbm, 108, rfl⟩
abbrev main_cst_13 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_14 : Ref sig .tc := ⟨.hbm, 113, rfl⟩
abbrev main_v88 : Ref sig .tc := ⟨.hbm, 114, rfl⟩
abbrev main_v89 : Ref sig .tc := ⟨.hbm, 115, rfl⟩
abbrev main_cst_15 : Ref sig .tc := ⟨.hbm, 116, rfl⟩
abbrev main_v90 : Ref sig .tc := ⟨.hbm, 117, rfl⟩
abbrev main_v91 : Ref sig .tc := ⟨.hbm, 118, rfl⟩
abbrev main_cst_16 : Ref sig .tc := ⟨.hbm, 119, rfl⟩
abbrev main_v92 : Ref sig .tc := ⟨.hbm, 120, rfl⟩
abbrev main_v93 : Ref sig .tc := ⟨.hbm, 121, rfl⟩
abbrev main_cst_17 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩

abbrev nD : Nat := 1
abbrev τ : Topo := Topo.v7x

variable {F : FTy → Type} [FloatOps F]

def κ : String → Option EReal := fun
  | "log2e" => some (((Real.log 2)⁻¹ : ℝ) : EReal)
  | "mask" => some ⊥
  | "scale2" => some (((11863283 / 134217728) * (Real.log 2)⁻¹ : ℝ) : EReal)
  | _ => none
-- ==== Kernel2.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩
abbrev S1024x2048 : Shape := ⟨2, ![1024, 2048]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x8192, .f32⟩
  | .hbm, ⟨1, _⟩ => ⟨S8192x2048, .bf16⟩
  | .hbm, ⟨2, _⟩ => ⟨S4096x2048, .bf16⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .bf16⟩
  | .hbm, ⟨7, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x2048, .bf16⟩
  | .hbm, ⟨2, _⟩ => ⟨S4096x2048, .bf16⟩
  | .hbm, ⟨3, _⟩ => ⟨S8192x2048, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .i1⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x2048, .f32⟩
  | .hbm, ⟨17, _⟩ => ⟨S4096x2048, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel3.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S4096x2048, .bf16⟩
  | .hbm, ⟨2, _⟩ => ⟨S_, .f32⟩
  | .hbm, ⟨3, _⟩ => ⟨S4096x8192, .f32⟩
  | .hbm, ⟨4, _⟩ => ⟨S4096x8192, .f32⟩
  | .hbm, ⟨5, _⟩ => ⟨S4096x8192, .f32⟩
  | .hbm, ⟨6, _⟩ => ⟨S4096x8192, .bf16⟩
  | .hbm, ⟨7, _⟩ => ⟨S8192x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 12
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x2048, .bf16⟩
  | .hbm, ⟨2, _⟩ => ⟨S_, .f32⟩
  | .hbm, ⟨3, _⟩ => ⟨S8192x2048, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S4096x2048, .f32⟩
  | .hbm, ⟨9, _⟩ => ⟨S4096x2048, .f32⟩
  | .hbm, ⟨10, _⟩ => ⟨S2048x8192, .f32⟩
  | .hbm, ⟨11, _⟩ => ⟨S8192x2048, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel4.lean ====
abbrev S4096x8192 : Shape := ⟨2, ![4096, 8192]⟩
abbrev S8x2048x1024 : Shape := ⟨3, ![8, 2048, 1024]⟩
abbrev S4096x2048 : Shape := ⟨2, ![4096, 2048]⟩
abbrev S1024x2048 : Shape := ⟨2, ![1024, 2048]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x8192, .bf16⟩
  | .hbm, ⟨1, _⟩ => ⟨S8x2048x1024, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2x1024x1024, .bf16⟩
  | .local _ .vmem, ⟨3, _⟩ => ⟨S2x1024x1024, .bf16⟩
  | .local _ .vmem, ⟨4, _⟩ => ⟨S1024x1024, .f32⟩
  | .local _ .vmem, ⟨5, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond1 (i : grid0.Coords) : BitVec 1 :=
  let arg2 : BitVec 32 := BitVec.ofNat 32 (i 2).val
  let c0_i32 : BitVec 32 := 0#32
  let v9 : BitVec 1 := Scalar.cmpi .eq arg2 c0_i32
  let v10 : BitVec 32 := Scalar.extui v9
  let c0_i32_8 : BitVec 32 := 0#32
  let v11 : BitVec 1 := Scalar.cmpi .ne v10 c0_i32_8
  v11

def k0_cond2 (i : grid0.Coords) : BitVec 1 :=
  let arg2 : BitVec 32 := BitVec.ofNat 32 (i 2).val
  let c0_i32_9 : BitVec 32 := 0#32
  let v12 : BitVec 1 := Scalar.cmpi .sgt arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x8192 : Shape := ⟨2, ![4096, 8192]⟩
abbrev S8x2048x1024 : Shape := ⟨3, ![8, 2048, 1024]⟩
abbrev S1x2048x1024 : Shape := ⟨3, ![1, 2048, 1024]⟩
abbrev S2048x1024 : Shape := ⟨2, ![2048, 1024]⟩
abbrev S2048x8192 : Shape := ⟨2, ![2048, 8192]⟩
abbrev S_ : Shape := ⟨0, ![]⟩
abbrev S4096x2048 : Shape := ⟨2, ![4096, 2048]⟩

abbrev nBuf : Space → Nat
  | .hbm => 32
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8x2048x1024, .bf16⟩
  | .hbm, ⟨2, _⟩ => ⟨S1x2048x1024, .bf16⟩
  | .hbm, ⟨3, _⟩ => ⟨S2048x1024, .bf16⟩
  | .hbm, ⟨4, _⟩ => ⟨S2048x1024, .f32⟩
  | .hbm, ⟨5, _⟩ => ⟨S1x2048x1024, .bf16⟩
  | .hbm, ⟨6, _⟩ => ⟨S2048x1024, .bf16⟩
  | .hbm, ⟨7, _⟩ => ⟨S2048x1024, .f32⟩
  | .hbm, ⟨8, _⟩ => ⟨S1x2048x1024, .bf16⟩
  | .hbm, ⟨9, _⟩ => ⟨S2048x1024, .bf16⟩
  | .hbm, ⟨10, _⟩ => ⟨S2048x1024, .f32⟩
  | .hbm, ⟨11, _⟩ => ⟨S1x2048x1024, .bf16⟩
  | .hbm, ⟨12, _⟩ => ⟨S2048x1024, .bf16⟩
  | .hbm, ⟨13, _⟩ => ⟨S2048x1024, .f32⟩
  | .hbm, ⟨14, _⟩ => ⟨S1x2048x1024, .bf16⟩
  | .hbm, ⟨15, _⟩ => ⟨S2048x1024, .bf16⟩
  | .hbm, ⟨16, _⟩ => ⟨S2048x1024, .f32⟩
  | .hbm, ⟨17, _⟩ => ⟨S1x2048x1024, .bf16⟩
  | .hbm, ⟨18, _⟩ => ⟨S2048x1024, .bf16⟩
  | .hbm, ⟨19, _⟩ => ⟨S2048x1024, .f32⟩
  | .hbm, ⟨20, _⟩ => ⟨S1x2048x1024, .bf16⟩
  | .hbm, ⟨21, _⟩ => ⟨S2048x1024, .bf16⟩
  | .hbm, ⟨22, _⟩ => ⟨S2048x1024, .f32⟩
  | .hbm, ⟨23, _⟩ => ⟨S1x2048x1024, .bf16⟩
  | .hbm, ⟨24, _⟩ => ⟨S2048x1024, .bf16⟩
  | .hbm, ⟨25, _⟩ => ⟨S2048x1024, .f32⟩
  | .hbm, ⟨26, _⟩ => ⟨S2048x8192, .f32⟩
  | .hbm, ⟨27, _⟩ => ⟨S_, .f32⟩
  | .hbm, ⟨28, _⟩ => ⟨S4096x2048, .f32⟩
  | .hbm, ⟨29, _⟩ => ⟨S4096x8192, .f32⟩
  | .hbm, ⟨30, _⟩ => ⟨S4096x8192, .f32⟩
  | .hbm, ⟨31, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_cst : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩

abbrev nD : Nat := 1
abbrev τ : Topo := Topo.v7x

variable {F : FTy → Type} [FloatOps F]
-- ==== Kernel5.lean ====
abbrev S4096x2048 : Shape := ⟨2, ![4096, 2048]⟩
abbrev S4096x8192 : Shape := ⟨2, ![4096, 8192]⟩
abbrev S8x2048x1024 : Shape := ⟨3, ![8, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S8x2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S2048x1024 : Shape := ⟨2, ![2048, 1024]⟩
abbrev S1x2048x1024 : Shape := ⟨3, ![1, 2048, 1024]⟩
abbrev S8x2048x1024 : Shape := ⟨3, ![8, 2048, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S1x2048x1024, .f32⟩
  | .hbm, ⟨18, _⟩ => ⟨S1x2048x1024, .f32⟩
  | .hbm, ⟨19, _⟩ => ⟨S1x2048x1024, .f32⟩
  | .hbm, ⟨20, _⟩ => ⟨S1x2048x1024, .f32⟩
  | .hbm, ⟨21, _⟩ => ⟨S1x2048x1024, .f32⟩
  | .hbm, ⟨22, _⟩ => ⟨S1x2048x1024, .f32⟩
  | .hbm, ⟨23, _⟩ => ⟨S1x2048x1024, .f32⟩
  | .hbm, ⟨24, _⟩ => ⟨S1x2048x1024, .f32⟩
  | .hbm, ⟨25, _⟩ => ⟨S8x2048x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩

abbrev nD : Nat := 1
abbrev τ : Topo := Topo.v7x

variable {F : FTy → Type} [FloatOps F]
-- ==== Kernel6.lean ====
abbrev S4096x6144 : Shape := ⟨2, ![4096, 6144]⟩
abbrev S4096x8 : Shape := ⟨2, ![4096, 8]⟩
abbrev S2048x6144 : Shape := ⟨2, ![2048, 6144]⟩
abbrev S2048x8 : Shape := ⟨2, ![2048, 8]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4096x6144, .bf16⟩
  | .hbm, ⟨1, _⟩ => ⟨S4096x8, .f32⟩
  | .hbm, ⟨2, _⟩ => ⟨S2048x6144, .bf16⟩
  | .hbm, ⟨3, _⟩ => ⟨S2048x8, .bf16⟩
  | .hbm, ⟨4, _⟩ => ⟨S2048x8, .f32⟩
  | .hbm, ⟨5, _⟩ => ⟨S4096x2048, .f32⟩
  | .hbm, ⟨6, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 3], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S4096x6144 : Shape := ⟨2, ![4096, 6144]⟩
abbrev S4096x8 : Shape := ⟨2, ![4096, 8]⟩
abbrev S2048x6144 : Shape := ⟨2, ![2048, 6144]⟩
abbrev S2048x8 : Shape := ⟨2, ![2048, 8]⟩
abbrev S_ : Shape := ⟨0, ![]⟩
abbrev S4096x2048 : Shape := ⟨2, ![4096, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S4096x8, .f32⟩
  | .hbm, ⟨2, _⟩ => ⟨S2048x6144, .bf16⟩
  | .hbm, ⟨3, _⟩ => ⟨S2048x8, .bf16⟩
  | .hbm, ⟨4, _⟩ => ⟨S_, .f32⟩
  | .hbm, ⟨5, _⟩ => ⟨S4096x2048, .f32⟩
  | .hbm, ⟨6, _⟩ => ⟨S2048x6144, .f32⟩
  | .hbm, ⟨7, _⟩ => ⟨S2048x8, .f32⟩
  | .hbm, ⟨8, _⟩ => ⟨S4096x6144, .f32⟩
  | .hbm, ⟨9, _⟩ => ⟨S4096x8, .f32⟩
  | .hbm, ⟨10, _⟩ => ⟨S4096x6144, .f32⟩
  | .hbm, ⟨11, _⟩ => ⟨S4096x2048, .f32⟩
  | .hbm, ⟨12, _⟩ => ⟨S4096x2048, .f32⟩
  | .hbm, ⟨13, _⟩ => ⟨S4096x2048, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel7.lean ====
abbrev S4096x2048 : Shape := ⟨2, ![4096, 2048]⟩
abbrev S4096x6144 : Shape := ⟨2, ![4096, 6144]⟩
abbrev S2048x6144 : Shape := ⟨2, ![2048, 6144]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S2048x6144, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S4096x6144 : Shape := ⟨2, ![4096, 6144]⟩
abbrev S_ : Shape := ⟨0, ![]⟩
abbrev S2048x6144 : Shape := ⟨2, ![2048, 6144]⟩
abbrev S6144x2048 : Shape := ⟨2, ![6144, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S_, .f32⟩
  | .hbm, ⟨3, _⟩ => ⟨S2048x6144, .f32⟩
  | .hbm, ⟨4, _⟩ => ⟨S4096x2048, .f32⟩
  | .hbm, ⟨5, _⟩ => ⟨S4096x6144, .f32⟩
  | .hbm, ⟨6, _⟩ => ⟨S4096x6144, .f32⟩
  | .hbm, ⟨7, _⟩ => ⟨S6144x2048, .f32⟩
  | .hbm, ⟨8, _⟩ => ⟨S2048x6144, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S4096x2048 : Shape := ⟨2, ![4096, 2048]⟩
abbrev S8x2048x1024 : Shape := ⟨3, ![8, 2048, 1024]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8x2048x1024, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S4096x2048 : Shape := ⟨2, ![4096, 2048]⟩
abbrev S8x2048x1024 : Shape := ⟨3, ![8, 2048, 1024]⟩
abbrev S1x2048x1024 : Shape := ⟨3, ![1, 2048, 1024]⟩
abbrev S2048x1024 : Shape := ⟨2, ![2048, 1024]⟩
abbrev S2048x8192 : Shape := ⟨2, ![2048, 8192]⟩
abbrev S4096x8192 : Shape := ⟨2, ![4096, 8192]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x1024, .bf16⟩
  | .hbm, ⟨2, _⟩ => ⟨S1x2048x1024, .bf16⟩
  | .hbm, ⟨3, _⟩ => ⟨S2048x1024, .bf16⟩
  | .hbm, ⟨4, _⟩ => ⟨S2048x1024, .f32⟩
  | .hbm, ⟨5, _⟩ => ⟨S1x2048x1024, .bf16⟩
  | .hbm, ⟨6, _⟩ => ⟨S2048x1024, .bf16⟩
  | .hbm, ⟨7, _⟩ => ⟨S2048x1024, .f32⟩
  | .hbm, ⟨8, _⟩ => ⟨S1x2048x1024, .bf16⟩
  | .hbm, ⟨9, _⟩ => ⟨S2048x1024, .bf16⟩
  | .hbm, ⟨10, _⟩ => ⟨S2048x1024, .f32⟩
  | .hbm, ⟨11, _⟩ => ⟨S1x2048x1024, .bf16⟩
  | .hbm, ⟨12, _⟩ => ⟨S2048x1024, .bf16⟩
  | .hbm, ⟨13, _⟩ => ⟨S2048x1024, .f32⟩
  | .hbm, ⟨14, _⟩ => ⟨S1x2048x1024, .bf16⟩
  | .hbm, ⟨15, _⟩ => ⟨S2048x1024, .bf16⟩
  | .hbm, ⟨16, _⟩ => ⟨S2048x1024, .f32⟩
  | .hbm, ⟨17, _⟩ => ⟨S1x2048x1024, .bf16⟩
  | .hbm, ⟨18, _⟩ => ⟨S2048x1024, .bf16⟩
  | .hbm, ⟨19, _⟩ => ⟨S2048x1024, .f32⟩
  | .hbm, ⟨20, _⟩ => ⟨S1x2048x1024, .bf16⟩
  | .hbm, ⟨21, _⟩ => ⟨S2048x1024, .bf16⟩
  | .hbm, ⟨22, _⟩ => ⟨S2048x1024, .f32⟩
  | .hbm, ⟨23, _⟩ => ⟨S1x2048x1024, .bf16⟩
  | .hbm, ⟨24, _⟩ => ⟨S2048x1024, .bf16⟩
  | .hbm, ⟨25, _⟩ => ⟨S2048x1024, .f32⟩
  | .hbm, ⟨26, _⟩ => ⟨S2048x8192, .f32⟩
  | .hbm, ⟨27, _⟩ => ⟨S4096x2048, .f32⟩
  | .hbm, ⟨28, _⟩ => ⟨S4096x8192, .f32⟩
  | .hbm, ⟨29, _⟩ => ⟨S_, .f32⟩
  | .hbm, ⟨30, _⟩ => ⟨S4096x8192, .f32⟩
  | .hbm, ⟨31, _⟩ => ⟨S4096x8192, .f32⟩
  | .hbm, ⟨32, _⟩ => ⟨S4096x8192, .bf16⟩
  | .hbm, ⟨33, _⟩ => ⟨S4096x8192, .f32⟩
  | .hbm, ⟨34, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_call0_cst : Ref sig .tc := ⟨.hbm, 29, rfl⟩
abbrev main_call0_v0 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩

abbrev nD : Nat := 1
abbrev τ : Topo := Topo.v7x

variable {F : FTy → Type} [FloatOps F]
-- ==== Kernel9.lean ====
abbrev S4096x2048 : Shape := ⟨2, ![4096, 2048]⟩
abbrev S2048x6144 : Shape := ⟨2, ![2048, 6144]⟩
abbrev S4096x6144 : Shape := ⟨2, ![4096, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S2048x6144 : Shape := ⟨2, ![2048, 6144]⟩
abbrev S4096x6144 : Shape := ⟨2, ![4096, 6144]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x2048, .f32⟩
  | .hbm, ⟨3, _⟩ => ⟨S2048x6144, .f32⟩
  | .hbm, ⟨4, _⟩ => ⟨S4096x6144, .f32⟩
  | .hbm, ⟨5, _⟩ => ⟨S4096x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel10.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x8192, .f32⟩
  | .hbm, ⟨4, _⟩ => ⟨S8192x2048, .f32⟩
  | .hbm, ⟨5, _⟩ => ⟨S4096x2048, .f32⟩
  | .hbm, ⟨6, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Sections.lean ====
/-
  The kernel body's five guarded regions as programs of their own (the text is the body's), and the body as the
  sequence of them: the two table words read, the checks on them, then each region under its condition.
-/
module

public import proofs.«01_k».proof.Proof.Gen.KernelIdeal.Skeleton
public import Idealize.ShloMosaic.Lib.Tactic

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- A head's first pair: the gradients of the keys, of the values and of the keys' gates start at zero. -/
noncomputable def secA (i : grid0.Coords) (arg2 : Memref sig .tc .smem S10 .i32) (harg2 : arg2.IsWhole) (arg3 : Memref sig .tc .smem S10 .i32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1x1024 .f32) (harg7 : arg7.IsWhole) (arg8 : Memref sig .tc .vmem S1x1024x128 .f32) (harg8 : arg8.IsWhole) (arg9 : Memref sig .tc .vmem S1x1x1024 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S1x1x1024 .f32) (harg15 : arg15.IsWhole) (arg16 : Memref sig .tc .vmem S1x1x4096 .f32) (harg16 : arg16.IsWhole) (arg17 : Memref sig .tc .vmem S128x1024 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole) (arg21 : Memref sig .tc .vmem S1024x1024 .f32) (harg21 : arg21.IsWhole) (arg22 : Memref sig .tc .vmem S1024x1024 .f32) (harg22 : arg22.IsWhole) (arg23 : Memref sig .tc .vmem S1024x1024 .bf16) (harg23 : arg23.IsWhole) (arg24 : Memref sig .tc .vmem S1024x1024 .bf16) (harg24 : arg24.IsWhole) (arg25 : Memref sig .tc .vmem S1024x128 .bf16) (harg25 : arg25.IsWhole) (arg26 : Memref sig .tc .vmem S8x1024 .f32) (harg26 : arg26.IsWhole) (arg27 : Memref sig .tc .vmem S1x1024 .f32) (harg27 : arg27.IsWhole) :
    Prog (TpuEff nD τ sig (Elt F) Λ₀ .tc) PUnit := do
  let v20 : Vec F S4096x128 .f32 ← Prog.lift (.load arg18 (Rect.unit (s := S4096x128) ![0, 0] S4096x128.size inb_S4096x128_S4096x128_0_0).toLoadRect (View.loadsAt_vmem h_S4096x128))
  Prog.lift (.store arg18 (Rect.unit (s := S4096x128) ![0, 0] S4096x128.size inb_S4096x128_S4096x128_0_0) (k0_pay1 (F := F)) Finset.univ (View.stores_vmem_bits_univ h_S4096x128 rfl) (.inl rfl))
  let v24 : Vec F S4096x128 .f32 ← Prog.lift (.load arg19 (Rect.unit (s := S4096x128) ![0, 0] S4096x128.size inb_S4096x128_S4096x128_0_0).toLoadRect (View.loadsAt_vmem h_S4096x128))
  Prog.lift (.store arg19 (Rect.unit (s := S4096x128) ![0, 0] S4096x128.size inb_S4096x128_S4096x128_0_0) (k0_pay2 (F := F)) Finset.univ (View.stores_vmem_bits_univ h_S4096x128 rfl) (.inl rfl))
  let v28 : Vec F S4096x128 .f32 ← Prog.lift (.load arg20 (Rect.unit (s := S4096x128) ![0, 0] S4096x128.size inb_S4096x128_S4096x128_0_0).toLoadRect (View.loadsAt_vmem h_S4096x128))
  Prog.lift (.store arg20 (Rect.unit (s := S4096x128) ![0, 0] S4096x128.size inb_S4096x128_S4096x128_0_0) (k0_pay3 (F := F)) Finset.univ (View.stores_vmem_bits_univ h_S4096x128 rfl) (.inl rfl))
  pure ⟨⟩

/-- A head's last pair: the gradients of the keys, of the values and of the gates written. -/
noncomputable def secE (i : grid0.Coords) (arg2 : Memref sig .tc .smem S10 .i32) (harg2 : arg2.IsWhole) (arg3 : Memref sig .tc .smem S10 .i32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1x1024 .f32) (harg7 : arg7.IsWhole) (arg8 : Memref sig .tc .vmem S1x1024x128 .f32) (harg8 : arg8.IsWhole) (arg9 : Memref sig .tc .vmem S1x1x1024 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S1x1x1024 .f32) (harg15 : arg15.IsWhole) (arg16 : Memref sig .tc .vmem S1x1x4096 .f32) (harg16 : arg16.IsWhole) (arg17 : Memref sig .tc .vmem S128x1024 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole) (arg21 : Memref sig .tc .vmem S1024x1024 .f32) (harg21 : arg21.IsWhole) (arg22 : Memref sig .tc .vmem S1024x1024 .f32) (harg22 : arg22.IsWhole) (arg23 : Memref sig .tc .vmem S1024x1024 .bf16) (harg23 : arg23.IsWhole) (arg24 : Memref sig .tc .vmem S1024x1024 .bf16) (harg24 : arg24.IsWhole) (arg25 : Memref sig .tc .vmem S1024x128 .bf16) (harg25 : arg25.IsWhole) (arg26 : Memref sig .tc .vmem S8x1024 .f32) (harg26 : arg26.IsWhole) (arg27 : Memref sig .tc .vmem S1x1024 .f32) (harg27 : arg27.IsWhole) :
    Prog (TpuEff nD τ sig (Elt F) Λ₀ .tc) PUnit := do
  let v19 : Vec F S4096x128 .f32 ← Prog.lift (.load arg18 (Rect.unit (s := S4096x128) ![0, 0] S4096x128.size inb_S4096x128_S4096x128_0_0).toLoadRect (View.loadsAt_vmem h_S4096x128))
  let v21 : Vec F S4096x128 .bf16 ← Prog.lift (.load arg13 (Rect.unit (s := S4096x128) ![0, 0] S4096x128.size inb_S4096x128_S4096x128_0_0).toLoadRect (View.loadsAt_vmem h_S4096x128))
  Prog.lift (.store arg13 (Rect.unit (s := S4096x128) ![0, 0] S4096x128.size inb_S4096x128_S4096x128_0_0) (k0_pay8 v19) Finset.univ (View.stores_vmem h_S4096x128 (harg13.storeExact_slice rfl _ packedbf16_S4096x128_S4096x128_0_0) (fun _ => rfl)) (.inl rfl))
  let v22 : Vec F S4096x128 .f32 ← Prog.lift (.load arg19 (Rect.unit (s := S4096x128) ![0, 0] S4096x128.size inb_S4096x128_S4096x128_0_0).toLoadRect (View.loadsAt_vmem h_S4096x128))
  let v24 : Vec F S4096x128 .bf16 ← Prog.lift (.load arg14 (Rect.unit (s := S4096x128) ![0, 0] S4096x128.size inb_S4096x128_S4096x128_0_0).toLoadRect (View.loadsAt_vmem h_S4096x128))
  Prog.lift (.store arg14 (Rect.unit (s := S4096x128) ![0, 0] S4096x128.size inb_S4096x128_S4096x128_0_0) (k0_pay9 v22) Finset.univ (View.stores_vmem h_S4096x128 (harg14.storeExact_slice rfl _ packedbf16_S4096x128_S4096x128_0_0) (fun _ => rfl)) (.inl rfl))
  let v26 : Vec F S4096x128 .f32 ← Prog.lift (.load arg20 (Rect.unit (s := S4096x128) ![0, 0] S4096x128.size inb_S4096x128_S4096x128_0_0).toLoadRect (View.loadsAt_vmem h_S4096x128))
  let v31 : Vec F S1x1x4096 .f32 ← Prog.lift (.load arg16 (Rect.unit (s := S1x1x4096) ![0, 0, 0] S1x1x4096.size inb_S1x1x4096_S1x1x4096_0_0_0).toLoadRect (View.loadsAt_vmem h_S1x1x4096))
  Prog.lift (.store arg16 (Rect.unit (s := S1x1x4096) ![0, 0, 0] S1x1x4096.size inb_S1x1x4096_S1x1x4096_0_0_0) (k0_pay10 v26) Finset.univ (View.stores_vmem_bits_univ h_S1x1x4096 rfl) (.inl rfl))
  pure ⟨⟩

/-- The condition of the first region: the head's first pair. -/
def cond1 (i : grid0.Coords) : BitVec 1 :=
  let v4 : BitVec 1 := Scalar.cmpi .eq (BitVec.ofNat 32 (i 1).val) 0#32
  let v5 : BitVec 32 := Scalar.extui v4
  Scalar.cmpi .ne v5 0#32

theorem packing_i32 : EltTy.i32.packing = 1 := rfl

section
variable (i : grid0.Coords) (arg2 : Memref sig .tc .smem S10 .i32) (harg2 : arg2.IsWhole) (arg3 : Memref sig .tc .smem S10 .i32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1x1024 .f32) (harg7 : arg7.IsWhole) (arg8 : Memref sig .tc .vmem S1x1024x128 .f32) (harg8 : arg8.IsWhole) (arg9 : Memref sig .tc .vmem S1x1x1024 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S1x1x1024 .f32) (harg15 : arg15.IsWhole) (arg16 : Memref sig .tc .vmem S1x1x4096 .f32) (harg16 : arg16.IsWhole) (arg17 : Memref sig .tc .vmem S128x1024 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole) (arg21 : Memref sig .tc .vmem S1024x1024 .f32) (harg21 : arg21.IsWhole) (arg22 : Memref sig .tc .vmem S1024x1024 .f32) (harg22 : arg22.IsWhole) (arg23 : Memref sig .tc .vmem S1024x1024 .bf16) (harg23 : arg23.IsWhole) (arg24 : Memref sig .tc .vmem S1024x1024 .bf16) (harg24 : arg24.IsWhole) (arg25 : Memref sig .tc .vmem S1024x128 .bf16) (harg25 : arg25.IsWhole) (arg26 : Memref sig .tc .vmem S8x1024 .f32) (harg26 : arg26.IsWhole) (arg27 : Memref sig .tc .vmem S1x1024 .f32) (harg27 : arg27.IsWhole)

/-- A query tile's first pair: delta, the shift and the rounded incoming gradient, and zero for the query tile's own sums. -/
noncomputable def secB :
    Prog (TpuEff nD τ sig (Elt F) Λ₀ .tc) PUnit := do
  let v46 : FVec F S1x1024 .f32 ← k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27
  Prog.lift (.store arg15 (Rect.unit (s := S1x1x1024) ![0, 0, 0] S1x1x1024.size inb_S1x1x1024_S1x1x1024_0_0_0) (k0_pay4 v46) Finset.univ (View.stores_vmem_bits_univ h_S1x1x1024 rfl) (.inl rfl))
  pure ⟨⟩

/-- A pair below the diagonal: one key tile's update. -/
noncomputable def secC (v1 v3 : BitVec 32) (k0_hw1 : k0_chk1 v1 v3) (k0_h3 : k0_cond3 v1 v3 = 1#1) :
    Prog (TpuEff nD τ sig (Elt F) Λ₀ .tc) PUnit := do
  let v353 : FVec F S128x1024 .f32 ← k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 v3 k0_hw1 k0_h3
  let v354 : Vec F S128x1024 .f32 ← Prog.lift (.load arg17 (Rect.unit (s := S128x1024) ![0, 0] S128x1024.size inb_S128x1024_S128x1024_0_0).toLoadRect (View.loadsAt_vmem h_S128x1024))
  Prog.lift (.store arg17 (Rect.unit (s := S128x1024) ![0, 0] S128x1024.size inb_S128x1024_S128x1024_0_0) (k0_pay5 v353) Finset.univ (View.stores_vmem_bits_univ h_S128x1024 rfl) (.inl rfl))
  pure ⟨⟩

/-- A pair on the diagonal: the update under the causal mask, and the query gradient written. -/
noncomputable def secD (v1 v3 : BitVec 32) (k0_hw1 : k0_chk1 v1 v3) (k0_h4 : k0_cond4 v1 v3 = 1#1) :
    Prog (TpuEff nD τ sig (Elt F) Λ₀ .tc) PUnit := do
  let ⟨v34, v36, v50⟩ : Σ' (v34 : FVec F S1024x128 .f32) (v36 : BitVec 32), FVec F S1024x128 .f32 ← k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v3
  let ⟨v83, v84, v85, c128_i32⟩ : Σ' (v83 : FVec F S1024x128 .f32) (v84 : IVec S1024x128 32) (v85 : IVec S1024x128 32), BitVec 32 ← k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 v3 k0_hw1 k0_h4 v34 v36 v50
  let v122 : FVec F S1024x128 .bf16 ← k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 v3 k0_hw1 k0_h4 v36 v83 v84 v85 c128_i32
  let ⟨v142, v158⟩ : Σ' (v142 : FVec F S1024x128 .f32), FVec F S1024x128 .bf16 ← k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 v3 k0_hw1 k0_h4 v34 v36 v122
  let ⟨v180, v185⟩ : Σ' (v180 : FVec F S1024x128 .f32), FVec F S1024x128 .f32 ← k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v34 v36 v142 v158
  let ⟨v223, v228, v230⟩ : Σ' (v223 : FVec F S1024x128 .f32) (v228 : FVec F S1024x128 .f32), FVec F S1x128 .f32 ← k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 v3 k0_hw1 k0_h4 v34 v36 v180 v185
  let ⟨v266, v267⟩ : Σ' (v266 : FVec F S1024x128 .f32), Vec F S1024x128 .f32 ← k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 v3 k0_hw1 k0_h4 v34 v36 v223 v228 v230
  let ⟨v298, v303, v304⟩ : Σ' (v298 : FVec F S1024x128 .f32) (v303 : IVec S1024x128 1), FVec F S1024x128 .f32 ← k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 v3 k0_hw1 k0_h4 v34 v36 v266 v267
  let ⟨v338, cst_179⟩ : Σ' (v338 : Vec F S1024x128 .f32), F .f32 ← k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 v3 k0_hw1 k0_h4 v36 v298 v303 v304
  let v357 : FVec F S1024x128 .f32 ← k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 v3 k0_hw1 k0_h4 v34 v36 v338 cst_179
  let ⟨v403, v408⟩ : Σ' (v403 : Vec F S128x1024 .f32), FVec F S128x1024 .f32 ← k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 v3 k0_hw1 k0_h4 v36 v357
  let v410 : Vec F S128x1024 .f32 ← Prog.lift (.load arg17 (Rect.unit (s := S128x1024) ![0, 0] S128x1024.size inb_S128x1024_S128x1024_0_0).toLoadRect (View.loadsAt_vmem h_S128x1024))
  Prog.lift (.store arg17 (Rect.unit (s := S128x1024) ![0, 0] S128x1024.size inb_S128x1024_S128x1024_0_0) (k0_pay6 v403 v408) Finset.univ (View.stores_vmem_bits_univ h_S128x1024 rfl) (.inl rfl))
  let v413 : Vec F S128x1024 .f32 ← Prog.lift (.load arg17 (Rect.unit (s := S128x1024) ![0, 0] S128x1024.size inb_S128x1024_S128x1024_0_0).toLoadRect (View.loadsAt_vmem h_S128x1024))
  let v416 : Vec F S1024x128 .bf16 ← Prog.lift (.load arg12 (Rect.unit (s := S1024x128) ![0, 0] S1024x128.size inb_S1024x128_S1024x128_0_0).toLoadRect (View.loadsAt_vmem h_S1024x128))
  Prog.lift (.store arg12 (Rect.unit (s := S1024x128) ![0, 0] S1024x128.size inb_S1024x128_S1024x128_0_0) (k0_pay7 v413) Finset.univ (View.stores_vmem h_S1024x128 (harg12.storeExact_slice rfl _ packedbf16_S1024x128_S1024x128_0_0) (fun _ => rfl)) (.inl rfl))
  pure ⟨⟩

/-- The body after its table words, over its regions. -/
noncomputable def restOf (v1 v3 : BitVec 32) (k0_hw1 : k0_chk1 v1 v3) :
    Prog (TpuEff nD τ sig (Elt F) Λ₀ .tc) PUnit := do
  if k0_h1 : cond1 i = 1#1 then secA i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27
  else pure ⟨⟩
  if k0_h2 : k0_cond2 v3 = 1#1 then secB i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27
  else pure ⟨⟩
  if k0_h3 : k0_cond3 v1 v3 = 1#1 then secC i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 v3 k0_hw1 k0_h3
  else pure ⟨⟩
  if k0_h4 : k0_cond4 v1 v3 = 1#1 then secD i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 v3 k0_hw1 k0_h4
  else pure ⟨⟩
  if k0_h5 : k0_cond5 i = 1#1 then secE i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27
  else pure ⟨⟩
  pure ⟨⟩

/-- The body: its table words, then its regions. -/
noncomputable def bodyOf :
    Prog (TpuEff nD τ sig (Elt F) Λ₀ .tc) PUnit := do
  let v1 : Elt F .i32 ← smemLoad arg2 (Rect.unit (s := S10) (k0_off1 i) S1.size (k0_off1_inb i)) numel1_S1 packing_i32
  let v3 : Elt F .i32 ← smemLoad arg3 (Rect.unit (s := S10) (k0_off1 i) S1.size (k0_off1_inb i)) numel1_S1 packing_i32
  have k0_hw1 : k0_chk1 v1 v3 := (← Prog.lift (TpuEff.assume (k0_chk1 v1 v3) (k0_chk1.dec v1 v3))).down
  restOf i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 v3 k0_hw1

end

set_option maxRecDepth 65536 in
theorem body_eq : cc0_fox_bwd (F := F) = bodyOf (F := F) := by
  rw [cc0_fox_bwd_eq_skeleton]; rfl

end Cert.Proof.KI

end
-- ==== Proof.Base.lean ====
/-
  What the modules of the run share: a memref's buffer held whole.
-/
module

public import proofs.«01_k».proof.Proof.Gen.KernelIdeal.Skeleton
public import Idealize.ShloMosaic.Lib.Tactic

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The resource algebra: the rounds library's, for the pipeline's cells (the kernel has no cell of its own). -/
abbrev UR (nD : Nat) (τ : Topo) : Type := URounds (GSem nD τ sig) Unit

variable {F : FTy → Type} [FloatOps F] [Named F]

local notation "𝕄" => MT nD τ sig Unit (Elt F) ℕ (UR nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

end Cert.Proof.KI

end
-- ==== Proof.RunA.lean ====
/-
  The run of a head's first pair's region.
-/
module

public import proofs.«01_k».proof.Proof.Sections
public import proofs.«01_k».proof.Proof.Base

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR nD τ) ℕ

/-- The run of a head's first pair's region. -/
noncomputable def runA (c : Dev nD) (i : grid0.Coords) (arg2 : Memref sig .tc .smem S10 .i32) (harg2 : arg2.IsWhole) (arg3 : Memref sig .tc .smem S10 .i32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1x1024 .f32) (harg7 : arg7.IsWhole) (arg8 : Memref sig .tc .vmem S1x1024x128 .f32) (harg8 : arg8.IsWhole) (arg9 : Memref sig .tc .vmem S1x1x1024 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S1x1x1024 .f32) (harg15 : arg15.IsWhole) (arg16 : Memref sig .tc .vmem S1x1x4096 .f32) (harg16 : arg16.IsWhole) (arg17 : Memref sig .tc .vmem S128x1024 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole) (arg21 : Memref sig .tc .vmem S1024x1024 .f32) (harg21 : arg21.IsWhole) (arg22 : Memref sig .tc .vmem S1024x1024 .f32) (harg22 : arg22.IsWhole) (arg23 : Memref sig .tc .vmem S1024x1024 .bf16) (harg23 : arg23.IsWhole) (arg24 : Memref sig .tc .vmem S1024x1024 .bf16) (harg24 : arg24.IsWhole) (arg25 : Memref sig .tc .vmem S1024x128 .bf16) (harg25 : arg25.IsWhole) (arg26 : Memref sig .tc .vmem S8x1024 .f32) (harg26 : arg26.IsWhole) (arg27 : Memref sig .tc .vmem S1x1024 .f32) (harg27 : arg27.IsWhole)
     :
    { W : Bf (F := F) c arg18 × Bf (F := F) c arg19 × Bf (F := F) c arg20 //
      ∀ (f18 : Bf (F := F) c arg18) (f19 : Bf (F := F) c arg19) (f20 : Bf (F := F) c arg20) (E : Set ℕ) (Q : PUnit → sProp 𝕄),
        iprop(pt c arg18 f18 ∗ pt c arg19 f19 ∗ pt c arg20 f20
          ∗ (iprop(pt c arg18 W.1 ∗ pt c arg19 W.2.1 ∗ pt c arg20 W.2.2) -∗ Q ⟨⟩))
        ⊢ wp frame (wpE (defs₀ (F := F)) Variants.none c none) E
            (secA i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) Q } := by
  refine ⟨⟨?_, ?_, ?_⟩, fun f18 f19 f20 E Q => ?run⟩
  case run =>
    iintro ⟨H18, H19, H20, Hk⟩
    unfold secA
    sl_exec!
    sl_step
    iapply Hk
    isplitl [H18]; · iexact H18
    isplitl [H19]; · iexact H19
    iexact H20

end Cert.Proof.KI

end
-- ==== Proof.RunB.lean ====
/-
  The run of a query tile's first pair's region.
-/
module

public import proofs.«01_k».proof.Proof.Sections
public import proofs.«01_k».proof.Proof.Base

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR nD τ) ℕ

/-- The run of a query tile's first pair's region. -/
noncomputable def runB (c : Dev nD) (i : grid0.Coords) (arg2 : Memref sig .tc .smem S10 .i32) (harg2 : arg2.IsWhole) (arg3 : Memref sig .tc .smem S10 .i32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1x1024 .f32) (harg7 : arg7.IsWhole) (arg8 : Memref sig .tc .vmem S1x1024x128 .f32) (harg8 : arg8.IsWhole) (arg9 : Memref sig .tc .vmem S1x1x1024 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S1x1x1024 .f32) (harg15 : arg15.IsWhole) (arg16 : Memref sig .tc .vmem S1x1x4096 .f32) (harg16 : arg16.IsWhole) (arg17 : Memref sig .tc .vmem S128x1024 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole) (arg21 : Memref sig .tc .vmem S1024x1024 .f32) (harg21 : arg21.IsWhole) (arg22 : Memref sig .tc .vmem S1024x1024 .f32) (harg22 : arg22.IsWhole) (arg23 : Memref sig .tc .vmem S1024x1024 .bf16) (harg23 : arg23.IsWhole) (arg24 : Memref sig .tc .vmem S1024x1024 .bf16) (harg24 : arg24.IsWhole) (arg25 : Memref sig .tc .vmem S1024x128 .bf16) (harg25 : arg25.IsWhole) (arg26 : Memref sig .tc .vmem S8x1024 .f32) (harg26 : arg26.IsWhole) (arg27 : Memref sig .tc .vmem S1x1024 .f32) (harg27 : arg27.IsWhole)
    (f7 : Bf (F := F) c arg7) (f9 : Bf (F := F) c arg9) (f10 : Bf (F := F) c arg10) (f11 : Bf (F := F) c arg11) :
    { W : Bf (F := F) c arg15 × Bf (F := F) c arg17 × Bf (F := F) c arg25 × Bf (F := F) c arg26 × Bf (F := F) c arg27 //
      ∀ (f15 : Bf (F := F) c arg15) (f17 : Bf (F := F) c arg17) (f25 : Bf (F := F) c arg25) (f26 : Bf (F := F) c arg26) (f27 : Bf (F := F) c arg27) (E : Set ℕ) (Q : PUnit → sProp 𝕄),
        iprop(pt c arg7 f7 ∗ pt c arg9 f9 ∗ pt c arg10 f10 ∗ pt c arg11 f11 ∗ pt c arg15 f15 ∗ pt c arg17 f17 ∗ pt c arg25 f25 ∗ pt c arg26 f26 ∗ pt c arg27 f27
          ∗ (iprop(pt c arg7 f7 ∗ pt c arg9 f9 ∗ pt c arg10 f10 ∗ pt c arg11 f11 ∗ pt c arg15 W.1 ∗ pt c arg17 W.2.1 ∗ pt c arg25 W.2.2.1 ∗ pt c arg26 W.2.2.2.1 ∗ pt c arg27 W.2.2.2.2) -∗ Q ⟨⟩))
        ⊢ wp frame (wpE (defs₀ (F := F)) Variants.none c none) E
            (secB i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) Q } := by
  refine ⟨⟨?_, ?_, ?_, ?_, ?_⟩, fun f15 f17 f25 f26 f27 E Q => ?run⟩
  case run =>
    iintro ⟨H7, H9, H10, H11, H15, H17, H25, H26, H27, Hk⟩
    unfold secB
    sl_exec_parts!
    sl_step
    iapply Hk
    isplitl [H7]; · iexact H7
    isplitl [H9]; · iexact H9
    isplitl [H10]; · iexact H10
    isplitl [H11]; · iexact H11
    isplitl [H15]; · iexact H15
    isplitl [H17]; · iexact H17
    isplitl [H25]; · iexact H25
    isplitl [H26]; · iexact H26
    iexact H27

end Cert.Proof.KI

end
-- ==== Proof.RunC.lean ====
/-
  The run of the update below the diagonal.
-/
module

public import proofs.«01_k».proof.Proof.Sections
public import proofs.«01_k».proof.Proof.Base

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR nD τ) ℕ

/-- The run of the update below the diagonal. -/
noncomputable def runC (c : Dev nD) (i : grid0.Coords) (arg2 : Memref sig .tc .smem S10 .i32) (harg2 : arg2.IsWhole) (arg3 : Memref sig .tc .smem S10 .i32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1x1024 .f32) (harg7 : arg7.IsWhole) (arg8 : Memref sig .tc .vmem S1x1024x128 .f32) (harg8 : arg8.IsWhole) (arg9 : Memref sig .tc .vmem S1x1x1024 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S1x1x1024 .f32) (harg15 : arg15.IsWhole) (arg16 : Memref sig .tc .vmem S1x1x4096 .f32) (harg16 : arg16.IsWhole) (arg17 : Memref sig .tc .vmem S128x1024 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole) (arg21 : Memref sig .tc .vmem S1024x1024 .f32) (harg21 : arg21.IsWhole) (arg22 : Memref sig .tc .vmem S1024x1024 .f32) (harg22 : arg22.IsWhole) (arg23 : Memref sig .tc .vmem S1024x1024 .bf16) (harg23 : arg23.IsWhole) (arg24 : Memref sig .tc .vmem S1024x1024 .bf16) (harg24 : arg24.IsWhole) (arg25 : Memref sig .tc .vmem S1024x128 .bf16) (harg25 : arg25.IsWhole) (arg26 : Memref sig .tc .vmem S8x1024 .f32) (harg26 : arg26.IsWhole) (arg27 : Memref sig .tc .vmem S1x1024 .f32) (harg27 : arg27.IsWhole) (v1 v3 : BitVec 32) (k0_hw1 : k0_chk1 v1 v3) (k0_h3 : k0_cond3 v1 v3 = 1#1)
    (f4 : Bf (F := F) c arg4) (f5 : Bf (F := F) c arg5) (f6 : Bf (F := F) c arg6) (f8 : Bf (F := F) c arg8) (f25 : Bf (F := F) c arg25) (f26 : Bf (F := F) c arg26) (f27 : Bf (F := F) c arg27) (f15 : Bf (F := F) c arg15) (f17 : Bf (F := F) c arg17) (f18 : Bf (F := F) c arg18) (f19 : Bf (F := F) c arg19) (f20 : Bf (F := F) c arg20) :
    { W : Bf (F := F) c arg15 × Bf (F := F) c arg17 × Bf (F := F) c arg18 × Bf (F := F) c arg19 × Bf (F := F) c arg20 //
      ∀ (f21 : Bf (F := F) c arg21) (f22 : Bf (F := F) c arg22) (f23 : Bf (F := F) c arg23) (f24 : Bf (F := F) c arg24) (E : Set ℕ) (Q : PUnit → sProp 𝕄),
        iprop(pt c arg4 f4 ∗ pt c arg5 f5 ∗ pt c arg6 f6 ∗ pt c arg8 f8 ∗ pt c arg25 f25 ∗ pt c arg26 f26 ∗ pt c arg27 f27 ∗ pt c arg15 f15 ∗ pt c arg17 f17 ∗ pt c arg18 f18 ∗ pt c arg19 f19 ∗ pt c arg20 f20 ∗ pt c arg21 f21 ∗ pt c arg22 f22 ∗ pt c arg23 f23 ∗ pt c arg24 f24
          ∗ (iprop(pt c arg4 f4 ∗ pt c arg5 f5 ∗ pt c arg6 f6 ∗ pt c arg8 f8 ∗ pt c arg25 f25 ∗ pt c arg26 f26 ∗ pt c arg27 f27 ∗ pt c arg15 W.1 ∗ pt c arg17 W.2.1 ∗ pt c arg18 W.2.2.1 ∗ pt c arg19 W.2.2.2.1 ∗ pt c arg20 W.2.2.2.2 ∗ (∃ f, pt c arg21 f) ∗ (∃ f, pt c arg22 f) ∗ (∃ f, pt c arg23 f) ∗ (∃ f, pt c arg24 f)) -∗ Q ⟨⟩))
        ⊢ wp frame (wpE (defs₀ (F := F)) Variants.none c none) E
            (secC i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 v3 k0_hw1 k0_h3) Q } := by
  refine ⟨⟨?_, ?_, ?_, ?_, ?_⟩, fun f21 f22 f23 f24 E Q => ?run⟩
  case run =>
    iintro ⟨H4, H5, H6, H8, H25, H26, H27, H15, H17, H18, H19, H20, H21, H22, H23, H24, Hk⟩
    unfold secC
    sl_exec_parts!
    sl_step
    iapply Hk
    isplitl [H4]; · iexact H4
    isplitl [H5]; · iexact H5
    isplitl [H6]; · iexact H6
    isplitl [H8]; · iexact H8
    isplitl [H25]; · iexact H25
    isplitl [H26]; · iexact H26
    isplitl [H27]; · iexact H27
    isplitl [H15]; · iexact H15
    isplitl [H17]; · iexact H17
    isplitl [H18]; · iexact H18
    isplitl [H19]; · iexact H19
    isplitl [H20]; · iexact H20
    isplitl [H21]; · iexists _; iexact H21
    isplitl [H22]; · iexists _; iexact H22
    isplitl [H23]; · iexists _; iexact H23
    iexists _; iexact H24

end Cert.Proof.KI

end
-- ==== Proof.RunD.lean ====
/-
  The run of the update on the diagonal, the query gradient written.
-/
module

public import proofs.«01_k».proof.Proof.Sections
public import proofs.«01_k».proof.Proof.Base

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR nD τ) ℕ

/-- The run of the update on the diagonal, the query gradient written. -/
noncomputable def runD (c : Dev nD) (i : grid0.Coords) (arg2 : Memref sig .tc .smem S10 .i32) (harg2 : arg2.IsWhole) (arg3 : Memref sig .tc .smem S10 .i32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1x1024 .f32) (harg7 : arg7.IsWhole) (arg8 : Memref sig .tc .vmem S1x1024x128 .f32) (harg8 : arg8.IsWhole) (arg9 : Memref sig .tc .vmem S1x1x1024 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S1x1x1024 .f32) (harg15 : arg15.IsWhole) (arg16 : Memref sig .tc .vmem S1x1x4096 .f32) (harg16 : arg16.IsWhole) (arg17 : Memref sig .tc .vmem S128x1024 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole) (arg21 : Memref sig .tc .vmem S1024x1024 .f32) (harg21 : arg21.IsWhole) (arg22 : Memref sig .tc .vmem S1024x1024 .f32) (harg22 : arg22.IsWhole) (arg23 : Memref sig .tc .vmem S1024x1024 .bf16) (harg23 : arg23.IsWhole) (arg24 : Memref sig .tc .vmem S1024x1024 .bf16) (harg24 : arg24.IsWhole) (arg25 : Memref sig .tc .vmem S1024x128 .bf16) (harg25 : arg25.IsWhole) (arg26 : Memref sig .tc .vmem S8x1024 .f32) (harg26 : arg26.IsWhole) (arg27 : Memref sig .tc .vmem S1x1024 .f32) (harg27 : arg27.IsWhole) (v1 v3 : BitVec 32) (k0_hw1 : k0_chk1 v1 v3) (k0_h4 : k0_cond4 v1 v3 = 1#1)
    (f4 : Bf (F := F) c arg4) (f5 : Bf (F := F) c arg5) (f6 : Bf (F := F) c arg6) (f8 : Bf (F := F) c arg8) (f25 : Bf (F := F) c arg25) (f26 : Bf (F := F) c arg26) (f27 : Bf (F := F) c arg27) (f15 : Bf (F := F) c arg15) (f17 : Bf (F := F) c arg17) (f18 : Bf (F := F) c arg18) (f19 : Bf (F := F) c arg19) (f20 : Bf (F := F) c arg20) :
    { W : Bf (F := F) c arg15 × Bf (F := F) c arg17 × Bf (F := F) c arg18 × Bf (F := F) c arg19 × Bf (F := F) c arg20 × Bf (F := F) c arg12 //
      ∀ (f21 : Bf (F := F) c arg21) (f22 : Bf (F := F) c arg22) (f23 : Bf (F := F) c arg23) (f24 : Bf (F := F) c arg24) (f12 : Bf (F := F) c arg12) (E : Set ℕ) (Q : PUnit → sProp 𝕄),
        iprop(pt c arg4 f4 ∗ pt c arg5 f5 ∗ pt c arg6 f6 ∗ pt c arg8 f8 ∗ pt c arg25 f25 ∗ pt c arg26 f26 ∗ pt c arg27 f27 ∗ pt c arg15 f15 ∗ pt c arg17 f17 ∗ pt c arg18 f18 ∗ pt c arg19 f19 ∗ pt c arg20 f20 ∗ pt c arg21 f21 ∗ pt c arg22 f22 ∗ pt c arg23 f23 ∗ pt c arg24 f24 ∗ pt c arg12 f12
          ∗ (iprop(pt c arg4 f4 ∗ pt c arg5 f5 ∗ pt c arg6 f6 ∗ pt c arg8 f8 ∗ pt c arg25 f25 ∗ pt c arg26 f26 ∗ pt c arg27 f27 ∗ pt c arg15 W.1 ∗ pt c arg17 W.2.1 ∗ pt c arg18 W.2.2.1 ∗ pt c arg19 W.2.2.2.1 ∗ pt c arg20 W.2.2.2.2.1 ∗ pt c arg12 W.2.2.2.2.2 ∗ (∃ f, pt c arg21 f) ∗ (∃ f, pt c arg22 f) ∗ (∃ f, pt c arg23 f) ∗ (∃ f, pt c arg24 f)) -∗ Q ⟨⟩))
        ⊢ wp frame (wpE (defs₀ (F := F)) Variants.none c none) E
            (secD i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 v3 k0_hw1 k0_h4) Q } := by
  refine ⟨⟨?_, ?_, ?_, ?_, ?_, ?_⟩, fun f21 f22 f23 f24 f12 E Q => ?run⟩
  case run =>
    iintro ⟨H4, H5, H6, H8, H25, H26, H27, H15, H17, H18, H19, H20, H21, H22, H23, H24, H12, Hk⟩
    unfold secD
    sl_exec_parts!
    sl_step
    iapply Hk
    isplitl [H4]; · iexact H4
    isplitl [H5]; · iexact H5
    isplitl [H6]; · iexact H6
    isplitl [H8]; · iexact H8
    isplitl [H25]; · iexact H25
    isplitl [H26]; · iexact H26
    isplitl [H27]; · iexact H27
    isplitl [H15]; · iexact H15
    isplitl [H17]; · iexact H17
    isplitl [H18]; · iexact H18
    isplitl [H19]; · iexact H19
    isplitl [H20]; · iexact H20
    isplitl [H12]; · iexact H12
    isplitl [H21]; · iexists _; iexact H21
    isplitl [H22]; · iexists _; iexact H22
    isplitl [H23]; · iexists _; iexact H23
    iexists _; iexact H24

end Cert.Proof.KI

end
-- ==== Proof.RunE.lean ====
/-
  The run of a head's last pair's region.
-/
module

public import proofs.«01_k».proof.Proof.Sections
public import proofs.«01_k».proof.Proof.Base

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR nD τ) ℕ

/-- The run of a head's last pair's region. -/
noncomputable def runE (c : Dev nD) (i : grid0.Coords) (arg2 : Memref sig .tc .smem S10 .i32) (harg2 : arg2.IsWhole) (arg3 : Memref sig .tc .smem S10 .i32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1x1024 .f32) (harg7 : arg7.IsWhole) (arg8 : Memref sig .tc .vmem S1x1024x128 .f32) (harg8 : arg8.IsWhole) (arg9 : Memref sig .tc .vmem S1x1x1024 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S1x1x1024 .f32) (harg15 : arg15.IsWhole) (arg16 : Memref sig .tc .vmem S1x1x4096 .f32) (harg16 : arg16.IsWhole) (arg17 : Memref sig .tc .vmem S128x1024 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole) (arg21 : Memref sig .tc .vmem S1024x1024 .f32) (harg21 : arg21.IsWhole) (arg22 : Memref sig .tc .vmem S1024x1024 .f32) (harg22 : arg22.IsWhole) (arg23 : Memref sig .tc .vmem S1024x1024 .bf16) (harg23 : arg23.IsWhole) (arg24 : Memref sig .tc .vmem S1024x1024 .bf16) (harg24 : arg24.IsWhole) (arg25 : Memref sig .tc .vmem S1024x128 .bf16) (harg25 : arg25.IsWhole) (arg26 : Memref sig .tc .vmem S8x1024 .f32) (harg26 : arg26.IsWhole) (arg27 : Memref sig .tc .vmem S1x1024 .f32) (harg27 : arg27.IsWhole)
    (f18 : Bf (F := F) c arg18) (f19 : Bf (F := F) c arg19) (f20 : Bf (F := F) c arg20) :
    { W : Bf (F := F) c arg13 × Bf (F := F) c arg14 × Bf (F := F) c arg16 //
      ∀ (f13 : Bf (F := F) c arg13) (f14 : Bf (F := F) c arg14) (f16 : Bf (F := F) c arg16) (E : Set ℕ) (Q : PUnit → sProp 𝕄),
        iprop(pt c arg18 f18 ∗ pt c arg19 f19 ∗ pt c arg20 f20 ∗ pt c arg13 f13 ∗ pt c arg14 f14 ∗ pt c arg16 f16
          ∗ (iprop(pt c arg18 f18 ∗ pt c arg19 f19 ∗ pt c arg20 f20 ∗ pt c arg13 W.1 ∗ pt c arg14 W.2.1 ∗ pt c arg16 W.2.2) -∗ Q ⟨⟩))
        ⊢ wp frame (wpE (defs₀ (F := F)) Variants.none c none) E
            (secE i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) Q } := by
  refine ⟨⟨?_, ?_, ?_⟩, fun f13 f14 f16 E Q => ?run⟩
  case run =>
    iintro ⟨H18, H19, H20, H13, H14, H16, Hk⟩
    unfold secE
    sl_exec!
    sl_step
    iapply Hk
    isplitl [H18]; · iexact H18
    isplitl [H19]; · iexact H19
    isplitl [H20]; · iexact H20
    isplitl [H13]; · iexact H13
    isplitl [H14]; · iexact H14
    iexact H16

end Cert.Proof.KI

end
-- ==== Proof.State.lean ====
/-
  What the body computes, as a state: the blocks it reads, what its scratch buffers and the gates' gradient hold between
  the grid's points, and each region's effect on them, the contents being those the region's run found.
-/
module

public import proofs.«01_k».proof.Proof.RunA
public import proofs.«01_k».proof.Proof.RunB
public import proofs.«01_k».proof.Proof.RunC
public import proofs.«01_k».proof.Proof.RunD
public import proofs.«01_k».proof.Proof.RunE
public import Idealize.ShloMosaic.Lib.Pipeline.Frame

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR nD τ) ℕ

attribute [local irreducible] runA runB runC runD runE

/-- The body's operands: the two tables, the blocks of the inputs and of the outputs, the scratch buffers. -/
structure Args where
  m2 : Memref sig .tc .smem S10 .i32
  h2 : m2.IsWhole
  m3 : Memref sig .tc .smem S10 .i32
  h3 : m3.IsWhole
  m4 : Memref sig .tc .vmem S1024x128 .bf16
  h4 : m4.IsWhole
  m5 : Memref sig .tc .vmem S1024x128 .bf16
  h5 : m5.IsWhole
  m6 : Memref sig .tc .vmem S1024x128 .bf16
  h6 : m6.IsWhole
  m7 : Memref sig .tc .vmem S1x1x1024 .f32
  h7 : m7.IsWhole
  m8 : Memref sig .tc .vmem S1x1024x128 .f32
  h8 : m8.IsWhole
  m9 : Memref sig .tc .vmem S1x1x1024 .f32
  h9 : m9.IsWhole
  m10 : Memref sig .tc .vmem S1024x128 .f32
  h10 : m10.IsWhole
  m11 : Memref sig .tc .vmem S1024x128 .f32
  h11 : m11.IsWhole
  m12 : Memref sig .tc .vmem S1024x128 .bf16
  h12 : m12.IsWhole
  m13 : Memref sig .tc .vmem S4096x128 .bf16
  h13 : m13.IsWhole
  m14 : Memref sig .tc .vmem S4096x128 .bf16
  h14 : m14.IsWhole
  m15 : Memref sig .tc .vmem S1x1x1024 .f32
  h15 : m15.IsWhole
  m16 : Memref sig .tc .vmem S1x1x4096 .f32
  h16 : m16.IsWhole
  m17 : Memref sig .tc .vmem S128x1024 .f32
  h17 : m17.IsWhole
  m18 : Memref sig .tc .vmem S4096x128 .f32
  h18 : m18.IsWhole
  m19 : Memref sig .tc .vmem S4096x128 .f32
  h19 : m19.IsWhole
  m20 : Memref sig .tc .vmem S4096x128 .f32
  h20 : m20.IsWhole
  m21 : Memref sig .tc .vmem S1024x1024 .f32
  h21 : m21.IsWhole
  m22 : Memref sig .tc .vmem S1024x1024 .f32
  h22 : m22.IsWhole
  m23 : Memref sig .tc .vmem S1024x1024 .bf16
  h23 : m23.IsWhole
  m24 : Memref sig .tc .vmem S1024x1024 .bf16
  h24 : m24.IsWhole
  m25 : Memref sig .tc .vmem S1024x128 .bf16
  h25 : m25.IsWhole
  m26 : Memref sig .tc .vmem S8x1024 .f32
  h26 : m26.IsWhole
  m27 : Memref sig .tc .vmem S1x1024 .f32
  h27 : m27.IsWhole

/-- The blocks the body reads at a point. -/
@[ext] structure In (F : FTy → Type) where
  q : S1024x128.Idx → Elt F .bf16
  k : S1024x128.Idx → Elt F .bf16
  v : S1024x128.Idx → Elt F .bf16
  c : S1x1x1024.Idx → Elt F .f32
  ck : S1x1024x128.Idx → Elt F .f32
  lse : S1x1x1024.Idx → Elt F .f32
  y : S1024x128.Idx → Elt F .f32
  dy : S1024x128.Idx → Elt F .f32

/-- What the body carries from point to point: the block of the queries' gates' gradient and the scratch buffers. -/
@[ext] structure St (F : FTy → Type) where
  x15 : S1x1x1024.Idx → Elt F .f32
  x17 : S128x1024.Idx → Elt F .f32
  x18 : S4096x128.Idx → Elt F .f32
  x19 : S4096x128.Idx → Elt F .f32
  x20 : S4096x128.Idx → Elt F .f32
  x25 : S1024x128.Idx → Elt F .bf16
  x26 : S8x1024.Idx → Elt F .f32
  x27 : S1x1024.Idx → Elt F .f32

/-- The blocks of the other outputs. -/
@[ext] structure Out (F : FTy → Type) where
  x12 : S1024x128.Idx → Elt F .bf16
  x13 : S4096x128.Idx → Elt F .bf16
  x14 : S4096x128.Idx → Elt F .bf16
  x16 : S1x1x4096.Idx → Elt F .f32

variable (c : Dev nD) (i : grid0.Coords) (A : Args)

/-- The five regions at the operands. -/
noncomputable abbrev atA := secA (F := F) i A.m2 A.h2 A.m3 A.h3 A.m4 A.h4 A.m5 A.h5 A.m6 A.h6 A.m7 A.h7 A.m8 A.h8 A.m9 A.h9 A.m10 A.h10 A.m11 A.h11 A.m12 A.h12 A.m13 A.h13 A.m14 A.h14 A.m15 A.h15 A.m16 A.h16 A.m17 A.h17 A.m18 A.h18 A.m19 A.h19 A.m20 A.h20 A.m21 A.h21 A.m22 A.h22 A.m23 A.h23 A.m24 A.h24 A.m25 A.h25 A.m26 A.h26 A.m27 A.h27
noncomputable abbrev atB := secB (F := F) i A.m2 A.h2 A.m3 A.h3 A.m4 A.h4 A.m5 A.h5 A.m6 A.h6 A.m7 A.h7 A.m8 A.h8 A.m9 A.h9 A.m10 A.h10 A.m11 A.h11 A.m12 A.h12 A.m13 A.h13 A.m14 A.h14 A.m15 A.h15 A.m16 A.h16 A.m17 A.h17 A.m18 A.h18 A.m19 A.h19 A.m20 A.h20 A.m21 A.h21 A.m22 A.h22 A.m23 A.h23 A.m24 A.h24 A.m25 A.h25 A.m26 A.h26 A.m27 A.h27
noncomputable abbrev atC (v1 v3 : BitVec 32) (hw : k0_chk1 v1 v3) (h3 : k0_cond3 v1 v3 = 1#1) := secC (F := F) i A.m2 A.h2 A.m3 A.h3 A.m4 A.h4 A.m5 A.h5 A.m6 A.h6 A.m7 A.h7 A.m8 A.h8 A.m9 A.h9 A.m10 A.h10 A.m11 A.h11 A.m12 A.h12 A.m13 A.h13 A.m14 A.h14 A.m15 A.h15 A.m16 A.h16 A.m17 A.h17 A.m18 A.h18 A.m19 A.h19 A.m20 A.h20 A.m21 A.h21 A.m22 A.h22 A.m23 A.h23 A.m24 A.h24 A.m25 A.h25 A.m26 A.h26 A.m27 A.h27 v1 v3 hw h3
noncomputable abbrev atD (v1 v3 : BitVec 32) (hw : k0_chk1 v1 v3) (h4 : k0_cond4 v1 v3 = 1#1) := secD (F := F) i A.m2 A.h2 A.m3 A.h3 A.m4 A.h4 A.m5 A.h5 A.m6 A.h6 A.m7 A.h7 A.m8 A.h8 A.m9 A.h9 A.m10 A.h10 A.m11 A.h11 A.m12 A.h12 A.m13 A.h13 A.m14 A.h14 A.m15 A.h15 A.m16 A.h16 A.m17 A.h17 A.m18 A.h18 A.m19 A.h19 A.m20 A.h20 A.m21 A.h21 A.m22 A.h22 A.m23 A.h23 A.m24 A.h24 A.m25 A.h25 A.m26 A.h26 A.m27 A.h27 v1 v3 hw h4
noncomputable abbrev atE := secE (F := F) i A.m2 A.h2 A.m3 A.h3 A.m4 A.h4 A.m5 A.h5 A.m6 A.h6 A.m7 A.h7 A.m8 A.h8 A.m9 A.h9 A.m10 A.h10 A.m11 A.h11 A.m12 A.h12 A.m13 A.h13 A.m14 A.h14 A.m15 A.h15 A.m16 A.h16 A.m17 A.h17 A.m18 A.h18 A.m19 A.h19 A.m20 A.h20 A.m21 A.h21 A.m22 A.h22 A.m23 A.h23 A.m24 A.h24 A.m25 A.h25 A.m26 A.h26 A.m27 A.h27

/-- The operands held at the state. -/
def held (X : In F) (σ : St F) (o : Out F) : sProp 𝕄 :=
  iprop(pt c A.m4 (A.h4.unread X.q) ∗ pt c A.m5 (A.h5.unread X.k) ∗ pt c A.m6 (A.h6.unread X.v) ∗ pt c A.m7 (A.h7.unread X.c) ∗ pt c A.m8 (A.h8.unread X.ck) ∗ pt c A.m9 (A.h9.unread X.lse) ∗ pt c A.m10 (A.h10.unread X.y) ∗ pt c A.m11 (A.h11.unread X.dy) ∗ pt c A.m12 (A.h12.unread o.x12) ∗ pt c A.m13 (A.h13.unread o.x13) ∗ pt c A.m14 (A.h14.unread o.x14) ∗ pt c A.m15 (A.h15.unread σ.x15) ∗ pt c A.m16 (A.h16.unread o.x16) ∗ pt c A.m17 (A.h17.unread σ.x17) ∗ pt c A.m18 (A.h18.unread σ.x18) ∗ pt c A.m19 (A.h19.unread σ.x19) ∗ pt c A.m20 (A.h20.unread σ.x20) ∗ (∃ f, pt c A.m21 f) ∗ (∃ f, pt c A.m22 f) ∗ (∃ f, pt c A.m23 f) ∗ (∃ f, pt c A.m24 f) ∗ pt c A.m25 (A.h25.unread σ.x25) ∗ pt c A.m26 (A.h26.unread σ.x26) ∗ pt c A.m27 (A.h27.unread σ.x27))

/-- What the buffers that a head's first pair writes hold, in the state. -/
def putA (W : Bf (F := F) c A.m18 × Bf (F := F) c A.m19 × Bf (F := F) c A.m20) (σ : St F) : St F :=
  { σ with x18 := A.m18.view.read (Elt F) W.1, x19 := A.m19.view.read (Elt F) W.2.1, x20 := A.m20.view.read (Elt F) W.2.2 }

/-- The state after a head's first pair. -/
def stA (σ : St F) : St F := putA c A (runA (F := F) c i A.m2 A.h2 A.m3 A.h3 A.m4 A.h4 A.m5 A.h5 A.m6 A.h6 A.m7 A.h7 A.m8 A.h8 A.m9 A.h9 A.m10 A.h10 A.m11 A.h11 A.m12 A.h12 A.m13 A.h13 A.m14 A.h14 A.m15 A.h15 A.m16 A.h16 A.m17 A.h17 A.m18 A.h18 A.m19 A.h19 A.m20 A.h20 A.m21 A.h21 A.m22 A.h22 A.m23 A.h23 A.m24 A.h24 A.m25 A.h25 A.m26 A.h26 A.m27 A.h27).1 σ

theorem specA_aux (X : In F) (σ : St F) (o : Out F) (W : Bf (F := F) c A.m18 × Bf (F := F) c A.m19 × Bf (F := F) c A.m20)
    (h : ∀ (f18 : Bf (F := F) c A.m18) (f19 : Bf (F := F) c A.m19) (f20 : Bf (F := F) c A.m20) (E : Set ℕ) (Q : PUnit → sProp 𝕄),
      iprop(pt c A.m18 f18 ∗ pt c A.m19 f19 ∗ pt c A.m20 f20 ∗ (iprop(pt c A.m18 W.1 ∗ pt c A.m19 W.2.1 ∗ pt c A.m20 W.2.2) -∗ Q ⟨⟩))
        ⊢ wp frame (wpE (defs₀ (F := F)) Variants.none c none) E (atA (F := F) i A) Q)
    (E : Set ℕ) (Q : PUnit → sProp 𝕄) :
    iprop(held c A X σ o ∗ (held c A X (putA c A W σ) o -∗ Q ⟨⟩))
      ⊢ wp frame (wpE (defs₀ (F := F)) Variants.none c none) E (atA (F := F) i A) Q := by
  unfold held putA
  simp only [Memref.IsWhole.unread_read]
  iintro ⟨⟨H4, H5, H6, H7, H8, H9, H10, H11, H12, H13, H14, H15, H16, H17, H18, H19, H20, ⟨%f21, H21⟩, ⟨%f22, H22⟩, ⟨%f23, H23⟩, ⟨%f24, H24⟩, H25, H26, H27⟩, Hk⟩
  iapply (h (A.h18.unread σ.x18) (A.h19.unread σ.x19) (A.h20.unread σ.x20) E Q)
  iframe H18 H19 H20
  iintro ⟨H18, H19, H20⟩
  iapply Hk
  iframe H4 H5 H6 H7 H8 H9 H10 H11 H12 H13 H14 H15 H16 H17 H18 H19 H20 H25 H26 H27
  isplitl [H21]; · iexists _; iexact H21
  isplitl [H22]; · iexists _; iexact H22
  isplitl [H23]; · iexists _; iexact H23
  iexists _; iexact H24

theorem specA (X : In F) (σ : St F) (o : Out F) (E : Set ℕ) (Q : PUnit → sProp 𝕄) :
    iprop(held c A X σ o ∗ (held c A X (stA c i A σ) o -∗ Q ⟨⟩))
      ⊢ wp frame (wpE (defs₀ (F := F)) Variants.none c none) E (atA (F := F) i A) Q :=
  specA_aux c i A X σ o _ (runA (F := F) c i A.m2 A.h2 A.m3 A.h3 A.m4 A.h4 A.m5 A.h5 A.m6 A.h6 A.m7 A.h7 A.m8 A.h8 A.m9 A.h9 A.m10 A.h10 A.m11 A.h11 A.m12 A.h12 A.m13 A.h13 A.m14 A.h14 A.m15 A.h15 A.m16 A.h16 A.m17 A.h17 A.m18 A.h18 A.m19 A.h19 A.m20 A.h20 A.m21 A.h21 A.m22 A.h22 A.m23 A.h23 A.m24 A.h24 A.m25 A.h25 A.m26 A.h26 A.m27 A.h27).2 E Q

/-- What the buffers that a query tile's first pair writes hold, in the state. -/
def putB (W : Bf (F := F) c A.m15 × Bf (F := F) c A.m17 × Bf (F := F) c A.m25 × Bf (F := F) c A.m26 × Bf (F := F) c A.m27) (σ : St F) : St F :=
  { σ with x15 := A.m15.view.read (Elt F) W.1, x17 := A.m17.view.read (Elt F) W.2.1, x25 := A.m25.view.read (Elt F) W.2.2.1, x26 := A.m26.view.read (Elt F) W.2.2.2.1, x27 := A.m27.view.read (Elt F) W.2.2.2.2 }

/-- The state after a query tile's first pair. -/
def stB (X : In F) (σ : St F) : St F := putB c A (runB (F := F) c i A.m2 A.h2 A.m3 A.h3 A.m4 A.h4 A.m5 A.h5 A.m6 A.h6 A.m7 A.h7 A.m8 A.h8 A.m9 A.h9 A.m10 A.h10 A.m11 A.h11 A.m12 A.h12 A.m13 A.h13 A.m14 A.h14 A.m15 A.h15 A.m16 A.h16 A.m17 A.h17 A.m18 A.h18 A.m19 A.h19 A.m20 A.h20 A.m21 A.h21 A.m22 A.h22 A.m23 A.h23 A.m24 A.h24 A.m25 A.h25 A.m26 A.h26 A.m27 A.h27 (A.h7.unread X.c) (A.h9.unread X.lse) (A.h10.unread X.y) (A.h11.unread X.dy)).1 σ

theorem specB_aux (X : In F) (σ : St F) (o : Out F) (W : Bf (F := F) c A.m15 × Bf (F := F) c A.m17 × Bf (F := F) c A.m25 × Bf (F := F) c A.m26 × Bf (F := F) c A.m27)
    (h : ∀ (f15 : Bf (F := F) c A.m15) (f17 : Bf (F := F) c A.m17) (f25 : Bf (F := F) c A.m25) (f26 : Bf (F := F) c A.m26) (f27 : Bf (F := F) c A.m27) (E : Set ℕ) (Q : PUnit → sProp 𝕄),
      iprop(pt c A.m7 (A.h7.unread X.c) ∗ pt c A.m9 (A.h9.unread X.lse) ∗ pt c A.m10 (A.h10.unread X.y) ∗ pt c A.m11 (A.h11.unread X.dy) ∗ pt c A.m15 f15 ∗ pt c A.m17 f17 ∗ pt c A.m25 f25 ∗ pt c A.m26 f26 ∗ pt c A.m27 f27 ∗ (iprop(pt c A.m7 (A.h7.unread X.c) ∗ pt c A.m9 (A.h9.unread X.lse) ∗ pt c A.m10 (A.h10.unread X.y) ∗ pt c A.m11 (A.h11.unread X.dy) ∗ pt c A.m15 W.1 ∗ pt c A.m17 W.2.1 ∗ pt c A.m25 W.2.2.1 ∗ pt c A.m26 W.2.2.2.1 ∗ pt c A.m27 W.2.2.2.2) -∗ Q ⟨⟩))
        ⊢ wp frame (wpE (defs₀ (F := F)) Variants.none c none) E (atB (F := F) i A) Q)
    (E : Set ℕ) (Q : PUnit → sProp 𝕄) :
    iprop(held c A X σ o ∗ (held c A X (putB c A W σ) o -∗ Q ⟨⟩))
      ⊢ wp frame (wpE (defs₀ (F := F)) Variants.none c none) E (atB (F := F) i A) Q := by
  unfold held putB
  simp only [Memref.IsWhole.unread_read]
  iintro ⟨⟨H4, H5, H6, H7, H8, H9, H10, H11, H12, H13, H14, H15, H16, H17, H18, H19, H20, ⟨%f21, H21⟩, ⟨%f22, H22⟩, ⟨%f23, H23⟩, ⟨%f24, H24⟩, H25, H26, H27⟩, Hk⟩
  iapply (h (A.h15.unread σ.x15) (A.h17.unread σ.x17) (A.h25.unread σ.x25) (A.h26.unread σ.x26) (A.h27.unread σ.x27) E Q)
  iframe H7 H9 H10 H11 H15 H17 H25 H26 H27
  iintro ⟨H7, H9, H10, H11, H15, H17, H25, H26, H27⟩
  iapply Hk
  iframe H4 H5 H6 H7 H8 H9 H10 H11 H12 H13 H14 H15 H16 H17 H18 H19 H20 H25 H26 H27
  isplitl [H21]; · iexists _; iexact H21
  isplitl [H22]; · iexists _; iexact H22
  isplitl [H23]; · iexists _; iexact H23
  iexists _; iexact H24

theorem specB (X : In F) (σ : St F) (o : Out F) (E : Set ℕ) (Q : PUnit → sProp 𝕄) :
    iprop(held c A X σ o ∗ (held c A X (stB c i A X σ) o -∗ Q ⟨⟩))
      ⊢ wp frame (wpE (defs₀ (F := F)) Variants.none c none) E (atB (F := F) i A) Q :=
  specB_aux c i A X σ o _ (runB (F := F) c i A.m2 A.h2 A.m3 A.h3 A.m4 A.h4 A.m5 A.h5 A.m6 A.h6 A.m7 A.h7 A.m8 A.h8 A.m9 A.h9 A.m10 A.h10 A.m11 A.h11 A.m12 A.h12 A.m13 A.h13 A.m14 A.h14 A.m15 A.h15 A.m16 A.h16 A.m17 A.h17 A.m18 A.h18 A.m19 A.h19 A.m20 A.h20 A.m21 A.h21 A.m22 A.h22 A.m23 A.h23 A.m24 A.h24 A.m25 A.h25 A.m26 A.h26 A.m27 A.h27 (A.h7.unread X.c) (A.h9.unread X.lse) (A.h10.unread X.y) (A.h11.unread X.dy)).2 E Q

/-- What the buffers that the update below the diagonal writes hold, in the state. -/
def putC (W : Bf (F := F) c A.m15 × Bf (F := F) c A.m17 × Bf (F := F) c A.m18 × Bf (F := F) c A.m19 × Bf (F := F) c A.m20) (σ : St F) : St F :=
  { σ with x15 := A.m15.view.read (Elt F) W.1, x17 := A.m17.view.read (Elt F) W.2.1, x18 := A.m18.view.read (Elt F) W.2.2.1, x19 := A.m19.view.read (Elt F) W.2.2.2.1, x20 := A.m20.view.read (Elt F) W.2.2.2.2 }

/-- The state after the update below the diagonal. -/
def stC (v1 v3 : BitVec 32) (hw : k0_chk1 v1 v3) (h3 : k0_cond3 v1 v3 = 1#1) (X : In F) (σ : St F) : St F := putC c A (runC (F := F) c i A.m2 A.h2 A.m3 A.h3 A.m4 A.h4 A.m5 A.h5 A.m6 A.h6 A.m7 A.h7 A.m8 A.h8 A.m9 A.h9 A.m10 A.h10 A.m11 A.h11 A.m12 A.h12 A.m13 A.h13 A.m14 A.h14 A.m15 A.h15 A.m16 A.h16 A.m17 A.h17 A.m18 A.h18 A.m19 A.h19 A.m20 A.h20 A.m21 A.h21 A.m22 A.h22 A.m23 A.h23 A.m24 A.h24 A.m25 A.h25 A.m26 A.h26 A.m27 A.h27 v1 v3 hw h3 (A.h4.unread X.q) (A.h5.unread X.k) (A.h6.unread X.v) (A.h8.unread X.ck) (A.h25.unread σ.x25) (A.h26.unread σ.x26) (A.h27.unread σ.x27) (A.h15.unread σ.x15) (A.h17.unread σ.x17) (A.h18.unread σ.x18) (A.h19.unread σ.x19) (A.h20.unread σ.x20)).1 σ

theorem specC_aux (v1 v3 : BitVec 32) (hw : k0_chk1 v1 v3) (h3 : k0_cond3 v1 v3 = 1#1) (X : In F) (σ : St F) (o : Out F) (W : Bf (F := F) c A.m15 × Bf (F := F) c A.m17 × Bf (F := F) c A.m18 × Bf (F := F) c A.m19 × Bf (F := F) c A.m20)
    (h : ∀ (f21 : Bf (F := F) c A.m21) (f22 : Bf (F := F) c A.m22) (f23 : Bf (F := F) c A.m23) (f24 : Bf (F := F) c A.m24) (E : Set ℕ) (Q : PUnit → sProp 𝕄),
      iprop(pt c A.m4 (A.h4.unread X.q) ∗ pt c A.m5 (A.h5.unread X.k) ∗ pt c A.m6 (A.h6.unread X.v) ∗ pt c A.m8 (A.h8.unread X.ck) ∗ pt c A.m25 (A.h25.unread σ.x25) ∗ pt c A.m26 (A.h26.unread σ.x26) ∗ pt c A.m27 (A.h27.unread σ.x27) ∗ pt c A.m15 (A.h15.unread σ.x15) ∗ pt c A.m17 (A.h17.unread σ.x17) ∗ pt c A.m18 (A.h18.unread σ.x18) ∗ pt c A.m19 (A.h19.unread σ.x19) ∗ pt c A.m20 (A.h20.unread σ.x20) ∗ pt c A.m21 f21 ∗ pt c A.m22 f22 ∗ pt c A.m23 f23 ∗ pt c A.m24 f24 ∗ (iprop(pt c A.m4 (A.h4.unread X.q) ∗ pt c A.m5 (A.h5.unread X.k) ∗ pt c A.m6 (A.h6.unread X.v) ∗ pt c A.m8 (A.h8.unread X.ck) ∗ pt c A.m25 (A.h25.unread σ.x25) ∗ pt c A.m26 (A.h26.unread σ.x26) ∗ pt c A.m27 (A.h27.unread σ.x27) ∗ pt c A.m15 W.1 ∗ pt c A.m17 W.2.1 ∗ pt c A.m18 W.2.2.1 ∗ pt c A.m19 W.2.2.2.1 ∗ pt c A.m20 W.2.2.2.2 ∗ (∃ f, pt c A.m21 f) ∗ (∃ f, pt c A.m22 f) ∗ (∃ f, pt c A.m23 f) ∗ (∃ f, pt c A.m24 f)) -∗ Q ⟨⟩))
        ⊢ wp frame (wpE (defs₀ (F := F)) Variants.none c none) E (atC (F := F) i A v1 v3 hw h3) Q)
    (E : Set ℕ) (Q : PUnit → sProp 𝕄) :
    iprop(held c A X σ o ∗ (held c A X (putC c A W σ) o -∗ Q ⟨⟩))
      ⊢ wp frame (wpE (defs₀ (F := F)) Variants.none c none) E (atC (F := F) i A v1 v3 hw h3) Q := by
  unfold held putC
  simp only [Memref.IsWhole.unread_read]
  iintro ⟨⟨H4, H5, H6, H7, H8, H9, H10, H11, H12, H13, H14, H15, H16, H17, H18, H19, H20, ⟨%f21, H21⟩, ⟨%f22, H22⟩, ⟨%f23, H23⟩, ⟨%f24, H24⟩, H25, H26, H27⟩, Hk⟩
  iapply (h f21 f22 f23 f24 E Q)
  iframe H4 H5 H6 H8 H25 H26 H27 H15 H17 H18 H19 H20 H21 H22 H23 H24
  iintro ⟨H4, H5, H6, H8, H25, H26, H27, H15, H17, H18, H19, H20, ⟨%g21, H21⟩, ⟨%g22, H22⟩, ⟨%g23, H23⟩, ⟨%g24, H24⟩⟩
  iapply Hk
  iframe H4 H5 H6 H7 H8 H9 H10 H11 H12 H13 H14 H15 H16 H17 H18 H19 H20 H25 H26 H27
  isplitl [H21]; · iexists _; iexact H21
  isplitl [H22]; · iexists _; iexact H22
  isplitl [H23]; · iexists _; iexact H23
  iexists _; iexact H24

theorem specC (v1 v3 : BitVec 32) (hw : k0_chk1 v1 v3) (h3 : k0_cond3 v1 v3 = 1#1) (X : In F) (σ : St F) (o : Out F) (E : Set ℕ) (Q : PUnit → sProp 𝕄) :
    iprop(held c A X σ o ∗ (held c A X (stC c i A v1 v3 hw h3 X σ) o -∗ Q ⟨⟩))
      ⊢ wp frame (wpE (defs₀ (F := F)) Variants.none c none) E (atC (F := F) i A v1 v3 hw h3) Q :=
  specC_aux c i A v1 v3 hw h3 X σ o _ (runC (F := F) c i A.m2 A.h2 A.m3 A.h3 A.m4 A.h4 A.m5 A.h5 A.m6 A.h6 A.m7 A.h7 A.m8 A.h8 A.m9 A.h9 A.m10 A.h10 A.m11 A.h11 A.m12 A.h12 A.m13 A.h13 A.m14 A.h14 A.m15 A.h15 A.m16 A.h16 A.m17 A.h17 A.m18 A.h18 A.m19 A.h19 A.m20 A.h20 A.m21 A.h21 A.m22 A.h22 A.m23 A.h23 A.m24 A.h24 A.m25 A.h25 A.m26 A.h26 A.m27 A.h27 v1 v3 hw h3 (A.h4.unread X.q) (A.h5.unread X.k) (A.h6.unread X.v) (A.h8.unread X.ck) (A.h25.unread σ.x25) (A.h26.unread σ.x26) (A.h27.unread σ.x27) (A.h15.unread σ.x15) (A.h17.unread σ.x17) (A.h18.unread σ.x18) (A.h19.unread σ.x19) (A.h20.unread σ.x20)).2 E Q

/-- What the buffers that the update on the diagonal writes hold, in the state. -/
def putD (W : Bf (F := F) c A.m15 × Bf (F := F) c A.m17 × Bf (F := F) c A.m18 × Bf (F := F) c A.m19 × Bf (F := F) c A.m20 × Bf (F := F) c A.m12) (σ : St F) : St F :=
  { σ with x15 := A.m15.view.read (Elt F) W.1, x17 := A.m17.view.read (Elt F) W.2.1, x18 := A.m18.view.read (Elt F) W.2.2.1, x19 := A.m19.view.read (Elt F) W.2.2.2.1, x20 := A.m20.view.read (Elt F) W.2.2.2.2.1 }

def putoD (W : Bf (F := F) c A.m15 × Bf (F := F) c A.m17 × Bf (F := F) c A.m18 × Bf (F := F) c A.m19 × Bf (F := F) c A.m20 × Bf (F := F) c A.m12) (o : Out F) : Out F :=
  { o with x12 := A.m12.view.read (Elt F) W.2.2.2.2.2 }

/-- The state after the update on the diagonal. -/
def stD (v1 v3 : BitVec 32) (hw : k0_chk1 v1 v3) (h4 : k0_cond4 v1 v3 = 1#1) (X : In F) (σ : St F) : St F := putD c A (runD (F := F) c i A.m2 A.h2 A.m3 A.h3 A.m4 A.h4 A.m5 A.h5 A.m6 A.h6 A.m7 A.h7 A.m8 A.h8 A.m9 A.h9 A.m10 A.h10 A.m11 A.h11 A.m12 A.h12 A.m13 A.h13 A.m14 A.h14 A.m15 A.h15 A.m16 A.h16 A.m17 A.h17 A.m18 A.h18 A.m19 A.h19 A.m20 A.h20 A.m21 A.h21 A.m22 A.h22 A.m23 A.h23 A.m24 A.h24 A.m25 A.h25 A.m26 A.h26 A.m27 A.h27 v1 v3 hw h4 (A.h4.unread X.q) (A.h5.unread X.k) (A.h6.unread X.v) (A.h8.unread X.ck) (A.h25.unread σ.x25) (A.h26.unread σ.x26) (A.h27.unread σ.x27) (A.h15.unread σ.x15) (A.h17.unread σ.x17) (A.h18.unread σ.x18) (A.h19.unread σ.x19) (A.h20.unread σ.x20)).1 σ

/-- The outputs' blocks after the update on the diagonal. -/
def outD (v1 v3 : BitVec 32) (hw : k0_chk1 v1 v3) (h4 : k0_cond4 v1 v3 = 1#1) (X : In F) (σ : St F) (o : Out F) : Out F := putoD c A (runD (F := F) c i A.m2 A.h2 A.m3 A.h3 A.m4 A.h4 A.m5 A.h5 A.m6 A.h6 A.m7 A.h7 A.m8 A.h8 A.m9 A.h9 A.m10 A.h10 A.m11 A.h11 A.m12 A.h12 A.m13 A.h13 A.m14 A.h14 A.m15 A.h15 A.m16 A.h16 A.m17 A.h17 A.m18 A.h18 A.m19 A.h19 A.m20 A.h20 A.m21 A.h21 A.m22 A.h22 A.m23 A.h23 A.m24 A.h24 A.m25 A.h25 A.m26 A.h26 A.m27 A.h27 v1 v3 hw h4 (A.h4.unread X.q) (A.h5.unread X.k) (A.h6.unread X.v) (A.h8.unread X.ck) (A.h25.unread σ.x25) (A.h26.unread σ.x26) (A.h27.unread σ.x27) (A.h15.unread σ.x15) (A.h17.unread σ.x17) (A.h18.unread σ.x18) (A.h19.unread σ.x19) (A.h20.unread σ.x20)).1 o

theorem specD_aux (v1 v3 : BitVec 32) (hw : k0_chk1 v1 v3) (h4 : k0_cond4 v1 v3 = 1#1) (X : In F) (σ : St F) (o : Out F) (W : Bf (F := F) c A.m15 × Bf (F := F) c A.m17 × Bf (F := F) c A.m18 × Bf (F := F) c A.m19 × Bf (F := F) c A.m20 × Bf (F := F) c A.m12)
    (h : ∀ (f21 : Bf (F := F) c A.m21) (f22 : Bf (F := F) c A.m22) (f23 : Bf (F := F) c A.m23) (f24 : Bf (F := F) c A.m24) (f12 : Bf (F := F) c A.m12) (E : Set ℕ) (Q : PUnit → sProp 𝕄),
      iprop(pt c A.m4 (A.h4.unread X.q) ∗ pt c A.m5 (A.h5.unread X.k) ∗ pt c A.m6 (A.h6.unread X.v) ∗ pt c A.m8 (A.h8.unread X.ck) ∗ pt c A.m25 (A.h25.unread σ.x25) ∗ pt c A.m26 (A.h26.unread σ.x26) ∗ pt c A.m27 (A.h27.unread σ.x27) ∗ pt c A.m15 (A.h15.unread σ.x15) ∗ pt c A.m17 (A.h17.unread σ.x17) ∗ pt c A.m18 (A.h18.unread σ.x18) ∗ pt c A.m19 (A.h19.unread σ.x19) ∗ pt c A.m20 (A.h20.unread σ.x20) ∗ pt c A.m21 f21 ∗ pt c A.m22 f22 ∗ pt c A.m23 f23 ∗ pt c A.m24 f24 ∗ pt c A.m12 f12 ∗ (iprop(pt c A.m4 (A.h4.unread X.q) ∗ pt c A.m5 (A.h5.unread X.k) ∗ pt c A.m6 (A.h6.unread X.v) ∗ pt c A.m8 (A.h8.unread X.ck) ∗ pt c A.m25 (A.h25.unread σ.x25) ∗ pt c A.m26 (A.h26.unread σ.x26) ∗ pt c A.m27 (A.h27.unread σ.x27) ∗ pt c A.m15 W.1 ∗ pt c A.m17 W.2.1 ∗ pt c A.m18 W.2.2.1 ∗ pt c A.m19 W.2.2.2.1 ∗ pt c A.m20 W.2.2.2.2.1 ∗ pt c A.m12 W.2.2.2.2.2 ∗ (∃ f, pt c A.m21 f) ∗ (∃ f, pt c A.m22 f) ∗ (∃ f, pt c A.m23 f) ∗ (∃ f, pt c A.m24 f)) -∗ Q ⟨⟩))
        ⊢ wp frame (wpE (defs₀ (F := F)) Variants.none c none) E (atD (F := F) i A v1 v3 hw h4) Q)
    (E : Set ℕ) (Q : PUnit → sProp 𝕄) :
    iprop(held c A X σ o ∗ (held c A X (putD c A W σ) (putoD c A W o) -∗ Q ⟨⟩))
      ⊢ wp frame (wpE (defs₀ (F := F)) Variants.none c none) E (atD (F := F) i A v1 v3 hw h4) Q := by
  unfold held putD putoD
  simp only [Memref.IsWhole.unread_read]
  iintro ⟨⟨H4, H5, H6, H7, H8, H9, H10, H11, H12, H13, H14, H15, H16, H17, H18, H19, H20, ⟨%f21, H21⟩, ⟨%f22, H22⟩, ⟨%f23, H23⟩, ⟨%f24, H24⟩, H25, H26, H27⟩, Hk⟩
  iapply (h f21 f22 f23 f24 (A.h12.unread o.x12) E Q)
  iframe H4 H5 H6 H8 H25 H26 H27 H15 H17 H18 H19 H20 H21 H22 H23 H24 H12
  iintro ⟨H4, H5, H6, H8, H25, H26, H27, H15, H17, H18, H19, H20, H12, ⟨%g21, H21⟩, ⟨%g22, H22⟩, ⟨%g23, H23⟩, ⟨%g24, H24⟩⟩
  iapply Hk
  iframe H4 H5 H6 H7 H8 H9 H10 H11 H12 H13 H14 H15 H16 H17 H18 H19 H20 H25 H26 H27
  isplitl [H21]; · iexists _; iexact H21
  isplitl [H22]; · iexists _; iexact H22
  isplitl [H23]; · iexists _; iexact H23
  iexists _; iexact H24

theorem specD (v1 v3 : BitVec 32) (hw : k0_chk1 v1 v3) (h4 : k0_cond4 v1 v3 = 1#1) (X : In F) (σ : St F) (o : Out F) (E : Set ℕ) (Q : PUnit → sProp 𝕄) :
    iprop(held c A X σ o ∗ (held c A X (stD c i A v1 v3 hw h4 X σ) (outD c i A v1 v3 hw h4 X σ o) -∗ Q ⟨⟩))
      ⊢ wp frame (wpE (defs₀ (F := F)) Variants.none c none) E (atD (F := F) i A v1 v3 hw h4) Q :=
  specD_aux c i A v1 v3 hw h4 X σ o _ (runD (F := F) c i A.m2 A.h2 A.m3 A.h3 A.m4 A.h4 A.m5 A.h5 A.m6 A.h6 A.m7 A.h7 A.m8 A.h8 A.m9 A.h9 A.m10 A.h10 A.m11 A.h11 A.m12 A.h12 A.m13 A.h13 A.m14 A.h14 A.m15 A.h15 A.m16 A.h16 A.m17 A.h17 A.m18 A.h18 A.m19 A.h19 A.m20 A.h20 A.m21 A.h21 A.m22 A.h22 A.m23 A.h23 A.m24 A.h24 A.m25 A.h25 A.m26 A.h26 A.m27 A.h27 v1 v3 hw h4 (A.h4.unread X.q) (A.h5.unread X.k) (A.h6.unread X.v) (A.h8.unread X.ck) (A.h25.unread σ.x25) (A.h26.unread σ.x26) (A.h27.unread σ.x27) (A.h15.unread σ.x15) (A.h17.unread σ.x17) (A.h18.unread σ.x18) (A.h19.unread σ.x19) (A.h20.unread σ.x20)).2 E Q

/-- What the buffers that a head's last pair writes hold, in the state. -/
def putoE (W : Bf (F := F) c A.m13 × Bf (F := F) c A.m14 × Bf (F := F) c A.m16) (o : Out F) : Out F :=
  { o with x13 := A.m13.view.read (Elt F) W.1, x14 := A.m14.view.read (Elt F) W.2.1, x16 := A.m16.view.read (Elt F) W.2.2 }

/-- The outputs' blocks after a head's last pair. -/
def outE (σ : St F) (o : Out F) : Out F := putoE c A (runE (F := F) c i A.m2 A.h2 A.m3 A.h3 A.m4 A.h4 A.m5 A.h5 A.m6 A.h6 A.m7 A.h7 A.m8 A.h8 A.m9 A.h9 A.m10 A.h10 A.m11 A.h11 A.m12 A.h12 A.m13 A.h13 A.m14 A.h14 A.m15 A.h15 A.m16 A.h16 A.m17 A.h17 A.m18 A.h18 A.m19 A.h19 A.m20 A.h20 A.m21 A.h21 A.m22 A.h22 A.m23 A.h23 A.m24 A.h24 A.m25 A.h25 A.m26 A.h26 A.m27 A.h27 (A.h18.unread σ.x18) (A.h19.unread σ.x19) (A.h20.unread σ.x20)).1 o

theorem specE_aux (X : In F) (σ : St F) (o : Out F) (W : Bf (F := F) c A.m13 × Bf (F := F) c A.m14 × Bf (F := F) c A.m16)
    (h : ∀ (f13 : Bf (F := F) c A.m13) (f14 : Bf (F := F) c A.m14) (f16 : Bf (F := F) c A.m16) (E : Set ℕ) (Q : PUnit → sProp 𝕄),
      iprop(pt c A.m18 (A.h18.unread σ.x18) ∗ pt c A.m19 (A.h19.unread σ.x19) ∗ pt c A.m20 (A.h20.unread σ.x20) ∗ pt c A.m13 f13 ∗ pt c A.m14 f14 ∗ pt c A.m16 f16 ∗ (iprop(pt c A.m18 (A.h18.unread σ.x18) ∗ pt c A.m19 (A.h19.unread σ.x19) ∗ pt c A.m20 (A.h20.unread σ.x20) ∗ pt c A.m13 W.1 ∗ pt c A.m14 W.2.1 ∗ pt c A.m16 W.2.2) -∗ Q ⟨⟩))
        ⊢ wp frame (wpE (defs₀ (F := F)) Variants.none c none) E (atE (F := F) i A) Q)
    (E : Set ℕ) (Q : PUnit → sProp 𝕄) :
    iprop(held c A X σ o ∗ (held c A X σ (putoE c A W o) -∗ Q ⟨⟩))
      ⊢ wp frame (wpE (defs₀ (F := F)) Variants.none c none) E (atE (F := F) i A) Q := by
  unfold held putoE
  simp only [Memref.IsWhole.unread_read]
  iintro ⟨⟨H4, H5, H6, H7, H8, H9, H10, H11, H12, H13, H14, H15, H16, H17, H18, H19, H20, ⟨%f21, H21⟩, ⟨%f22, H22⟩, ⟨%f23, H23⟩, ⟨%f24, H24⟩, H25, H26, H27⟩, Hk⟩
  iapply (h (A.h13.unread o.x13) (A.h14.unread o.x14) (A.h16.unread o.x16) E Q)
  iframe H18 H19 H20 H13 H14 H16
  iintro ⟨H18, H19, H20, H13, H14, H16⟩
  iapply Hk
  iframe H4 H5 H6 H7 H8 H9 H10 H11 H12 H13 H14 H15 H16 H17 H18 H19 H20 H25 H26 H27
  isplitl [H21]; · iexists _; iexact H21
  isplitl [H22]; · iexists _; iexact H22
  isplitl [H23]; · iexists _; iexact H23
  iexists _; iexact H24

theorem specE (X : In F) (σ : St F) (o : Out F) (E : Set ℕ) (Q : PUnit → sProp 𝕄) :
    iprop(held c A X σ o ∗ (held c A X σ (outE c i A σ o) -∗ Q ⟨⟩))
      ⊢ wp frame (wpE (defs₀ (F := F)) Variants.none c none) E (atE (F := F) i A) Q :=
  specE_aux c i A X σ o _ (runE (F := F) c i A.m2 A.h2 A.m3 A.h3 A.m4 A.h4 A.m5 A.h5 A.m6 A.h6 A.m7 A.h7 A.m8 A.h8 A.m9 A.h9 A.m10 A.h10 A.m11 A.h11 A.m12 A.h12 A.m13 A.h13 A.m14 A.h14 A.m15 A.h15 A.m16 A.h16 A.m17 A.h17 A.m18 A.h18 A.m19 A.h19 A.m20 A.h20 A.m21 A.h21 A.m22 A.h22 A.m23 A.h23 A.m24 A.h24 A.m25 A.h25 A.m26 A.h26 A.m27 A.h27 (A.h18.unread σ.x18) (A.h19.unread σ.x19) (A.h20.unread σ.x20)).2 E Q

end Cert.Proof.KI

end
-- ==== Proof.Body.lean ====
/-
  The body at one point: the table words read, the state taken through the regions whose conditions hold.
-/
module

public import proofs.«01_k».proof.Proof.State

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR nD τ) ℕ

variable (c : Dev nD) (i : grid0.Coords) (A : Args)

/-- The table word of the point, of the table held at `f`. -/
abbrev word2 (f : Bf (F := F) c A.m2) : Elt F .i32 :=
  (A.m2.access (Rect.unit (s := S10) (k0_off1 i) S1.size (k0_off1_inb i))).read (Elt F) f (Shape.Idx.first (numel1_S1.symm ▸ Nat.one_pos))
abbrev word3 (f : Bf (F := F) c A.m3) : Elt F .i32 :=
  (A.m3.access (Rect.unit (s := S10) (k0_off1 i) S1.size (k0_off1_inb i))).read (Elt F) f (Shape.Idx.first (numel1_S1.symm ▸ Nat.one_pos))

variable (v1 v3 : BitVec 32) (hw : k0_chk1 v1 v3) (X : In F)

/-- The state after the regions that start the sums. -/
def initA (σ : St F) : St F := if cond1 i = 1#1 then stA c i A σ else σ
def initB (σ : St F) : St F := if k0_cond2 v3 = 1#1 then stB c i A X (initA c i A σ) else initA c i A σ
/-- The state after the update below the diagonal, and after the one on it: the body's. -/
def updC (σ : St F) : St F := if h : k0_cond3 v1 v3 = 1#1 then stC c i A v1 v3 hw h X (initB c i A v3 X σ) else initB c i A v3 X σ
def step (σ : St F) : St F := if h : k0_cond4 v1 v3 = 1#1 then stD c i A v1 v3 hw h X (updC c i A v1 v3 hw X σ) else updC c i A v1 v3 hw X σ
/-- The outputs' blocks after the update on the diagonal, and after the body. -/
def oD (σ : St F) (o : Out F) : Out F := if h : k0_cond4 v1 v3 = 1#1 then outD c i A v1 v3 hw h X (updC c i A v1 v3 hw X σ) o else o
def oE (σ : St F) (o : Out F) : Out F := if k0_cond5 i = 1#1 then outE c i A (step c i A v1 v3 hw X σ) (oD c i A v1 v3 hw X σ o) else oD c i A v1 v3 hw X σ o

theorem seq_spec {α : Type} {cnd : Prop} [Decidable cnd] {H H' R : sProp 𝕄} {p : cnd → Prog (TpuEff nD τ sig (Elt F) Λ₀ .tc) PUnit} {k : Prog (TpuEff nD τ sig (Elt F) Λ₀ .tc) α}
    {E : Set ℕ} {Q : α → sProp 𝕄}
    (hp : ∀ (h : cnd) (Q : PUnit → sProp 𝕄), iprop(H ∗ (H' -∗ Q ⟨⟩)) ⊢ wp frame (wpE (defs₀ (F := F)) Variants.none c none) E (p h) Q)
    (hn : ¬ cnd → H = H')
    (hk : iprop(H' ∗ R) ⊢ wp frame (wpE (defs₀ (F := F)) Variants.none c none) E k Q) :
    iprop(H ∗ R) ⊢ wp frame (wpE (defs₀ (F := F)) Variants.none c none) E (if h : cnd then p h >>= fun _ => k else k) Q := by
  split
  · rename_i h
    rw [wp_bind]
    refine (show _ ⊢ _ from ?_ : iprop(H ∗ R) ⊢ iprop(H ∗ (H' -∗ wp frame (wpE (defs₀ (F := F)) Variants.none c none) E k Q))).trans (hp h (fun _ => wp frame (wpE (defs₀ (F := F)) Variants.none c none) E k Q))
    iintro ⟨H, R⟩
    isplitl [H]; · iexact H
    iintro H
    iapply hk
    isplitl [H]; · iexact H
    iexact R
  · rename_i h
    rw [hn h]; exact hk

/-- The body after its table words. -/
def tailE: Prog (TpuEff nD τ sig (Elt F) Λ₀ .tc) PUnit :=
  if h : k0_cond5 i = 1#1 then atE i A >>= fun _ => pure ⟨⟩ else pure ⟨⟩
def tailD : Prog (TpuEff nD τ sig (Elt F) Λ₀ .tc) PUnit :=
  if h : k0_cond4 v1 v3 = 1#1 then atD i A v1 v3 hw h >>= fun _ => tailE i A else tailE i A
def tailC : Prog (TpuEff nD τ sig (Elt F) Λ₀ .tc) PUnit :=
  if h : k0_cond3 v1 v3 = 1#1 then atC i A v1 v3 hw h >>= fun _ => tailD i A v1 v3 hw else tailD i A v1 v3 hw
def tailB : Prog (TpuEff nD τ sig (Elt F) Λ₀ .tc) PUnit :=
  if h : k0_cond2 v3 = 1#1 then atB i A >>= fun _ => tailC i A v1 v3 hw else tailC i A v1 v3 hw
def tailA : Prog (TpuEff nD τ sig (Elt F) Λ₀ .tc) PUnit :=
  if h : cond1 i = 1#1 then atA i A >>= fun _ => tailB i A v1 v3 hw else tailB i A v1 v3 hw

theorem tail_spec (σ : St F) (o : Out F) (E : Set ℕ) (Q : PUnit → sProp 𝕄) :
    iprop(held c A X σ o ∗ (held c A X (step c i A v1 v3 hw X σ) (oE c i A v1 v3 hw X σ o) -∗ Q ⟨⟩))
      ⊢ wp frame (wpE (defs₀ (F := F)) Variants.none c none) E (tailA i A v1 v3 hw) Q := by
  unfold tailA
  refine seq_spec c (H' := held c A X (initA c i A σ) o) ?_ ?_ ?_
  · intro h Q; unfold initA; simp only [h, ↓reduceIte, ↓reduceDIte]; exact specA c i A X σ o E Q
  · intro h; unfold initA; simp only [h, ↓reduceIte, ↓reduceDIte, Bool.false_eq_true]
  unfold tailB
  refine seq_spec c (H' := held c A X (initB c i A v3 X σ) o) ?_ ?_ ?_
  · intro h Q; unfold initB; simp only [h, ↓reduceIte, ↓reduceDIte]; exact specB c i A X _ o E Q
  · intro h; unfold initB; simp only [h, ↓reduceIte, ↓reduceDIte, Bool.false_eq_true]
  unfold tailC
  refine seq_spec c (H' := held c A X (updC c i A v1 v3 hw X σ) o) ?_ ?_ ?_
  · intro h Q; unfold updC; simp only [h, ↓reduceIte, ↓reduceDIte]; exact specC c i A v1 v3 hw _ X _ o E Q
  · intro h; unfold updC; simp only [h, ↓reduceIte, ↓reduceDIte, Bool.false_eq_true]
  unfold tailD
  refine seq_spec c (H' := held c A X (step c i A v1 v3 hw X σ) (oD c i A v1 v3 hw X σ o)) ?_ ?_ ?_
  · intro h Q; unfold step oD; simp only [h, ↓reduceIte, ↓reduceDIte]; exact specD c i A v1 v3 hw _ X _ o E Q
  · intro h; unfold step oD; simp only [h, ↓reduceIte, ↓reduceDIte, Bool.false_eq_true]
  unfold tailE
  refine seq_spec c (H' := held c A X (step c i A v1 v3 hw X σ) (oE c i A v1 v3 hw X σ o)) ?_ ?_ ?_
  · intro h Q; unfold oE; simp only [h, ↓reduceIte, ↓reduceDIte]; exact specE c i A X _ _ E Q
  · intro h; unfold oE; simp only [h, ↓reduceIte, ↓reduceDIte, Bool.false_eq_true]
  iintro ⟨H, Hk⟩
  sl_step
  iapply Hk
  iexact H

attribute [local irreducible] secA secB secC secD secE

theorem rest_eq : restOf (F := F) i A.m2 A.h2 A.m3 A.h3 A.m4 A.h4 A.m5 A.h5 A.m6 A.h6 A.m7 A.h7 A.m8 A.h8 A.m9 A.h9 A.m10 A.h10 A.m11 A.h11 A.m12 A.h12 A.m13 A.h13 A.m14 A.h14 A.m15 A.h15 A.m16 A.h16 A.m17 A.h17 A.m18 A.h18 A.m19 A.h19 A.m20 A.h20 A.m21 A.h21 A.m22 A.h22 A.m23 A.h23 A.m24 A.h24 A.m25 A.h25 A.m26 A.h26 A.m27 A.h27 v1 v3 hw = tailA (F := F) i A v1 v3 hw := by
  unfold restOf tailA tailB tailC tailD tailE
  rfl

theorem rest_spec (σ : St F) (o : Out F) (E : Set ℕ) (Q : PUnit → sProp 𝕄) :
    iprop(held c A X σ o ∗ (held c A X (step c i A v1 v3 hw X σ) (oE c i A v1 v3 hw X σ o) -∗ Q ⟨⟩))
      ⊢ wp frame (wpE (defs₀ (F := F)) Variants.none c none) E (restOf (F := F) i A.m2 A.h2 A.m3 A.h3 A.m4 A.h4 A.m5 A.h5 A.m6 A.h6 A.m7 A.h7 A.m8 A.h8 A.m9 A.h9 A.m10 A.h10 A.m11 A.h11 A.m12 A.h12 A.m13 A.h13 A.m14 A.h14 A.m15 A.h15 A.m16 A.h16 A.m17 A.h17 A.m18 A.h18 A.m19 A.h19 A.m20 A.h20 A.m21 A.h21 A.m22 A.h22 A.m23 A.h23 A.m24 A.h24 A.m25 A.h25 A.m26 A.h26 A.m27 A.h27 v1 v3 hw) Q := by
  rw [rest_eq]; exact tail_spec c i A v1 v3 hw X σ o E Q

theorem smemLoad_bind {α : Type} {e : EltTy} {t : Shape} (m : Memref sig .tc .smem t e) (r : Rect t) (h1 : r.shape.numel = 1) (hp : e.packing = 1)
    (K : Elt F e → Prog (TpuEff nD τ sig (Elt F) Λ₀ .tc) α) :
    (smemLoad m r h1 hp >>= K) = smemLoadElt m r (View.loads_smem_one hp h1) (Shape.Idx.first (h1.symm ▸ Nat.one_pos)) K := rfl

/-- The body at a point, its tables at the words `v1` and `v3` there: the state taken one step. -/
theorem body_spec (f2 : Bf (F := F) c A.m2) (f3 : Bf (F := F) c A.m3) (q : PosShare TreeShare)
    (h1 : word2 c i A f2 = v1) (h3 : word3 c i A f3 = v3) (σ : St F) (o : Out F) (E : Set ℕ) (Q : PUnit → sProp 𝕄) :
    iprop((A.m2.view.loc (c : Thread nD τ) ↦{q} f2) ∗ (A.m3.view.loc (c : Thread nD τ) ↦{q} f3) ∗ held c A X σ o
        ∗ (iprop((A.m2.view.loc (c : Thread nD τ) ↦{q} f2) ∗ (A.m3.view.loc (c : Thread nD τ) ↦{q} f3)
            ∗ held c A X (step c i A v1 v3 hw X σ) (oE c i A v1 v3 hw X σ o)) -∗ Q ⟨⟩))
      ⊢ wp frame (wpE (defs₀ (F := F)) Variants.none c none) E (cc0_fox_bwd i A.m2 A.h2 A.m3 A.h3 A.m4 A.h4 A.m5 A.h5 A.m6 A.h6 A.m7 A.h7 A.m8 A.h8 A.m9 A.h9 A.m10 A.h10 A.m11 A.h11 A.m12 A.h12 A.m13 A.h13 A.m14 A.h14 A.m15 A.h15 A.m16 A.h16 A.m17 A.h17 A.m18 A.h18 A.m19 A.h19 A.m20 A.h20 A.m21 A.h21 A.m22 A.h22 A.m23 A.h23 A.m24 A.h24 A.m25 A.h25 A.m26 A.h26 A.m27 A.h27) Q := by
  rw [body_eq]
  unfold bodyOf
  iintro ⟨H2, H3, H, Hk⟩
  rw [smemLoad_bind]
  iapply (wp_smemLoadElt_named (defs := defs₀ (F := F)) Variants.none (c : Thread nD τ) none E (m := A.m2) (S := Finset.univ) (r := Rect.unit (s := S10) (k0_off1 i) S1.size (k0_off1_inb i)) (x := Shape.Idx.first (numel1_S1.symm ▸ Nat.one_pos)) (q := q) (f := f2) (Finset.subset_univ _)) $$ H2
  iintro H2 %w1 %hw1
  obtain rfl : w1 = v1 := hw1.trans h1
  rw [smemLoad_bind]
  iapply (wp_smemLoadElt_named (defs := defs₀ (F := F)) Variants.none (c : Thread nD τ) none E (m := A.m3) (S := Finset.univ) (r := Rect.unit (s := S10) (k0_off1 i) S1.size (k0_off1_inb i)) (x := Shape.Idx.first (numel1_S1.symm ▸ Nat.one_pos)) (q := q) (f := f3) (Finset.subset_univ _)) $$ H3
  iintro H3 %w3 %hw3
  obtain rfl : w3 = v3 := hw3.trans h3
  iapply (wp_assume Variants.none (c : Thread nD τ) none E (h := hw))
  iapply (rest_spec c i A w1 w3 hw X σ o E Q)
  isplitl [H]; · iexact H
  iintro H
  iapply Hk
  isplitl [H2]; · iexact H2
  isplitl [H3]; · iexact H3
  iexact H

end Cert.Proof.KI

end
-- ==== Proof.Tables.lean ====
/-
  The call's two prefetched tables, pinned: pair by pair the query tile and the key tile, in the order of the query tiles.
  The index maps at them, their blocks inside the arrays, and the schedule's facts.
-/
module

public import proofs.«01_k».proof.Proof.Body
public import Idealize.ShloMosaic.Lib.Pipeline.TableIdle

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

set_option backward.proofsInPublic true in
/-- The tables' contents. -/
def pf : pre0.Contents (Elt F) := fun
  | ⟨0, _⟩ => fun x => lit0 (S10.rowMajor x)
  | ⟨1, _⟩ => fun x => lit1 (S10.rowMajor x)
  | ⟨_ + 2, h⟩ => absurd h (by simp)

/-- A pair's query tile and key tile. -/
def qt (i : grid0.Coords) : ℕ := (lit0 (i 1)).toNat
def kt (i : grid0.Coords) : ℕ := (lit1 (i 1)).toNat

theorem off_eq : ∀ j : Fin 10, (Scalar.indexCast (BitVec.ofNat 32 j.val)).toNat = j.val := by decide

theorem pos_eq (i : grid0.Coords) (h1 : (Rect.unit (s := S10) (k0_off1 i) S1.size (k0_off1_inb i)).shape.numel = 1) :
    S10.rowMajor ((Rect.unit (s := S10) (k0_off1 i) S1.size (k0_off1_inb i)).emb (Shape.Idx.first (h1.symm ▸ Nat.one_pos))) = i 1 := by
  apply Fin.ext
  refine (Shape.rowMajor_val_one (d := S10.size) _).trans ?_
  have e := Rect.emb_apply (Rect.unit (s := S10) (k0_off1 i) S1.size (k0_off1_inb i)) (Shape.Idx.first (h1.symm ▸ Nat.one_pos)) 0
  refine e.trans ?_
  have o : k0_off1 i 0 = (i 1).val := off_eq (i 1)
  have : (Shape.Idx.first (s := (Rect.unit (s := S10) (k0_off1 i) S1.size (k0_off1_inb i)).shape) (h1.symm ▸ Nat.one_pos) 0).val < 1 := Fin.isLt _
  have d : (Rect.unit (s := S10) (k0_off1 i) S1.size (k0_off1_inb i)).off 0 = k0_off1 i 0 := rfl
  rw [d, o, Nat.lt_one_iff.mp this]; rfl

theorem at0 (i : grid0.Coords) (h1) : (pf (F := F)).at 0 (Rect.unit (s := S10) (k0_off1 i) S1.size (k0_off1_inb i)) h1 = lit0 (i 1) :=
  congrArg lit0 (pos_eq i h1)
theorem at1 (i : grid0.Coords) (h1) : (pf (F := F)).at 1 (Rect.unit (s := S10) (k0_off1 i) S1.size (k0_off1_inb i)) h1 = lit1 (i 1) :=
  congrArg lit1 (pos_eq i h1)

theorem head_eq (i : grid0.Coords) : (BitVec.ofNat 32 (i 0).val).toNat = (i 0).val := by
  rw [BitVec.toNat_ofNat]; have : (i 0).val < 8 := (i 0).isLt; omega

theorem head8_eq (i : grid0.Coords) : (Scalar.addi 8#32 (BitVec.ofNat 32 (i 0).val)).toNat = 8 + (i 0).val := by
  have : (i 0).val < 8 := (i 0).isLt
  show (8#32 + BitVec.ofNat 32 (i 0).val).toNat = _
  rw [BitVec.toNat_add, BitVec.toNat_ofNat]; simp; omega
theorem head16_eq (i : grid0.Coords) : (Scalar.addi 16#32 (BitVec.ofNat 32 (i 0).val)).toNat = 16 + (i 0).val := by
  have : (i 0).val < 8 := (i 0).isLt
  show (16#32 + BitVec.ofNat 32 (i 0).val).toNat = _
  rw [BitVec.toNat_add, BitVec.toNat_ofNat]; simp; omega

theorem ix_0 (i : grid0.Coords) : cc0_transform_0 k0_off1_inb numel1_S1 (pf (F := F)) i = ![qt i, (i 0).val] := by
  funext a; fin_cases a
  · exact congrArg BitVec.toNat (at0 (F := F) i numel1_S1)
  · exact head_eq i
theorem ix_1 (i : grid0.Coords) : cc0_transform_1 k0_off1_inb numel1_S1 (pf (F := F)) i = ![kt i, 8 + (i 0).val] := by
  funext a; fin_cases a
  · exact congrArg BitVec.toNat (at1 (F := F) i numel1_S1)
  · exact head8_eq i
theorem ix_2 (i : grid0.Coords) : cc0_transform_2 k0_off1_inb numel1_S1 (pf (F := F)) i = ![kt i, 16 + (i 0).val] := by
  funext a; fin_cases a
  · exact congrArg BitVec.toNat (at1 (F := F) i numel1_S1)
  · exact head16_eq i
theorem ix_3 (i : grid0.Coords) : cc0_transform_3 k0_off1_inb numel1_S1 (pf (F := F)) i = ![(i 0).val, 0, qt i] := by
  funext a; fin_cases a
  · exact head_eq i
  · exact rfl
  · exact congrArg BitVec.toNat (at0 (F := F) i numel1_S1)
theorem ix_4 (i : grid0.Coords) : cc0_transform_4 k0_off1_inb numel1_S1 (pf (F := F)) i = ![(i 0).val, kt i, 0] := by
  funext a; fin_cases a
  · exact head_eq i
  · exact congrArg BitVec.toNat (at1 (F := F) i numel1_S1)
  · exact rfl
theorem ix_5 (i : grid0.Coords) : cc0_transform_5 k0_off1_inb numel1_S1 (pf (F := F)) i = ![(i 0).val, 0, qt i] := by
  funext a; fin_cases a
  · exact head_eq i
  · exact rfl
  · exact congrArg BitVec.toNat (at0 (F := F) i numel1_S1)
theorem ix_6 (i : grid0.Coords) : cc0_transform_6 k0_off1_inb numel1_S1 (pf (F := F)) i = ![qt i, (i 0).val] := by
  funext a; fin_cases a
  · exact congrArg BitVec.toNat (at0 (F := F) i numel1_S1)
  · exact head_eq i
theorem ix_7 (i : grid0.Coords) : cc0_transform_7 k0_off1_inb numel1_S1 (pf (F := F)) i = ![qt i, (i 0).val] := by
  funext a; fin_cases a
  · exact congrArg BitVec.toNat (at0 (F := F) i numel1_S1)
  · exact head_eq i
theorem ix_8 (i : grid0.Coords) : cc0_transform_8 k0_off1_inb numel1_S1 (pf (F := F)) i = ![qt i, (i 0).val] := by
  funext a; fin_cases a
  · exact congrArg BitVec.toNat (at0 (F := F) i numel1_S1)
  · exact head_eq i
theorem ix_9 (i : grid0.Coords) : cc0_transform_9 i = ![0, (i 0).val] := by
  funext a; fin_cases a
  · exact rfl
  · exact head_eq i
theorem ix_10 (i : grid0.Coords) : cc0_transform_10 i = ![0, (i 0).val] := by
  funext a; fin_cases a
  · exact rfl
  · exact head_eq i
theorem ix_11 (i : grid0.Coords) : cc0_transform_11 k0_off1_inb numel1_S1 (pf (F := F)) i = ![(i 0).val, 0, qt i] := by
  funext a; fin_cases a
  · exact head_eq i
  · exact rfl
  · exact congrArg BitVec.toNat (at0 (F := F) i numel1_S1)
theorem ix_12 (i : grid0.Coords) : cc0_transform_12 i = ![(i 0).val, 0, 0] := by
  funext a; fin_cases a
  · exact head_eq i
  · exact rfl
  · exact rfl

/-- The block of each window at a point. -/
def ixC : (w : Fin 13) → (i : grid0.Coords) → Fin (spec0 w).shape.rank → ℕ := fun
  | 0 => fun i => ![qt i, (i 0).val]
  | 1 => fun i => ![kt i, 8 + (i 0).val]
  | 2 => fun i => ![kt i, 16 + (i 0).val]
  | 3 => fun i => ![(i 0).val, 0, qt i]
  | 4 => fun i => ![(i 0).val, kt i, 0]
  | 5 => fun i => ![(i 0).val, 0, qt i]
  | 6 => fun i => ![qt i, (i 0).val]
  | 7 => fun i => ![qt i, (i 0).val]
  | 8 => fun i => ![qt i, (i 0).val]
  | 9 => fun i => ![0, (i 0).val]
  | 10 => fun i => ![0, (i 0).val]
  | 11 => fun i => ![(i 0).val, 0, qt i]
  | 12 => fun i => ![(i 0).val, 0, 0]
  | ⟨_ + 13, h⟩ => absurd h (Nat.not_lt.2 (Nat.le_add_left _ _))

theorem ix_eq : (w : Fin 13) → (i : grid0.Coords) → ix0 (pf (F := F)) w i = ixC w i := fun
  | 0 => fun i => ix_0 i
  | 1 => fun i => ix_1 i
  | 2 => fun i => ix_2 i
  | 3 => fun i => ix_3 i
  | 4 => fun i => ix_4 i
  | 5 => fun i => ix_5 i
  | 6 => fun i => ix_6 i
  | 7 => fun i => ix_7 i
  | 8 => fun i => ix_8 i
  | 9 => fun i => ix_9 i
  | 10 => fun i => ix_10 i
  | 11 => fun i => ix_11 i
  | 12 => fun i => ix_12 i
  | ⟨_ + 13, h⟩ => absurd h (Nat.not_lt.2 (Nat.le_add_left _ _))

theorem okC_0 : ∀ i : grid0.Coords, ∃ h : (∀ a, (ixC 0 i a + 1) * S1024x128.size a ≤ S4096x6144.size a), EltTy.bits .bf16 = 32 ∨ (Rect.block (s := S4096x6144) S1024x128.size (ixC 0 i) h).WholeWords (EltTy.packing .bf16) := by decide +kernel
theorem okC_1 : ∀ i : grid0.Coords, ∃ h : (∀ a, (ixC 1 i a + 1) * S1024x128.size a ≤ S4096x6144.size a), EltTy.bits .bf16 = 32 ∨ (Rect.block (s := S4096x6144) S1024x128.size (ixC 1 i) h).WholeWords (EltTy.packing .bf16) := by decide +kernel
theorem okC_2 : ∀ i : grid0.Coords, ∃ h : (∀ a, (ixC 2 i a + 1) * S1024x128.size a ≤ S4096x6144.size a), EltTy.bits .bf16 = 32 ∨ (Rect.block (s := S4096x6144) S1024x128.size (ixC 2 i) h).WholeWords (EltTy.packing .bf16) := by decide +kernel
theorem okC_3 : ∀ i : grid0.Coords, ∃ h : (∀ a, (ixC 3 i a + 1) * S1x1x1024.size a ≤ S8x1x4096.size a), EltTy.bits .f32 = 32 ∨ (Rect.block (s := S8x1x4096) S1x1x1024.size (ixC 3 i) h).WholeWords (EltTy.packing .f32) := by decide +kernel
theorem okC_4 : ∀ i : grid0.Coords, ∃ h : (∀ a, (ixC 4 i a + 1) * S1x1024x128.size a ≤ S8x4096x128.size a), EltTy.bits .f32 = 32 ∨ (Rect.block (s := S8x4096x128) S1x1024x128.size (ixC 4 i) h).WholeWords (EltTy.packing .f32) := by decide +kernel
theorem okC_5 : ∀ i : grid0.Coords, ∃ h : (∀ a, (ixC 5 i a + 1) * S1x1x1024.size a ≤ S8x1x4096.size a), EltTy.bits .f32 = 32 ∨ (Rect.block (s := S8x1x4096) S1x1x1024.size (ixC 5 i) h).WholeWords (EltTy.packing .f32) := by decide +kernel
theorem okC_6 : ∀ i : grid0.Coords, ∃ h : (∀ a, (ixC 6 i a + 1) * S1024x128.size a ≤ S4096x1024.size a), EltTy.bits .f32 = 32 ∨ (Rect.block (s := S4096x1024) S1024x128.size (ixC 6 i) h).WholeWords (EltTy.packing .f32) := by decide +kernel
theorem okC_7 : ∀ i : grid0.Coords, ∃ h : (∀ a, (ixC 7 i a + 1) * S1024x128.size a ≤ S4096x1024.size a), EltTy.bits .f32 = 32 ∨ (Rect.block (s := S4096x1024) S1024x128.size (ixC 7 i) h).WholeWords (EltTy.packing .f32) := by decide +kernel
theorem okC_8 : ∀ i : grid0.Coords, ∃ h : (∀ a, (ixC 8 i a + 1) * S1024x128.size a ≤ S4096x1024.size a), EltTy.bits .bf16 = 32 ∨ (Rect.block (s := S4096x1024) S1024x128.size (ixC 8 i) h).WholeWords (EltTy.packing .bf16) := by decide +kernel
theorem okC_11 : ∀ i : grid0.Coords, ∃ h : (∀ a, (ixC 11 i a + 1) * S1x1x1024.size a ≤ S8x1x4096.size a), EltTy.bits .f32 = 32 ∨ (Rect.block (s := S8x1x4096) S1x1x1024.size (ixC 11 i) h).WholeWords (EltTy.packing .f32) := by decide +kernel
theorem ok : ok0 (pf (F := F)) :=
  ⟨fun i => (ix_0 (F := F) i).symm ▸ okC_0 i, fun i => (ix_1 (F := F) i).symm ▸ okC_1 i, fun i => (ix_2 (F := F) i).symm ▸ okC_2 i, fun i => (ix_3 (F := F) i).symm ▸ okC_3 i, fun i => (ix_4 (F := F) i).symm ▸ okC_4 i, fun i => (ix_5 (F := F) i).symm ▸ okC_5 i, fun i => (ix_6 (F := F) i).symm ▸ okC_6 i, fun i => (ix_7 (F := F) i).symm ▸ okC_7 i, fun i => (ix_8 (F := F) i).symm ▸ okC_8 i, fun i => (ix_11 (F := F) i).symm ▸ okC_11 i⟩

/-- The tables admitted. -/
def adm : (pcfg0 (F := F)).Adm := ⟨pf, ok⟩

/-! ## The schedule -/

theorem index_eq (w : Fin 13) (t : Fin grid0.N) : ((cfg0 (F := F) adm).win w).index t = ixC w (grid0.coords t) := ix_eq w _

/-- Whether an output's block is written back after a point. -/
def flC (w : Fin 13) (t : Fin grid0.N) : Bool :=
  (spec0 w).isOut && (t.val + 1 = grid0.N || decide (∃ h : t.val + 1 < grid0.N, ∃ a, ixC w (grid0.coords ⟨t.val + 1, h⟩) a ≠ ixC w (grid0.coords t) a))

theorem flush_eq (w : Fin 13) (t : Fin grid0.N) : ((cfg0 (F := F) adm).win w).flush t = flC w t := by
  rw [Pipeline.Window.flush_eq_flushF]
  exact congrArg₂ (· && ·) rfl (congrArg₂ (· || ·) rfl (decide_eq_decide.2 (exists_congr fun h => exists_congr fun a =>
    Iff.of_eq (congrArg₂ Ne (congrFun (index_eq (F := F) w ⟨t.val + 1, h⟩) a) (congrFun (index_eq (F := F) w t) a)))))

theorem atD0 (i : grid0.Coords) : (pf (F := F)).atD 0 (k0_off1 i) = lit0 (i 1) := by
  have h : ∀ a, k0_off1 i a + 1 ≤ ((pre0.ref 0).ty.shape).size a :=
    (Fin.forall_fin_one (p := fun a : Fin 1 => k0_off1 i a + 1 ≤ S10.size a)).2 (k0_off1_inb i 0)
  refine (dif_pos h).trans (congrArg lit0 (Fin.ext ((Shape.rowMajor_val_one (d := S10.size) _).trans ?_)))
  exact off_eq (i 1)
theorem atD1 (i : grid0.Coords) : (pf (F := F)).atD 1 (k0_off1 i) = lit1 (i 1) := by
  have h : ∀ a, k0_off1 i a + 1 ≤ ((pre0.ref 1).ty.shape).size a :=
    (Fin.forall_fin_one (p := fun a : Fin 1 => k0_off1 i a + 1 ≤ S10.size a)).2 (k0_off1_inb i 0)
  refine (dif_pos h).trans (congrArg lit1 (Fin.ext ((Shape.rowMajor_val_one (d := S10.size) _).trans ?_)))
  exact off_eq (i 1)

/-- The points at which a window's buffer is left as it is. -/
def idC : Fin 13 → grid0.Coords → Bool := fun
  | 8 => fun i => !(k0_cond4 (lit0 (i 1)) (lit1 (i 1)) == 1#1)
  | 9 => fun i => !(k0_cond5 i == 1#1)
  | 10 => fun i => !(k0_cond5 i == 1#1)
  | 12 => fun i => !(k0_cond5 i == 1#1)
  | _ => fun _ => false

theorem busy_11 : ∀ j : Fin 10, (!(k0_cond2 (lit1 j) == 1#1) && !(k0_cond3 (lit0 j) (lit1 j) == 1#1) && !(k0_cond4 (lit0 j) (lit1 j) == 1#1)) = false := by decide +kernel

theorem idle_8 (i : grid0.Coords) : (cfg0 (F := F) adm).idle 8 i = idC 8 i := by
  show (!(k0_cond4 ((pf (F := F)).atD 0 (k0_off1 i)) ((pf (F := F)).atD 1 (k0_off1 i)) == 1#1)) = _
  rw [atD0, atD1]; rfl
theorem idle_11 (i : grid0.Coords) : (cfg0 (F := F) adm).idle 11 i = idC 11 i := by
  show (!(k0_cond2 ((pf (F := F)).atD 1 (k0_off1 i)) == 1#1) && !(k0_cond3 ((pf (F := F)).atD 0 (k0_off1 i)) ((pf (F := F)).atD 1 (k0_off1 i)) == 1#1)
    && !(k0_cond4 ((pf (F := F)).atD 0 (k0_off1 i)) ((pf (F := F)).atD 1 (k0_off1 i)) == 1#1)) = _
  rw [atD0, atD1]; exact busy_11 (i 1)

theorem keep_8 : ∀ t : Fin grid0.N, idC 8 (grid0.coords t) = true → flC 8 t = false := by decide +kernel
theorem keep_9 : ∀ t : Fin grid0.N, idC 9 (grid0.coords t) = true → flC 9 t = false := by decide +kernel
theorem keep_10 : ∀ t : Fin grid0.N, idC 10 (grid0.coords t) = true → flC 10 t = false := by decide +kernel
theorem keep_12 : ∀ t : Fin grid0.N, idC 12 (grid0.coords t) = true → flC 12 t = false := by decide +kernel

/-- The points at which the queries' gates' gradient is begun. -/
def tb (n : ℕ) : Bool := if h : n < grid0.N then k0_cond2 (lit1 (grid0.coords ⟨n, h⟩ 1)) == 1#1 else true
theorem tb_step : ∀ t : Fin grid0.N, tb (t.val + 1) = (flC 11 t || (false && tb t.val)) := by decide +kernel
theorem fresh_11 (t : Fin grid0.N) : (cfg0 (F := F) adm).fresh 11 t.val = (k0_cond2 (lit1 (grid0.coords t 1)) == 1#1) := by
  refine ((cfg0 (F := F) adm).fresh_tab 11 tb (by decide +kernel) (fun t => ?_) t.val t.isLt.le).trans (dif_pos t.isLt)
  refine (tb_step t).trans (congrArg₂ (· || ·) (flush_eq (F := F) 11 t).symm (congrArg (· && tb t.val) (idle_11 (F := F) (grid0.coords t)).symm))

theorem chk : ∀ j : Fin 10, k0_chk1 (lit0 j) (lit1 j) := by decide +kernel
theorem first_1 : ∀ t : Fin grid0.N, t.val = 0 → cond1 (grid0.coords t) = 1#1 := by decide +kernel
theorem first_2 : ∀ t : Fin grid0.N, t.val = 0 → k0_cond2 (lit1 (grid0.coords t 1)) = 1#1 := by decide +kernel

end Cert.Proof.KI

end
-- ==== Proof.Points.lean ====
/-
  The call's points: the blocks fetched, the state carried from point to point, and what does not depend on what was there before.
-/
module

public import proofs.«01_k».proof.Proof.Tables
public import proofs.«01_k».proof.Proof.Gen.KernelIdeal.Launch

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR nD τ) ℕ

abbrev Mem (F : FTy → Type) := (ℓ : Loc nD τ sig) → Buf (Elt F) ℓ

variable (m : Mem F) (c : Dev nD)

/-- What the device's buffers hold when the call begins. -/
def V (b : Ref sig .tc) : Buf (Elt F) ((c.tc : Thread nD τ).loc b) :=
  StableHlo.after (List.flatten [hostOps0 (F := F), hostOps0_1, hostOps0_2]) (fun b => m (c, b)) b

/-- A window's block at a point, of what the call begins with. -/
def blk (w : Fin 13) (t : Fin grid0.N) : (((cfg0 (F := F) adm).win w).xblock (grid0.coords t)).Idx → Elt F ((cfg0 (F := F) adm).win w).elt :=
  (((cfg0 (F := F) adm).win w).blk t).view.read (Elt F) (V m c (Pipeline.arrRef spec0 w))

/-- The blocks read at a point. -/
def X (t : Fin grid0.N) : In F where
  q := blk m c 0 t
  k := blk m c 1 t
  v := blk m c 2 t
  c := blk m c 3 t
  ck := blk m c 4 t
  lse := blk m c 5 t
  y := blk m c 6 t
  dy := blk m c 7 t

/-- The buffers the body is called with. -/
def args (s : (w : Fin 13) → Fin (spec0 w).nbuf) : Args where
  m2 := Memref.whole main_c
  h2 := Memref.isWhole_whole _
  m3 := Memref.whole main_c_0
  h3 := Memref.isWhole_whole _
  m4 := spec0_0.stage (s 0)
  h4 := hstage0_0 ((s 0).cast nbuf0_0)
  m5 := spec0_1.stage (s 1)
  h5 := hstage0_1 ((s 1).cast nbuf0_1)
  m6 := spec0_2.stage (s 2)
  h6 := hstage0_2 ((s 2).cast nbuf0_2)
  m7 := spec0_3.stage (s 3)
  h7 := hstage0_3 ((s 3).cast nbuf0_3)
  m8 := spec0_4.stage (s 4)
  h8 := hstage0_4 ((s 4).cast nbuf0_4)
  m9 := spec0_5.stage (s 5)
  h9 := hstage0_5 ((s 5).cast nbuf0_5)
  m10 := spec0_6.stage (s 6)
  h10 := hstage0_6 ((s 6).cast nbuf0_6)
  m11 := spec0_7.stage (s 7)
  h11 := hstage0_7 ((s 7).cast nbuf0_7)
  m12 := spec0_8.stage (s 8)
  h12 := hstage0_8 ((s 8).cast nbuf0_8)
  m13 := spec0_9.stage (s 9)
  h13 := hstage0_9 ((s 9).cast nbuf0_9)
  m14 := spec0_10.stage (s 10)
  h14 := hstage0_10 ((s 10).cast nbuf0_10)
  m15 := spec0_11.stage (s 11)
  h15 := hstage0_11 ((s 11).cast nbuf0_11)
  m16 := spec0_12.stage (s 12)
  h16 := hstage0_12 ((s 12).cast nbuf0_12)
  m17 := Memref.whole cc0_scratch0
  h17 := Memref.isWhole_whole _
  m18 := Memref.whole cc0_scratch1
  h18 := Memref.isWhole_whole _
  m19 := Memref.whole cc0_scratch2
  h19 := Memref.isWhole_whole _
  m20 := Memref.whole cc0_scratch3
  h20 := Memref.isWhole_whole _
  m21 := Memref.whole cc0_scratch4
  h21 := Memref.isWhole_whole _
  m22 := Memref.whole cc0_scratch5
  h22 := Memref.isWhole_whole _
  m23 := Memref.whole cc0_scratch6
  h23 := Memref.isWhole_whole _
  m24 := Memref.whole cc0_scratch7
  h24 := Memref.isWhole_whole _
  m25 := Memref.whole cc0_scratch8
  h25 := Memref.isWhole_whole _
  m26 := Memref.whole cc0_scratch9
  h26 := Memref.isWhole_whole _
  m27 := Memref.whole cc0_scratch10
  h27 := Memref.isWhole_whole _

def argsAt (t : Fin grid0.N) : Args := args ((cfg0 (F := F) adm).slots t)

section
variable (i : grid0.Coords) (A : Args) (v1 v3 : BitVec 32) (hw : k0_chk1 v1 v3) (X : In F)

/-- At a head's first pair nothing of the state before is left. -/
theorem initB_first (h1 : cond1 i = 1#1) (h2 : k0_cond2 v3 = 1#1) (σ σ' : St F) : initB c i A v3 X σ = initB c i A v3 X σ' := by
  unfold initB initA
  rw [if_pos h2, if_pos h2, if_pos h1, if_pos h1]
  rfl

/-- At a query tile's first pair nothing of the queries' gates' gradient before is left. -/
theorem initB_fresh (h2 : k0_cond2 v3 = 1#1) (σ : St F) (d : S1x1x1024.Idx → Elt F .f32) : initB c i A v3 X { σ with x15 := d } = initB c i A v3 X σ := by
  unfold initB initA
  rw [if_pos h2, if_pos h2]
  split <;> rfl

theorem step_congr {σ σ' : St F} (h : initB c i A v3 X σ = initB c i A v3 X σ') : step c i A v1 v3 hw X σ = step c i A v1 v3 hw X σ' := by
  unfold step updC
  rw [h]
theorem oE_congr {σ σ' : St F} (h : initB c i A v3 X σ = initB c i A v3 X σ') (o : Out F) : oE c i A v1 v3 hw X σ o = oE c i A v1 v3 hw X σ' o := by
  unfold oE oD step updC
  rw [h]

theorem oE_12 (h : k0_cond4 v1 v3 = 1#1) (σ : St F) (o o' : Out F) : (oE c i A v1 v3 hw X σ o).x12 = (oE c i A v1 v3 hw X σ o').x12 := by
  unfold oE oD
  rw [dif_pos h, dif_pos h]
  split <;> rfl
theorem oE_13 (h : k0_cond5 i = 1#1) (σ : St F) (o o' : Out F) : (oE c i A v1 v3 hw X σ o).x13 = (oE c i A v1 v3 hw X σ o').x13 := by
  unfold oE
  rw [if_pos h, if_pos h]
  rfl
theorem oE_14 (h : k0_cond5 i = 1#1) (σ : St F) (o o' : Out F) : (oE c i A v1 v3 hw X σ o).x14 = (oE c i A v1 v3 hw X σ o').x14 := by
  unfold oE
  rw [if_pos h, if_pos h]
  rfl
theorem oE_16 (h : k0_cond5 i = 1#1) (σ : St F) (o o' : Out F) : (oE c i A v1 v3 hw X σ o).x16 = (oE c i A v1 v3 hw X σ o').x16 := by
  unfold oE
  rw [if_pos h, if_pos h]
  rfl
theorem oE_12_idle (h : ¬ k0_cond4 v1 v3 = 1#1) (σ : St F) (o : Out F) : (oE c i A v1 v3 hw X σ o).x12 = o.x12 := by
  unfold oE oD
  rw [dif_neg h]
  split <;> rfl
theorem oE_13_idle (h : ¬ k0_cond5 i = 1#1) (σ : St F) (o : Out F) : (oE c i A v1 v3 hw X σ o).x13 = o.x13 := by
  unfold oE oD
  rw [if_neg h]
  split <;> rfl
theorem oE_14_idle (h : ¬ k0_cond5 i = 1#1) (σ : St F) (o : Out F) : (oE c i A v1 v3 hw X σ o).x14 = o.x14 := by
  unfold oE oD
  rw [if_neg h]
  split <;> rfl
theorem oE_16_idle (h : ¬ k0_cond5 i = 1#1) (σ : St F) (o : Out F) : (oE c i A v1 v3 hw X σ o).x16 = o.x16 := by
  unfold oE oD
  rw [if_neg h]
  split <;> rfl
end

/-- The two table words of a point. -/
abbrev w1 (t : Fin grid0.N) : BitVec 32 := lit0 (grid0.coords t 1)
abbrev w3 (t : Fin grid0.N) : BitVec 32 := lit1 (grid0.coords t 1)

/-- A point's step of the state, and what it stores. -/
def stp (t : Fin grid0.N) (σ : St F) : St F := step c (grid0.coords t) (argsAt (F := F) t) (w1 t) (w3 t) (chk _) (X m c t) σ
def outp (t : Fin grid0.N) (σ : St F) (o : Out F) : Out F := oE c (grid0.coords t) (argsAt (F := F) t) (w1 t) (w3 t) (chk _) (X m c t) σ o

/-- Contents nothing depends on. -/
def st0 : St F := ⟨fun _ => FloatOps.ofBits .f32 0, fun _ => FloatOps.ofBits .f32 0, fun _ => FloatOps.ofBits .f32 0, fun _ => FloatOps.ofBits .f32 0, fun _ => FloatOps.ofBits .f32 0, fun _ => FloatOps.ofBits .bf16 0, fun _ => FloatOps.ofBits .f32 0, fun _ => FloatOps.ofBits .f32 0⟩
def out0 : Out F := ⟨fun _ => FloatOps.ofBits .bf16 0, fun _ => FloatOps.ofBits .bf16 0, fun _ => FloatOps.ofBits .bf16 0, fun _ => FloatOps.ofBits .f32 0⟩

/-- The state before point `n`. -/
def st : ℕ → St F
  | 0 => st0
  | n + 1 => if h : n < grid0.N then stp m c ⟨n, h⟩ (st n) else st n

theorem st_succ (t : Fin grid0.N) : st m c (t.val + 1) = stp m c t (st m c t.val) := dif_pos t.isLt

/-- From any state a point may be met with, the step goes where the carried state goes. -/
theorem met (t : Fin grid0.N) (σ : St F) (h : t.val = 0 ∨ (∃ d, σ = { st m c t.val with x15 := d }) ∧ k0_cond2 (w3 t) = 1#1 ∨ σ = st m c t.val) :
    initB c (grid0.coords t) (argsAt (F := F) t) (w3 t) (X m c t) σ = initB c (grid0.coords t) (argsAt (F := F) t) (w3 t) (X m c t) (st m c t.val) := by
  rcases h with h | ⟨⟨d, rfl⟩, h⟩ | rfl
  · exact initB_first c _ _ _ _ (first_1 t h) (first_2 t h) _ _
  · exact initB_fresh c _ _ _ _ h _ d
  · rfl

theorem met_step (t : Fin grid0.N) (σ : St F) (h : t.val = 0 ∨ (∃ d, σ = { st m c t.val with x15 := d }) ∧ k0_cond2 (w3 t) = 1#1 ∨ σ = st m c t.val) :
    stp m c t σ = st m c (t.val + 1) := (step_congr c _ _ _ _ _ _ (met m c t σ h)).trans (st_succ m c t).symm
theorem met_out (t : Fin grid0.N) (σ : St F) (o : Out F) (h : t.val = 0 ∨ (∃ d, σ = { st m c t.val with x15 := d }) ∧ k0_cond2 (w3 t) = 1#1 ∨ σ = st m c t.val) :
    outp m c t σ o = outp m c t (st m c t.val) o := oE_congr c _ _ _ _ _ _ (met m c t σ h) o

end Cert.Proof.KI

end
-- ==== Proof.Data.lean ====
/-
  The pipeline's data at the carried state: what each window's buffer holds before and after every point.
-/
module

public import proofs.«01_k».proof.Proof.Points
public import Idealize.ShloMosaic.Lib.Pipeline.FrameBody
public import Idealize.ShloMosaic.Lib.LaneScatter.Own

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR nD τ) ℕ

open Idealize.ShloMosaic.Pipeline (Dat Cfg Window BodyObligationLoose)

variable (m : Mem F) (c : Dev nD)

/-! ## The data -/

/-- The scratch buffers at the state. -/
def scr (σ : St F) : sProp 𝕄 :=
  iprop(pt c (Memref.whole cc0_scratch0) ((Memref.isWhole_whole cc0_scratch0).unread σ.x17) ∗ pt c (Memref.whole cc0_scratch1) ((Memref.isWhole_whole cc0_scratch1).unread σ.x18) ∗ pt c (Memref.whole cc0_scratch2) ((Memref.isWhole_whole cc0_scratch2).unread σ.x19) ∗ pt c (Memref.whole cc0_scratch3) ((Memref.isWhole_whole cc0_scratch3).unread σ.x20) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ pt c (Memref.whole cc0_scratch8) ((Memref.isWhole_whole cc0_scratch8).unread σ.x25) ∗ pt c (Memref.whole cc0_scratch9) ((Memref.isWhole_whole cc0_scratch9).unread σ.x26) ∗ pt c (Memref.whole cc0_scratch10) ((Memref.isWhole_whole cc0_scratch10).unread σ.x27))

/-- The pairs' tables, and the generator's register. -/
def tabs : sProp 𝕄 := iprop(((Memref.whole main_c).view.loc (c : Thread nD τ) ↦{fullShare.right} (pf (F := F) 0 : Bf (F := F) c (Memref.whole main_c)))
  ∗ ((Memref.whole main_c_0).view.loc (c : Thread nD τ) ↦{fullShare.right} (pf (F := F) 1 : Bf (F := F) c (Memref.whole main_c_0))))

/-- Between the points: the scratch buffers at the carried state, at anything before the first. -/
def PhiS (n : ℕ) : sProp 𝕄 := iprop((∃ σ, ⌜n = 0 ∨ σ = st m c n⌝ ∗ scr c σ) ∗ tabs (F := F) c ∗ ∃ r, prngReg c r)

/-- What each window's buffer is left at. -/
def aft : (w : Fin 13) → (t : Fin grid0.N) → ((cfg0 (F := F) adm).win w).block.Idx → Elt F ((cfg0 (F := F) adm).win w).elt := fun
  | 0 => fun t => blk m c 0 t
  | 1 => fun t => blk m c 1 t
  | 2 => fun t => blk m c 2 t
  | 3 => fun t => blk m c 3 t
  | 4 => fun t => blk m c 4 t
  | 5 => fun t => blk m c 5 t
  | 6 => fun t => blk m c 6 t
  | 7 => fun t => blk m c 7 t
  | 8 => fun t => (outp m c t (st m c t.val) out0).x12
  | 9 => fun t => (outp m c t (st m c t.val) out0).x13
  | 10 => fun t => (outp m c t (st m c t.val) out0).x14
  | 11 => fun t => (st m c (t.val + 1)).x15
  | 12 => fun t => (outp m c t (st m c t.val) out0).x16
  | ⟨_ + 13, h⟩ => absurd h (Nat.not_lt.2 (Nat.le_add_left _ _))

abbrev adms : (p : Fin 1) → (pcfgs (F := F) p).Adm := fun _ => adm

def dats (_ : Fin 1) (c : Dev nD) : Dat τ (Elt F) Unit ℕ (UR nD τ) ℕ (cfg0 (F := F) adm) c where
  A w := V m c (Pipeline.arrRef spec0 w)
  after w t := aft m c w t
  Φ t := PhiS m c t.val
  q w := Pipeline.shareOf spec0 w
  owed _ := 0

/-! ## The body's obligation -/

theorem own_pt {sp : Space} {S : Shape} {e : EltTy} (M : Memref sig .tc sp S e) (h : M.IsWhole) (x : S.Idx → Elt F e) :
    (owns (c : Thread nD τ) M fullShare x : sProp 𝕄) = pt c M (h.unread x) := by
  have e1 : (pt c M (h.unread x) : sProp 𝕄) = (M.view.loc (c : Thread nD τ) ↦[M.view.set]{fullShare} h.unread x) := by
    rw [h.set_eq_univ]
  rw [e1]
  exact BI.equiv_iff.mp ⟨LaneScatter.owns_raw (c : Thread nD τ) M h x, LaneScatter.raw_owns (c : Thread nD τ) M (h.read_unread x)⟩

theorem in_0 (t : Fin grid0.N) (d) : (dats m 0 c).before (0 : Fin 13) t d = blk m c 0 t :=
  ((dats m 0 c).before_in_eq_fetched 0 rfl (fun _ => rfl) (fun _ _ _ => rfl) (fun _ => rfl) t d).trans rfl
theorem in_1 (t : Fin grid0.N) (d) : (dats m 0 c).before (1 : Fin 13) t d = blk m c 1 t :=
  ((dats m 0 c).before_in_eq_fetched 1 rfl (fun _ => rfl) (fun _ _ _ => rfl) (fun _ => rfl) t d).trans rfl
theorem in_2 (t : Fin grid0.N) (d) : (dats m 0 c).before (2 : Fin 13) t d = blk m c 2 t :=
  ((dats m 0 c).before_in_eq_fetched 2 rfl (fun _ => rfl) (fun _ _ _ => rfl) (fun _ => rfl) t d).trans rfl
theorem in_3 (t : Fin grid0.N) (d) : (dats m 0 c).before (3 : Fin 13) t d = blk m c 3 t :=
  ((dats m 0 c).before_in_eq_fetched 3 rfl (fun _ => rfl) (fun _ _ _ => rfl) (fun _ => rfl) t d).trans rfl
theorem in_4 (t : Fin grid0.N) (d) : (dats m 0 c).before (4 : Fin 13) t d = blk m c 4 t :=
  ((dats m 0 c).before_in_eq_fetched 4 rfl (fun _ => rfl) (fun _ _ _ => rfl) (fun _ => rfl) t d).trans rfl
theorem in_5 (t : Fin grid0.N) (d) : (dats m 0 c).before (5 : Fin 13) t d = blk m c 5 t :=
  ((dats m 0 c).before_in_eq_fetched 5 rfl (fun _ => rfl) (fun _ _ _ => rfl) (fun _ => rfl) t d).trans rfl
theorem in_6 (t : Fin grid0.N) (d) : (dats m 0 c).before (6 : Fin 13) t d = blk m c 6 t :=
  ((dats m 0 c).before_in_eq_fetched 6 rfl (fun _ => rfl) (fun _ _ _ => rfl) (fun _ => rfl) t d).trans rfl
theorem in_7 (t : Fin grid0.N) (d) : (dats m 0 c).before (7 : Fin 13) t d = blk m c 7 t :=
  ((dats m 0 c).before_in_eq_fetched 7 rfl (fun _ => rfl) (fun _ _ _ => rfl) (fun _ => rfl) t d).trans rfl

theorem bef_11 (t : Fin grid0.N) (d) : (dats m 0 c).before (11 : Fin 13) t d = if (k0_cond2 (lit1 (grid0.coords t 1)) == 1#1) = true then d else aft m c 11 ⟨t.val - 1, by omega⟩ := by
  have e := (dats m 0 c).before_out_traj 11 rfl (fun _ _ => rfl) (fun t _ h => absurd ((idle_11 (F := F) (grid0.coords t)).symm.trans h) Bool.false_ne_true) t.val t rfl d
  rw [fresh_11] at e
  exact e
theorem out_11 (t : Fin grid0.N) (d) (h : k0_cond2 (w3 t) = 1#1) : (dats m 0 c).before (11 : Fin 13) t d = d :=
  (bef_11 m c t d).trans (if_pos (beq_iff_eq.2 h))
theorem out_11' (t : Fin grid0.N) (d) (h : ¬ k0_cond2 (w3 t) = 1#1) : (dats m 0 c).before (11 : Fin 13) t d = (st m c t.val).x15 := by
  refine (bef_11 m c t d).trans ((if_neg (fun e => h (beq_iff_eq.1 e))).trans ?_)
  have h0 : t.val ≠ 0 := fun e => h (first_2 t e)
  show (st m c (t.val - 1 + 1)).x15 = _
  rw [Nat.sub_add_cancel (Nat.one_le_iff_ne_zero.2 h0)]

theorem word2_eq (t : Fin grid0.N) : word2 c (grid0.coords t) (argsAt (F := F) t) (pf (F := F) 0 : Bf (F := F) c (Memref.whole main_c)) = w1 t :=
  at0 (F := F) (grid0.coords t) numel1_S1
theorem word3_eq (t : Fin grid0.N) : word3 c (grid0.coords t) (argsAt (F := F) t) (pf (F := F) 1 : Bf (F := F) c (Memref.whole main_c_0)) = w3 t :=
  at1 (F := F) (grid0.coords t) numel1_S1

theorem get_0 (t : Fin grid0.N) (d) : (owns (c : Thread nD τ) (((cfg0 (F := F) adm).win (0 : Fin 13)).stage ((cfg0 (F := F) adm).slots t (0 : Fin 13))) fullShare ((dats m 0 c).before (0 : Fin 13) t d) : sProp 𝕄) ⊢ pt c (argsAt (F := F) t).m4 ((argsAt (F := F) t).h4.unread (X m c t).q) := by
  rw [in_0]; exact Entails.of_eq (own_pt c _ (argsAt (F := F) t).h4 (X m c t).q)
theorem put_0 (t : Fin grid0.N) : pt c (argsAt (F := F) t).m4 ((argsAt (F := F) t).h4.unread (X m c t).q) ⊢ ((dats m 0 c).leaves (0 : Fin 13) t : sProp 𝕄) :=
  Entails.of_eq (own_pt c _ (argsAt (F := F) t).h4 (X m c t).q).symm
theorem get_1 (t : Fin grid0.N) (d) : (owns (c : Thread nD τ) (((cfg0 (F := F) adm).win (1 : Fin 13)).stage ((cfg0 (F := F) adm).slots t (1 : Fin 13))) fullShare ((dats m 0 c).before (1 : Fin 13) t d) : sProp 𝕄) ⊢ pt c (argsAt (F := F) t).m5 ((argsAt (F := F) t).h5.unread (X m c t).k) := by
  rw [in_1]; exact Entails.of_eq (own_pt c _ (argsAt (F := F) t).h5 (X m c t).k)
theorem put_1 (t : Fin grid0.N) : pt c (argsAt (F := F) t).m5 ((argsAt (F := F) t).h5.unread (X m c t).k) ⊢ ((dats m 0 c).leaves (1 : Fin 13) t : sProp 𝕄) :=
  Entails.of_eq (own_pt c _ (argsAt (F := F) t).h5 (X m c t).k).symm
theorem get_2 (t : Fin grid0.N) (d) : (owns (c : Thread nD τ) (((cfg0 (F := F) adm).win (2 : Fin 13)).stage ((cfg0 (F := F) adm).slots t (2 : Fin 13))) fullShare ((dats m 0 c).before (2 : Fin 13) t d) : sProp 𝕄) ⊢ pt c (argsAt (F := F) t).m6 ((argsAt (F := F) t).h6.unread (X m c t).v) := by
  rw [in_2]; exact Entails.of_eq (own_pt c _ (argsAt (F := F) t).h6 (X m c t).v)
theorem put_2 (t : Fin grid0.N) : pt c (argsAt (F := F) t).m6 ((argsAt (F := F) t).h6.unread (X m c t).v) ⊢ ((dats m 0 c).leaves (2 : Fin 13) t : sProp 𝕄) :=
  Entails.of_eq (own_pt c _ (argsAt (F := F) t).h6 (X m c t).v).symm
theorem get_3 (t : Fin grid0.N) (d) : (owns (c : Thread nD τ) (((cfg0 (F := F) adm).win (3 : Fin 13)).stage ((cfg0 (F := F) adm).slots t (3 : Fin 13))) fullShare ((dats m 0 c).before (3 : Fin 13) t d) : sProp 𝕄) ⊢ pt c (argsAt (F := F) t).m7 ((argsAt (F := F) t).h7.unread (X m c t).c) := by
  rw [in_3]; exact Entails.of_eq (own_pt c _ (argsAt (F := F) t).h7 (X m c t).c)
theorem put_3 (t : Fin grid0.N) : pt c (argsAt (F := F) t).m7 ((argsAt (F := F) t).h7.unread (X m c t).c) ⊢ ((dats m 0 c).leaves (3 : Fin 13) t : sProp 𝕄) :=
  Entails.of_eq (own_pt c _ (argsAt (F := F) t).h7 (X m c t).c).symm
theorem get_4 (t : Fin grid0.N) (d) : (owns (c : Thread nD τ) (((cfg0 (F := F) adm).win (4 : Fin 13)).stage ((cfg0 (F := F) adm).slots t (4 : Fin 13))) fullShare ((dats m 0 c).before (4 : Fin 13) t d) : sProp 𝕄) ⊢ pt c (argsAt (F := F) t).m8 ((argsAt (F := F) t).h8.unread (X m c t).ck) := by
  rw [in_4]; exact Entails.of_eq (own_pt c _ (argsAt (F := F) t).h8 (X m c t).ck)
theorem put_4 (t : Fin grid0.N) : pt c (argsAt (F := F) t).m8 ((argsAt (F := F) t).h8.unread (X m c t).ck) ⊢ ((dats m 0 c).leaves (4 : Fin 13) t : sProp 𝕄) :=
  Entails.of_eq (own_pt c _ (argsAt (F := F) t).h8 (X m c t).ck).symm
theorem get_5 (t : Fin grid0.N) (d) : (owns (c : Thread nD τ) (((cfg0 (F := F) adm).win (5 : Fin 13)).stage ((cfg0 (F := F) adm).slots t (5 : Fin 13))) fullShare ((dats m 0 c).before (5 : Fin 13) t d) : sProp 𝕄) ⊢ pt c (argsAt (F := F) t).m9 ((argsAt (F := F) t).h9.unread (X m c t).lse) := by
  rw [in_5]; exact Entails.of_eq (own_pt c _ (argsAt (F := F) t).h9 (X m c t).lse)
theorem put_5 (t : Fin grid0.N) : pt c (argsAt (F := F) t).m9 ((argsAt (F := F) t).h9.unread (X m c t).lse) ⊢ ((dats m 0 c).leaves (5 : Fin 13) t : sProp 𝕄) :=
  Entails.of_eq (own_pt c _ (argsAt (F := F) t).h9 (X m c t).lse).symm
theorem get_6 (t : Fin grid0.N) (d) : (owns (c : Thread nD τ) (((cfg0 (F := F) adm).win (6 : Fin 13)).stage ((cfg0 (F := F) adm).slots t (6 : Fin 13))) fullShare ((dats m 0 c).before (6 : Fin 13) t d) : sProp 𝕄) ⊢ pt c (argsAt (F := F) t).m10 ((argsAt (F := F) t).h10.unread (X m c t).y) := by
  rw [in_6]; exact Entails.of_eq (own_pt c _ (argsAt (F := F) t).h10 (X m c t).y)
theorem put_6 (t : Fin grid0.N) : pt c (argsAt (F := F) t).m10 ((argsAt (F := F) t).h10.unread (X m c t).y) ⊢ ((dats m 0 c).leaves (6 : Fin 13) t : sProp 𝕄) :=
  Entails.of_eq (own_pt c _ (argsAt (F := F) t).h10 (X m c t).y).symm
theorem get_7 (t : Fin grid0.N) (d) : (owns (c : Thread nD τ) (((cfg0 (F := F) adm).win (7 : Fin 13)).stage ((cfg0 (F := F) adm).slots t (7 : Fin 13))) fullShare ((dats m 0 c).before (7 : Fin 13) t d) : sProp 𝕄) ⊢ pt c (argsAt (F := F) t).m11 ((argsAt (F := F) t).h11.unread (X m c t).dy) := by
  rw [in_7]; exact Entails.of_eq (own_pt c _ (argsAt (F := F) t).h11 (X m c t).dy)
theorem put_7 (t : Fin grid0.N) : pt c (argsAt (F := F) t).m11 ((argsAt (F := F) t).h11.unread (X m c t).dy) ⊢ ((dats m 0 c).leaves (7 : Fin 13) t : sProp 𝕄) :=
  Entails.of_eq (own_pt c _ (argsAt (F := F) t).h11 (X m c t).dy).symm
theorem get_8 (t : Fin grid0.N) (d) : (owns (c : Thread nD τ) (((cfg0 (F := F) adm).win (8 : Fin 13)).stage ((cfg0 (F := F) adm).slots t (8 : Fin 13))) fullShare ((dats m 0 c).before (8 : Fin 13) t d) : sProp 𝕄) ⊢ pt c (argsAt (F := F) t).m12 ((argsAt (F := F) t).h12.unread ((dats m 0 c).before (8 : Fin 13) t d)) :=
  Entails.of_eq (own_pt c _ (argsAt (F := F) t).h12 ((dats m 0 c).before (8 : Fin 13) t d))
theorem get_9 (t : Fin grid0.N) (d) : (owns (c : Thread nD τ) (((cfg0 (F := F) adm).win (9 : Fin 13)).stage ((cfg0 (F := F) adm).slots t (9 : Fin 13))) fullShare ((dats m 0 c).before (9 : Fin 13) t d) : sProp 𝕄) ⊢ pt c (argsAt (F := F) t).m13 ((argsAt (F := F) t).h13.unread ((dats m 0 c).before (9 : Fin 13) t d)) :=
  Entails.of_eq (own_pt c _ (argsAt (F := F) t).h13 ((dats m 0 c).before (9 : Fin 13) t d))
theorem get_10 (t : Fin grid0.N) (d) : (owns (c : Thread nD τ) (((cfg0 (F := F) adm).win (10 : Fin 13)).stage ((cfg0 (F := F) adm).slots t (10 : Fin 13))) fullShare ((dats m 0 c).before (10 : Fin 13) t d) : sProp 𝕄) ⊢ pt c (argsAt (F := F) t).m14 ((argsAt (F := F) t).h14.unread ((dats m 0 c).before (10 : Fin 13) t d)) :=
  Entails.of_eq (own_pt c _ (argsAt (F := F) t).h14 ((dats m 0 c).before (10 : Fin 13) t d))
theorem get_11 (t : Fin grid0.N) (d) : (owns (c : Thread nD τ) (((cfg0 (F := F) adm).win (11 : Fin 13)).stage ((cfg0 (F := F) adm).slots t (11 : Fin 13))) fullShare ((dats m 0 c).before (11 : Fin 13) t d) : sProp 𝕄) ⊢ pt c (argsAt (F := F) t).m15 ((argsAt (F := F) t).h15.unread ((dats m 0 c).before (11 : Fin 13) t d)) :=
  Entails.of_eq (own_pt c _ (argsAt (F := F) t).h15 ((dats m 0 c).before (11 : Fin 13) t d))
theorem get_12 (t : Fin grid0.N) (d) : (owns (c : Thread nD τ) (((cfg0 (F := F) adm).win (12 : Fin 13)).stage ((cfg0 (F := F) adm).slots t (12 : Fin 13))) fullShare ((dats m 0 c).before (12 : Fin 13) t d) : sProp 𝕄) ⊢ pt c (argsAt (F := F) t).m16 ((argsAt (F := F) t).h16.unread ((dats m 0 c).before (12 : Fin 13) t d)) :=
  Entails.of_eq (own_pt c _ (argsAt (F := F) t).h16 ((dats m 0 c).before (12 : Fin 13) t d))
theorem put_11 (t : Fin grid0.N) : pt c (argsAt (F := F) t).m15 ((argsAt (F := F) t).h15.unread (st m c (t.val + 1)).x15) ⊢ ((dats m 0 c).leaves (11 : Fin 13) t : sProp 𝕄) := by
  unfold Dat.leaves
  rw [show (cfg0 (F := F) adm).idle (11 : Fin 13) ((cfg0 (F := F) adm).grid.coords t) = false from idle_11 _]
  exact Entails.of_eq (own_pt c _ (argsAt (F := F) t).h15 (st m c (t.val + 1)).x15).symm
theorem put_8 (t : Fin grid0.N) (o : Out F) (d) (h : o.x12 = (dats m 0 c).before (8 : Fin 13) t d) : pt c (argsAt (F := F) t).m12 ((argsAt (F := F) t).h12.unread (outp m c t (st m c t.val) o).x12) ⊢ ((dats m 0 c).leaves (8 : Fin 13) t : sProp 𝕄) := by
  have hi : (cfg0 (F := F) adm).idle (8 : Fin 13) ((cfg0 (F := F) adm).grid.coords t) = !(k0_cond4 (w1 t) (w3 t) == 1#1) := idle_8 (F := F) (grid0.coords t)
  unfold Dat.leaves
  by_cases hc : k0_cond4 (w1 t) (w3 t) = 1#1
  · rw [show (cfg0 (F := F) adm).idle (8 : Fin 13) ((cfg0 (F := F) adm).grid.coords t) = false from by rw [hi, hc]; rfl]
    have e : (outp m c t (st m c t.val) o).x12 = (outp m c t (st m c t.val) out0).x12 := oE_12 c _ _ _ _ _ _ hc _ _ _
    rw [e]
    exact Entails.of_eq (own_pt c _ (argsAt (F := F) t).h12 _).symm
  · have ht : (cfg0 (F := F) adm).idle (8 : Fin 13) ((cfg0 (F := F) adm).grid.coords t) = true := by rw [hi, beq_eq_false_iff_ne.2 hc]; rfl
    rw [ht, show ((cfg0 (F := F) adm).win (8 : Fin 13)).flush t = false from (flush_eq (F := F) 8 t).trans (keep_8 t ((idle_8 (F := F) (grid0.coords t)).symm.trans ht))]
    have e : (outp m c t (st m c t.val) o).x12 = (dats m 0 c).before (8 : Fin 13) t d := (oE_12_idle c _ _ _ _ _ _ hc _ _).trans h
    rw [e]
    iintro H
    iexists d
    iapply (Entails.of_eq (own_pt c _ (argsAt (F := F) t).h12 ((dats m 0 c).before (8 : Fin 13) t d)).symm)
    iexact H
theorem put_9 (t : Fin grid0.N) (o : Out F) (d) (h : o.x13 = (dats m 0 c).before (9 : Fin 13) t d) : pt c (argsAt (F := F) t).m13 ((argsAt (F := F) t).h13.unread (outp m c t (st m c t.val) o).x13) ⊢ ((dats m 0 c).leaves (9 : Fin 13) t : sProp 𝕄) := by
  have hi : (cfg0 (F := F) adm).idle (9 : Fin 13) ((cfg0 (F := F) adm).grid.coords t) = !(k0_cond5 (grid0.coords t) == 1#1) := rfl
  unfold Dat.leaves
  by_cases hc : k0_cond5 (grid0.coords t) = 1#1
  · rw [show (cfg0 (F := F) adm).idle (9 : Fin 13) ((cfg0 (F := F) adm).grid.coords t) = false from by rw [hi, hc]; rfl]
    have e : (outp m c t (st m c t.val) o).x13 = (outp m c t (st m c t.val) out0).x13 := oE_13 c _ _ _ _ _ _ hc _ _ _
    rw [e]
    exact Entails.of_eq (own_pt c _ (argsAt (F := F) t).h13 _).symm
  · have ht : (cfg0 (F := F) adm).idle (9 : Fin 13) ((cfg0 (F := F) adm).grid.coords t) = true := by rw [hi, beq_eq_false_iff_ne.2 hc]; rfl
    rw [ht, show ((cfg0 (F := F) adm).win (9 : Fin 13)).flush t = false from (flush_eq (F := F) 9 t).trans (keep_9 t (ht))]
    have e : (outp m c t (st m c t.val) o).x13 = (dats m 0 c).before (9 : Fin 13) t d := (oE_13_idle c _ _ _ _ _ _ hc _ _).trans h
    rw [e]
    iintro H
    iexists d
    iapply (Entails.of_eq (own_pt c _ (argsAt (F := F) t).h13 ((dats m 0 c).before (9 : Fin 13) t d)).symm)
    iexact H
theorem put_10 (t : Fin grid0.N) (o : Out F) (d) (h : o.x14 = (dats m 0 c).before (10 : Fin 13) t d) : pt c (argsAt (F := F) t).m14 ((argsAt (F := F) t).h14.unread (outp m c t (st m c t.val) o).x14) ⊢ ((dats m 0 c).leaves (10 : Fin 13) t : sProp 𝕄) := by
  have hi : (cfg0 (F := F) adm).idle (10 : Fin 13) ((cfg0 (F := F) adm).grid.coords t) = !(k0_cond5 (grid0.coords t) == 1#1) := rfl
  unfold Dat.leaves
  by_cases hc : k0_cond5 (grid0.coords t) = 1#1
  · rw [show (cfg0 (F := F) adm).idle (10 : Fin 13) ((cfg0 (F := F) adm).grid.coords t) = false from by rw [hi, hc]; rfl]
    have e : (outp m c t (st m c t.val) o).x14 = (outp m c t (st m c t.val) out0).x14 := oE_14 c _ _ _ _ _ _ hc _ _ _
    rw [e]
    exact Entails.of_eq (own_pt c _ (argsAt (F := F) t).h14 _).symm
  · have ht : (cfg0 (F := F) adm).idle (10 : Fin 13) ((cfg0 (F := F) adm).grid.coords t) = true := by rw [hi, beq_eq_false_iff_ne.2 hc]; rfl
    rw [ht, show ((cfg0 (F := F) adm).win (10 : Fin 13)).flush t = false from (flush_eq (F := F) 10 t).trans (keep_10 t (ht))]
    have e : (outp m c t (st m c t.val) o).x14 = (dats m 0 c).before (10 : Fin 13) t d := (oE_14_idle c _ _ _ _ _ _ hc _ _).trans h
    rw [e]
    iintro H
    iexists d
    iapply (Entails.of_eq (own_pt c _ (argsAt (F := F) t).h14 ((dats m 0 c).before (10 : Fin 13) t d)).symm)
    iexact H
theorem put_12 (t : Fin grid0.N) (o : Out F) (d) (h : o.x16 = (dats m 0 c).before (12 : Fin 13) t d) : pt c (argsAt (F := F) t).m16 ((argsAt (F := F) t).h16.unread (outp m c t (st m c t.val) o).x16) ⊢ ((dats m 0 c).leaves (12 : Fin 13) t : sProp 𝕄) := by
  have hi : (cfg0 (F := F) adm).idle (12 : Fin 13) ((cfg0 (F := F) adm).grid.coords t) = !(k0_cond5 (grid0.coords t) == 1#1) := rfl
  unfold Dat.leaves
  by_cases hc : k0_cond5 (grid0.coords t) = 1#1
  · rw [show (cfg0 (F := F) adm).idle (12 : Fin 13) ((cfg0 (F := F) adm).grid.coords t) = false from by rw [hi, hc]; rfl]
    have e : (outp m c t (st m c t.val) o).x16 = (outp m c t (st m c t.val) out0).x16 := oE_16 c _ _ _ _ _ _ hc _ _ _
    rw [e]
    exact Entails.of_eq (own_pt c _ (argsAt (F := F) t).h16 _).symm
  · have ht : (cfg0 (F := F) adm).idle (12 : Fin 13) ((cfg0 (F := F) adm).grid.coords t) = true := by rw [hi, beq_eq_false_iff_ne.2 hc]; rfl
    rw [ht, show ((cfg0 (F := F) adm).win (12 : Fin 13)).flush t = false from (flush_eq (F := F) 12 t).trans (keep_12 t (ht))]
    have e : (outp m c t (st m c t.val) o).x16 = (dats m 0 c).before (12 : Fin 13) t d := (oE_16_idle c _ _ _ _ _ _ hc _ _).trans h
    rw [e]
    iintro H
    iexists d
    iapply (Entails.of_eq (own_pt c _ (argsAt (F := F) t).h16 ((dats m 0 c).before (12 : Fin 13) t d)).symm)
    iexact H

end Cert.Proof.KI

end
-- ==== Proof.Launch.lean ====
/-
  The call's launch: the body's obligation at every point, and what every run ends with.
-/
module

public import proofs.«01_k».proof.Proof.Data
public import Idealize.ShloMosaic.Lib.StableHlo.RunRead

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR nD τ) ℕ

open Idealize.ShloMosaic.Pipeline (Dat Cfg Window BodyObligationLoose)

variable (m : Mem F) (c : Dev nD)

/-- What the body is called as at a point. -/
theorem body_at (t : Fin grid0.N) : defs₀ (F := F) .tc (cfg0 (F := F) adm).body ((cfg0 (F := F) adm).bodyArgs t ((cfg0 (F := F) adm).slots t))
    = (cc0_fox_bwd (grid0.coords t) (argsAt (F := F) t).m2 (argsAt (F := F) t).h2 (argsAt (F := F) t).m3 (argsAt (F := F) t).h3 (argsAt (F := F) t).m4 (argsAt (F := F) t).h4 (argsAt (F := F) t).m5 (argsAt (F := F) t).h5 (argsAt (F := F) t).m6 (argsAt (F := F) t).h6 (argsAt (F := F) t).m7 (argsAt (F := F) t).h7 (argsAt (F := F) t).m8 (argsAt (F := F) t).h8 (argsAt (F := F) t).m9 (argsAt (F := F) t).h9 (argsAt (F := F) t).m10 (argsAt (F := F) t).h10 (argsAt (F := F) t).m11 (argsAt (F := F) t).h11 (argsAt (F := F) t).m12 (argsAt (F := F) t).h12 (argsAt (F := F) t).m13 (argsAt (F := F) t).h13 (argsAt (F := F) t).m14 (argsAt (F := F) t).h14 (argsAt (F := F) t).m15 (argsAt (F := F) t).h15 (argsAt (F := F) t).m16 (argsAt (F := F) t).h16 (argsAt (F := F) t).m17 (argsAt (F := F) t).h17 (argsAt (F := F) t).m18 (argsAt (F := F) t).h18 (argsAt (F := F) t).m19 (argsAt (F := F) t).h19 (argsAt (F := F) t).m20 (argsAt (F := F) t).h20 (argsAt (F := F) t).m21 (argsAt (F := F) t).h21 (argsAt (F := F) t).m22 (argsAt (F := F) t).h22 (argsAt (F := F) t).m23 (argsAt (F := F) t).h23 (argsAt (F := F) t).m24 (argsAt (F := F) t).h24 (argsAt (F := F) t).m25 (argsAt (F := F) t).h25 (argsAt (F := F) t).m26 (argsAt (F := F) t).h26 (argsAt (F := F) t).m27 (argsAt (F := F) t).h27 : Prog (TpuEff nD τ sig (Elt F) Λ₀ .tc) PUnit) := rfl

theorem Phi_eq (x : Fin ((cfg0 (F := F) adm).N + 1)) : (dats m 0 c).Φ x = PhiS m c x.val := rfl

set_option maxHeartbeats 8000000 in
theorem obligation (c : Dev nD) : BodyObligationLoose (dats m 0 c) (defs₀ (F := F)) Variants.none () Set.univ := fun t => by
  show iprop((dats m 0 c).Φ t.castSucc ∗ (dats m 0 c).owesAt () t.castSucc
        ∗ bigSep Finset.univ fun w : Fin 13 => iprop(∃ d, owns (c : Thread nD τ) (((cfg0 (F := F) adm).win w).stage ((cfg0 (F := F) adm).slots t w)) fullShare ((dats m 0 c).before w t d)))
      ⊢ wp frame (wpE (defs₀ (F := F)) Variants.none c none) Set.univ (defs₀ (F := F) .tc (cfg0 (F := F) adm).body ((cfg0 (F := F) adm).bodyArgs t ((cfg0 (F := F) adm).slots t))) fun _ =>
          iprop((dats m 0 c).Φ t.succ ∗ (dats m 0 c).owesAt () t.succ ∗ bigSep Finset.univ fun w : Fin 13 => (dats m 0 c).leaves w t)
  rw [bigSep_W0, bigSep_W0, body_at, Phi_eq, Phi_eq, Fin.val_castSucc, Fin.val_succ]
  unfold PhiS tabs
  iintro ⟨⟨⟨%σ, %hσ, Hs⟩, ⟨H2, H3⟩, Hg⟩, Ho, ⟨%d0, H4⟩, ⟨%d1, H5⟩, ⟨%d2, H6⟩, ⟨%d3, H7⟩, ⟨%d4, H8⟩, ⟨%d5, H9⟩, ⟨%d6, H10⟩, ⟨%d7, H11⟩, ⟨%d8, H12⟩, ⟨%d9, H13⟩, ⟨%d10, H14⟩, ⟨%d11, H15⟩, ⟨%d12, H16⟩⟩
  ihave H4 := (get_0 m c t d0) $$ H4
  ihave H5 := (get_1 m c t d1) $$ H5
  ihave H6 := (get_2 m c t d2) $$ H6
  ihave H7 := (get_3 m c t d3) $$ H7
  ihave H8 := (get_4 m c t d4) $$ H8
  ihave H9 := (get_5 m c t d5) $$ H9
  ihave H10 := (get_6 m c t d6) $$ H10
  ihave H11 := (get_7 m c t d7) $$ H11
  ihave H12 := (get_8 m c t d8) $$ H12
  ihave H13 := (get_9 m c t d9) $$ H13
  ihave H14 := (get_10 m c t d10) $$ H14
  ihave H15 := (get_11 m c t d11) $$ H15
  ihave H16 := (get_12 m c t d12) $$ H16
  -- the state the point is met with
  have hm : t.val = 0 ∨ (∃ d, ({ σ with x15 := (dats m 0 c).before (11 : Fin 13) t d11 } : St F) = { st m c t.val with x15 := d }) ∧ k0_cond2 (w3 t) = 1#1 ∨ ({ σ with x15 := (dats m 0 c).before (11 : Fin 13) t d11 } : St F) = st m c t.val := by
    rcases hσ with h | rfl
    · exact Or.inl h
    · by_cases h2 : k0_cond2 (w3 t) = 1#1
      · exact Or.inr (Or.inl ⟨⟨_, rfl⟩, h2⟩)
      · refine Or.inr (Or.inr ?_)
        have e : ({ st m c t.val with x15 := (dats m 0 c).before (11 : Fin 13) t d11 } : St F) = { st m c t.val with x15 := (st m c t.val).x15 } :=
          congrArg (fun d => ({ st m c t.val with x15 := d } : St F)) (out_11' m c t d11 h2)
        exact e
  unfold scr
  icases Hs with ⟨H17, H18, H19, H20, H21, H22, H23, H24, H25, H26, H27⟩
  iapply (body_spec c (grid0.coords t) (argsAt (F := F) t) (w1 t) (w3 t) (chk _) (X m c t) (pf (F := F) 0 : Bf (F := F) c (Memref.whole main_c)) (pf (F := F) 1 : Bf (F := F) c (Memref.whole main_c_0)) fullShare.right
    (word2_eq c t) (word3_eq c t) ({ σ with x15 := (dats m 0 c).before (11 : Fin 13) t d11 } : St F)
    (⟨(dats m 0 c).before (8 : Fin 13) t d8, (dats m 0 c).before (9 : Fin 13) t d9, (dats m 0 c).before (10 : Fin 13) t d10, (dats m 0 c).before (12 : Fin 13) t d12⟩ : Out F) Set.univ _)
  rw [show step c (grid0.coords t) (argsAt (F := F) t) (w1 t) (w3 t) (chk _) (X m c t) ({ σ with x15 := (dats m 0 c).before (11 : Fin 13) t d11 } : St F) = st m c (t.val + 1) from met_step m c t _ hm,
    show oE c (grid0.coords t) (argsAt (F := F) t) (w1 t) (w3 t) (chk _) (X m c t) ({ σ with x15 := (dats m 0 c).before (11 : Fin 13) t d11 } : St F) (⟨(dats m 0 c).before (8 : Fin 13) t d8, (dats m 0 c).before (9 : Fin 13) t d9, (dats m 0 c).before (10 : Fin 13) t d10, (dats m 0 c).before (12 : Fin 13) t d12⟩ : Out F) = _ from met_out m c t _ _ hm]
  unfold held
  isplitl [H2]; · iexact H2
  isplitl [H3]; · iexact H3
  isplitr [Hg Ho]
  · isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    iexact H27
  iintro ⟨H2, H3, H4, H5, H6, H7, H8, H9, H10, H11, H12, H13, H14, H15, H16, H17, H18, H19, H20, H21, H22, H23, H24, H25, H26, H27⟩
  isplitl [H2 H3 Hg H17 H18 H19 H20 H21 H22 H23 H24 H25 H26 H27]
  · isplitl [H17 H18 H19 H20 H21 H22 H23 H24 H25 H26 H27]
    · iexists (st m c (t.val + 1))
      isplitr
      · ipureintro; exact Or.inr rfl
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      iexact H27
    isplitl [H2 H3]
    · isplitl [H2]
      · iexact H2
      iexact H3
    iexact Hg
  isplitl [Ho]
  · iexact Ho
  isplitl [H4]; · iapply (put_0 m c t); iexact H4
  isplitl [H5]; · iapply (put_1 m c t); iexact H5
  isplitl [H6]; · iapply (put_2 m c t); iexact H6
  isplitl [H7]; · iapply (put_3 m c t); iexact H7
  isplitl [H8]; · iapply (put_4 m c t); iexact H8
  isplitl [H9]; · iapply (put_5 m c t); iexact H9
  isplitl [H10]; · iapply (put_6 m c t); iexact H10
  isplitl [H11]; · iapply (put_7 m c t); iexact H11
  isplitl [H12]; · iapply (put_8 m c t (⟨(dats m 0 c).before (8 : Fin 13) t d8, (dats m 0 c).before (9 : Fin 13) t d9, (dats m 0 c).before (10 : Fin 13) t d10, (dats m 0 c).before (12 : Fin 13) t d12⟩ : Out F) d8 rfl); iexact H12
  isplitl [H13]; · iapply (put_9 m c t (⟨(dats m 0 c).before (8 : Fin 13) t d8, (dats m 0 c).before (9 : Fin 13) t d9, (dats m 0 c).before (10 : Fin 13) t d10, (dats m 0 c).before (12 : Fin 13) t d12⟩ : Out F) d9 rfl); iexact H13
  isplitl [H14]; · iapply (put_10 m c t (⟨(dats m 0 c).before (8 : Fin 13) t d8, (dats m 0 c).before (9 : Fin 13) t d9, (dats m 0 c).before (10 : Fin 13) t d10, (dats m 0 c).before (12 : Fin 13) t d12⟩ : Out F) d10 rfl); iexact H14
  isplitl [H15]; · iapply (put_11 m c t); iexact H15
  iapply (put_12 m c t (⟨(dats m 0 c).before (8 : Fin 13) t d8, (dats m 0 c).before (9 : Fin 13) t d9, (dats m 0 c).before (10 : Fin 13) t d10, (dats m 0 c).before (12 : Fin 13) t d12⟩ : Out F) d12 rfl); iexact H16

/-! ## The run -/

theorem V_tab0 : V m c main_c = (pf (F := F) 0 : Buf (Elt F) ((c.tc : Thread nD τ).loc main_c)) := by
  unfold V
  simp only [List.flatten_cons, List.flatten_nil, List.append_nil]
  after_reads_simp
  rfl
theorem V_tab1 : V m c main_c_0 = (pf (F := F) 1 : Buf (Elt F) ((c.tc : Thread nD τ).loc main_c_0)) := by
  unfold V
  simp only [List.flatten_cons, List.flatten_nil, List.append_nil]
  after_reads_simp
  rfl
theorem tab_eq (k : Fin 2) : V m c (pre0.ref k) = pf (F := F) k := by
  match k with
  | ⟨0, _⟩ => exact V_tab0 m c
  | ⟨1, _⟩ => exact V_tab1 m c

theorem fresh_0 : (hostOps0 (F := F)).Forall fun op => op.fresh = ∅ := by
  repeat' (first | exact rfl | apply And.intro)
theorem fresh_1 : (hostOps0_1 (F := F)).Forall fun op => op.fresh = ∅ := by
  repeat' (first | exact rfl | apply And.intro)
theorem fresh_2 : (hostOps0_2 (F := F)).Forall fun op => op.fresh = ∅ := by
  repeat' (first | exact rfl | apply And.intro)

theorem bigSep_2 (Φ : Fin 2 → sProp 𝕄) : bigSep Finset.univ Φ = iprop(Φ 0 ∗ Φ 1) := bigSep_univ_eq_bigSepL [(0 : Fin 2), 1] (by decide) (by decide) Φ

theorem some_unread {sp : Space} {S : Shape} {e : EltTy} (M : Memref sig .tc sp S e) (h : M.IsWhole) (f : Bf (F := F) c M) : (pt c M f : sProp 𝕄) ⊢ iprop(∃ x, pt c M (h.unread x)) := by
  iintro H
  iexists (M.view.read (Elt F) f)
  rw [h.unread_read]
  iexact H

/-- The scratch buffers at anything, and at a state. -/
def loose : sProp 𝕄 := iprop((∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ (∃ f, pt c (Memref.whole cc0_scratch9) f) ∗ (∃ f, pt c (Memref.whole cc0_scratch10) f))
theorem loose_eq : (Pipeline.scopedRest spec0 c : sProp 𝕄) = loose (F := F) c := scopedRest0_eq c

theorem loose_scr : loose (F := F) c ⊢ iprop(∃ σ, scr c σ) := by
  unfold loose scr
  iintro ⟨⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩⟩
  ihave ⟨%x17, H17⟩ := (some_unread c (Memref.whole cc0_scratch0) (Memref.isWhole_whole _) f17) $$ H17
  ihave ⟨%x18, H18⟩ := (some_unread c (Memref.whole cc0_scratch1) (Memref.isWhole_whole _) f18) $$ H18
  ihave ⟨%x19, H19⟩ := (some_unread c (Memref.whole cc0_scratch2) (Memref.isWhole_whole _) f19) $$ H19
  ihave ⟨%x20, H20⟩ := (some_unread c (Memref.whole cc0_scratch3) (Memref.isWhole_whole _) f20) $$ H20
  ihave ⟨%x25, H25⟩ := (some_unread c (Memref.whole cc0_scratch8) (Memref.isWhole_whole _) f25) $$ H25
  ihave ⟨%x26, H26⟩ := (some_unread c (Memref.whole cc0_scratch9) (Memref.isWhole_whole _) f26) $$ H26
  ihave ⟨%x27, H27⟩ := (some_unread c (Memref.whole cc0_scratch10) (Memref.isWhole_whole _) f27) $$ H27
  iexists (⟨fun _ => FloatOps.ofBits .f32 0, x17, x18, x19, x20, x25, x26, x27⟩ : St F)
  isplitl [H17]; · iexact H17
  isplitl [H18]; · iexact H18
  isplitl [H19]; · iexact H19
  isplitl [H20]; · iexact H20
  isplitl [H21]; · iexists f21; iexact H21
  isplitl [H22]; · iexists f22; iexact H22
  isplitl [H23]; · iexists f23; iexact H23
  isplitl [H24]; · iexists f24; iexact H24
  isplitl [H25]; · iexact H25
  isplitl [H26]; · iexact H26
  iexact H27

theorem scr_loose (σ : St F) : scr c σ ⊢ loose (F := F) c := by
  unfold loose scr
  iintro ⟨H17, H18, H19, H20, ⟨%f21, H21⟩, ⟨%f22, H22⟩, ⟨%f23, H23⟩, ⟨%f24, H24⟩, H25, H26, H27⟩
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  iexists _; iexact H27

theorem enter (c : Dev nD) : iprop((Pipeline.ΦA spec0 c : sProp 𝕄) ∗ Pipeline.ΦT pre0 (pf (F := F)) c) ⊢ ((dats m 0 c).Φ 0 : sProp 𝕄) := by
  show _ ⊢ PhiS m c 0
  unfold Pipeline.ΦA Pipeline.ΦT PhiS tabs Pipeline.prefHeld
  rw [loose_eq, bigSep_2]
  iintro ⟨⟨H, Hg⟩, ⟨H2, H3⟩⟩
  isplitl [H]
  · ihave ⟨%σ, H⟩ := (loose_scr c) $$ H
    iexists σ
    isplitr
    · ipureintro; exact Or.inl rfl
    iexact H
  isplitl [H2 H3]
  · isplitl [H2]
    · iexact H2
    iexact H3
  iexact Hg

theorem leave (c : Dev nD) (n : ℕ) : (PhiS m c n : sProp 𝕄) ⊢ (Pipeline.ΦA spec0 c : sProp 𝕄) := by
  unfold Pipeline.ΦA PhiS
  rw [loose_eq]
  iintro ⟨⟨%σ, -, H⟩, -, Hg⟩
  isplitr [Hg]
  · iapply (scr_loose c σ); iexact H
  iexact Hg

abbrev 𝕡 := Pipeline.pin (pcfgs (F := F)) adms

set_option backward.isDefEq.respectTransparency.types false in
/-- From any memory with every semaphore at zero every run ends, the call's arrays at what the write-backs leave, the other buffers as the host operations left them, every semaphore at zero. -/
theorem run_main (g : Dev nD → PrngReg) :
    θ_run (defs (F := F)) (onTc (τ := τ) (main (F := F))) ⟨m, fun _ => 0, g⟩ (fun r => Pipeline.FramePost 𝕡 (dats m) 0 (V m) r ∧ r.2.sem = fun _ => 0) :=
  Pipeline.θ_run_frameP_track_shared (pcfgs (F := F)) adms (dats m) 0 launch₀0 (defs₀ (F := F)) Variants.none m g main
    (hbody := obligation m) (hq := fun _ _ _ => rfl) (howed := fun _ _ => rfl) (V := V m)
    (hmain := Pipeline.hmainP_prefixes (pcfgs (F := F)) 0 (defs₀ (F := F)) Variants.none m main [hostOps0, hostOps0_1, hostOps0_2]
      ⟨hostOps0_sub, hostOps0_1_sub, hostOps0_2_sub⟩ ⟨fresh_0, fresh_1, fresh_2⟩ main_chain)
    (hA := fun _ _ => rfl) (hpf := fun c k => tab_eq m c k) (hin := enter m) (hout := fun c => leave m c _)
    (Q' := fun r => Pipeline.FramePost 𝕡 (dats m) 0 (V m) r ∧ r.2.sem = fun _ => 0) (hQ' := fun _ h => h)

end Cert.Proof.KI

end
-- ==== Proof.Frame.lean ====
/-
  The call's frame: every run ends, the arguments as they were, every semaphore at zero.
-/
module

public import proofs.«01_k».proof.Proof.Launch

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR nD τ) ℕ

variable (m : Mem F) (c : Dev nD)

theorem V_arg0 : V m c main_arg0 = m ((c.tc : Thread nD τ).loc main_arg0) := by
  unfold V
  simp only [List.flatten_cons, List.flatten_nil, List.append_nil]
  after_reads_simp
theorem V_arg1 : V m c main_arg1 = m ((c.tc : Thread nD τ).loc main_arg1) := by
  unfold V
  simp only [List.flatten_cons, List.flatten_nil, List.append_nil]
  after_reads_simp
theorem V_arg2 : V m c main_arg2 = m ((c.tc : Thread nD τ).loc main_arg2) := by
  unfold V
  simp only [List.flatten_cons, List.flatten_nil, List.append_nil]
  after_reads_simp

theorem arg1_rest : main_arg1 ∈ Pipeline.restRefs sig spec0 := by decide +kernel

theorem post_args (r : PUnit × MemSt nD τ sig (Elt F)) (h : Pipeline.FramePost 𝕡 (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(((h c).1 0).trans ((dats m 0 c).arrAt_in 0 rfl _)).trans (V_arg0 m c), ((h c).2 main_arg1 arg1_rest).trans (V_arg1 m c),
    (((h c).1 7).trans ((dats m 0 c).arrAt_in 7 rfl _)).trans (V_arg2 m c)⟩

theorem quiet (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨post_args m r h.1, h.2⟩) (run_main m g)

end Cert.Proof.KI

end
-- ==== Proof.K.Base.lean ====
/-
  What the modules of the run share: a memref's buffer held whole.
-/
module

public import proofs.«01_k».proof.Proof.Gen.Kernel.Skeleton
public import Idealize.ShloMosaic.Lib.Tactic

@[expose] public section

noncomputable section

namespace Cert.Proof.K

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The resource algebra: the rounds library's, for the pipeline's cells (the kernel has no cell of its own). -/
abbrev UR (nD : Nat) (τ : Topo) : Type := URounds (GSem nD τ sig) Unit

variable {F : FTy → Type} [BitOps F]

local notation "𝕄" => MT nD τ sig Unit (Elt F) ℕ (UR nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

end Cert.Proof.K

end
-- ==== Proof.K.RunA.lean ====
/-
  The run of a head's first pair's region.
-/
module

public import proofs.«01_k».proof.Proof.K.Sections
public import proofs.«01_k».proof.Proof.K.Base

@[expose] public section

noncomputable section

namespace Cert.Proof.K

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR nD τ) ℕ

/-- The run of a head's first pair's region. -/
noncomputable def runA (c : Dev nD) (i : grid0.Coords) (arg2 : Memref sig .tc .smem S10 .i32) (harg2 : arg2.IsWhole) (arg3 : Memref sig .tc .smem S10 .i32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1x1024 .f32) (harg7 : arg7.IsWhole) (arg8 : Memref sig .tc .vmem S1x1024x128 .f32) (harg8 : arg8.IsWhole) (arg9 : Memref sig .tc .vmem S1x1x1024 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S1x1x1024 .f32) (harg15 : arg15.IsWhole) (arg16 : Memref sig .tc .vmem S1x1x4096 .f32) (harg16 : arg16.IsWhole) (arg17 : Memref sig .tc .vmem S128x1024 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole) (arg21 : Memref sig .tc .vmem S1024x1024 .f32) (harg21 : arg21.IsWhole) (arg22 : Memref sig .tc .vmem S1024x1024 .f32) (harg22 : arg22.IsWhole) (arg23 : Memref sig .tc .vmem S1024x1024 .bf16) (harg23 : arg23.IsWhole) (arg24 : Memref sig .tc .vmem S1024x1024 .bf16) (harg24 : arg24.IsWhole) (arg25 : Memref sig .tc .vmem S1024x128 .bf16) (harg25 : arg25.IsWhole) (arg26 : Memref sig .tc .vmem S8x1024 .f32) (harg26 : arg26.IsWhole) (arg27 : Memref sig .tc .vmem S1x1024 .f32) (harg27 : arg27.IsWhole)
     :
    { W : Bf (F := F) c arg18 × Bf (F := F) c arg19 × Bf (F := F) c arg20 //
      ∀ (f18 : Bf (F := F) c arg18) (f19 : Bf (F := F) c arg19) (f20 : Bf (F := F) c arg20) (E : Set ℕ) (Q : PUnit → sProp 𝕄),
        iprop(pt c arg18 f18 ∗ pt c arg19 f19 ∗ pt c arg20 f20
          ∗ (iprop(pt c arg18 W.1 ∗ pt c arg19 W.2.1 ∗ pt c arg20 W.2.2) -∗ Q ⟨⟩))
        ⊢ wp frame (wpE (defs₀ (F := F)) Variants.none c none) E
            (secA i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) Q } := by
  refine ⟨⟨?_, ?_, ?_⟩, fun f18 f19 f20 E Q => ?run⟩
  case run =>
    iintro ⟨H18, H19, H20, Hk⟩
    unfold secA
    sl_exec!
    sl_step
    iapply Hk
    isplitl [H18]; · iexact H18
    isplitl [H19]; · iexact H19
    iexact H20

end Cert.Proof.K

end
-- ==== Proof.K.RunB.lean ====
/-
  The run of a query tile's first pair's region.
-/
module

public import proofs.«01_k».proof.Proof.K.Sections
public import proofs.«01_k».proof.Proof.K.Base

@[expose] public section

noncomputable section

namespace Cert.Proof.K

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR nD τ) ℕ

/-- The run of a query tile's first pair's region. -/
noncomputable def runB (c : Dev nD) (i : grid0.Coords) (arg2 : Memref sig .tc .smem S10 .i32) (harg2 : arg2.IsWhole) (arg3 : Memref sig .tc .smem S10 .i32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1x1024 .f32) (harg7 : arg7.IsWhole) (arg8 : Memref sig .tc .vmem S1x1024x128 .f32) (harg8 : arg8.IsWhole) (arg9 : Memref sig .tc .vmem S1x1x1024 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S1x1x1024 .f32) (harg15 : arg15.IsWhole) (arg16 : Memref sig .tc .vmem S1x1x4096 .f32) (harg16 : arg16.IsWhole) (arg17 : Memref sig .tc .vmem S128x1024 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole) (arg21 : Memref sig .tc .vmem S1024x1024 .f32) (harg21 : arg21.IsWhole) (arg22 : Memref sig .tc .vmem S1024x1024 .f32) (harg22 : arg22.IsWhole) (arg23 : Memref sig .tc .vmem S1024x1024 .bf16) (harg23 : arg23.IsWhole) (arg24 : Memref sig .tc .vmem S1024x1024 .bf16) (harg24 : arg24.IsWhole) (arg25 : Memref sig .tc .vmem S1024x128 .bf16) (harg25 : arg25.IsWhole) (arg26 : Memref sig .tc .vmem S8x1024 .f32) (harg26 : arg26.IsWhole) (arg27 : Memref sig .tc .vmem S1x1024 .f32) (harg27 : arg27.IsWhole)
    (f7 : Bf (F := F) c arg7) (f9 : Bf (F := F) c arg9) (f10 : Bf (F := F) c arg10) (f11 : Bf (F := F) c arg11) :
    { W : Bf (F := F) c arg15 × Bf (F := F) c arg17 × Bf (F := F) c arg25 × Bf (F := F) c arg26 × Bf (F := F) c arg27 //
      ∀ (f15 : Bf (F := F) c arg15) (f17 : Bf (F := F) c arg17) (f25 : Bf (F := F) c arg25) (f26 : Bf (F := F) c arg26) (f27 : Bf (F := F) c arg27) (E : Set ℕ) (Q : PUnit → sProp 𝕄),
        iprop(pt c arg7 f7 ∗ pt c arg9 f9 ∗ pt c arg10 f10 ∗ pt c arg11 f11 ∗ pt c arg15 f15 ∗ pt c arg17 f17 ∗ pt c arg25 f25 ∗ pt c arg26 f26 ∗ pt c arg27 f27
          ∗ (iprop(pt c arg7 f7 ∗ pt c arg9 f9 ∗ pt c arg10 f10 ∗ pt c arg11 f11 ∗ pt c arg15 W.1 ∗ pt c arg17 W.2.1 ∗ pt c arg25 W.2.2.1 ∗ pt c arg26 W.2.2.2.1 ∗ pt c arg27 W.2.2.2.2) -∗ Q ⟨⟩))
        ⊢ wp frame (wpE (defs₀ (F := F)) Variants.none c none) E
            (secB i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) Q } := by
  refine ⟨⟨?_, ?_, ?_, ?_, ?_⟩, fun f15 f17 f25 f26 f27 E Q => ?run⟩
  case run =>
    iintro ⟨H7, H9, H10, H11, H15, H17, H25, H26, H27, Hk⟩
    unfold secB
    sl_exec_parts!
    sl_step
    iapply Hk
    isplitl [H7]; · iexact H7
    isplitl [H9]; · iexact H9
    isplitl [H10]; · iexact H10
    isplitl [H11]; · iexact H11
    isplitl [H15]; · iexact H15
    isplitl [H17]; · iexact H17
    isplitl [H25]; · iexact H25
    isplitl [H26]; · iexact H26
    iexact H27

end Cert.Proof.K

end
-- ==== Proof.K.RunC.lean ====
/-
  The run of the update below the diagonal.
-/
module

public import proofs.«01_k».proof.Proof.K.Sections
public import proofs.«01_k».proof.Proof.K.Base

@[expose] public section

noncomputable section

namespace Cert.Proof.K

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR nD τ) ℕ

/-- The run of the update below the diagonal. -/
noncomputable def runC (c : Dev nD) (i : grid0.Coords) (arg2 : Memref sig .tc .smem S10 .i32) (harg2 : arg2.IsWhole) (arg3 : Memref sig .tc .smem S10 .i32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1x1024 .f32) (harg7 : arg7.IsWhole) (arg8 : Memref sig .tc .vmem S1x1024x128 .f32) (harg8 : arg8.IsWhole) (arg9 : Memref sig .tc .vmem S1x1x1024 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S1x1x1024 .f32) (harg15 : arg15.IsWhole) (arg16 : Memref sig .tc .vmem S1x1x4096 .f32) (harg16 : arg16.IsWhole) (arg17 : Memref sig .tc .vmem S128x1024 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole) (arg21 : Memref sig .tc .vmem S1024x1024 .f32) (harg21 : arg21.IsWhole) (arg22 : Memref sig .tc .vmem S1024x1024 .f32) (harg22 : arg22.IsWhole) (arg23 : Memref sig .tc .vmem S1024x1024 .bf16) (harg23 : arg23.IsWhole) (arg24 : Memref sig .tc .vmem S1024x1024 .bf16) (harg24 : arg24.IsWhole) (arg25 : Memref sig .tc .vmem S1024x128 .bf16) (harg25 : arg25.IsWhole) (arg26 : Memref sig .tc .vmem S8x1024 .f32) (harg26 : arg26.IsWhole) (arg27 : Memref sig .tc .vmem S1x1024 .f32) (harg27 : arg27.IsWhole) (v1 v3 : BitVec 32) (k0_hw1 : k0_chk1 v1 v3) (k0_h3 : k0_cond3 v1 v3 = 1#1)
    (f4 : Bf (F := F) c arg4) (f5 : Bf (F := F) c arg5) (f6 : Bf (F := F) c arg6) (f8 : Bf (F := F) c arg8) (f25 : Bf (F := F) c arg25) (f26 : Bf (F := F) c arg26) (f27 : Bf (F := F) c arg27) (f15 : Bf (F := F) c arg15) (f17 : Bf (F := F) c arg17) (f18 : Bf (F := F) c arg18) (f19 : Bf (F := F) c arg19) (f20 : Bf (F := F) c arg20) :
    { W : Bf (F := F) c arg15 × Bf (F := F) c arg17 × Bf (F := F) c arg18 × Bf (F := F) c arg19 × Bf (F := F) c arg20 //
      ∀ (f21 : Bf (F := F) c arg21) (f22 : Bf (F := F) c arg22) (f23 : Bf (F := F) c arg23) (f24 : Bf (F := F) c arg24) (E : Set ℕ) (Q : PUnit → sProp 𝕄),
        iprop(pt c arg4 f4 ∗ pt c arg5 f5 ∗ pt c arg6 f6 ∗ pt c arg8 f8 ∗ pt c arg25 f25 ∗ pt c arg26 f26 ∗ pt c arg27 f27 ∗ pt c arg15 f15 ∗ pt c arg17 f17 ∗ pt c arg18 f18 ∗ pt c arg19 f19 ∗ pt c arg20 f20 ∗ pt c arg21 f21 ∗ pt c arg22 f22 ∗ pt c arg23 f23 ∗ pt c arg24 f24
          ∗ (iprop(pt c arg4 f4 ∗ pt c arg5 f5 ∗ pt c arg6 f6 ∗ pt c arg8 f8 ∗ pt c arg25 f25 ∗ pt c arg26 f26 ∗ pt c arg27 f27 ∗ pt c arg15 W.1 ∗ pt c arg17 W.2.1 ∗ pt c arg18 W.2.2.1 ∗ pt c arg19 W.2.2.2.1 ∗ pt c arg20 W.2.2.2.2 ∗ (∃ f, pt c arg21 f) ∗ (∃ f, pt c arg22 f) ∗ (∃ f, pt c arg23 f) ∗ (∃ f, pt c arg24 f)) -∗ Q ⟨⟩))
        ⊢ wp frame (wpE (defs₀ (F := F)) Variants.none c none) E
            (secC i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 v3 k0_hw1 k0_h3) Q } := by
  refine ⟨⟨?_, ?_, ?_, ?_, ?_⟩, fun f21 f22 f23 f24 E Q => ?run⟩
  case run =>
    iintro ⟨H4, H5, H6, H8, H25, H26, H27, H15, H17, H18, H19, H20, H21, H22, H23, H24, Hk⟩
    unfold secC
    sl_exec_parts!
    sl_step
    iapply Hk
    isplitl [H4]; · iexact H4
    isplitl [H5]; · iexact H5
    isplitl [H6]; · iexact H6
    isplitl [H8]; · iexact H8
    isplitl [H25]; · iexact H25
    isplitl [H26]; · iexact H26
    isplitl [H27]; · iexact H27
    isplitl [H15]; · iexact H15
    isplitl [H17]; · iexact H17
    isplitl [H18]; · iexact H18
    isplitl [H19]; · iexact H19
    isplitl [H20]; · iexact H20
    isplitl [H21]; · iexists _; iexact H21
    isplitl [H22]; · iexists _; iexact H22
    isplitl [H23]; · iexists _; iexact H23
    iexists _; iexact H24

end Cert.Proof.K

end
-- ==== Proof.K.RunD.lean ====
/-
  The run of the update on the diagonal, the query gradient written.
-/
module

public import proofs.«01_k».proof.Proof.K.Sections
public import proofs.«01_k».proof.Proof.K.Base

@[expose] public section

noncomputable section

namespace Cert.Proof.K

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR nD τ) ℕ

/-- The run of the update on the diagonal, the query gradient written. -/
noncomputable def runD (c : Dev nD) (i : grid0.Coords) (arg2 : Memref sig .tc .smem S10 .i32) (harg2 : arg2.IsWhole) (arg3 : Memref sig .tc .smem S10 .i32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1x1024 .f32) (harg7 : arg7.IsWhole) (arg8 : Memref sig .tc .vmem S1x1024x128 .f32) (harg8 : arg8.IsWhole) (arg9 : Memref sig .tc .vmem S1x1x1024 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S1x1x1024 .f32) (harg15 : arg15.IsWhole) (arg16 : Memref sig .tc .vmem S1x1x4096 .f32) (harg16 : arg16.IsWhole) (arg17 : Memref sig .tc .vmem S128x1024 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole) (arg21 : Memref sig .tc .vmem S1024x1024 .f32) (harg21 : arg21.IsWhole) (arg22 : Memref sig .tc .vmem S1024x1024 .f32) (harg22 : arg22.IsWhole) (arg23 : Memref sig .tc .vmem S1024x1024 .bf16) (harg23 : arg23.IsWhole) (arg24 : Memref sig .tc .vmem S1024x1024 .bf16) (harg24 : arg24.IsWhole) (arg25 : Memref sig .tc .vmem S1024x128 .bf16) (harg25 : arg25.IsWhole) (arg26 : Memref sig .tc .vmem S8x1024 .f32) (harg26 : arg26.IsWhole) (arg27 : Memref sig .tc .vmem S1x1024 .f32) (harg27 : arg27.IsWhole) (v1 v3 : BitVec 32) (k0_hw1 : k0_chk1 v1 v3) (k0_h4 : k0_cond4 v1 v3 = 1#1)
    (f4 : Bf (F := F) c arg4) (f5 : Bf (F := F) c arg5) (f6 : Bf (F := F) c arg6) (f8 : Bf (F := F) c arg8) (f25 : Bf (F := F) c arg25) (f26 : Bf (F := F) c arg26) (f27 : Bf (F := F) c arg27) (f15 : Bf (F := F) c arg15) (f17 : Bf (F := F) c arg17) (f18 : Bf (F := F) c arg18) (f19 : Bf (F := F) c arg19) (f20 : Bf (F := F) c arg20) :
    { W : Bf (F := F) c arg15 × Bf (F := F) c arg17 × Bf (F := F) c arg18 × Bf (F := F) c arg19 × Bf (F := F) c arg20 × Bf (F := F) c arg12 //
      ∀ (f21 : Bf (F := F) c arg21) (f22 : Bf (F := F) c arg22) (f23 : Bf (F := F) c arg23) (f24 : Bf (F := F) c arg24) (f12 : Bf (F := F) c arg12) (E : Set ℕ) (Q : PUnit → sProp 𝕄),
        iprop(pt c arg4 f4 ∗ pt c arg5 f5 ∗ pt c arg6 f6 ∗ pt c arg8 f8 ∗ pt c arg25 f25 ∗ pt c arg26 f26 ∗ pt c arg27 f27 ∗ pt c arg15 f15 ∗ pt c arg17 f17 ∗ pt c arg18 f18 ∗ pt c arg19 f19 ∗ pt c arg20 f20 ∗ pt c arg21 f21 ∗ pt c arg22 f22 ∗ pt c arg23 f23 ∗ pt c arg24 f24 ∗ pt c arg12 f12
          ∗ (iprop(pt c arg4 f4 ∗ pt c arg5 f5 ∗ pt c arg6 f6 ∗ pt c arg8 f8 ∗ pt c arg25 f25 ∗ pt c arg26 f26 ∗ pt c arg27 f27 ∗ pt c arg15 W.1 ∗ pt c arg17 W.2.1 ∗ pt c arg18 W.2.2.1 ∗ pt c arg19 W.2.2.2.1 ∗ pt c arg20 W.2.2.2.2.1 ∗ pt c arg12 W.2.2.2.2.2 ∗ (∃ f, pt c arg21 f) ∗ (∃ f, pt c arg22 f) ∗ (∃ f, pt c arg23 f) ∗ (∃ f, pt c arg24 f)) -∗ Q ⟨⟩))
        ⊢ wp frame (wpE (defs₀ (F := F)) Variants.none c none) E
            (secD i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 v3 k0_hw1 k0_h4) Q } := by
  refine ⟨⟨?_, ?_, ?_, ?_, ?_, ?_⟩, fun f21 f22 f23 f24 f12 E Q => ?run⟩
  case run =>
    iintro ⟨H4, H5, H6, H8, H25, H26, H27, H15, H17, H18, H19, H20, H21, H22, H23, H24, H12, Hk⟩
    unfold secD
    sl_exec_parts!
    sl_step
    iapply Hk
    isplitl [H4]; · iexact H4
    isplitl [H5]; · iexact H5
    isplitl [H6]; · iexact H6
    isplitl [H8]; · iexact H8
    isplitl [H25]; · iexact H25
    isplitl [H26]; · iexact H26
    isplitl [H27]; · iexact H27
    isplitl [H15]; · iexact H15
    isplitl [H17]; · iexact H17
    isplitl [H18]; · iexact H18
    isplitl [H19]; · iexact H19
    isplitl [H20]; · iexact H20
    isplitl [H12]; · iexact H12
    isplitl [H21]; · iexists _; iexact H21
    isplitl [H22]; · iexists _; iexact H22
    isplitl [H23]; · iexists _; iexact H23
    iexists _; iexact H24

end Cert.Proof.K

end
-- ==== Proof.K.RunE.lean ====
/-
  The run of a head's last pair's region.
-/
module

public import proofs.«01_k».proof.Proof.K.Sections
public import proofs.«01_k».proof.Proof.K.Base

@[expose] public section

noncomputable section

namespace Cert.Proof.K

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR nD τ) ℕ

/-- The run of a head's last pair's region. -/
noncomputable def runE (c : Dev nD) (i : grid0.Coords) (arg2 : Memref sig .tc .smem S10 .i32) (harg2 : arg2.IsWhole) (arg3 : Memref sig .tc .smem S10 .i32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1x1024 .f32) (harg7 : arg7.IsWhole) (arg8 : Memref sig .tc .vmem S1x1024x128 .f32) (harg8 : arg8.IsWhole) (arg9 : Memref sig .tc .vmem S1x1x1024 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S1x1x1024 .f32) (harg15 : arg15.IsWhole) (arg16 : Memref sig .tc .vmem S1x1x4096 .f32) (harg16 : arg16.IsWhole) (arg17 : Memref sig .tc .vmem S128x1024 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole) (arg21 : Memref sig .tc .vmem S1024x1024 .f32) (harg21 : arg21.IsWhole) (arg22 : Memref sig .tc .vmem S1024x1024 .f32) (harg22 : arg22.IsWhole) (arg23 : Memref sig .tc .vmem S1024x1024 .bf16) (harg23 : arg23.IsWhole) (arg24 : Memref sig .tc .vmem S1024x1024 .bf16) (harg24 : arg24.IsWhole) (arg25 : Memref sig .tc .vmem S1024x128 .bf16) (harg25 : arg25.IsWhole) (arg26 : Memref sig .tc .vmem S8x1024 .f32) (harg26 : arg26.IsWhole) (arg27 : Memref sig .tc .vmem S1x1024 .f32) (harg27 : arg27.IsWhole)
    (f18 : Bf (F := F) c arg18) (f19 : Bf (F := F) c arg19) (f20 : Bf (F := F) c arg20) :
    { W : Bf (F := F) c arg13 × Bf (F := F) c arg14 × Bf (F := F) c arg16 //
      ∀ (f13 : Bf (F := F) c arg13) (f14 : Bf (F := F) c arg14) (f16 : Bf (F := F) c arg16) (E : Set ℕ) (Q : PUnit → sProp 𝕄),
        iprop(pt c arg18 f18 ∗ pt c arg19 f19 ∗ pt c arg20 f20 ∗ pt c arg13 f13 ∗ pt c arg14 f14 ∗ pt c arg16 f16
          ∗ (iprop(pt c arg18 f18 ∗ pt c arg19 f19 ∗ pt c arg20 f20 ∗ pt c arg13 W.1 ∗ pt c arg14 W.2.1 ∗ pt c arg16 W.2.2) -∗ Q ⟨⟩))
        ⊢ wp frame (wpE (defs₀ (F := F)) Variants.none c none) E
            (secE i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) Q } := by
  refine ⟨⟨?_, ?_, ?_⟩, fun f13 f14 f16 E Q => ?run⟩
  case run =>
    iintro ⟨H18, H19, H20, H13, H14, H16, Hk⟩
    unfold secE
    sl_exec!
    sl_step
    iapply Hk
    isplitl [H18]; · iexact H18
    isplitl [H19]; · iexact H19
    isplitl [H20]; · iexact H20
    isplitl [H13]; · iexact H13
    isplitl [H14]; · iexact H14
    iexact H16

end Cert.Proof.K

end
-- ==== Proof.K.Frame.lean ====
/-
  The call's frame: every run ends, the arguments as they were, every semaphore at zero.
-/
module

public import proofs.«01_k».proof.Proof.K.Launch

@[expose] public section

noncomputable section

namespace Cert.Proof.K

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR nD τ) ℕ

variable (m : Mem F) (c : Dev nD)

theorem V_arg0 : V m c main_arg0 = m ((c.tc : Thread nD τ).loc main_arg0) := by
  unfold V
  simp only [List.flatten_cons, List.flatten_nil, List.append_nil]
  after_reads_simp
theorem V_arg1 : V m c main_arg1 = m ((c.tc : Thread nD τ).loc main_arg1) := by
  unfold V
  simp only [List.flatten_cons, List.flatten_nil, List.append_nil]
  after_reads_simp
theorem V_arg2 : V m c main_arg2 = m ((c.tc : Thread nD τ).loc main_arg2) := by
  unfold V
  simp only [List.flatten_cons, List.flatten_nil, List.append_nil]
  after_reads_simp

theorem arg1_rest : main_arg1 ∈ Pipeline.restRefs sig spec0 := by decide +kernel

theorem post_args (r : PUnit × MemSt nD τ sig (Elt F)) (h : Pipeline.FramePost 𝕡 (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(((h c).1 0).trans ((dats m 0 c).arrAt_in 0 rfl _)).trans (V_arg0 m c), ((h c).2 main_arg1 arg1_rest).trans (V_arg1 m c),
    (((h c).1 7).trans ((dats m 0 c).arrAt_in 7 rfl _)).trans (V_arg2 m c)⟩

theorem quiet (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨post_args m r h.1, h.2⟩) (run_main m g)

end Cert.Proof.K

end
-- ==== Proof.Val.lean ====
/-
  The vectors an update computes, chunk of queries by chunk of queries, over the extended reals, read entry by entry; and
  what a buffer holds after several writes that agree with one function.
-/
module

public import proofs.«01_k».proof.Proof.Frame
public import Idealize.ShloMosaic.Lib.Pointwise

@[expose] public section

noncomputable section

namespace Cert.Proof.KI

open Cert.KernelIdeal Cert.KernelIdeal.Gen

open Idealize.ShloMosaic
open Idealize.ShloMosaic.TcCoe Idealize.ShloMosaic.Tactic

/-- Where every write agrees with `W`, an index under one of them reads `W`. -/
theorem canon_agree {Val : EltTy → Type} {s : Shape} {e : EltTy} [∀ e, Nonempty (Val e)] (W : s.Idx → Val e) (y : s.Idx) :
    ∀ L : List (View.Piece Val s e), (∀ p ∈ L, ∀ x, p.2 x = W (p.1.emb x)) → (∃ p ∈ L, y ∈ p.1.set) → View.canon L y = W y
  | [], _, h => by obtain ⟨p, hp, _⟩ := h; cases hp
  | p :: L, h, hy => by
    by_cases hm : y ∈ p.1.set
    · obtain ⟨x, _, rfl⟩ := Finset.mem_map.1 (Rect.map_emb_univ p.1 ▸ hm)
      exact (View.canon_cons_emb p.1 p.2 L x).trans (h p (List.mem_cons_self ..) x)
    · rw [View.canon_cons_of_not_mem p L hm]
      obtain ⟨q, hq, hyq⟩ := hy
      refine canon_agree W y L (fun p hp => h p (List.mem_cons_of_mem _ hp)) ⟨q, ?_, hyq⟩
      rcases List.mem_cons.1 hq with rfl | h'
      · exact absurd hyq hm
      · exact h'

/-- The named constants. -/
def κ2 : EReal := (Named.named κ "scale2" 0x3E0293EE#32 : Ideal .f32)
def κl : EReal := (Named.named κ "log2e" 0x3FB8AA3B#32 : Ideal .f32)

/-- The probabilities of a chunk below the diagonal, from the scores, the key gates and the shift. -/
def pC (ck : Vec Ideal S1x1024x128 .f32) (s : Vec Ideal S1024x128 .f32) (sh : Vec Ideal S1x128 .f32) : FVec Ideal S1024x128 .f32 :=
  k0_pay19 ck s sh

/-- The probabilities of chunk `j` on the diagonal. -/
def pD (j : ℕ) (ck : Vec Ideal S1x1024x128 .f32) (s : Vec Ideal S1024x128 .f32) (sh : Vec Ideal S1x128 .f32) : FVec Ideal S1024x128 .f32 :=
  exp2 (subf (select (cmpi .sle (iota .tc S1024x128 32 [0] iota_S1024x128_d0_w32)
      (addi (broadcast S1024x128 (BitVec.ofNat 32 (128 * (j % 8)))) (iota .tc S1024x128 32 [1] iota_S1024x128_d1_w32)))
    (subf (mulf s (broadcast S1024x128 (Named.named κ "scale2" 0x3E0293EE#32 : Ideal .f32))) (k0_pay77 ck))
    (broadcast S1024x128 (Named.named κ "mask" 0xF149F2CA#32 : Ideal .f32))) (broadcastTo S1024x128 sh broadcasts_S1x128_S1024x128))

/-- The scores' gradient of a chunk. -/
def dsV (p dp : FVec Ideal S1024x128 .f32) (dl : Vec Ideal S1x128 .f32) : FVec Ideal S1024x128 .f32 :=
  k0_pay21 p (k0_pay20 dp dl)

/-- A chunk rounded. -/
def rdV (p : FVec Ideal S1024x128 .f32) : FVec Ideal S1024x128 .bf16 := k0_pay24 p

/-- A chunk of the queries' gates' gradient. -/
def dcV (ds : FVec Ideal S1024x128 .f32) (x : Vec Ideal S1x1x128 .f32) : FVec Ideal S1x1x128 .f32 :=
  shapeCast S1x1x128 (addf (shapeCast S1x128 x shapeCasts_S1x1x128_S1x128)
    (shapeCast S1x128 (multiReduction .add [0] S128 ds 0x00000000#32 reduces_S1024x128_S128 (.inl rfl) rfl) shapeCasts_S128_S1x128)) shapeCasts_S1x128_S1x1x128

/-- A chunk of the keys' gates' gradient. -/
def dkV (ds : FVec Ideal S1024x128 .f32) (x : Vec Ideal S1024x128 .f32) : FVec Ideal S1024x128 .f32 :=
  shapeCast S1024x128 (addf x ds) shapeCasts_S1024x128_S1024x128

theorem pC_apply (ck : Vec Ideal S1x1024x128 .f32) (s : Vec Ideal S1024x128 .f32) (sh : Vec Ideal S1x128 .f32) (k : Fin 1024) (l : Fin 128) :
    pC ck s sh (ix2 k l) = Ideal.exp2 ((s (ix2 k l) * κ2 - ck (ix3 0 k l) * κl) - sh (ix2 0 l)) := by
  pointwise [pC, k0_pay19, k0_pay18]
  rfl

theorem toInt_small (n : ℕ) (h : n < 4096) : (BitVec.ofNat 32 n).toInt = n := by
  have h1 : (BitVec.ofNat 32 n).toNat = n := by rw [BitVec.toNat_ofNat]; omega
  rw [BitVec.toInt_eq_toNat_of_lt (by omega), h1]

theorem sle_chunk (k l j : ℕ) (hk : k < 1024) (hl : l < 128) :
    IntOp.cmpi CmpIPredicate.sle (BitVec.ofNat 32 k) (IntOp.addi (BitVec.ofNat 32 (128 * (j % 8))) (BitVec.ofNat 32 l))
      = if k ≤ 128 * (j % 8) + l then 1#1 else 0#1 := by
  have e : IntOp.addi (BitVec.ofNat 32 (128 * (j % 8))) (BitVec.ofNat 32 l) = BitVec.ofNat 32 (128 * (j % 8) + l) := by
    rw [BitVec.ofNat_add]; rfl
  rw [e]
  show BitVec.ofBool ((BitVec.ofNat 32 k).sle (BitVec.ofNat 32 (128 * (j % 8) + l))) = _
  rw [BitVec.sle_eq_decide, toInt_small _ (by omega), toInt_small _ (by omega)]
  by_cases h : k ≤ 128 * (j % 8) + l
  · rw [if_pos h, decide_eq_true (by omega)]; rfl
  · rw [if_neg h, decide_eq_false (by omega)]; rfl

theorem pD_apply (j : ℕ) (ck : Vec Ideal S1x1024x128 .f32) (s : Vec Ideal S1024x128 .f32) (sh : Vec Ideal S1x128 .f32) (k : Fin 1024) (l : Fin 128) :
    pD j ck s sh (ix2 k l) = Ideal.exp2 ((if k.val ≤ 128 * (j % 8) + l.val then s (ix2 k l) * κ2 - ck (ix3 0 k l) * κl else ⊥) - sh (ix2 0 l)) := by
  pointwise [pD, k0_pay77]
  rw [show IntOp.cmpi CmpIPredicate.sle (BitVec.ofNat 32 k.val) (IntOp.addi (BitVec.ofNat 32 (128 * (j % 8))) (BitVec.ofNat 32 l.val))
      = if k.val ≤ 128 * (j % 8) + l.val then 1#1 else 0#1 from sle_chunk k.val l.val j k.isLt l.isLt]
  split <;> rfl

theorem dsV_apply (p dp : FVec Ideal S1024x128 .f32) (dl : Vec Ideal S1x128 .f32) (k : Fin 1024) (l : Fin 128) :
    dsV p dp dl (ix2 k l) = p (ix2 k l) * (dp (ix2 k l) - dl (ix2 0 l)) := by
  pointwise [dsV, k0_pay21, k0_pay20]

theorem rdV_apply (p : FVec Ideal S1024x128 .f32) (k : Fin 1024) (l : Fin 128) : rdV p (ix2 k l) = p (ix2 k l) := by
  pointwise [rdV, k0_pay24]

theorem dcV_apply (ds : FVec Ideal S1024x128 .f32) (x : Vec Ideal S1x1x128 .f32) (l : Fin 128) :
    dcV ds x (ix3 0 0 l) = x (ix3 0 0 l) + ∑ k : Fin 1024, ds (ix2 k l) := by
  pointwise [dcV]

theorem dkV_apply (ds : FVec Ideal S1024x128 .f32) (x : Vec Ideal S1024x128 .f32) (k : Fin 1024) (l : Fin 128) :
    dkV ds x (ix2 k l) = x (ix2 k l) + ds (ix2 k l) := by
  pointwise [dkV]

theorem pay16_apply (a b : Vec Ideal S1024x128 .bf16) (k q : Fin 1024) :
    k0_pay16 a b (ix2 k q) = ∑ e : Fin 128, a (ix2 k e) * b (ix2 q e) := by
  pointwise [k0_pay16]

theorem pay72_apply (a : Vec Ideal S1024x128 .f32) (p : Vec Ideal S1024x1024 .bf16) (d : Vec Ideal S1024x128 .bf16) (k : Fin 1024) (e : Fin 128) :
    k0_pay72 a p d (ix2 k e) = a (ix2 k e) + ∑ q : Fin 1024, p (ix2 k q) * d (ix2 q e) := by
  pointwise [k0_pay72]

theorem pay73_apply (a : Vec Ideal S1024x128 .f32) (p : Vec Ideal S1024x1024 .bf16) (d : Vec Ideal S1024x128 .bf16) (k : Fin 1024) (e : Fin 128) :
    k0_pay73 a p d (ix2 k e) = a (ix2 k e) + Ideal.ofBits .f32 0x3DB504F3#32 * ∑ q : Fin 1024, p (ix2 k q) * d (ix2 q e) := by
  pointwise [k0_pay73]

theorem pay74_apply (a : Vec Ideal S128x1024 .f32) (d : Vec Ideal S1024x128 .bf16) (p : Vec Ideal S1024x1024 .bf16) (e : Fin 128) (q : Fin 1024) :
    k0_pay74 a d p (ix2 e q) = a (ix2 e q) + Ideal.ofBits .f32 0x3DB504F3#32 * ∑ k : Fin 1024, d (ix2 k e) * p (ix2 k q) := by
  pointwise [k0_pay74]

theorem pay5_apply (a : FVec Ideal S128x1024 .f32) (e : Fin 128) (q : Fin 1024) : k0_pay5 a (ix2 e q) = a (ix2 e q) := by
  pointwise [k0_pay5]

theorem pay7_apply (a : Vec Ideal S128x1024 .f32) (e : Fin 128) (q : Fin 1024) : k0_pay7 a (ix2 q e) = a (ix2 e q) := by
  pointwise [k0_pay7]

theorem pay11_apply (a b : Vec Ideal S1024x128 .f32) (r : Fin 8) (q : Fin 1024) :
    k0_pay11 a b (ix2 r q) = ∑ e : Fin 128, a (ix2 q e) * b (ix2 q e) := by
  pointwise [k0_pay11]

theorem pay12_apply (a b : Vec Ideal S1x1x1024 .f32) (q : Fin 1024) :
    k0_pay12 a b (ix2 0 q) = (a (ix3 0 0 q) - b (ix3 0 0 q)) * κl := by
  pointwise [k0_pay12]
  rfl

theorem pay10_apply (a : Vec Ideal S4096x128 .f32) (q : Fin 4096) :
    k0_pay10 a (ix3 0 0 q) = 0 - ∑ e : Fin 128, a (ix2 q e) := by
  pointwise [k0_pay10]

end Cert.Proof.KI

end
-- ==== Proof.UpdC.lean ====
/-
  What the update below the diagonal leaves in the buffers it writes, as lists of the writes.
-/
module

public import proofs.«01_k».proof.Proof.Val

@[expose] public section

noncomputable section

namespace Cert.Proof.KI

open Cert.KernelIdeal Cert.KernelIdeal.Gen

open Idealize.ShloMosaic
open Idealize.ShloMosaic.TcCoe Idealize.ShloMosaic.Tactic

variable (c : Dev nD) (i : grid0.Coords) (A : Args) (X : In Ideal) (σ : St Ideal)

theorem inb_c (j : ℕ) : ∀ a, (![0, 128 * (j % 8)] : Fin 2 → ℕ) a + S1024x128.size a ≤ S1024x1024.size a := by
  have : j % 8 < 8 := Nat.mod_lt _ (by decide)
  refine Fin.forall_fin_succ.2 ⟨by show 0 + 1024 ≤ 1024; omega, Fin.forall_fin_one.2 ?_⟩
  show 128 * (j % 8) + 128 ≤ 1024; omega

theorem inb_r (j : ℕ) : ∀ a, (![0, 128 * (j % 8)] : Fin 2 → ℕ) a + S1x128.size a ≤ S1x1024.size a := by
  have : j % 8 < 8 := Nat.mod_lt _ (by decide)
  refine Fin.forall_fin_succ.2 ⟨by show 0 + 1 ≤ 1; omega, Fin.forall_fin_one.2 ?_⟩
  show 128 * (j % 8) + 128 ≤ 1024; omega

theorem inb_8 (j : ℕ) : ∀ a, (![0, 128 * (j % 8)] : Fin 2 → ℕ) a + S1x128.size a ≤ S8x1024.size a := by
  have : j % 8 < 8 := Nat.mod_lt _ (by decide)
  refine Fin.forall_fin_succ.2 ⟨by show 0 + 1 ≤ 8; omega, Fin.forall_fin_one.2 ?_⟩
  show 128 * (j % 8) + 128 ≤ 1024; omega

theorem inb_3 (j : ℕ) : ∀ a, (![0, 0, 128 * (j % 8)] : Fin 3 → ℕ) a + S1x1x128.size a ≤ S1x1x1024.size a := by
  have : j % 8 < 8 := Nat.mod_lt _ (by decide)
  refine Fin.forall_fin_succ.2 ⟨by show 0 + 1 ≤ 1; omega, Fin.forall_fin_succ.2 ⟨by show 0 + 1 ≤ 1; omega, Fin.forall_fin_one.2 ?_⟩⟩
  show 128 * (j % 8) + 128 ≤ 1024; omega

/-- The blocks as the loads read them. -/
def ldq : Vec Ideal S1024x128 .bf16 := View.readAt (Elt Ideal) A.m4.view (Rect.unit (s := S1024x128) ![0, 0] S1024x128.size inb_S1024x128_S1024x128_0_0).toLoadRect (A.h4.unread X.q)
def ldk : Vec Ideal S1024x128 .bf16 := View.readAt (Elt Ideal) A.m5.view (Rect.unit (s := S1024x128) ![0, 0] S1024x128.size inb_S1024x128_S1024x128_0_0).toLoadRect (A.h5.unread X.k)
def ldv : Vec Ideal S1024x128 .bf16 := View.readAt (Elt Ideal) A.m6.view (Rect.unit (s := S1024x128) ![0, 0] S1024x128.size inb_S1024x128_S1024x128_0_0).toLoadRect (A.h6.unread X.v)
def ldck : Vec Ideal S1x1024x128 .f32 := View.readAt (Elt Ideal) A.m8.view (Rect.unit (s := S1x1024x128) ![0, 0, 0] S1x1024x128.size inb_S1x1024x128_S1x1024x128_0_0_0).toLoadRect (A.h8.unread X.ck)
def ldo : Vec Ideal S1024x128 .bf16 := View.readAt (Elt Ideal) A.m25.view (Rect.unit (s := S1024x128) ![0, 0] S1024x128.size inb_S1024x128_S1024x128_0_0).toLoadRect (A.h25.unread σ.x25)
def lddl (j : ℕ) : Vec Ideal S1x128 .f32 := View.readAt (Elt Ideal) A.m26.view (Rect.unit (s := S8x1024) ![0, 128 * (j % 8)] S1x128.size (inb_8 j)).toLoadRect (A.h26.unread σ.x26)
def ldsh (j : ℕ) : Vec Ideal S1x128 .f32 := View.readAt (Elt Ideal) A.m27.view (Rect.unit (s := S1x1024) ![0, 128 * (j % 8)] S1x128.size (inb_r j)).toLoadRect (A.h27.unread σ.x27)
def lddc (j : ℕ) : Vec Ideal S1x1x128 .f32 := View.readAt (Elt Ideal) A.m15.view (Rect.unit (s := S1x1x1024) ![0, 0, 128 * (j % 8)] S1x1x128.size (inb_3 j)).toLoadRect (A.h15.unread σ.x15)
def ldqt : Vec Ideal S128x1024 .f32 := View.readAt (Elt Ideal) A.m17.view (Rect.unit (s := S128x1024) ![0, 0] S128x1024.size inb_S128x1024_S128x1024_0_0).toLoadRect (A.h17.unread σ.x17)

/-- The scores, and the probabilities' gradient, of chunk `j`. -/
def chS (j : ℕ) : Vec Ideal S1024x128 .f32 :=
  A.m21.view.readCov [⟨Rect.unit (s := S1024x1024) ![0, 0] S1024x1024.size inb_S1024x1024_S1024x1024_0_0, k0_pay16 (ldk A X) (ldq A X)⟩]
    (Rect.unit (s := S1024x1024) ![0, 128 * (j % 8)] S1024x128.size (inb_c j)).toLoadRect
def chP (j : ℕ) : Vec Ideal S1024x128 .f32 :=
  A.m22.view.readCov [⟨Rect.unit (s := S1024x1024) ![0, 0] S1024x1024.size inb_S1024x1024_S1024x1024_0_0, k0_pay16 (ldv A X) (ldo A σ)⟩]
    (Rect.unit (s := S1024x1024) ![0, 128 * (j % 8)] S1024x128.size (inb_c j)).toLoadRect

/-- Chunk `j`'s probabilities and scores' gradient. -/
def prC (j : ℕ) : FVec Ideal S1024x128 .f32 := pC (ldck A X) (chS A X j) (ldsh A σ j)
def dsC (j : ℕ) : FVec Ideal S1024x128 .f32 := dsV (prC A X σ j) (chP A X σ j) (lddl A σ j)

/-- The writes of the probabilities, of the scores' gradient and of the queries' gates' gradient. -/
def wpC (j : ℕ) : View.Piece (Elt Ideal) S1024x1024 .bf16 := ⟨Rect.unit (s := S1024x1024) ![0, 128 * (j % 8)] S1024x128.size (inb_c j), rdV (prC A X σ j)⟩
def wdC (j : ℕ) : View.Piece (Elt Ideal) S1024x1024 .bf16 := ⟨Rect.unit (s := S1024x1024) ![0, 128 * (j % 8)] S1024x128.size (inb_c j), rdV (dsC A X σ j)⟩
def wcC (j : ℕ) : View.Piece (Elt Ideal) S1x1x1024 .f32 := ⟨Rect.unit (s := S1x1x1024) ![0, 0, 128 * (j % 8)] S1x1x128.size (inb_3 j), dcV (dsC A X σ j) (lddc A σ j)⟩

/-- The probabilities and the scores' gradient as the products read them. -/
def mpC : Vec Ideal S1024x1024 .bf16 :=
  A.m23.view.readCov [wpC A X σ 7, wpC A X σ 6, wpC A X σ 5, wpC A X σ 4, wpC A X σ 3, wpC A X σ 2, wpC A X σ 1, wpC A X σ 0]
    (Rect.unit (s := S1024x1024) ![0, 0] S1024x1024.size inb_S1024x1024_S1024x1024_0_0).toLoadRect
def mdC : Vec Ideal S1024x1024 .bf16 :=
  A.m24.view.readCov [wdC A X σ 7, wdC A X σ 6, wdC A X σ 5, wdC A X σ 4, wdC A X σ 3, wdC A X σ 2, wdC A X σ 1, wdC A X σ 0]
    (Rect.unit (s := S1024x1024) ![0, 0] S1024x1024.size inb_S1024x1024_S1024x1024_0_0).toLoadRect

variable (v1 v3 : BitVec 32) (hw : k0_chk1 v1 v3) (h : k0_cond3 v1 v3 = 1#1)

/-- The rows of the key tile. -/
def rwC : Rect S4096x128 := Rect.unit (s := S4096x128) (k0_off2 v3) S1024x128.size (k0_off2_inb v1 v3 hw h)

/-- The writes of the keys' gates' gradient, chunk after chunk. -/
def wkC : ℕ → List (View.Piece (Elt Ideal) S4096x128 .f32)
  | 0 => []
  | j + 1 => ⟨rwC v1 v3 hw h, dkV (dsC A X σ j) (View.readAt (Elt Ideal) A.m20.view (rwC v1 v3 hw h).toLoadRect (A.m20.view.writes (Elt Ideal) (A.h20.unread σ.x20) (wkC j)))⟩ :: wkC j

theorem stC_x15 : (stC c i A v1 v3 hw h X σ).x15 = A.m15.view.read (Elt Ideal) (A.m15.view.writes (Elt Ideal) A.m15.view.junk
    [wcC A X σ 7, wcC A X σ 6, wcC A X σ 5, wcC A X σ 4, wcC A X σ 3, wcC A X σ 2, wcC A X σ 1, wcC A X σ 0]) := by
  unfold stC putC runC
  dsimp only
  rfl

theorem stC_x17 : (stC c i A v1 v3 hw h X σ).x17 = A.m17.view.read (Elt Ideal) (A.m17.view.writes (Elt Ideal) A.m17.view.junk
    [⟨Rect.unit (s := S128x1024) ![0, 0] S128x1024.size inb_S128x1024_S128x1024_0_0, k0_pay5 (k0_pay74 (ldqt A σ) (ldk A X) (mdC A X σ))⟩]) := by
  unfold stC putC runC
  dsimp only
  rfl

theorem stC_x18 : (stC c i A v1 v3 hw h X σ).x18 = A.m18.view.read (Elt Ideal) (A.m18.view.writes (Elt Ideal) (A.h18.unread σ.x18)
    [⟨rwC v1 v3 hw h, k0_pay73 (View.readAt (Elt Ideal) A.m18.view (rwC v1 v3 hw h).toLoadRect (A.h18.unread σ.x18)) (mdC A X σ) (ldq A X)⟩]) := by
  unfold stC putC runC
  dsimp only
  rfl

theorem stC_x19 : (stC c i A v1 v3 hw h X σ).x19 = A.m19.view.read (Elt Ideal) (A.m19.view.writes (Elt Ideal) (A.h19.unread σ.x19)
    [⟨rwC v1 v3 hw h, k0_pay72 (View.readAt (Elt Ideal) A.m19.view (rwC v1 v3 hw h).toLoadRect (A.h19.unread σ.x19)) (mpC A X σ) (ldo A σ)⟩]) := by
  unfold stC putC runC
  dsimp only
  rfl

theorem stC_x20 : (stC c i A v1 v3 hw h X σ).x20 = A.m20.view.read (Elt Ideal) (A.m20.view.writes (Elt Ideal) (A.h20.unread σ.x20)
    (wkC A X σ v1 v3 hw h 8)) := by
  unfold stC putC runC
  dsimp only
  rfl

theorem stC_rest : (stC c i A v1 v3 hw h X σ).x25 = σ.x25 ∧ (stC c i A v1 v3 hw h X σ).x26 = σ.x26 ∧ (stC c i A v1 v3 hw h X σ).x27 = σ.x27 := by
  unfold stC putC
  exact ⟨rfl, rfl, rfl⟩

end Cert.Proof.KI

end
-- ==== Proof.UpdD.lean ====
/-
  What the update on the diagonal leaves in the buffers it writes, as lists of the writes.
-/
module

public import proofs.«01_k».proof.Proof.UpdC

@[expose] public section

noncomputable section

namespace Cert.Proof.KI

open Cert.KernelIdeal Cert.KernelIdeal.Gen

open Idealize.ShloMosaic
open Idealize.ShloMosaic.TcCoe Idealize.ShloMosaic.Tactic

variable (c : Dev nD) (i : grid0.Coords) (A : Args) (X : In Ideal) (σ : St Ideal)

/-- Chunk `j`'s probabilities and scores' gradient. -/
def prD (j : ℕ) : FVec Ideal S1024x128 .f32 := pD j (ldck A X) (chS A X j) (ldsh A σ j)
def dsD (j : ℕ) : FVec Ideal S1024x128 .f32 := dsV (prD A X σ j) (chP A X σ j) (lddl A σ j)

/-- The writes of the probabilities, of the scores' gradient and of the queries' gates' gradient. -/
def wpD (j : ℕ) : View.Piece (Elt Ideal) S1024x1024 .bf16 := ⟨Rect.unit (s := S1024x1024) ![0, 128 * (j % 8)] S1024x128.size (inb_c j), rdV (prD A X σ j)⟩
def wdD (j : ℕ) : View.Piece (Elt Ideal) S1024x1024 .bf16 := ⟨Rect.unit (s := S1024x1024) ![0, 128 * (j % 8)] S1024x128.size (inb_c j), rdV (dsD A X σ j)⟩
def wcD (j : ℕ) : View.Piece (Elt Ideal) S1x1x1024 .f32 := ⟨Rect.unit (s := S1x1x1024) ![0, 0, 128 * (j % 8)] S1x1x128.size (inb_3 j), dcV (dsD A X σ j) (lddc A σ j)⟩

/-- The probabilities and the scores' gradient as the products read them. -/
def mpD : Vec Ideal S1024x1024 .bf16 :=
  A.m23.view.readCov [wpD A X σ 7, wpD A X σ 6, wpD A X σ 5, wpD A X σ 4, wpD A X σ 3, wpD A X σ 2, wpD A X σ 1, wpD A X σ 0]
    (Rect.unit (s := S1024x1024) ![0, 0] S1024x1024.size inb_S1024x1024_S1024x1024_0_0).toLoadRect
def mdD : Vec Ideal S1024x1024 .bf16 :=
  A.m24.view.readCov [wdD A X σ 7, wdD A X σ 6, wdD A X σ 5, wdD A X σ 4, wdD A X σ 3, wdD A X σ 2, wdD A X σ 1, wdD A X σ 0]
    (Rect.unit (s := S1024x1024) ![0, 0] S1024x1024.size inb_S1024x1024_S1024x1024_0_0).toLoadRect

variable (v1 v3 : BitVec 32) (hw : k0_chk1 v1 v3) (h : k0_cond4 v1 v3 = 1#1)

/-- The rows of the key tile. -/
def rwD : Rect S4096x128 := Rect.unit (s := S4096x128) (k0_off3 v3) S1024x128.size (k0_off3_inb v1 v3 hw h)

/-- The writes of the keys' gates' gradient, chunk after chunk. -/
def wkD : ℕ → List (View.Piece (Elt Ideal) S4096x128 .f32)
  | 0 => []
  | j + 1 => ⟨rwD v1 v3 hw h, dkV (dsD A X σ j) (View.readAt (Elt Ideal) A.m20.view (rwD v1 v3 hw h).toLoadRect (A.m20.view.writes (Elt Ideal) (A.h20.unread σ.x20) (wkD j)))⟩ :: wkD j

theorem stD_x15 : (stD c i A v1 v3 hw h X σ).x15 = A.m15.view.read (Elt Ideal) (A.m15.view.writes (Elt Ideal) A.m15.view.junk
    [wcD A X σ 7, wcD A X σ 6, wcD A X σ 5, wcD A X σ 4, wcD A X σ 3, wcD A X σ 2, wcD A X σ 1, wcD A X σ 0]) := by
  unfold stD putD runD
  dsimp only
  rfl

theorem stD_x17 : (stD c i A v1 v3 hw h X σ).x17 = A.m17.view.read (Elt Ideal) (A.m17.view.writes (Elt Ideal) A.m17.view.junk
    [⟨Rect.unit (s := S128x1024) ![0, 0] S128x1024.size inb_S128x1024_S128x1024_0_0, k0_pay5 (k0_pay74 (ldqt A σ) (ldk A X) (mdD A X σ))⟩]) := by
  unfold stD putD runD
  dsimp only
  rfl

theorem stD_x18 : (stD c i A v1 v3 hw h X σ).x18 = A.m18.view.read (Elt Ideal) (A.m18.view.writes (Elt Ideal) (A.h18.unread σ.x18)
    [⟨rwD v1 v3 hw h, k0_pay73 (View.readAt (Elt Ideal) A.m18.view (rwD v1 v3 hw h).toLoadRect (A.h18.unread σ.x18)) (mdD A X σ) (ldq A X)⟩]) := by
  unfold stD putD runD
  dsimp only
  rfl

theorem stD_x19 : (stD c i A v1 v3 hw h X σ).x19 = A.m19.view.read (Elt Ideal) (A.m19.view.writes (Elt Ideal) (A.h19.unread σ.x19)
    [⟨rwD v1 v3 hw h, k0_pay72 (View.readAt (Elt Ideal) A.m19.view (rwD v1 v3 hw h).toLoadRect (A.h19.unread σ.x19)) (mpD A X σ) (ldo A σ)⟩]) := by
  unfold stD putD runD
  dsimp only
  rfl

theorem stD_x20 : (stD c i A v1 v3 hw h X σ).x20 = A.m20.view.read (Elt Ideal) (A.m20.view.writes (Elt Ideal) (A.h20.unread σ.x20)
    (wkD A X σ v1 v3 hw h 8)) := by
  unfold stD putD runD
  dsimp only
  rfl

theorem stD_rest : (stD c i A v1 v3 hw h X σ).x25 = σ.x25 ∧ (stD c i A v1 v3 hw h X σ).x26 = σ.x26 ∧ (stD c i A v1 v3 hw h X σ).x27 = σ.x27 := by
  unfold stD putD
  exact ⟨rfl, rfl, rfl⟩

theorem outD_x12 (o : Out Ideal) : (outD c i A v1 v3 hw h X σ o).x12 = A.m12.view.read (Elt Ideal) (A.m12.view.writes (Elt Ideal) A.m12.view.junk
    [⟨Rect.unit (s := S1024x128) ![0, 0] S1024x128.size inb_S1024x128_S1024x128_0_0, k0_pay7 (F := Ideal) (A.m17.view.readCov
      [⟨Rect.unit (s := S128x1024) ![0, 0] S128x1024.size inb_S128x1024_S128x1024_0_0, k0_pay5 (k0_pay74 (ldqt A σ) (ldk A X) (mdD A X σ))⟩]
      (Rect.unit (s := S128x1024) ![0, 0] S128x1024.size inb_S128x1024_S128x1024_0_0).toLoadRect)⟩]) := by
  unfold outD putoD runD
  dsimp only
  rfl

theorem stA_eq : stA c i A σ = { σ with
    x18 := A.m18.view.read (Elt Ideal) (A.m18.view.writes (Elt Ideal) A.m18.view.junk [⟨Rect.unit (s := S4096x128) ![0, 0] S4096x128.size inb_S4096x128_S4096x128_0_0, k0_pay1 (F := Ideal)⟩]),
    x19 := A.m19.view.read (Elt Ideal) (A.m19.view.writes (Elt Ideal) A.m19.view.junk [⟨Rect.unit (s := S4096x128) ![0, 0] S4096x128.size inb_S4096x128_S4096x128_0_0, k0_pay2 (F := Ideal)⟩]),
    x20 := A.m20.view.read (Elt Ideal) (A.m20.view.writes (Elt Ideal) A.m20.view.junk [⟨Rect.unit (s := S4096x128) ![0, 0] S4096x128.size inb_S4096x128_S4096x128_0_0, k0_pay3 (F := Ideal)⟩]) } := by
  unfold stA putA runA
  dsimp only
  rfl

/-- The blocks that a query tile's first pair reads. -/
def lddy : Vec Ideal S1024x128 .f32 := View.readAt (Elt Ideal) A.m11.view (Rect.unit (s := S1024x128) ![0, 0] S1024x128.size inb_S1024x128_S1024x128_0_0).toLoadRect (A.h11.unread X.dy)
def ldy : Vec Ideal S1024x128 .f32 := View.readAt (Elt Ideal) A.m10.view (Rect.unit (s := S1024x128) ![0, 0] S1024x128.size inb_S1024x128_S1024x128_0_0).toLoadRect (A.h10.unread X.y)
def ldl : Vec Ideal S1x1x1024 .f32 := View.readAt (Elt Ideal) A.m9.view (Rect.unit (s := S1x1x1024) ![0, 0, 0] S1x1x1024.size inb_S1x1x1024_S1x1x1024_0_0_0).toLoadRect (A.h9.unread X.lse)
def ldc : Vec Ideal S1x1x1024 .f32 := View.readAt (Elt Ideal) A.m7.view (Rect.unit (s := S1x1x1024) ![0, 0, 0] S1x1x1024.size inb_S1x1x1024_S1x1x1024_0_0_0).toLoadRect (A.h7.unread X.c)

theorem stB_eq : stB c i A X σ = { σ with
    x15 := A.m15.view.read (Elt Ideal) (A.m15.view.writes (Elt Ideal) A.m15.view.junk [⟨Rect.unit (s := S1x1x1024) ![0, 0, 0] S1x1x1024.size inb_S1x1x1024_S1x1x1024_0_0_0, k0_pay4 (F := Ideal) k0_pay15⟩]),
    x17 := A.m17.view.read (Elt Ideal) (A.m17.view.writes (Elt Ideal) A.m17.view.junk [⟨Rect.unit (s := S128x1024) ![0, 0] S128x1024.size inb_S128x1024_S128x1024_0_0, k0_pay14 (F := Ideal)⟩]),
    x25 := A.m25.view.read (Elt Ideal) (A.m25.view.writes (Elt Ideal) A.m25.view.junk [⟨Rect.unit (s := S1024x128) ![0, 0] S1024x128.size inb_S1024x128_S1024x128_0_0, k0_pay13 (F := Ideal) (lddy A X)⟩]),
    x26 := A.m26.view.read (Elt Ideal) (A.m26.view.writes (Elt Ideal) A.m26.view.junk [⟨Rect.unit (s := S8x1024) ![0, 0] S8x1024.size inb_S8x1024_S8x1024_0_0, k0_pay11 (F := Ideal) (lddy A X) (ldy A X)⟩]),
    x27 := A.m27.view.read (Elt Ideal) (A.m27.view.writes (Elt Ideal) A.m27.view.junk [⟨Rect.unit (s := S1x1024) ![0, 0] S1x1024.size inb_S1x1024_S1x1024_0_0, k0_pay12 (F := Ideal) (ldl A X) (ldc A X)⟩]) } := by
  unfold stB putB runB
  dsimp only
  rfl

def ld18 : Vec Ideal S4096x128 .f32 := View.readAt (Elt Ideal) A.m18.view (Rect.unit (s := S4096x128) ![0, 0] S4096x128.size inb_S4096x128_S4096x128_0_0).toLoadRect (A.h18.unread σ.x18)
def ld19 : Vec Ideal S4096x128 .f32 := View.readAt (Elt Ideal) A.m19.view (Rect.unit (s := S4096x128) ![0, 0] S4096x128.size inb_S4096x128_S4096x128_0_0).toLoadRect (A.h19.unread σ.x19)
def ld20 : Vec Ideal S4096x128 .f32 := View.readAt (Elt Ideal) A.m20.view (Rect.unit (s := S4096x128) ![0, 0] S4096x128.size inb_S4096x128_S4096x128_0_0).toLoadRect (A.h20.unread σ.x20)

theorem outE_eq (o : Out Ideal) : outE c i A σ o = { o with
    x13 := A.m13.view.read (Elt Ideal) (A.m13.view.writes (Elt Ideal) A.m13.view.junk [⟨Rect.unit (s := S4096x128) ![0, 0] S4096x128.size inb_S4096x128_S4096x128_0_0, k0_pay8 (F := Ideal) (ld18 A σ)⟩]),
    x14 := A.m14.view.read (Elt Ideal) (A.m14.view.writes (Elt Ideal) A.m14.view.junk [⟨Rect.unit (s := S4096x128) ![0, 0] S4096x128.size inb_S4096x128_S4096x128_0_0, k0_pay9 (F := Ideal) (ld19 A σ)⟩]),
    x16 := A.m16.view.read (Elt Ideal) (A.m16.view.writes (Elt Ideal) A.m16.view.junk [⟨Rect.unit (s := S1x1x4096) ![0, 0, 0] S1x1x4096.size inb_S1x1x4096_S1x1x4096_0_0_0, k0_pay10 (F := Ideal) (ld20 A σ)⟩]) } := by
  unfold outE putoE runE
  dsimp only
  rfl

end Cert.Proof.KI

end
-- ==== Proof.Eval.lean ====
/-
  The updates' effect on the buffers, entry by entry, over the extended reals.
-/
module

public import proofs.«01_k».proof.Proof.UpdD
public import Idealize.ShloMosaic.Lib.Pipeline.Value
public import Idealize.ShloMosaic.Lib.VecWindow

@[expose] public section

noncomputable section

namespace Cert.Proof.KI

open Cert.KernelIdeal Cert.KernelIdeal.Gen

open Idealize.ShloMosaic
open Idealize.ShloMosaic.TcCoe Idealize.ShloMosaic.Tactic

variable (c : Dev nD) (i : grid0.Coords) (A : Args) (X : In Ideal) (σ : St Ideal)

/-- Column `l` of chunk `j`; the lane of a column; row `k` of key tile `n`. -/
def col (j : ℕ) (l : Fin 128) : Fin 1024 := ⟨128 * (j % 8) + l.val, by have := l.isLt; omega⟩
def lane (q : Fin 1024) : Fin 128 := ⟨q.val % 128, Nat.mod_lt _ (by decide)⟩
def row (n : Fin 4) (k : Fin 1024) : Fin 4096 := ⟨1024 * n.val + k.val, by have := n.isLt; have := k.isLt; omega⟩

theorem lane_col (j : ℕ) (l : Fin 128) : lane (col j l) = l := Fin.ext (by show (128 * (j % 8) + l.val) % 128 = l.val; have := l.isLt; omega)
theorem col_lane (q : Fin 1024) : col (q.val / 128) (lane q) = q :=
  Fin.ext (by show 128 * (q.val / 128 % 8) + q.val % 128 = q.val; have := q.isLt; omega)

/-- One probability: `b` says whether the causal mask cuts it. -/
def PM (b : Bool) (k q : Fin 1024) : EReal :=
  Ideal.exp2 ((if b = true → k.val ≤ q.val then (∑ e : Fin 128, X.k (ix2 k e) * X.q (ix2 q e)) * κ2 - X.ck (ix3 0 k (lane q)) * κl else ⊥) - σ.x27 (ix2 0 q))
/-- One entry of the scores' gradient. -/
def DM (b : Bool) (k q : Fin 1024) : EReal :=
  PM X σ b k q * ((∑ e : Fin 128, X.v (ix2 k e) * σ.x25 (ix2 q e)) - σ.x26 (ix2 0 q))
/-- The scale, as the constant's bits say it. -/
def cS : EReal := Ideal.ofBits .f32 0x3DB504F3#32

theorem idx_full {s : Shape} {off : Fin s.rank → ℕ} (inb : ∀ a, off a + s.size a ≤ s.size a) (x : s.Idx) : (Rect.unit off s.size inb).toLoadRect.idx x = x :=
  Rect.emb_unit_full inb x

theorem ldq_eq : ldq A X = X.q := by
  funext x; unfold ldq; rw [View.readAt_apply, Memref.IsWhole.read_unread]; exact congrArg X.q (idx_full _ x)
theorem ldk_eq : ldk A X = X.k := by
  funext x; unfold ldk; rw [View.readAt_apply, Memref.IsWhole.read_unread]; exact congrArg X.k (idx_full _ x)
theorem ldv_eq : ldv A X = X.v := by
  funext x; unfold ldv; rw [View.readAt_apply, Memref.IsWhole.read_unread]; exact congrArg X.v (idx_full _ x)
theorem ldck_eq : ldck A X = X.ck := by
  funext x; unfold ldck; rw [View.readAt_apply, Memref.IsWhole.read_unread]; exact congrArg X.ck (idx_full _ x)
theorem ldo_eq : ldo A σ = σ.x25 := by
  funext x; unfold ldo; rw [View.readAt_apply, Memref.IsWhole.read_unread]; exact congrArg σ.x25 (idx_full _ x)
theorem ldqt_eq : ldqt A σ = σ.x17 := by
  funext x; unfold ldqt; rw [View.readAt_apply, Memref.IsWhole.read_unread]; exact congrArg σ.x17 (idx_full _ x)
theorem lddy_eq : lddy A X = X.dy := by
  funext x; unfold lddy; rw [View.readAt_apply, Memref.IsWhole.read_unread]; exact congrArg X.dy (idx_full _ x)
theorem ldy_eq : ldy A X = X.y := by
  funext x; unfold ldy; rw [View.readAt_apply, Memref.IsWhole.read_unread]; exact congrArg X.y (idx_full _ x)
theorem ldl_eq : ldl A X = X.lse := by
  funext x; unfold ldl; rw [View.readAt_apply, Memref.IsWhole.read_unread]; exact congrArg X.lse (idx_full _ x)
theorem ldc_eq : ldc A X = X.c := by
  funext x; unfold ldc; rw [View.readAt_apply, Memref.IsWhole.read_unread]; exact congrArg X.c (idx_full _ x)
theorem ld18_eq : ld18 A σ = σ.x18 := by
  funext x; unfold ld18; rw [View.readAt_apply, Memref.IsWhole.read_unread]; exact congrArg σ.x18 (idx_full _ x)
theorem ld19_eq : ld19 A σ = σ.x19 := by
  funext x; unfold ld19; rw [View.readAt_apply, Memref.IsWhole.read_unread]; exact congrArg σ.x19 (idx_full _ x)
theorem ld20_eq : ld20 A σ = σ.x20 := by
  funext x; unfold ld20; rw [View.readAt_apply, Memref.IsWhole.read_unread]; exact congrArg σ.x20 (idx_full _ x)

theorem emb2 {a b : ℕ} {off size : Fin 2 → ℕ} (inb : ∀ d, off d + size d ≤ (![a, b] : Fin 2 → ℕ) d) (x : (Rect.unit (s := ⟨2, ![a, b]⟩) off size inb).shape.Idx)
    (r : Fin a) (l : Fin b) (h0 : off 0 + (x 0).val = r.val) (h1 : off 1 + (x 1).val = l.val) :
    (Rect.unit (s := ⟨2, ![a, b]⟩) off size inb).emb x = ix2 r l := by
  funext d
  match d with
  | ⟨0, _⟩ => exact Fin.ext (by show off 0 + 1 * (x 0).val = r.val; omega)
  | ⟨1, _⟩ => exact Fin.ext (by show off 1 + 1 * (x 1).val = l.val; omega)

theorem emb3 {a b d : ℕ} {off size : Fin 3 → ℕ} (inb : ∀ z, off z + size z ≤ (![a, b, d] : Fin 3 → ℕ) z) (x : (Rect.unit (s := ⟨3, ![a, b, d]⟩) off size inb).shape.Idx)
    (r : Fin a) (l : Fin b) (n : Fin d) (h0 : off 0 + (x 0).val = r.val) (h1 : off 1 + (x 1).val = l.val) (h2 : off 2 + (x 2).val = n.val) :
    (Rect.unit (s := ⟨3, ![a, b, d]⟩) off size inb).emb x = ix3 r l n := by
  funext z
  match z with
  | ⟨0, _⟩ => exact Fin.ext (by show off 0 + 1 * (x 0).val = r.val; omega)
  | ⟨1, _⟩ => exact Fin.ext (by show off 1 + 1 * (x 1).val = l.val; omega)
  | ⟨2, _⟩ => exact Fin.ext (by show off 2 + 1 * (x 2).val = n.val; omega)

theorem readAt_unread {S : Shape} {e : EltTy} {m : Memref sig .tc .vmem S e} (h : m.IsWhole) (x : S.Idx → Elt Ideal e) (r : Rect S) (y : r.shape.Idx) :
    View.readAt (Elt Ideal) m.view r.toLoadRect (h.unread x) y = x (r.emb y) := by
  rw [View.readAt_apply, Memref.IsWhole.read_unread]; rfl

theorem lddl_apply (j : ℕ) (l : Fin 128) : lddl A σ j (ix2 0 l) = σ.x26 (ix2 0 (col j l)) := by
  unfold lddl; rw [View.readAt_apply, Memref.IsWhole.read_unread]
  exact congrArg σ.x26 (emb2 (inb_8 j) (ix2 (n0 := 1) (n1 := 128) 0 l) 0 (col j l) rfl rfl)
theorem ldsh_apply (j : ℕ) (l : Fin 128) : ldsh A σ j (ix2 0 l) = σ.x27 (ix2 0 (col j l)) := by
  unfold ldsh; rw [View.readAt_apply, Memref.IsWhole.read_unread]
  exact congrArg σ.x27 (emb2 (inb_r j) (ix2 (n0 := 1) (n1 := 128) 0 l) 0 (col j l) rfl rfl)
theorem lddc_apply (j : ℕ) (l : Fin 128) : lddc A σ j (ix3 0 0 l) = σ.x15 (ix3 0 0 (col j l)) := by
  unfold lddc; rw [View.readAt_apply, Memref.IsWhole.read_unread]
  exact congrArg σ.x15 (emb3 (inb_3 j) (ix3 (n0 := 1) (n1 := 1) (n2 := 128) 0 0 l) 0 0 (col j l) rfl rfl rfl)

/-- One write of a whole buffer reads back as what was written. -/
theorem canon_whole {Val : EltTy → Type} {s : Shape} {e : EltTy} [∀ e, Nonempty (Val e)] {off : Fin s.rank → ℕ} (inb : ∀ a, off a + s.size a ≤ s.size a)
    (w : s.Idx → Val e) (y : s.Idx) : View.canon [(⟨Rect.unit off s.size inb, w⟩ : View.Piece Val s e)] y = w y := by
  have h := View.canon_cons_emb (Val := Val) (Rect.unit off s.size inb) w [] y
  rwa [Rect.emb_unit_full] at h

theorem chS_apply (j : ℕ) (k : Fin 1024) (l : Fin 128) : chS A X j (ix2 k l) = ∑ e : Fin 128, X.k (ix2 k e) * X.q (ix2 (col j l) e) := by
  unfold chS
  rw [View.readCov_eq_canon']
  refine (canon_whole _ _ _).trans ?_
  rw [show (Rect.unit (s := S1024x1024) ![0, 128 * (j % 8)] S1024x128.size (inb_c j)).toLoadRect.idx (ix2 k l) = ix2 k (col j l) from
    emb2 (inb_c j) (ix2 k l) k (col j l) (Nat.zero_add _) rfl, pay16_apply, ldk_eq, ldq_eq]
theorem chP_apply (j : ℕ) (k : Fin 1024) (l : Fin 128) : chP A X σ j (ix2 k l) = ∑ e : Fin 128, X.v (ix2 k e) * σ.x25 (ix2 (col j l) e) := by
  unfold chP
  rw [View.readCov_eq_canon']
  refine (canon_whole _ _ _).trans ?_
  rw [show (Rect.unit (s := S1024x1024) ![0, 128 * (j % 8)] S1024x128.size (inb_c j)).toLoadRect.idx (ix2 k l) = ix2 k (col j l) from
    emb2 (inb_c j) (ix2 k l) k (col j l) (Nat.zero_add _) rfl, pay16_apply, ldv_eq, ldo_eq]

/-- Eight writes that agree with one function. -/
theorem canon8 {Val : EltTy → Type} {s : Shape} {e : EltTy} [∀ e, Nonempty (Val e)] (w : ℕ → View.Piece Val s e) (W : s.Idx → Val e) (y : s.Idx) (j : ℕ) (hj : j < 8)
    (hw : ∀ j x, (w j).2 x = W ((w j).1.emb x)) (hy : y ∈ (w j).1.set) : View.canon [w 7, w 6, w 5, w 4, w 3, w 2, w 1, w 0] y = W y := by
  refine canon_agree W y _ (fun p hp => ?_) ⟨w j, ?_, hy⟩
  · simp only [List.mem_cons, List.not_mem_nil, or_false] at hp
    rcases hp with rfl | rfl | rfl | rfl | rfl | rfl | rfl | rfl <;> exact hw _
  · interval_cases j <;> simp

theorem off2_eq (n : Fin 4) : k0_off2 (BitVec.ofNat 32 n.val) = ![1024 * n.val, 0] := by
  fin_cases n <;> decide
theorem off3_eq (n : Fin 4) : k0_off3 (BitVec.ofNat 32 n.val) = ![1024 * n.val, 0] := by
  fin_cases n <;> decide

theorem prC_apply (j : ℕ) (k : Fin 1024) (l : Fin 128) : prC A X σ j (ix2 k l) = PM X σ false k (col j l) := by
  unfold prC PM
  rw [pC_apply, ldck_eq, chS_apply, ldsh_apply, lane_col]
  rw [if_pos (fun h => absurd h (by decide))]
theorem dsC_apply (j : ℕ) (k : Fin 1024) (l : Fin 128) : dsC A X σ j (ix2 k l) = DM X σ false k (col j l) := by
  unfold dsC DM
  rw [dsV_apply, prC_apply, chP_apply, lddl_apply]

theorem mpC_apply (k q : Fin 1024) : mpC A X σ (ix2 k q) = PM X σ false k q := by
  unfold mpC
  rw [View.readCov_eq_canon']
  show View.canon _ ((Rect.unit (s := S1024x1024) ![0, 0] S1024x1024.size inb_S1024x1024_S1024x1024_0_0).emb (ix2 k q)) = _
  rw [Rect.emb_unit_full]
  refine canon8 (wpC A X σ) (fun y => PM X σ false (y 0) (y 1)) (ix2 k q) (q.val / 128) (by have := q.isLt; omega) (fun j x => ?_) ?_
  · obtain ⟨k', l', rfl⟩ : ∃ (k' : Fin 1024) (l' : Fin 128), x = ix2 k' l' := ⟨x 0, x 1, eq_ix2 x⟩
    show rdV _ (ix2 k' l') = _
    rw [rdV_apply, prC_apply]
    show _ = PM X σ false ((Rect.unit (s := S1024x1024) ![0, 128 * (j % 8)] S1024x128.size (inb_c j)).emb (ix2 k' l') 0) ((Rect.unit (s := S1024x1024) ![0, 128 * (j % 8)] S1024x128.size (inb_c j)).emb (ix2 k' l') 1)
    rw [emb2 (inb_c j) (ix2 k' l') k' (col j l') (Nat.zero_add _) rfl]
    rfl
  · refine (Rect.mem_set_unit (inb := inb_c (q.val / 128))).2 (Fin.forall_fin_succ.2 ⟨⟨Nat.zero_le _, by show k.val < 0 + 1024; have := k.isLt; omega⟩, Fin.forall_fin_one.2 ?_⟩)
    show 128 * (q.val / 128 % 8) ≤ q.val ∧ q.val < 128 * (q.val / 128 % 8) + 128
    have := q.isLt; omega
theorem mdC_apply (k q : Fin 1024) : mdC A X σ (ix2 k q) = DM X σ false k q := by
  unfold mdC
  rw [View.readCov_eq_canon']
  show View.canon _ ((Rect.unit (s := S1024x1024) ![0, 0] S1024x1024.size inb_S1024x1024_S1024x1024_0_0).emb (ix2 k q)) = _
  rw [Rect.emb_unit_full]
  refine canon8 (wdC A X σ) (fun y => DM X σ false (y 0) (y 1)) (ix2 k q) (q.val / 128) (by have := q.isLt; omega) (fun j x => ?_) ?_
  · obtain ⟨k', l', rfl⟩ : ∃ (k' : Fin 1024) (l' : Fin 128), x = ix2 k' l' := ⟨x 0, x 1, eq_ix2 x⟩
    show rdV _ (ix2 k' l') = _
    rw [rdV_apply, dsC_apply]
    show _ = DM X σ false ((Rect.unit (s := S1024x1024) ![0, 128 * (j % 8)] S1024x128.size (inb_c j)).emb (ix2 k' l') 0) ((Rect.unit (s := S1024x1024) ![0, 128 * (j % 8)] S1024x128.size (inb_c j)).emb (ix2 k' l') 1)
    rw [emb2 (inb_c j) (ix2 k' l') k' (col j l') (Nat.zero_add _) rfl]
    rfl
  · refine (Rect.mem_set_unit (inb := inb_c (q.val / 128))).2 (Fin.forall_fin_succ.2 ⟨⟨Nat.zero_le _, by show k.val < 0 + 1024; have := k.isLt; omega⟩, Fin.forall_fin_one.2 ?_⟩)
    show 128 * (q.val / 128 % 8) ≤ q.val ∧ q.val < 128 * (q.val / 128 % 8) + 128
    have := q.isLt; omega

section
variable (v1 v3 : BitVec 32) (hw : k0_chk1 v1 v3) (h : k0_cond3 v1 v3 = 1#1)

theorem stC_15 (q : Fin 1024) : (stC c i A v1 v3 hw h X σ).x15 (ix3 0 0 q) = σ.x15 (ix3 0 0 q) + ∑ k : Fin 1024, DM X σ false k q := by
  rw [stC_x15, View.read_writes_junk_eq_canon]
  refine canon8 (wcC A X σ) (fun y => σ.x15 (ix3 0 0 (y 2)) + ∑ k : Fin 1024, DM X σ false k (y 2)) (ix3 0 0 q) (q.val / 128) (by have := q.isLt; omega) (fun j x => ?_) ?_
  · obtain ⟨l', rfl⟩ : ∃ (l' : Fin 128), x = ix3 (n0 := 1) (n1 := 1) 0 0 l' := ⟨x 2, funext fun a => match a with | ⟨0, _⟩ => Subsingleton.elim (α := Fin 1) _ _ | ⟨1, _⟩ => Subsingleton.elim (α := Fin 1) _ _ | ⟨2, _⟩ => rfl⟩
    show dcV _ _ (ix3 0 0 l') = _
    rw [dcV_apply, lddc_apply]
    simp only [dsC_apply]
    show _ = σ.x15 (ix3 0 0 ((Rect.unit (s := S1x1x1024) ![0, 0, 128 * (j % 8)] S1x1x128.size (inb_3 j)).emb (ix3 0 0 l') 2)) + ∑ k : Fin 1024, DM X σ false k ((Rect.unit (s := S1x1x1024) ![0, 0, 128 * (j % 8)] S1x1x128.size (inb_3 j)).emb (ix3 0 0 l') 2)
    rw [emb3 (inb_3 j) (ix3 (n0 := 1) (n1 := 1) (n2 := 128) 0 0 l') 0 0 (col j l') rfl rfl rfl]
    rfl
  · refine (Rect.mem_set_unit (inb := inb_3 (q.val / 128))).2 (Fin.forall_fin_succ.2 ⟨⟨Nat.zero_le _, by show 0 < 0 + 1; omega⟩, Fin.forall_fin_succ.2 ⟨⟨Nat.zero_le _, by show 0 < 0 + 1; omega⟩, Fin.forall_fin_one.2 ?_⟩⟩)
    show 128 * (q.val / 128 % 8) ≤ q.val ∧ q.val < 128 * (q.val / 128 % 8) + 128
    have := q.isLt; omega

theorem stC_17 (e : Fin 128) (q : Fin 1024) : (stC c i A v1 v3 hw h X σ).x17 (ix2 e q) = σ.x17 (ix2 e q) + cS * ∑ k : Fin 1024, X.k (ix2 k e) * DM X σ false k q := by
  rw [stC_x17, View.read_writes_junk_eq_canon]
  refine (canon_whole _ _ _).trans ?_
  rw [pay5_apply, pay74_apply, ldqt_eq, ldk_eq]
  simp only [mdC_apply]
  rfl

theorem rwC_emb (n : Fin 4) (hv : v3 = BitVec.ofNat 32 n.val) (k : Fin 1024) (e : Fin 128) : (rwC v1 v3 hw h).emb (ix2 k e) = ix2 (row n k) e := by
  subst hv
  exact emb2 _ (ix2 k e) (row n k) e (congrArg (· + k.val) (congrFun (off2_eq n) 0)) ((congrArg (· + e.val) (congrFun (off2_eq n) 1)).trans (Nat.zero_add _))
theorem rwC_off (n : Fin 4) (hv : v3 = BitVec.ofNat 32 n.val) (m : Fin 4) (hm : m ≠ n) (k : Fin 1024) (e : Fin 128) : ix2 (row m k) e ∉ (rwC v1 v3 hw h).set := by
  subst hv
  intro hy
  have h0 := Rect.mem_set_unit.1 hy 0
  have o : k0_off2 (BitVec.ofNat 32 n.val) 0 = 1024 * n.val := congrFun (off2_eq n) 0
  have h1 : k0_off2 (BitVec.ofNat 32 n.val) 0 ≤ 1024 * m.val + k.val ∧ 1024 * m.val + k.val < k0_off2 (BitVec.ofNat 32 n.val) 0 + 1024 := h0
  have := k.isLt
  exact hm (Fin.ext (by omega))

theorem stC_18 (n : Fin 4) (hv : v3 = BitVec.ofNat 32 n.val) (m : Fin 4) (k : Fin 1024) (e : Fin 128) :
    (stC c i A v1 v3 hw h X σ).x18 (ix2 (row m k) e) = if m = n then σ.x18 (ix2 (row m k) e) + cS * ∑ q : Fin 1024, DM X σ false k q * X.q (ix2 q e) else σ.x18 (ix2 (row m k) e) := by
  rw [stC_x18]
  split
  · next hm =>
    subst hm
    rw [← rwC_emb v1 v3 hw h m hv k e]
    refine (View.read_writes_cons_emb _ _ _ _ _ _).trans ?_
    refine (pay73_apply _ _ _ k e).trans ?_
    refine congrArg₂ (fun a b : EReal => a + b) (readAt_unread A.h18 σ.x18 (rwC v1 v3 hw h) (ix2 k e)) ?_
    simp only [mdC_apply, ldq_eq]
    rfl
  · next hm =>
    rw [View.writes_cons, View.read_slice_write_of_not_mem _ _ _ _ (by rw [Rect.map_emb_univ]; exact rwC_off v1 v3 hw h n hv m hm k e), View.writes_nil, Memref.IsWhole.read_unread]

theorem stC_19 (n : Fin 4) (hv : v3 = BitVec.ofNat 32 n.val) (m : Fin 4) (k : Fin 1024) (e : Fin 128) :
    (stC c i A v1 v3 hw h X σ).x19 (ix2 (row m k) e) = if m = n then σ.x19 (ix2 (row m k) e) + ∑ q : Fin 1024, PM X σ false k q * σ.x25 (ix2 q e) else σ.x19 (ix2 (row m k) e) := by
  rw [stC_x19]
  split
  · next hm =>
    subst hm
    rw [← rwC_emb v1 v3 hw h m hv k e]
    refine (View.read_writes_cons_emb _ _ _ _ _ _).trans ?_
    refine (pay72_apply _ _ _ k e).trans ?_
    refine congrArg₂ (fun a b : EReal => a + b) (readAt_unread A.h19 σ.x19 (rwC v1 v3 hw h) (ix2 k e)) ?_
    simp only [mpC_apply, ldo_eq]
  · next hm =>
    rw [View.writes_cons, View.read_slice_write_of_not_mem _ _ _ _ (by rw [Rect.map_emb_univ]; exact rwC_off v1 v3 hw h n hv m hm k e), View.writes_nil, Memref.IsWhole.read_unread]

theorem wkC_emb (k : Fin 1024) (l : Fin 128) (n : ℕ) :
    A.m20.view.read (Elt Ideal) (A.m20.view.writes (Elt Ideal) (A.h20.unread σ.x20) (wkC A X σ v1 v3 hw h n)) ((rwC v1 v3 hw h).emb (ix2 k l))
      = σ.x20 ((rwC v1 v3 hw h).emb (ix2 k l)) + ∑ j ∈ Finset.range n, DM X σ false k (col j l) := by
  induction n with
  | zero => rw [wkC, View.writes_nil, Memref.IsWhole.read_unread, Finset.sum_range_zero, add_zero]
  | succ n ih =>
    rw [wkC]
    refine (View.read_writes_cons_emb _ _ _ _ _ _).trans ?_
    refine (dkV_apply _ _ k l).trans ?_
    rw [Finset.sum_range_succ, ← add_assoc]
    exact congrArg₂ (fun a b : EReal => a + b) ih (dsC_apply A X σ n k l)
theorem wkC_off (y : S4096x128.Idx) (hy : y ∉ (rwC v1 v3 hw h).set) (n : ℕ) :
    A.m20.view.read (Elt Ideal) (A.m20.view.writes (Elt Ideal) (A.h20.unread σ.x20) (wkC A X σ v1 v3 hw h n)) y = σ.x20 y := by
  induction n with
  | zero => rw [wkC, View.writes_nil, Memref.IsWhole.read_unread]
  | succ n ih => rw [wkC, View.writes_cons, View.read_slice_write_of_not_mem _ _ _ _ (by rw [Rect.map_emb_univ]; exact hy), ih]

theorem stC_20 (n : Fin 4) (hv : v3 = BitVec.ofNat 32 n.val) (m : Fin 4) (k : Fin 1024) (l : Fin 128) :
    (stC c i A v1 v3 hw h X σ).x20 (ix2 (row m k) l) = if m = n then σ.x20 (ix2 (row m k) l) + ∑ j ∈ Finset.range 8, DM X σ false k (col j l) else σ.x20 (ix2 (row m k) l) := by
  rw [stC_x20]
  split
  · next hm =>
    subst hm
    rw [← rwC_emb v1 v3 hw h m hv k l, wkC_emb]
  · next hm => exact wkC_off A X σ v1 v3 hw h _ (rwC_off v1 v3 hw h n hv m hm k l) 8
end

theorem prD_apply (j : ℕ) (k : Fin 1024) (l : Fin 128) : prD A X σ j (ix2 k l) = PM X σ true k (col j l) := by
  unfold prD PM
  rw [pD_apply, ldck_eq, chS_apply, ldsh_apply, lane_col]
  exact congrArg (fun z => Ideal.exp2 (z - _)) (if_congr ⟨fun h _ => h, fun h => h rfl⟩ rfl rfl)
theorem dsD_apply (j : ℕ) (k : Fin 1024) (l : Fin 128) : dsD A X σ j (ix2 k l) = DM X σ true k (col j l) := by
  unfold dsD DM
  rw [dsV_apply, prD_apply, chP_apply, lddl_apply]

theorem mpD_apply (k q : Fin 1024) : mpD A X σ (ix2 k q) = PM X σ true k q := by
  unfold mpD
  rw [View.readCov_eq_canon']
  show View.canon _ ((Rect.unit (s := S1024x1024) ![0, 0] S1024x1024.size inb_S1024x1024_S1024x1024_0_0).emb (ix2 k q)) = _
  rw [Rect.emb_unit_full]
  refine canon8 (wpD A X σ) (fun y => PM X σ true (y 0) (y 1)) (ix2 k q) (q.val / 128) (by have := q.isLt; omega) (fun j x => ?_) ?_
  · obtain ⟨k', l', rfl⟩ : ∃ (k' : Fin 1024) (l' : Fin 128), x = ix2 k' l' := ⟨x 0, x 1, eq_ix2 x⟩
    show rdV _ (ix2 k' l') = _
    rw [rdV_apply, prD_apply]
    show _ = PM X σ true ((Rect.unit (s := S1024x1024) ![0, 128 * (j % 8)] S1024x128.size (inb_c j)).emb (ix2 k' l') 0) ((Rect.unit (s := S1024x1024) ![0, 128 * (j % 8)] S1024x128.size (inb_c j)).emb (ix2 k' l') 1)
    rw [emb2 (inb_c j) (ix2 k' l') k' (col j l') (Nat.zero_add _) rfl]
    rfl
  · refine (Rect.mem_set_unit (inb := inb_c (q.val / 128))).2 (Fin.forall_fin_succ.2 ⟨⟨Nat.zero_le _, by show k.val < 0 + 1024; have := k.isLt; omega⟩, Fin.forall_fin_one.2 ?_⟩)
    show 128 * (q.val / 128 % 8) ≤ q.val ∧ q.val < 128 * (q.val / 128 % 8) + 128
    have := q.isLt; omega
theorem mdD_apply (k q : Fin 1024) : mdD A X σ (ix2 k q) = DM X σ true k q := by
  unfold mdD
  rw [View.readCov_eq_canon']
  show View.canon _ ((Rect.unit (s := S1024x1024) ![0, 0] S1024x1024.size inb_S1024x1024_S1024x1024_0_0).emb (ix2 k q)) = _
  rw [Rect.emb_unit_full]
  refine canon8 (wdD A X σ) (fun y => DM X σ true (y 0) (y 1)) (ix2 k q) (q.val / 128) (by have := q.isLt; omega) (fun j x => ?_) ?_
  · obtain ⟨k', l', rfl⟩ : ∃ (k' : Fin 1024) (l' : Fin 128), x = ix2 k' l' := ⟨x 0, x 1, eq_ix2 x⟩
    show rdV _ (ix2 k' l') = _
    rw [rdV_apply, dsD_apply]
    show _ = DM X σ true ((Rect.unit (s := S1024x1024) ![0, 128 * (j % 8)] S1024x128.size (inb_c j)).emb (ix2 k' l') 0) ((Rect.unit (s := S1024x1024) ![0, 128 * (j % 8)] S1024x128.size (inb_c j)).emb (ix2 k' l') 1)
    rw [emb2 (inb_c j) (ix2 k' l') k' (col j l') (Nat.zero_add _) rfl]
    rfl
  · refine (Rect.mem_set_unit (inb := inb_c (q.val / 128))).2 (Fin.forall_fin_succ.2 ⟨⟨Nat.zero_le _, by show k.val < 0 + 1024; have := k.isLt; omega⟩, Fin.forall_fin_one.2 ?_⟩)
    show 128 * (q.val / 128 % 8) ≤ q.val ∧ q.val < 128 * (q.val / 128 % 8) + 128
    have := q.isLt; omega

section
variable (v1 v3 : BitVec 32) (hw : k0_chk1 v1 v3) (h : k0_cond4 v1 v3 = 1#1)

theorem stD_15 (q : Fin 1024) : (stD c i A v1 v3 hw h X σ).x15 (ix3 0 0 q) = σ.x15 (ix3 0 0 q) + ∑ k : Fin 1024, DM X σ true k q := by
  rw [stD_x15, View.read_writes_junk_eq_canon]
  refine canon8 (wcD A X σ) (fun y => σ.x15 (ix3 0 0 (y 2)) + ∑ k : Fin 1024, DM X σ true k (y 2)) (ix3 0 0 q) (q.val / 128) (by have := q.isLt; omega) (fun j x => ?_) ?_
  · obtain ⟨l', rfl⟩ : ∃ (l' : Fin 128), x = ix3 (n0 := 1) (n1 := 1) 0 0 l' := ⟨x 2, funext fun a => match a with | ⟨0, _⟩ => Subsingleton.elim (α := Fin 1) _ _ | ⟨1, _⟩ => Subsingleton.elim (α := Fin 1) _ _ | ⟨2, _⟩ => rfl⟩
    show dcV _ _ (ix3 0 0 l') = _
    rw [dcV_apply, lddc_apply]
    simp only [dsD_apply]
    show _ = σ.x15 (ix3 0 0 ((Rect.unit (s := S1x1x1024) ![0, 0, 128 * (j % 8)] S1x1x128.size (inb_3 j)).emb (ix3 0 0 l') 2)) + ∑ k : Fin 1024, DM X σ true k ((Rect.unit (s := S1x1x1024) ![0, 0, 128 * (j % 8)] S1x1x128.size (inb_3 j)).emb (ix3 0 0 l') 2)
    rw [emb3 (inb_3 j) (ix3 (n0 := 1) (n1 := 1) (n2 := 128) 0 0 l') 0 0 (col j l') rfl rfl rfl]
    rfl
  · refine (Rect.mem_set_unit (inb := inb_3 (q.val / 128))).2 (Fin.forall_fin_succ.2 ⟨⟨Nat.zero_le _, by show 0 < 0 + 1; omega⟩, Fin.forall_fin_succ.2 ⟨⟨Nat.zero_le _, by show 0 < 0 + 1; omega⟩, Fin.forall_fin_one.2 ?_⟩⟩)
    show 128 * (q.val / 128 % 8) ≤ q.val ∧ q.val < 128 * (q.val / 128 % 8) + 128
    have := q.isLt; omega

theorem stD_17 (e : Fin 128) (q : Fin 1024) : (stD c i A v1 v3 hw h X σ).x17 (ix2 e q) = σ.x17 (ix2 e q) + cS * ∑ k : Fin 1024, X.k (ix2 k e) * DM X σ true k q := by
  rw [stD_x17, View.read_writes_junk_eq_canon]
  refine (canon_whole _ _ _).trans ?_
  rw [pay5_apply, pay74_apply, ldqt_eq, ldk_eq]
  simp only [mdD_apply]
  rfl

theorem rwD_emb (n : Fin 4) (hv : v3 = BitVec.ofNat 32 n.val) (k : Fin 1024) (e : Fin 128) : (rwD v1 v3 hw h).emb (ix2 k e) = ix2 (row n k) e := by
  subst hv
  exact emb2 _ (ix2 k e) (row n k) e (congrArg (· + k.val) (congrFun (off3_eq n) 0)) ((congrArg (· + e.val) (congrFun (off3_eq n) 1)).trans (Nat.zero_add _))
theorem rwD_off (n : Fin 4) (hv : v3 = BitVec.ofNat 32 n.val) (m : Fin 4) (hm : m ≠ n) (k : Fin 1024) (e : Fin 128) : ix2 (row m k) e ∉ (rwD v1 v3 hw h).set := by
  subst hv
  intro hy
  have h0 := Rect.mem_set_unit.1 hy 0
  have o : k0_off3 (BitVec.ofNat 32 n.val) 0 = 1024 * n.val := congrFun (off3_eq n) 0
  have h1 : k0_off3 (BitVec.ofNat 32 n.val) 0 ≤ 1024 * m.val + k.val ∧ 1024 * m.val + k.val < k0_off3 (BitVec.ofNat 32 n.val) 0 + 1024 := h0
  have := k.isLt
  exact hm (Fin.ext (by omega))

theorem stD_18 (n : Fin 4) (hv : v3 = BitVec.ofNat 32 n.val) (m : Fin 4) (k : Fin 1024) (e : Fin 128) :
    (stD c i A v1 v3 hw h X σ).x18 (ix2 (row m k) e) = if m = n then σ.x18 (ix2 (row m k) e) + cS * ∑ q : Fin 1024, DM X σ true k q * X.q (ix2 q e) else σ.x18 (ix2 (row m k) e) := by
  rw [stD_x18]
  split
  · next hm =>
    subst hm
    rw [← rwD_emb v1 v3 hw h m hv k e]
    refine (View.read_writes_cons_emb _ _ _ _ _ _).trans ?_
    refine (pay73_apply _ _ _ k e).trans ?_
    refine congrArg₂ (fun a b : EReal => a + b) (readAt_unread A.h18 σ.x18 (rwD v1 v3 hw h) (ix2 k e)) ?_
    simp only [mdD_apply, ldq_eq]
    rfl
  · next hm =>
    rw [View.writes_cons, View.read_slice_write_of_not_mem _ _ _ _ (by rw [Rect.map_emb_univ]; exact rwD_off v1 v3 hw h n hv m hm k e), View.writes_nil, Memref.IsWhole.read_unread]

theorem stD_19 (n : Fin 4) (hv : v3 = BitVec.ofNat 32 n.val) (m : Fin 4) (k : Fin 1024) (e : Fin 128) :
    (stD c i A v1 v3 hw h X σ).x19 (ix2 (row m k) e) = if m = n then σ.x19 (ix2 (row m k) e) + ∑ q : Fin 1024, PM X σ true k q * σ.x25 (ix2 q e) else σ.x19 (ix2 (row m k) e) := by
  rw [stD_x19]
  split
  · next hm =>
    subst hm
    rw [← rwD_emb v1 v3 hw h m hv k e]
    refine (View.read_writes_cons_emb _ _ _ _ _ _).trans ?_
    refine (pay72_apply _ _ _ k e).trans ?_
    refine congrArg₂ (fun a b : EReal => a + b) (readAt_unread A.h19 σ.x19 (rwD v1 v3 hw h) (ix2 k e)) ?_
    simp only [mpD_apply, ldo_eq]
  · next hm =>
    rw [View.writes_cons, View.read_slice_write_of_not_mem _ _ _ _ (by rw [Rect.map_emb_univ]; exact rwD_off v1 v3 hw h n hv m hm k e), View.writes_nil, Memref.IsWhole.read_unread]

theorem wkD_emb (k : Fin 1024) (l : Fin 128) (n : ℕ) :
    A.m20.view.read (Elt Ideal) (A.m20.view.writes (Elt Ideal) (A.h20.unread σ.x20) (wkD A X σ v1 v3 hw h n)) ((rwD v1 v3 hw h).emb (ix2 k l))
      = σ.x20 ((rwD v1 v3 hw h).emb (ix2 k l)) + ∑ j ∈ Finset.range n, DM X σ true k (col j l) := by
  induction n with
  | zero => rw [wkD, View.writes_nil, Memref.IsWhole.read_unread, Finset.sum_range_zero, add_zero]
  | succ n ih =>
    rw [wkD]
    refine (View.read_writes_cons_emb _ _ _ _ _ _).trans ?_
    refine (dkV_apply _ _ k l).trans ?_
    rw [Finset.sum_range_succ, ← add_assoc]
    exact congrArg₂ (fun a b : EReal => a + b) ih (dsD_apply A X σ n k l)
theorem wkD_off (y : S4096x128.Idx) (hy : y ∉ (rwD v1 v3 hw h).set) (n : ℕ) :
    A.m20.view.read (Elt Ideal) (A.m20.view.writes (Elt Ideal) (A.h20.unread σ.x20) (wkD A X σ v1 v3 hw h n)) y = σ.x20 y := by
  induction n with
  | zero => rw [wkD, View.writes_nil, Memref.IsWhole.read_unread]
  | succ n ih => rw [wkD, View.writes_cons, View.read_slice_write_of_not_mem _ _ _ _ (by rw [Rect.map_emb_univ]; exact hy), ih]

theorem stD_20 (n : Fin 4) (hv : v3 = BitVec.ofNat 32 n.val) (m : Fin 4) (k : Fin 1024) (l : Fin 128) :
    (stD c i A v1 v3 hw h X σ).x20 (ix2 (row m k) l) = if m = n then σ.x20 (ix2 (row m k) l) + ∑ j ∈ Finset.range 8, DM X σ true k (col j l) else σ.x20 (ix2 (row m k) l) := by
  rw [stD_x20]
  split
  · next hm =>
    subst hm
    rw [← rwD_emb v1 v3 hw h m hv k l, wkD_emb]
  · next hm => exact wkD_off A X σ v1 v3 hw h _ (rwD_off v1 v3 hw h n hv m hm k l) 8
end

theorem outD_12 (v1 v3 : BitVec 32) (hw : k0_chk1 v1 v3) (h : k0_cond4 v1 v3 = 1#1) (o : Out Ideal) (q : Fin 1024) (e : Fin 128) :
    (outD c i A v1 v3 hw h X σ o).x12 (ix2 q e) = (stD c i A v1 v3 hw h X σ).x17 (ix2 e q) := by
  rw [outD_x12, stD_x17, View.read_writes_junk_eq_canon, View.read_writes_junk_eq_canon]
  refine (canon_whole _ _ _).trans ?_
  rw [pay7_apply, View.readCov_eq_canon']
  show View.canon _ ((Rect.unit (s := S128x1024) ![0, 0] S128x1024.size inb_S128x1024_S128x1024_0_0).emb (ix2 e q)) = _
  rw [Rect.emb_unit_full]

theorem stA_18 (y) : (stA c i A σ).x18 y = 0 := by
  rw [stA_eq]; dsimp only; rw [View.read_writes_junk_eq_canon]
  refine (canon_whole _ _ _).trans ?_
  obtain ⟨r, l, rfl⟩ : ∃ (r : Fin 4096) (l : Fin 128), y = ix2 r l := ⟨y 0, y 1, eq_ix2 y⟩
  pointwise [k0_pay1]
theorem stA_19 (y) : (stA c i A σ).x19 y = 0 := by
  rw [stA_eq]; dsimp only; rw [View.read_writes_junk_eq_canon]
  refine (canon_whole _ _ _).trans ?_
  obtain ⟨r, l, rfl⟩ : ∃ (r : Fin 4096) (l : Fin 128), y = ix2 r l := ⟨y 0, y 1, eq_ix2 y⟩
  pointwise [k0_pay2]
theorem stA_20 (y) : (stA c i A σ).x20 y = 0 := by
  rw [stA_eq]; dsimp only; rw [View.read_writes_junk_eq_canon]
  refine (canon_whole _ _ _).trans ?_
  obtain ⟨r, l, rfl⟩ : ∃ (r : Fin 4096) (l : Fin 128), y = ix2 r l := ⟨y 0, y 1, eq_ix2 y⟩
  pointwise [k0_pay3]

theorem stB_15 (q : Fin 1024) : (stB c i A X σ).x15 (ix3 0 0 q) = 0 := by
  rw [stB_eq]; dsimp only; rw [View.read_writes_junk_eq_canon]
  refine (canon_whole _ _ _).trans ?_
  pointwise [k0_pay4, k0_pay15]
theorem stB_17 (e : Fin 128) (q : Fin 1024) : (stB c i A X σ).x17 (ix2 e q) = 0 := by
  rw [stB_eq]; dsimp only; rw [View.read_writes_junk_eq_canon]
  refine (canon_whole _ _ _).trans ?_
  pointwise [k0_pay14]
theorem stB_25 (q : Fin 1024) (e : Fin 128) : (stB c i A X σ).x25 (ix2 q e) = X.dy (ix2 q e) := by
  rw [stB_eq]; dsimp only; rw [View.read_writes_junk_eq_canon]
  refine (canon_whole _ _ _).trans ?_
  rw [lddy_eq]
  pointwise [k0_pay13]
theorem stB_26 (q : Fin 1024) : (stB c i A X σ).x26 (ix2 0 q) = ∑ e : Fin 128, X.dy (ix2 q e) * X.y (ix2 q e) := by
  rw [stB_eq]; dsimp only; rw [View.read_writes_junk_eq_canon]
  refine (canon_whole _ _ _).trans ?_
  rw [lddy_eq, ldy_eq]
  exact pay11_apply _ _ _ _
theorem stB_27 (q : Fin 1024) : (stB c i A X σ).x27 (ix2 0 q) = (X.lse (ix3 0 0 q) - X.c (ix3 0 0 q)) * κl := by
  rw [stB_eq]; dsimp only; rw [View.read_writes_junk_eq_canon]
  refine (canon_whole _ _ _).trans ?_
  rw [ldl_eq, ldc_eq]
  exact pay12_apply _ _ _
theorem stA_rest : (stA c i A σ).x15 = σ.x15 ∧ (stA c i A σ).x17 = σ.x17 ∧ (stA c i A σ).x25 = σ.x25 ∧ (stA c i A σ).x26 = σ.x26 ∧ (stA c i A σ).x27 = σ.x27 := by
  rw [stA_eq]; exact ⟨rfl, rfl, rfl, rfl, rfl⟩
theorem stB_rest : (stB c i A X σ).x18 = σ.x18 ∧ (stB c i A X σ).x19 = σ.x19 ∧ (stB c i A X σ).x20 = σ.x20 := by
  rw [stB_eq]; exact ⟨rfl, rfl, rfl⟩

theorem outE_13 (o : Out Ideal) (r : Fin 4096) (e : Fin 128) : (outE c i A σ o).x13 (ix2 r e) = σ.x18 (ix2 r e) := by
  rw [outE_eq]; dsimp only; rw [View.read_writes_junk_eq_canon]
  refine (canon_whole _ _ _).trans ?_
  rw [ld18_eq]
  pointwise [k0_pay8]
theorem outE_14 (o : Out Ideal) (r : Fin 4096) (e : Fin 128) : (outE c i A σ o).x14 (ix2 r e) = σ.x19 (ix2 r e) := by
  rw [outE_eq]; dsimp only; rw [View.read_writes_junk_eq_canon]
  refine (canon_whole _ _ _).trans ?_
  rw [ld19_eq]
  pointwise [k0_pay9]
theorem outE_16 (o : Out Ideal) (r : Fin 4096) : (outE c i A σ o).x16 (ix3 0 0 r) = 0 - ∑ l : Fin 128, σ.x20 (ix2 r l) := by
  rw [outE_eq]; dsimp only; rw [View.read_writes_junk_eq_canon]
  refine (canon_whole _ _ _).trans ?_
  rw [ld20_eq]
  exact pay10_apply _ _

end Cert.Proof.KI

end
-- ==== Proof.Math.lean ====
module

public import proofs.«01_k».proof.Proof.Eval

@[expose] public section

/-! # The gradients of one head as real numbers

The rows `Q`, `K`, `W` of a head's queries, keys and values, the row `D` of the result's
gradient and the running sum `C` of the logarithms of the gates. `P` is the attention,
`dsr` the gradient of the logits; the five gradients are sums over these. -/

open Idealize.ShloMosaic Idealize.ShloMosaic.ValueIdx

namespace Cert.Proof.KI

noncomputable section

open Cert.KernelIdeal Cert.KernelIdeal.Gen

/-- The scale of the logits. -/
def sg : ℝ := 11863283 / 134217728

theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem coe_sum_mul {ι : Type*} (s : Finset ι) (f g : ι → ℝ) :
    (∑ i ∈ s, (f i : EReal) * (g i : EReal)) = ((∑ i ∈ s, f i * g i : ℝ) : EReal) := by
  rw [← coe_sum]; exact Finset.sum_congr rfl fun i _ => (EReal.coe_mul _ _).symm

theorem cS_coe : cS = ((sg : ℝ) : EReal) := by
  unfold cS sg
  have h1 : (0x3DB504F3#32).extractLsb' 31 1 = 0#1 := by decide
  simp only [Ideal.ofBits, Ideal.ieee, h1]
  norm_num [Nat.shiftRight_eq_div_pow]

/-- What a head is given. -/
structure Hd where
  Q : Fin 4096 → Fin 128 → ℝ
  K : Fin 4096 → Fin 128 → ℝ
  W : Fin 4096 → Fin 128 → ℝ
  D : Fin 4096 → Fin 128 → ℝ
  C : Fin 4096 → ℝ

namespace Hd

variable (z : Hd)

def lg (i j : Fin 4096) : ℝ := (∑ e, z.Q i e * z.K j e) * sg + (z.C i - z.C j)

def w (i j : Fin 4096) : ℝ := if j ≤ i then Real.exp (z.lg i j) else 0

def S (i : Fin 4096) : ℝ := ∑ j, z.w i j

def P (i j : Fin 4096) : ℝ := z.w i j / z.S i

def dp (i j : Fin 4096) : ℝ := ∑ e, z.D i e * z.W j e

def del (i : Fin 4096) : ℝ := ∑ j, z.P i j * z.dp i j

def dsr (i j : Fin 4096) : ℝ := z.P i j * (z.dp i j - z.del i)

def yv (i : Fin 4096) (e : Fin 128) : ℝ := ∑ j, z.P i j * z.W j e

def L (i : Fin 4096) : ℝ := Real.log (z.S i)

def dq (i : Fin 4096) (e : Fin 128) : ℝ := ∑ j, z.dsr i j * sg * z.K j e
def dk (j : Fin 4096) (e : Fin 128) : ℝ := ∑ i, z.dsr i j * sg * z.Q i e
def dv (j : Fin 4096) (e : Fin 128) : ℝ := ∑ i, z.P i j * z.D i e
def dcq (i : Fin 4096) : ℝ := ∑ j, z.dsr i j
def dck (j : Fin 4096) : ℝ := - ∑ i, z.dsr i j

theorem w_nonneg (i j : Fin 4096) : 0 ≤ z.w i j := by
  unfold w; split
  · exact (Real.exp_pos _).le
  · exact le_rfl

theorem S_pos (i : Fin 4096) : 0 < z.S i := by
  unfold S
  refine Finset.sum_pos' (fun j _ => z.w_nonneg i j) ⟨i, Finset.mem_univ _, ?_⟩
  unfold w; rw [if_pos le_rfl]; exact Real.exp_pos _

theorem P_of_not {i j : Fin 4096} (h : ¬ j ≤ i) : z.P i j = 0 := by
  unfold P w; rw [if_neg h, zero_div]

theorem dsr_of_not {i j : Fin 4096} (h : ¬ j ≤ i) : z.dsr i j = 0 := by
  unfold dsr; rw [z.P_of_not h, zero_mul]

/-- The saved logarithm gives the attention back. -/
theorem P_of_le {i j : Fin 4096} (h : j ≤ i) : z.P i j = Real.exp (z.lg i j - z.L i) := by
  unfold P w L; rw [if_pos h, Real.exp_sub, Real.exp_log (z.S_pos i)]

theorem sum_D_yv (i : Fin 4096) : ∑ e, z.D i e * z.yv i e = z.del i := by
  unfold yv del dp
  simp only [Finset.mul_sum]
  rw [Finset.sum_comm]
  refine Finset.sum_congr rfl fun j _ => Finset.sum_congr rfl fun e _ => by ring

/-! ## The softmax, shifted by any number -/

/-- The exponentials shifted by `M`. -/
def wM (M : ℝ) (i j : Fin 4096) : ℝ := if j ≤ i then Real.exp (z.lg i j - M) else 0

theorem wM_eq (M : ℝ) (i j : Fin 4096) : z.wM M i j = z.w i j * Real.exp (-M) := by
  unfold wM w; split
  · rw [← Real.exp_add, sub_eq_add_neg]
  · rw [zero_mul]

theorem sum_wM (M : ℝ) (i : Fin 4096) : ∑ j, z.wM M i j = z.S i * Real.exp (-M) := by
  unfold S; rw [Finset.sum_mul]; exact Finset.sum_congr rfl fun j _ => z.wM_eq M i j

theorem sum_wM_pos (M : ℝ) (i : Fin 4096) : 0 < ∑ j, z.wM M i j := by
  rw [sum_wM]; exact mul_pos (z.S_pos i) (Real.exp_pos _)

theorem wM_div (M : ℝ) (i j : Fin 4096) : z.wM M i j / (∑ j', z.wM M i j') = z.P i j := by
  rw [sum_wM, wM_eq, P, mul_div_mul_right _ _ (Real.exp_pos _).ne']

theorem log_sum_wM (M : ℝ) (i : Fin 4096) : M + Real.log (∑ j, z.wM M i j) = z.L i := by
  rw [sum_wM, Real.log_mul (z.S_pos i).ne' (Real.exp_pos _).ne', Real.log_exp, L]; ring

/-- The gradient of the logits through the quotient of the softmax. -/
theorem dsr_quot (M : ℝ) (i j : Fin 4096) :
    (z.dp i j / (∑ j', z.wM M i j')
        + -(∑ k, z.dp i k * (1 / ((∑ j', z.wM M i j') * (∑ j', z.wM M i j'))) * z.wM M i k))
      * z.wM M i j = z.dsr i j := by
  have hpos := z.sum_wM_pos M i
  have h1 : (∑ k, z.dp i k * (1 / ((∑ j', z.wM M i j') * (∑ j', z.wM M i j'))) * z.wM M i k)
      = z.del i / (∑ j', z.wM M i j') := by
    unfold del
    rw [Finset.sum_div]
    refine Finset.sum_congr rfl fun k _ => ?_
    rw [← z.wM_div M i k]
    field_simp
  rw [h1, dsr, ← z.wM_div M i j]
  field_simp
  ring

end Hd

end

end Cert.Proof.KI
-- ==== Proof.Real.lean ====
/-
  The heads' rows as the arguments give them, and the scalar steps from the extended reals to the reals.
-/
module

public import proofs.«01_k».proof.Proof.Math
public import Idealize.ShloMosaic.Lib.Pointwise

@[expose] public section

noncomputable section

namespace Cert.Proof

open Idealize.ShloMosaic

open KI (Hd sg cS)

theorem sc_drop {α : Type} {a b : ℕ} (x : (⟨3, ![a, b, 1]⟩ : Shape).Idx → α) (h) (p : Fin a) (q : Fin b) :
    shapeCast ⟨2, ![a, b]⟩ x h (ix2 p q) = x (ix3 p q 0) :=
  Idealize.ShloMosaic.shapeCast_apply _ _ _ _ (by rw [Shape.rowMajor_val_three, Shape.rowMajor_val_two]; simp)
theorem sc_add {α : Type} {a b : ℕ} (x : (⟨2, ![a, b]⟩ : Shape).Idx → α) (h) (p : Fin a) (q : Fin b) :
    shapeCast ⟨3, ![a, b, 1]⟩ x h (ix3 p q 0) = x (ix2 p q) :=
  Idealize.ShloMosaic.shapeCast_apply _ _ _ _ (by rw [Shape.rowMajor_val_three, Shape.rowMajor_val_two]; simp)
theorem sc_mid {α : Type} {a b : ℕ} (x : (⟨2, ![a, b]⟩ : Shape).Idx → α) (h) (p : Fin a) (q : Fin b) :
    shapeCast ⟨3, ![a, 1, b]⟩ x h (ix3 p 0 q) = x (ix2 p q) :=
  Idealize.ShloMosaic.shapeCast_apply _ _ _ _ (by rw [Shape.rowMajor_val_three, Shape.rowMajor_val_two]; simp)

theorem bot_bits : Ideal.ofBits .f32 0xFF800000#32 = ⊥ := by
  have h1 : (0xFF800000#32).extractLsb' 31 1 = 1#1 := by decide
  simp only [Ideal.ofBits, Ideal.ieee, h1]
  norm_num [Nat.shiftRight_eq_div_pow]
theorem one_bits : Ideal.ofBits .f32 0x3F800000#32 = ((1 : ℝ) : EReal) := by
  have h1 : (0x3F800000#32).extractLsb' 31 1 = 0#1 := by decide
  simp only [Ideal.ofBits, Ideal.ieee, h1]
  norm_num [Nat.shiftRight_eq_div_pow]

/-- A row's largest entry is a number when no entry is above all numbers and one is a number. -/
theorem max_real {n : ℕ} (f : Fin n → EReal) (hf : ∀ j, f j < ⊤) (i : Fin n) (hi : ⊥ < f i) :
    ∃ M : ℝ, Finset.fold max ⊥ f Finset.univ = ((M : ℝ) : EReal) := by
  have h1 : Finset.fold max ⊥ f Finset.univ < ⊤ := Finset.fold_max_lt _ |>.2 ⟨bot_lt_top, fun j _ => hf j⟩
  have h2 : ⊥ < Finset.fold max ⊥ f Finset.univ := Finset.lt_fold_max _ |>.2 (Or.inr ⟨i, Finset.mem_univ _, hi⟩)
  exact ⟨_, (EReal.coe_toReal h1.ne h2.ne').symm⟩

theorem sel_mask {α : Type} (i j : Fin 4096) (a b : α) :
    Scalar.select (IntOp.cmpi .sle (BitVec.ofNat 32 j.val) (BitVec.ofNat 32 i.val)) a b = if j ≤ i then a else b := by
  have hi := i.isLt
  have hj := j.isLt
  have h : (IntOp.cmpi .sle (BitVec.ofNat 32 j.val) (BitVec.ofNat 32 i.val)) = if j ≤ i then 1#1 else 0#1 := by
    have e : (BitVec.ofNat 32 j.val).sle (BitVec.ofNat 32 i.val) = decide (j ≤ i) := by
      rw [BitVec.sle_eq_decide, KI.toInt_small _ (by omega), KI.toInt_small _ (by omega)]
      exact decide_eq_decide.2 (by rw [Fin.le_def]; omega)
    show BitVec.ofBool ((BitVec.ofNat 32 j.val).sle (BitVec.ofNat 32 i.val)) = _
    rw [e]
    by_cases h : j ≤ i <;> simp [h]
  rw [h]
  by_cases h : j ≤ i
  · rw [if_pos h, if_pos h]; rfl
  · rw [if_neg h, if_neg h]; rfl

theorem div_real {a b : ℝ} (h : b ≠ 0) : Ideal.div (a : EReal) (b : EReal) = ((a / b : ℝ) : EReal) := by
  rw [Ideal.div_coe h, ← EReal.coe_mul, mul_one_div]

/-- The arguments' shapes. -/
abbrev A0 := FVec Ideal (⟨2, ![4096, 6144]⟩ : Shape) .bf16
abbrev A1 := FVec Ideal (⟨2, ![4096, 8]⟩ : Shape) .f32
abbrev A2 := FVec Ideal (⟨2, ![4096, 1024]⟩ : Shape) .f32

/-- Column `e` of head `h`, and the same in the array of the queries, keys and values. -/
def hc (h : Fin 8) (e : Fin 128) : Fin 1024 := ⟨h.val * 128 + e.val, by omega⟩
def qc (h : Fin 8) (e : Fin 128) : Fin 6144 := ⟨h.val * 128 + e.val, by omega⟩
def kc (h : Fin 8) (e : Fin 128) : Fin 6144 := ⟨1024 + (h.val * 128 + e.val), by omega⟩
def vc (h : Fin 8) (e : Fin 128) : Fin 6144 := ⟨2048 + (h.val * 128 + e.val), by omega⟩

/-- Every entry used is a number. -/
structure Num (a0 : A0) (a1 : A1) (a2 : A2) : Prop where
  q : ∀ (i : Fin 4096) (n : Fin 6144), n.val < 3072 → ∃ r : ℝ, a0 (ix2 i n) = ((r : ℝ) : EReal)
  c : ∀ (i : Fin 4096) (h : Fin 8), ∃ r : ℝ, a1 (ix2 i h) = ((r : ℝ) : EReal)
  d : ∀ (i : Fin 4096) (n : Fin 1024), ∃ r : ℝ, a2 (ix2 i n) = ((r : ℝ) : EReal)

/-- A head's rows. -/
def zOf (a0 : A0) (a1 : A1) (a2 : A2) (h : Fin 8) : Hd where
  Q i e := EReal.toReal (a0 (ix2 i (qc h e)))
  K i e := EReal.toReal (a0 (ix2 i (kc h e)))
  W i e := EReal.toReal (a0 (ix2 i (vc h e)))
  D i e := EReal.toReal (a2 (ix2 i (hc h e)))
  C i := EReal.toReal (a1 (ix2 i h))

variable {a0 : A0} {a1 : A1} {a2 : A2} (hn : Num a0 a1 a2) (h : Fin 8) (i j : Fin 4096) (e : Fin 128)
include hn

theorem q_eq : a0 (ix2 i (qc h e)) = (((zOf a0 a1 a2 h).Q i e : ℝ) : EReal) := by
  obtain ⟨r, hr⟩ := hn.q i (qc h e) (by show h.val * 128 + e.val < _; omega)
  show _ = ((EReal.toReal (a0 (ix2 i (qc h e))) : ℝ) : EReal)
  rw [hr]; rfl
theorem k_eq : a0 (ix2 i (kc h e)) = (((zOf a0 a1 a2 h).K i e : ℝ) : EReal) := by
  obtain ⟨r, hr⟩ := hn.q i (kc h e) (by show 1024 + (h.val * 128 + e.val) < _; omega)
  show _ = ((EReal.toReal (a0 (ix2 i (kc h e))) : ℝ) : EReal)
  rw [hr]; rfl
theorem v_eq : a0 (ix2 i (vc h e)) = (((zOf a0 a1 a2 h).W i e : ℝ) : EReal) := by
  obtain ⟨r, hr⟩ := hn.q i (vc h e) (by show 2048 + (h.val * 128 + e.val) < _; omega)
  show _ = ((EReal.toReal (a0 (ix2 i (vc h e))) : ℝ) : EReal)
  rw [hr]; rfl
theorem d_eq : a2 (ix2 i (hc h e)) = (((zOf a0 a1 a2 h).D i e : ℝ) : EReal) := by
  obtain ⟨r, hr⟩ := hn.d i (hc h e)
  show _ = ((EReal.toReal (a2 (ix2 i (hc h e))) : ℝ) : EReal)
  rw [hr]; rfl
theorem c_eq : a1 (ix2 i h) = (((zOf a0 a1 a2 h).C i : ℝ) : EReal) := by
  obtain ⟨r, hr⟩ := hn.c i h
  show _ = ((EReal.toReal (a1 (ix2 i h)) : ℝ) : EReal)
  rw [hr]; rfl

omit hn

/-- The masked logits of a head. -/
def msk (z : Hd) (i j : Fin 4096) : EReal := if j ≤ i then ((z.lg i j : ℝ) : EReal) else ⊥

theorem lg_eq (z : Hd) (i j : Fin 4096) (s : EReal) (hs : s = ((∑ e, z.Q i e * z.K j e : ℝ) : EReal)) :
    (if j ≤ i then s * Ideal.ofBits .f32 0x3DB504F3#32 + (((z.C i : ℝ) : EReal) - ((z.C j : ℝ) : EReal)) else Ideal.ofBits .f32 0xFF800000#32) = msk z i j := by
  unfold msk
  rw [bot_bits, hs, show Ideal.ofBits .f32 0x3DB504F3#32 = ((sg : ℝ) : EReal) from KI.cS_coe, ← EReal.coe_mul, ← EReal.coe_sub, ← EReal.coe_add]
  rfl

theorem max_msk (z : Hd) (i : Fin 4096) : ∃ M : ℝ, Finset.fold max ⊥ (msk z i) Finset.univ = ((M : ℝ) : EReal) := by
  refine max_real _ (fun j => ?_) i ?_
  · unfold msk; split
    · exact EReal.coe_lt_top _
    · exact bot_lt_top
  · unfold msk; rw [if_pos le_rfl]; exact EReal.bot_lt_coe _

theorem exp_msk (z : Hd) (M : ℝ) (i j : Fin 4096) : Ideal.exp (msk z i j - (M : EReal)) = ((z.wM M i j : ℝ) : EReal) := by
  unfold msk Hd.wM; split
  · rw [← EReal.coe_sub, Ideal.exp_coe]
  · rw [EReal.bot_sub]; rfl

end Cert.Proof

end
-- ==== Proof.Pre.lean ====
/-
  What the precondition says of the arguments: every entry is a number.
-/
module

public import proofs.«01_k».proof.Pre_finite
public import proofs.«01_k».proof.Proof.Real

@[expose] public section

noncomputable section

namespace Cert.Proof

open Idealize.ShloMosaic
open Cert.Pre_finite
open Cert.Pre_finite.Facts

theorem inf_bits : Ideal.ofBits .f32 0x7F800000#32 = ⊤ := by
  have h1 : (0x7F800000#32).extractLsb' 31 1 = 0#1 := by decide
  simp only [Ideal.ofBits, Ideal.ieee, h1]
  norm_num [Nat.shiftRight_eq_div_pow]

/-- What is below infinity in absolute value is a number. -/
theorem num_of_lt (x : EReal) (h : Ideal.cmp .olt (max x (-x)) (Ideal.ofBits .f32 0x7F800000#32) = 1#1) : ∃ r : ℝ, x = ((r : ℝ) : EReal) := by
  rw [inf_bits] at h
  induction x with
  | bot => rw [EReal.neg_bot, max_eq_right bot_le] at h; simp [Ideal.cmp] at h
  | top => rw [EReal.neg_top, max_eq_left bot_le] at h; simp [Ideal.cmp] at h
  | coe r => exact ⟨r, rfl⟩

section
variable [Facts]

theorem p0 (a0 : A0) (i : Fin 4096) (n : Fin 3072) :
    cmpf .olt (Host.absf (extf .f32 (extractStridedSlice S4096x3072 ![0, 0] a0 slices_S4096x6144_S4096x3072_0_0) bitsLt_bf16_f32)) (broadcastInDim S4096x3072 ![] bcast_S_S4096x3072 (constant S_ .f32 0x7F800000#32)) (ix2 i n)
    = Ideal.cmp .olt (max (a0 (ix2 i ⟨n.val, by omega⟩) : EReal) (-(a0 (ix2 i ⟨n.val, by omega⟩) : EReal))) (Ideal.ofBits .f32 0x7F800000#32) := by
  pointwise
  rfl
theorem p1 (a1 : A1) (i : Fin 4096) (h : Fin 8) :
    cmpf .olt (Host.absf a1) (broadcastInDim S4096x8 ![] bcast_S_S4096x8 (constant S_ .f32 0x7F800000#32)) (ix2 i h)
    = Ideal.cmp .olt (max (a1 (ix2 i h) : EReal) (-(a1 (ix2 i h) : EReal))) (Ideal.ofBits .f32 0x7F800000#32) := by
  pointwise
  rfl
theorem p2 (a2 : A2) (i : Fin 4096) (n : Fin 1024) :
    cmpf .olt (Host.absf a2) (broadcastInDim S4096x1024 ![] bcast_S_S4096x1024 (constant S_ .f32 0x7F800000#32)) (ix2 i n)
    = Ideal.cmp .olt (max (a2 (ix2 i n) : EReal) (-(a2 (ix2 i n) : EReal))) (Ideal.ofBits .f32 0x7F800000#32) := by
  pointwise
  rfl

theorem num_of_pre (a0 : A0) (a1 : A1) (a2 : A2) (h : (fn (F := Ideal) a0 a1 a2).1 = (fun _ => 1#1)
    ∧ (fn (F := Ideal) a0 a1 a2).2.1 = (fun _ => 1#1) ∧ (fn (F := Ideal) a0 a1 a2).2.2 = (fun _ => 1#1)) : Num a0 a1 a2 where
  q i n hn := num_of_lt _ ((p0 a0 i ⟨n.val, hn⟩).symm.trans (congrFun h.1 (ix2 i ⟨n.val, hn⟩)))
  c i k := num_of_lt _ ((p1 a1 i k).symm.trans (congrFun h.2.1 (ix2 i k)))
  d i n := num_of_lt _ ((p2 a2 i n).symm.trans (congrFun h.2.2 (ix2 i n)))

end

end Cert.Proof

end
-- ==== Proof.Inv.lean ====
/-
  What the scratch holds after a pair of tiles: the sums over the tiles met so far.
-/
module

public import proofs.«01_k».proof.Proof.Math

@[expose] public section

noncomputable section

namespace Cert.Proof.KI

open Cert.KernelIdeal Cert.KernelIdeal.Gen

open Idealize.ShloMosaic
open Idealize.ShloMosaic.TcCoe Idealize.ShloMosaic.Tactic

/-- The query tile and the key tile of pair `p`. -/
def QT : ℕ → Fin 4
  | 0 => 0 | 1 => 1 | 2 => 1 | 3 => 2 | 4 => 2 | 5 => 2 | _ => 3
def KT : ℕ → Fin 4
  | 0 => 0 | 1 => 0 | 2 => 1 | 3 => 0 | 4 => 1 | 5 => 2 | 6 => 0 | 7 => 1 | 8 => 2 | _ => 3
/-- The tile of a number. -/
def mN (x : ℕ) : Fin 4 := ⟨x % 4, Nat.mod_lt _ (by decide)⟩

theorem mN_val (n : Fin 4) : mN n.val = n := Fin.ext (Nat.mod_eq_of_lt n.isLt)

variable (z : Hd)

/-- The contributions of query tile `n` to the gradients of key tile `m`, -/
def gk (n m : Fin 4) (k : Fin 1024) (e : Fin 128) : ℝ := sg * ∑ q, z.dsr (row n q) (row m k) * z.Q (row n q) e
def gv (n m : Fin 4) (k : Fin 1024) (e : Fin 128) : ℝ := ∑ q, z.P (row n q) (row m k) * z.D (row n q) e
def gc (n m : Fin 4) (k : Fin 1024) (l : Fin 128) : ℝ := ∑ j ∈ Finset.range 8, z.dsr (row n (col j l)) (row m k)
/-- and of key tile `m` to those of query tile `n`. -/
def gq (n m : Fin 4) (e : Fin 128) (q : Fin 1024) : ℝ := sg * ∑ k, z.K (row m k) e * z.dsr (row n q) (row m k)
def gr (n m : Fin 4) (q : Fin 1024) : ℝ := ∑ k, z.dsr (row n q) (row m k)

/-- What the blocks hold at query tile `n` and key tile `m`. -/
structure Reads (n m : Fin 4) (X : In Ideal) : Prop where
  q : ∀ q e, X.q (ix2 q e) = ((z.Q (row n q) e : ℝ) : EReal)
  k : ∀ k e, X.k (ix2 k e) = ((z.K (row m k) e : ℝ) : EReal)
  v : ∀ k e, X.v (ix2 k e) = ((z.W (row m k) e : ℝ) : EReal)
  c : ∀ q, X.c (ix3 0 0 q) = ((z.C (row n q) : ℝ) : EReal)
  ck : ∀ k l, X.ck (ix3 0 k l) = ((z.C (row m k) : ℝ) : EReal)
  lse : ∀ q, X.lse (ix3 0 0 q) = ((z.L (row n q) : ℝ) : EReal)
  y : ∀ q e, X.y (ix2 q e) = ((z.yv (row n q) e : ℝ) : EReal)
  dy : ∀ q e, X.dy (ix2 q e) = ((z.D (row n q) e : ℝ) : EReal)

/-- The buffers filled over a head's pairs, after `r` of them. -/
structure Acc (r : ℕ) (σ : St Ideal) : Prop where
  x18 : ∀ m k e, σ.x18 (ix2 (row m k) e) = ((∑ p ∈ Finset.range r, (if KT p = m then gk z (QT p) m k e else 0) : ℝ) : EReal)
  x19 : ∀ m k e, σ.x19 (ix2 (row m k) e) = ((∑ p ∈ Finset.range r, (if KT p = m then gv z (QT p) m k e else 0) : ℝ) : EReal)
  x20 : ∀ m k l, σ.x20 (ix2 (row m k) l) = ((∑ p ∈ Finset.range r, (if KT p = m then gc z (QT p) m k l else 0) : ℝ) : EReal)

/-- The buffers filled over a query tile's pairs, after `mm` of them. -/
structure Row (n : Fin 4) (mm : ℕ) (σ : St Ideal) : Prop where
  x15 : ∀ q, σ.x15 (ix3 0 0 q) = ((∑ p ∈ Finset.range mm, gr z n (mN p) q : ℝ) : EReal)
  x17 : ∀ e q, σ.x17 (ix2 e q) = ((∑ p ∈ Finset.range mm, gq z n (mN p) e q : ℝ) : EReal)

/-- The buffers filled at a query tile's first pair. -/
structure Qry (n : Fin 4) (σ : St Ideal) : Prop where
  x25 : ∀ q e, σ.x25 (ix2 q e) = ((z.D (row n q) e : ℝ) : EReal)
  x26 : ∀ q, σ.x26 (ix2 0 q) = ((z.del (row n q) : ℝ) : EReal)
  x27 : ∀ q, σ.x27 (ix2 0 q) = (((z.L (row n q) - z.C (row n q)) * (Real.log 2)⁻¹ : ℝ) : EReal)

variable {z}

theorem κ2_coe : κ2 = ((sg * (Real.log 2)⁻¹ : ℝ) : EReal) := rfl
theorem κl_coe : κl = (((Real.log 2)⁻¹ : ℝ) : EReal) := rfl

theorem two_rpow (x : ℝ) : Real.rpow 2 (x * (Real.log 2)⁻¹) = Real.exp x := by
  have h2 : Real.log 2 ≠ 0 := (Real.log_pos (by norm_num)).ne'
  show (2 : ℝ) ^ (x * (Real.log 2)⁻¹) = _
  rw [Real.rpow_def_of_pos (by norm_num)]
  congr 1; field_simp

/-- The pair of tiles is below the diagonal, or on it with the mask. -/
def Pair (b : Bool) (n m : Fin 4) : Prop := (b = false ∧ m.val < n.val) ∨ (b = true ∧ m = n)

variable {n m : Fin 4} {b : Bool} {X : In Ideal} {σ σ' : St Ideal}

theorem le_iff (hb : Pair b n m) (k q : Fin 1024) : (row m k ≤ row n q) ↔ (b = true → k.val ≤ q.val) := by
  have hk := k.isLt
  rcases hb with ⟨rfl, h⟩ | ⟨rfl, rfl⟩
  · simp only [Bool.false_eq_true, false_imp_iff, iff_true]
    show 1024 * m.val + k.val ≤ 1024 * n.val + q.val
    omega
  · simp only [true_imp_iff]
    show 1024 * m.val + k.val ≤ 1024 * m.val + q.val ↔ _
    omega

theorem PM_eq (hb : Pair b n m) (hX : Reads z n m X) (hQ : Qry z n σ) (k q : Fin 1024) :
    PM X σ b k q = ((z.P (row n q) (row m k) : ℝ) : EReal) := by
  unfold PM
  rw [hQ.x27]
  by_cases h : b = true → k.val ≤ q.val
  · rw [if_pos h, z.P_of_le ((le_iff hb k q).2 h), hX.ck, κ2_coe, κl_coe]
    simp only [hX.k, hX.q]
    rw [coe_sum_mul, ← EReal.coe_mul, ← EReal.coe_mul, ← EReal.coe_sub, ← EReal.coe_sub, Ideal.exp2_coe, ← two_rpow]
    congr 2
    unfold Hd.lg
    rw [Finset.sum_congr rfl fun e _ => mul_comm (z.K (row m k) e) (z.Q (row n q) e)]
    ring
  · rw [if_neg h, z.P_of_not (fun h' => h ((le_iff hb k q).1 h'))]
    rw [EReal.bot_sub]; rfl

theorem DM_eq (hb : Pair b n m) (hX : Reads z n m X) (hQ : Qry z n σ) (k q : Fin 1024) :
    DM X σ b k q = ((z.dsr (row n q) (row m k) : ℝ) : EReal) := by
  unfold DM
  rw [PM_eq hb hX hQ, hQ.x26]
  simp only [hX.v, hQ.x25]
  rw [coe_sum_mul, ← EReal.coe_sub, ← EReal.coe_mul]
  unfold Hd.dsr Hd.dp
  rw [Finset.sum_congr rfl fun e _ => mul_comm (z.W (row m k) e) (z.D (row n q) e)]

/-- One pair more. -/
theorem upd_acc {r : ℕ} (hb : Pair b n m) (hn : QT r = n) (hm : KT r = m) (hX : Reads z n m X) (hQ : Qry z n σ) (hA : Acc z r σ)
    (h18 : ∀ m' k e, σ'.x18 (ix2 (row m' k) e) = if m' = m then σ.x18 (ix2 (row m' k) e) + cS * ∑ q : Fin 1024, DM X σ b k q * X.q (ix2 q e) else σ.x18 (ix2 (row m' k) e))
    (h19 : ∀ m' k e, σ'.x19 (ix2 (row m' k) e) = if m' = m then σ.x19 (ix2 (row m' k) e) + ∑ q : Fin 1024, PM X σ b k q * σ.x25 (ix2 q e) else σ.x19 (ix2 (row m' k) e))
    (h20 : ∀ m' k l, σ'.x20 (ix2 (row m' k) l) = if m' = m then σ.x20 (ix2 (row m' k) l) + ∑ j ∈ Finset.range 8, DM X σ b k (col j l) else σ.x20 (ix2 (row m' k) l)) :
    Acc z (r + 1) σ' where
  x18 m' k e := by
    rw [h18, Finset.sum_range_succ, hm, hn, hA.x18]
    by_cases h : m' = m
    · subst h
      rw [if_pos rfl, if_pos rfl]
      simp only [DM_eq hb hX hQ, hX.q]
      rw [coe_sum_mul, cS_coe, ← EReal.coe_mul, ← EReal.coe_add]; rfl
    · rw [if_neg h, if_neg (Ne.symm h), add_zero]
  x19 m' k e := by
    rw [h19, Finset.sum_range_succ, hm, hn, hA.x19]
    by_cases h : m' = m
    · subst h
      rw [if_pos rfl, if_pos rfl]
      simp only [PM_eq hb hX hQ, hQ.x25]
      rw [coe_sum_mul, ← EReal.coe_add]; rfl
    · rw [if_neg h, if_neg (Ne.symm h), add_zero]
  x20 m' k l := by
    rw [h20, Finset.sum_range_succ _ r, hm, hn, hA.x20]
    by_cases h : m' = m
    · subst h
      rw [if_pos rfl, if_pos rfl]
      simp only [DM_eq hb hX hQ]
      rw [coe_sum, ← EReal.coe_add]; rfl
    · rw [if_neg h, if_neg (Ne.symm h), add_zero]

theorem upd_row (hb : Pair b n m) (hX : Reads z n m X) (hQ : Qry z n σ) (hR : Row z n m.val σ)
    (h15 : ∀ q, σ'.x15 (ix3 0 0 q) = σ.x15 (ix3 0 0 q) + ∑ k : Fin 1024, DM X σ b k q)
    (h17 : ∀ e q, σ'.x17 (ix2 e q) = σ.x17 (ix2 e q) + cS * ∑ k : Fin 1024, X.k (ix2 k e) * DM X σ b k q) :
    Row z n (m.val + 1) σ' where
  x15 q := by
    rw [h15, Finset.sum_range_succ, hR.x15, mN_val]
    simp only [DM_eq hb hX hQ]
    rw [coe_sum, ← EReal.coe_add]; rfl
  x17 e q := by
    rw [h17, Finset.sum_range_succ, hR.x17, mN_val]
    simp only [DM_eq hb hX hQ, hX.k]
    rw [coe_sum_mul, cS_coe, ← EReal.coe_mul, ← EReal.coe_add]; rfl

/-! ## The body's regions -/

variable (c : Dev nD) (i : grid0.Coords) (A : Args) (v1 v3 : BitVec 32) (hw : k0_chk1 v1 v3)

theorem initA_acc_zero (σ : St Ideal) (h : cond1 i = 1#1) : Acc z 0 (initA c i A σ) := by
  unfold initA; rw [if_pos h]
  exact ⟨fun m k e => by rw [stA_18]; simp, fun m k e => by rw [stA_19]; simp, fun m k e => by rw [stA_20]; simp⟩

theorem initB_acc {r : ℕ} (σ : St Ideal) (hA : Acc z r (initA c i A σ)) : Acc z r (initB c i A v3 X σ) := by
  unfold initB; split
  · have := stB_rest c i A X (initA c i A σ)
    exact ⟨fun m k e => by rw [this.1]; exact hA.x18 m k e, fun m k e => by rw [this.2.1]; exact hA.x19 m k e,
      fun m k e => by rw [this.2.2]; exact hA.x20 m k e⟩
  · exact hA

theorem initB_row (σ : St Ideal) (h : k0_cond2 v3 = 1#1) : Row z n 0 (initB c i A v3 X σ) := by
  unfold initB; rw [if_pos h]
  exact ⟨fun q => by rw [stB_15]; simp, fun e q => by rw [stB_17]; simp⟩

theorem initB_qry (σ : St Ideal) (h : k0_cond2 v3 = 1#1) (hX : Reads z n m X) : Qry z n (initB c i A v3 X σ) := by
  unfold initB; rw [if_pos h]
  refine ⟨fun q e => ?_, fun q => ?_, fun q => ?_⟩
  · rw [stB_25]; exact hX.dy q e
  · rw [stB_26]; simp only [hX.dy, hX.y]; rw [coe_sum_mul, z.sum_D_yv]
  · rw [stB_27, hX.lse, hX.c, κl_coe, ← EReal.coe_sub, ← EReal.coe_mul]

/-- After a pair, from what it found before its own update. -/
theorem step_inv {r : ℕ} (σ : St Ideal) (hv : v3 = BitVec.ofNat 32 m.val) (hn : QT r = n) (hm : KT r = m)
    (h3 : k0_cond3 v1 v3 = 1#1 ↔ m.val < n.val) (h4 : k0_cond4 v1 v3 = 1#1 ↔ m = n) (hle : m.val ≤ n.val) (hX : Reads z n m X)
    (hA : Acc z r (initB c i A v3 X σ)) (hR : Row z n m.val (initB c i A v3 X σ)) (hQ : Qry z n (initB c i A v3 X σ)) :
    Acc z (r + 1) (step c i A v1 v3 hw X σ) ∧ Row z n (m.val + 1) (step c i A v1 v3 hw X σ) ∧ Qry z n (step c i A v1 v3 hw X σ) := by
  unfold step
  by_cases hmn : m = n
  · have hb : Pair true n m := Or.inr ⟨rfl, hmn⟩
    have h3' : ¬ k0_cond3 v1 v3 = 1#1 := fun h => absurd (h3.1 h) (by rw [hmn]; exact lt_irrefl _)
    rw [dif_pos (h4.2 hmn)]
    unfold updC
    rw [dif_neg h3']
    generalize initB c i A v3 X σ = τ at hA hR hQ ⊢
    refine ⟨upd_acc hb hn hm hX hQ hA (fun m' k e => stD_18 c i A X τ v1 v3 hw _ m hv m' k e) (fun m' k e => stD_19 c i A X τ v1 v3 hw _ m hv m' k e)
      (fun m' k l => stD_20 c i A X τ v1 v3 hw _ m hv m' k l), upd_row hb hX hQ hR (fun q => stD_15 c i A X τ v1 v3 hw _ q) (fun e q => stD_17 c i A X τ v1 v3 hw _ e q), ?_⟩
    have := stD_rest c i A X τ v1 v3 hw (h4.2 hmn)
    exact ⟨fun q e => by rw [this.1]; exact hQ.x25 q e, fun q => by rw [this.2.1]; exact hQ.x26 q, fun q => by rw [this.2.2]; exact hQ.x27 q⟩
  · have hlt : m.val < n.val := lt_of_le_of_ne hle fun h => hmn (Fin.ext h)
    have hb : Pair false n m := Or.inl ⟨rfl, hlt⟩
    rw [dif_neg fun h => hmn (h4.1 h)]
    unfold updC
    rw [dif_pos (h3.2 hlt)]
    generalize initB c i A v3 X σ = τ at hA hR hQ ⊢
    refine ⟨upd_acc hb hn hm hX hQ hA (fun m' k e => stC_18 c i A X τ v1 v3 hw _ m hv m' k e) (fun m' k e => stC_19 c i A X τ v1 v3 hw _ m hv m' k e)
      (fun m' k l => stC_20 c i A X τ v1 v3 hw _ m hv m' k l), upd_row hb hX hQ hR (fun q => stC_15 c i A X τ v1 v3 hw _ q) (fun e q => stC_17 c i A X τ v1 v3 hw _ e q), ?_⟩
    have := stC_rest c i A X τ v1 v3 hw (h3.2 hlt)
    exact ⟨fun q e => by rw [this.1]; exact hQ.x25 q e, fun q => by rw [this.2.1]; exact hQ.x26 q, fun q => by rw [this.2.2]; exact hQ.x27 q⟩

end Cert.Proof.KI

end
-- ==== Proof.Ind.lean ====
/-
  The scratch after every point, and what the outputs' blocks hold where they are written back.
-/
module

public import proofs.«01_k».proof.Proof.Inv

@[expose] public section

noncomputable section

namespace Cert.Proof.KI

open Cert.KernelIdeal Cert.KernelIdeal.Gen

open Idealize.ShloMosaic
open Idealize.ShloMosaic.TcCoe Idealize.ShloMosaic.Tactic

/-- A point's head and pair. -/
def hd (t : Fin grid0.N) : Fin 8 := grid0.coords t 0
def pr (t : Fin grid0.N) : ℕ := (grid0.coords t 1).val

theorem c1_iff : ∀ t : Fin grid0.N, cond1 (grid0.coords t) = 1#1 ↔ pr t = 0 := by decide +kernel
theorem c2_iff : ∀ t : Fin grid0.N, k0_cond2 (w3 t) = 1#1 ↔ (KT (pr t)).val = 0 := by decide +kernel
theorem c3_iff : ∀ t : Fin grid0.N, k0_cond3 (w1 t) (w3 t) = 1#1 ↔ (KT (pr t)).val < (QT (pr t)).val := by decide +kernel
theorem c4_iff : ∀ t : Fin grid0.N, k0_cond4 (w1 t) (w3 t) = 1#1 ↔ KT (pr t) = QT (pr t) := by decide +kernel
theorem c5_iff : ∀ t : Fin grid0.N, k0_cond5 (grid0.coords t) = 1#1 ↔ pr t = 9 := by decide +kernel
theorem w3_eq : ∀ t : Fin grid0.N, w3 t = BitVec.ofNat 32 (KT (pr t)).val := by decide +kernel
theorem kt_le : ∀ t : Fin grid0.N, (KT (pr t)).val ≤ (QT (pr t)).val := by decide +kernel
theorem prev_iff : ∀ t : Fin grid0.N, pr t ≠ 0 → t.val ≠ 0 ∧ ∀ s : Fin grid0.N, s.val + 1 = t.val → hd s = hd t ∧ pr s + 1 = pr t := by decide +kernel
theorem prev_kt : ∀ t : Fin grid0.N, (KT (pr t)).val ≠ 0 → pr t ≠ 0 ∧ QT (pr t - 1) = QT (pr t) ∧ (KT (pr t - 1)).val + 1 = (KT (pr t)).val := by decide +kernel

variable (m : Mem Ideal) (c : Dev nD) (zs : Fin 8 → Hd)

/-- The blocks at every point are what the heads say. -/
def AllReads : Prop := ∀ t : Fin grid0.N, Reads (zs (hd t)) (QT (pr t)) (KT (pr t)) (X m c t)

variable {m c zs}

/-- What a point finds once it has cleared what it begins. -/
theorem before_upd (hX : AllReads m c zs) (t : Fin grid0.N)
    (ih : ∀ s : Fin grid0.N, s.val + 1 = t.val → Acc (zs (hd s)) (pr s + 1) (st m c t.val) ∧ Row (zs (hd s)) (QT (pr s)) ((KT (pr s)).val + 1) (st m c t.val) ∧ Qry (zs (hd s)) (QT (pr s)) (st m c t.val)) :
    Acc (zs (hd t)) (pr t) (initB c (grid0.coords t) (argsAt (F := Ideal) t) (w3 t) (X m c t) (st m c t.val))
      ∧ Row (zs (hd t)) (QT (pr t)) (KT (pr t)).val (initB c (grid0.coords t) (argsAt (F := Ideal) t) (w3 t) (X m c t) (st m c t.val))
      ∧ Qry (zs (hd t)) (QT (pr t)) (initB c (grid0.coords t) (argsAt (F := Ideal) t) (w3 t) (X m c t) (st m c t.val)) := by
  have ih' : pr t ≠ 0 → Acc (zs (hd t)) (pr t) (st m c t.val) ∧ Row (zs (hd t)) (QT (pr t - 1)) ((KT (pr t - 1)).val + 1) (st m c t.val) ∧ Qry (zs (hd t)) (QT (pr t - 1)) (st m c t.val) := by
    intro h
    obtain ⟨h0, h1⟩ := prev_iff t h
    have hs : (⟨t.val - 1, by have := t.isLt; omega⟩ : Fin grid0.N).val + 1 = t.val := by show t.val - 1 + 1 = t.val; omega
    obtain ⟨e0, e1⟩ := h1 _ hs
    have := ih _ hs
    rw [e0, e1] at this
    rwa [show pr t - 1 = pr (⟨t.val - 1, by have := t.isLt; omega⟩ : Fin grid0.N) by omega]
  refine ⟨initB_acc c _ _ _ _ ?_, ?_⟩
  · by_cases h : pr t = 0
    · rw [h]; exact initA_acc_zero c _ _ _ ((c1_iff t).2 h)
    · unfold initA; rw [if_neg (fun e => h ((c1_iff t).1 e))]; exact (ih' h).1
  · by_cases h : (KT (pr t)).val = 0
    · rw [h]
      exact ⟨initB_row c _ _ _ _ ((c2_iff t).2 h), initB_qry c _ _ _ _ ((c2_iff t).2 h) (hX t)⟩
    · obtain ⟨h0, hq, hk⟩ := prev_kt t h
      have := ih' h0
      rw [hq, hk] at this
      unfold initB initA
      rw [if_neg (fun e => h ((c2_iff t).1 e)), if_neg (fun e => h0 ((c1_iff t).1 e))]
      exact this.2

theorem after_pt (hX : AllReads m c zs) (n : ℕ) : ∀ t : Fin grid0.N, t.val = n →
    Acc (zs (hd t)) (pr t + 1) (st m c (t.val + 1)) ∧ Row (zs (hd t)) (QT (pr t)) ((KT (pr t)).val + 1) (st m c (t.val + 1)) ∧ Qry (zs (hd t)) (QT (pr t)) (st m c (t.val + 1)) := by
  induction n with
  | zero =>
    intro t ht
    obtain ⟨hA, hR, hQ⟩ := before_upd hX t (fun s hs => by omega)
    rw [st_succ]
    exact step_inv c _ _ _ _ _ _ (w3_eq t) rfl rfl (c3_iff t) (c4_iff t) (kt_le t) (hX t) hA hR hQ
  | succ n ih =>
    intro t ht
    obtain ⟨hA, hR, hQ⟩ := before_upd hX t (fun s hs => by have := ih s (by omega); rwa [hs] at this)
    rw [st_succ]
    exact step_inv c _ _ _ _ _ _ (w3_eq t) rfl rfl (c3_iff t) (c4_iff t) (kt_le t) (hX t) hA hR hQ

/-! ## The outputs' blocks -/

theorem sum_rows (f : Fin 4096 → ℝ) : ∑ j, f j = ∑ n : Fin 4, ∑ k : Fin 1024, f (row n k) := by
  rw [Fin.sum_univ_tiles 4 1024 rfl f]
  refine Finset.sum_congr rfl fun n _ => Finset.sum_congr rfl fun k _ => congrArg f (Fin.ext ?_)
  show n.val * 1024 + k.val = 1024 * n.val + k.val
  omega

theorem row_le_iff (n m' : Fin 4) (h : n.val < m'.val) (q k : Fin 1024) : ¬ row m' k ≤ row n q := by
  have := q.isLt
  show ¬ 1024 * m'.val + k.val ≤ 1024 * n.val + q.val
  omega

/-- Sums over a query's key tiles stop at its own. -/
theorem sum_keys (n : Fin 4) (g : Fin 4 → ℝ) (h0 : ∀ m' : Fin 4, n.val < m'.val → g m' = 0) :
    ∑ p ∈ Finset.range (n.val + 1), g (mN p) = ∑ m', g m' := by
  have h : ∀ p : ℕ, p < 4 → n.val < p → g (mN p) = 0 := fun p hp hn => h0 _ (by show n.val < p % 4; omega)
  rw [Fin.sum_univ_eq_sum_range (fun p => g (mN p)) 4 |>.symm.trans (Finset.sum_congr rfl fun m' _ => by rw [mN_val]) |>.symm]
  refine Finset.sum_subset (Finset.range_mono (by have := n.isLt; omega)) fun p hp hp' => h p (Finset.mem_range.1 hp) (Nat.lt_of_not_le fun e => hp' (Finset.mem_range.2 (Nat.lt_succ_of_le e)))

/-- Sums over a key's query tiles begin at its own. -/
theorem sum_pairs (m' : Fin 4) (g : Fin 4 → ℝ) (h0 : ∀ n : Fin 4, n.val < m'.val → g n = 0) :
    ∑ p ∈ Finset.range 10, (if KT p = m' then g (QT p) else 0) = ∑ n, g n := by
  simp only [Finset.sum_range_succ, Finset.sum_range_zero, KT, QT, Fin.sum_univ_four]
  fin_cases m'
  · simp; try ring
  · have := h0 0 (by decide); simp [this]; try ring
  · have := h0 0 (by decide); have h1 := h0 1 (by decide); simp [this, h1]; try ring
  · have := h0 0 (by decide); have h1 := h0 1 (by decide); have h2 := h0 2 (by decide); simp [this, h1, h2]; try ring

theorem dq_tiles (z : Hd) (n : Fin 4) (q : Fin 1024) (e : Fin 128) :
    ∑ p ∈ Finset.range (n.val + 1), gq z n (mN p) e q = z.dq (row n q) e := by
  rw [sum_keys n (fun m' => gq z n m' e q) fun m' h => by
    unfold gq; simp only [z.dsr_of_not (row_le_iff n m' h q _), mul_zero, Finset.sum_const_zero]]
  unfold Hd.dq gq
  rw [sum_rows]
  refine Finset.sum_congr rfl fun m' _ => ?_
  rw [Finset.mul_sum]
  exact Finset.sum_congr rfl fun k _ => by ring

theorem dcq_tiles (z : Hd) (n : Fin 4) (q : Fin 1024) :
    ∑ p ∈ Finset.range (n.val + 1), gr z n (mN p) q = z.dcq (row n q) := by
  rw [sum_keys n (fun m' => gr z n m' q) fun m' h => by
    unfold gr; simp only [z.dsr_of_not (row_le_iff n m' h q _), Finset.sum_const_zero]]
  unfold Hd.dcq gr
  rw [sum_rows]

theorem dk_tiles (z : Hd) (m' : Fin 4) (k : Fin 1024) (e : Fin 128) :
    ∑ p ∈ Finset.range 10, (if KT p = m' then gk z (QT p) m' k e else 0) = z.dk (row m' k) e := by
  rw [sum_pairs m' (fun n => gk z n m' k e) fun n h => by
    unfold gk; simp only [z.dsr_of_not (row_le_iff n m' h _ k), zero_mul, mul_zero, Finset.sum_const_zero]]
  unfold Hd.dk gk
  rw [sum_rows]
  refine Finset.sum_congr rfl fun n _ => ?_
  rw [Finset.mul_sum]
  exact Finset.sum_congr rfl fun q _ => by ring

theorem dv_tiles (z : Hd) (m' : Fin 4) (k : Fin 1024) (e : Fin 128) :
    ∑ p ∈ Finset.range 10, (if KT p = m' then gv z (QT p) m' k e else 0) = z.dv (row m' k) e := by
  rw [sum_pairs m' (fun n => gv z n m' k e) fun n h => by
    unfold gv; simp only [z.P_of_not (row_le_iff n m' h _ k), zero_mul, Finset.sum_const_zero]]
  unfold Hd.dv gv
  rw [sum_rows]

theorem sum_cols (f : Fin 1024 → ℝ) : ∑ l : Fin 128, ∑ j ∈ Finset.range 8, f (col j l) = ∑ q, f q := by
  rw [Finset.sum_comm, Fin.sum_univ_tiles 8 128 rfl f, Finset.sum_range]
  refine Finset.sum_congr rfl fun j _ => Finset.sum_congr rfl fun l _ => congrArg f (Fin.ext ?_)
  show 128 * (j.val % 8) + l.val = j.val * 128 + l.val
  have := j.isLt; omega

theorem dck_tiles (z : Hd) (m' : Fin 4) (k : Fin 1024) :
    ∑ l : Fin 128, ∑ p ∈ Finset.range 10, (if KT p = m' then gc z (QT p) m' k l else 0) = - z.dck (row m' k) := by
  have h : ∀ l, ∑ p ∈ Finset.range 10, (if KT p = m' then gc z (QT p) m' k l else 0) = ∑ n, gc z n m' k l := fun l =>
    sum_pairs m' (fun n => gc z n m' k l) fun n h => by
      unfold gc; simp only [z.dsr_of_not (row_le_iff n m' h _ k), Finset.sum_const_zero]
  simp only [h]
  unfold Hd.dck gc
  rw [neg_neg, sum_rows, Finset.sum_comm]
  exact Finset.sum_congr rfl fun n _ => sum_cols fun q => z.dsr (row n q) (row m' k)

theorem out_12 (hX : AllReads m c zs) (t : Fin grid0.N) (h : KT (pr t) = QT (pr t)) (q : Fin 1024) (e : Fin 128) :
    (outp m c t (st m c t.val) out0).x12 (ix2 q e) = (((zs (hd t)).dq (row (QT (pr t)) q) e : ℝ) : EReal) := by
  have hR := (after_pt hX _ t rfl).2.1.x17 e q
  rw [h, dq_tiles, st_succ] at hR
  rw [← hR]
  have h4 := (c4_iff t).2 h
  have hD : (oD c (grid0.coords t) (argsAt (F := Ideal) t) (w1 t) (w3 t) (chk _) (X m c t) (st m c t.val) out0).x12 (ix2 q e)
      = (stp m c t (st m c t.val)).x17 (ix2 e q) := by
    unfold oD stp step
    rw [dif_pos h4, dif_pos h4]
    exact outD_12 c _ _ _ _ _ _ _ _ _ _ _
  unfold outp oE
  split
  · exact hD
  · exact hD

theorem out_15 (hX : AllReads m c zs) (t : Fin grid0.N) (h : KT (pr t) = QT (pr t)) (q : Fin 1024) :
    (st m c (t.val + 1)).x15 (ix3 0 0 q) = (((zs (hd t)).dcq (row (QT (pr t)) q) : ℝ) : EReal) := by
  have hR := (after_pt hX _ t rfl).2.1.x15 q
  rwa [h, dcq_tiles] at hR

theorem out_13 (hX : AllReads m c zs) (t : Fin grid0.N) (h : pr t = 9) (m' : Fin 4) (k : Fin 1024) (e : Fin 128) :
    (outp m c t (st m c t.val) out0).x13 (ix2 (row m' k) e) = (((zs (hd t)).dk (row m' k) e : ℝ) : EReal) := by
  have hA := (after_pt hX _ t rfl).1.x18 m' k e
  rw [h, dk_tiles, st_succ] at hA
  rw [← hA]
  unfold outp oE
  rw [if_pos ((c5_iff t).2 h)]
  exact outE_13 c _ _ _ _ _ _

theorem out_14 (hX : AllReads m c zs) (t : Fin grid0.N) (h : pr t = 9) (m' : Fin 4) (k : Fin 1024) (e : Fin 128) :
    (outp m c t (st m c t.val) out0).x14 (ix2 (row m' k) e) = (((zs (hd t)).dv (row m' k) e : ℝ) : EReal) := by
  have hA := (after_pt hX _ t rfl).1.x19 m' k e
  rw [h, dv_tiles, st_succ] at hA
  rw [← hA]
  unfold outp oE
  rw [if_pos ((c5_iff t).2 h)]
  exact outE_14 c _ _ _ _ _ _

theorem out_16 (hX : AllReads m c zs) (t : Fin grid0.N) (h : pr t = 9) (m' : Fin 4) (k : Fin 1024) :
    (outp m c t (st m c t.val) out0).x16 (ix3 0 0 (row m' k)) = (((zs (hd t)).dck (row m' k) : ℝ) : EReal) := by
  have hA : ∀ l, (stp m c t (st m c t.val)).x20 (ix2 (row m' k) l) = ((∑ p ∈ Finset.range 10, (if KT p = m' then gc (zs (hd t)) (QT p) m' k l else 0) : ℝ) : EReal) := fun l => by
    have := (after_pt hX _ t rfl).1.x20 m' k l
    rwa [h, st_succ] at this
  unfold outp oE
  rw [if_pos ((c5_iff t).2 h)]
  refine (outE_16 c _ _ _ _ _).trans ?_
  refine (congrArg (fun x : EReal => 0 - x) (Finset.sum_congr rfl fun l _ => hA l)).trans ?_
  rw [coe_sum, dck_tiles, zero_sub, ← EReal.coe_neg, neg_neg]

end Cert.Proof.KI

end
-- ==== Proof.Host.lean ====
/-
  The arrays the kernel's host operations compute, as functions of the arguments.
-/
module

public import proofs.«01_k».proof.Proof.Ind
public import Idealize.ShloMosaic.Lib.Pointwise

@[expose] public section

noncomputable section

namespace Cert.Proof.KI

open Cert.KernelIdeal Cert.KernelIdeal.Gen

open Idealize.ShloMosaic
open Idealize.ShloMosaic.TcCoe Idealize.ShloMosaic.Tactic

def hv2 (a0 : FVec Ideal S4096x6144 .bf16) (a1 : FVec Ideal S4096x8 .f32) (a2 : FVec Ideal S4096x1024 .f32) : FVec Ideal S4096x8x128 .f32 := shapeCast _ (extf .f32 (extractStridedSlice S4096x1024 ![0, 0] a0 slices_S4096x6144_S4096x1024_0_0) bitsLt_bf16_f32) shapeCasts_S4096x1024_S4096x8x128
def hv5 (a0 : FVec Ideal S4096x6144 .bf16) (a1 : FVec Ideal S4096x8 .f32) (a2 : FVec Ideal S4096x1024 .f32) : FVec Ideal S4096x8x128 .f32 := shapeCast _ (extf .f32 (extractStridedSlice S4096x1024 ![0, 1024] a0 slices_S4096x6144_S4096x1024_0_1024) bitsLt_bf16_f32) shapeCasts_S4096x1024_S4096x8x128
def hv8 (a0 : FVec Ideal S4096x6144 .bf16) (a1 : FVec Ideal S4096x8 .f32) (a2 : FVec Ideal S4096x1024 .f32) : FVec Ideal S4096x8x128 .f32 := shapeCast _ (extf .f32 (extractStridedSlice S4096x1024 ![0, 2048] a0 slices_S4096x6144_S4096x1024_0_2048) bitsLt_bf16_f32) shapeCasts_S4096x1024_S4096x8x128
def hv9 (a0 : FVec Ideal S4096x6144 .bf16) (a1 : FVec Ideal S4096x8 .f32) (a2 : FVec Ideal S4096x1024 .f32) : FVec Ideal S8x4096x4096 .f32 := Host.dotGeneral dot_S4096x8x128_S4096x8x128_S8x4096x4096_2_2_0_0_1_1 none (hv2 a0 a1 a2) (hv5 a0 a1 a2)
def hv26 (a0 : FVec Ideal S4096x6144 .bf16) (a1 : FVec Ideal S4096x8 .f32) (a2 : FVec Ideal S4096x1024 .f32) : IVec S4096x4096 1 := cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))
def hv27 (a0 : FVec Ideal S4096x6144 .bf16) (a1 : FVec Ideal S4096x8 .f32) (a2 : FVec Ideal S4096x1024 .f32) : FVec Ideal S8x4096x4096 .f32 := select (broadcastInDim S8x4096x4096 ![1, 2] bcast_S4096x4096_S8x4096x4096_1_2 (hv26 a0 a1 a2)) (addf (mulf (hv9 a0 a1 a2) (broadcastInDim S8x4096x4096 ![] bcast_S_S8x4096x4096 (constant S_ .f32 0x3DB504F3#32))) (subf (broadcastInDim S8x4096x4096 ![0, 1, 2] bcast_S8x4096x1_S8x4096x4096_0_1_2 (broadcastInDim S8x4096x1 ![0, 1] bcast_S8x4096_S8x4096x1_0_1 (transpose S8x4096 [1, 0] a1 transposes_S4096x8_S8x4096_1_0))) (broadcastInDim S8x4096x4096 ![0, 1, 2] bcast_S8x1x4096_S8x4096x4096_0_1_2 (broadcastInDim S8x1x4096 ![0, 2] bcast_S8x4096_S8x1x4096_0_2 (transpose S8x4096 [1, 0] a1 transposes_S4096x8_S8x4096_1_0))))) (broadcastInDim S8x4096x4096 ![] bcast_S_S8x4096x4096 ((constant S_ .f32 0xFF800000#32)))
def hv28 (a0 : FVec Ideal S4096x6144 .bf16) (a1 : FVec Ideal S4096x8 .f32) (a2 : FVec Ideal S4096x1024 .f32) : FVec Ideal S8x4096 .f32 := Host.reduce FloatOps.maximumf (hv27 a0 a1 a2) (constant S_ .f32 0xFF800000#32) reducesTo_S8x4096x4096_S8x4096_d2 h_S_
def hv32 (a0 : FVec Ideal S4096x6144 .bf16) (a1 : FVec Ideal S4096x8 .f32) (a2 : FVec Ideal S4096x1024 .f32) : FVec Ideal S8x4096x4096 .f32 := Host.exp (subf (hv27 a0 a1 a2) (broadcastInDim S8x4096x4096 ![0, 1, 2] bcast_S8x4096x1_S8x4096x4096_0_1_2 (broadcastInDim S8x4096x1 ![0, 1] bcast_S8x4096_S8x4096x1_0_1 (hv28 a0 a1 a2))))
def hv33 (a0 : FVec Ideal S4096x6144 .bf16) (a1 : FVec Ideal S4096x8 .f32) (a2 : FVec Ideal S4096x1024 .f32) : FVec Ideal S8x4096 .f32 := Host.reduceAdd (hv32 a0 a1 a2) (constant S_ .f32 0x00000000#32) reducesTo_S8x4096x4096_S8x4096_d2 h_S_
def hv36 (a0 : FVec Ideal S4096x6144 .bf16) (a1 : FVec Ideal S4096x8 .f32) (a2 : FVec Ideal S4096x1024 .f32) : FVec Ideal S8x4096x4096 .f32 := Host.divf (hv32 a0 a1 a2) (broadcastInDim S8x4096x4096 ![0, 1, 2] bcast_S8x4096x1_S8x4096x4096_0_1_2 (broadcastInDim S8x4096x1 ![0, 1] bcast_S8x4096_S8x4096x1_0_1 (hv33 a0 a1 a2)))
def hv37 (a0 : FVec Ideal S4096x6144 .bf16) (a1 : FVec Ideal S4096x8 .f32) (a2 : FVec Ideal S4096x1024 .f32) : FVec Ideal S8x128x4096 .f32 := Host.dotGeneral dot_S4096x8x128_S8x4096x4096_S8x128x4096_0_2_2_1_1_0 none (hv8 a0 a1 a2) (hv36 a0 a1 a2)
def hv40 (a0 : FVec Ideal S4096x6144 .bf16) (a1 : FVec Ideal S4096x8 .f32) (a2 : FVec Ideal S4096x1024 .f32) : FVec Ideal S8x4096x1 .f32 := addf (broadcastInDim S8x4096x1 ![0, 1] bcast_S8x4096_S8x4096x1_0_1 (hv28 a0 a1 a2)) (Host.log (broadcastInDim S8x4096x1 ![0, 1] bcast_S8x4096_S8x4096x1_0_1 (hv33 a0 a1 a2)))
def hv41 (a0 : FVec Ideal S4096x6144 .bf16) (a1 : FVec Ideal S4096x8 .f32) (a2 : FVec Ideal S4096x1024 .f32) : FVec Ideal S8x4096 .f32 := shapeCast _ (hv40 a0 a1 a2) shapeCasts_S8x4096x1_S8x4096
def hv43 (a0 : FVec Ideal S4096x6144 .bf16) (a1 : FVec Ideal S4096x8 .f32) (a2 : FVec Ideal S4096x1024 .f32) : FVec Ideal S8x1x4096 .f32 := broadcastInDim S8x1x4096 ![0, 2] bcast_S8x4096_S8x1x4096_0_2 (transpose S8x4096 [1, 0] a1 transposes_S4096x8_S8x4096_1_0)
def hv45 (a0 : FVec Ideal S4096x6144 .bf16) (a1 : FVec Ideal S4096x8 .f32) (a2 : FVec Ideal S4096x1024 .f32) : FVec Ideal S8x4096x128 .f32 := broadcastInDim S8x4096x128 ![0, 1, 2] bcast_S8x4096x1_S8x4096x128_0_1_2 (broadcastInDim S8x4096x1 ![0, 1] bcast_S8x4096_S8x4096x1_0_1 (transpose S8x4096 [1, 0] a1 transposes_S4096x8_S8x4096_1_0))
def hv46 (a0 : FVec Ideal S4096x6144 .bf16) (a1 : FVec Ideal S4096x8 .f32) (a2 : FVec Ideal S4096x1024 .f32) : FVec Ideal S8x1x4096 .f32 := broadcastInDim S8x1x4096 ![0, 2] bcast_S8x4096_S8x1x4096_0_2 (hv41 a0 a1 a2)
def hv47 (a0 : FVec Ideal S4096x6144 .bf16) (a1 : FVec Ideal S4096x8 .f32) (a2 : FVec Ideal S4096x1024 .f32) : FVec Ideal S4096x1024 .f32 := shapeCast _ (transpose S4096x8x128 [2, 0, 1] (hv37 a0 a1 a2) transposes_S8x128x4096_S4096x8x128_2_0_1) shapeCasts_S4096x8x128_S4096x1024

variable (m : Mem Ideal) (c : Dev nD)

abbrev m0 : FVec Ideal S4096x6144 .bf16 := m ((c.tc : Thread nD τ).loc main_arg0)
abbrev m1 : FVec Ideal S4096x8 .f32 := m ((c.tc : Thread nD τ).loc main_arg1)
abbrev m2 : FVec Ideal S4096x1024 .f32 := m ((c.tc : Thread nD τ).loc main_arg2)

theorem V_v43 : V m c main_v43 = hv43 (m0 m c) (m1 m c) (m2 m c) := by
  unfold V
  simp only [List.flatten_cons, List.flatten_nil, List.append_nil]
  after_reads_simp <;> rfl
theorem V_v45 : V m c main_v45 = hv45 (m0 m c) (m1 m c) (m2 m c) := by
  unfold V
  simp only [List.flatten_cons, List.flatten_nil, List.append_nil]
  after_reads_simp <;> rfl
theorem V_v46 : V m c main_v46 = hv46 (m0 m c) (m1 m c) (m2 m c) := by
  unfold V
  simp only [List.flatten_cons, List.flatten_nil, List.append_nil]
  after_reads_simp <;> rfl
theorem V_v47 : V m c main_v47 = hv47 (m0 m c) (m1 m c) (m2 m c) := by
  unfold V
  simp only [List.flatten_cons, List.flatten_nil, List.append_nil]
  after_reads_simp <;> rfl

end Cert.Proof.KI

end
-- ==== Proof.HostVal.lean ====
/-
  The arrays the kernel's host operations compute, entry by entry, as real numbers.
-/
module

public import proofs.«01_k».proof.Proof.Host
public import proofs.«01_k».proof.Proof.Real

@[expose] public section

noncomputable section

namespace Cert.Proof.KI

open Cert.KernelIdeal Cert.KernelIdeal.Gen

open Idealize.ShloMosaic
open Idealize.ShloMosaic.TcCoe Idealize.ShloMosaic.Tactic

/-! ## Each operation at an index -/

section
variable (i j : Fin 4096) (h : Fin 8) (e : Fin 128)

theorem g9 (x y : FVec Ideal S4096x8x128 .f32) :
    (Host.dotGeneral dot_S4096x8x128_S4096x8x128_S8x4096x4096_2_2_0_0_1_1 none x y : FVec Ideal S8x4096x4096 .f32) (ix3 h i j) = (∑ e, x (ix3 i h e) * y (ix3 j h e) : EReal) := by pointwise
theorem g26 (a0 : A0) (a1 : A1) (a2 : A2) : hv26 a0 a1 a2 (ix2 i j) = IntOp.cmpi .sle (BitVec.ofNat 32 j.val) (BitVec.ofNat 32 i.val) := by
  unfold hv26; pointwise
theorem g27 (k : IVec S4096x4096 1) (s : FVec Ideal S8x4096x4096 .f32) (a1 : A1) :
    select (broadcastInDim S8x4096x4096 ![1, 2] bcast_S4096x4096_S8x4096x4096_1_2 k) (addf (mulf s (broadcastInDim S8x4096x4096 ![] bcast_S_S8x4096x4096 (constant (F := Ideal) S_ .f32 0x3DB504F3#32))) (subf (broadcastInDim S8x4096x4096 ![0, 1, 2] bcast_S8x4096x1_S8x4096x4096_0_1_2 (broadcastInDim S8x4096x1 ![0, 1] bcast_S8x4096_S8x4096x1_0_1 (transpose S8x4096 [1, 0] a1 transposes_S4096x8_S8x4096_1_0))) (broadcastInDim S8x4096x4096 ![0, 1, 2] bcast_S8x1x4096_S8x4096x4096_0_1_2 (broadcastInDim S8x1x4096 ![0, 2] bcast_S8x4096_S8x1x4096_0_2 (transpose S8x4096 [1, 0] a1 transposes_S4096x8_S8x4096_1_0))))) (broadcastInDim S8x4096x4096 ![] bcast_S_S8x4096x4096 ((constant S_ .f32 0xFF800000#32))) (ix3 h i j)
    = (Scalar.select (k (ix2 i j)) (s (ix3 h i j) * Ideal.ofBits .f32 0x3DB504F3#32 + (a1 (ix2 i h) - a1 (ix2 j h))) (Ideal.ofBits .f32 0xFF800000#32) : EReal) := by pointwise
theorem g28 (x : FVec Ideal S8x4096x4096 .f32) :
    (Host.reduce FloatOps.maximumf x (constant S_ .f32 0xFF800000#32) reducesTo_S8x4096x4096_S8x4096_d2 h_S_ : FVec Ideal S8x4096 .f32) (ix2 h i) = (Finset.fold max (Ideal.ofBits .f32 0xFF800000#32) (fun j => x (ix3 h i j)) Finset.univ : EReal) := by pointwise
theorem g32 (x : FVec Ideal S8x4096x4096 .f32) (y : FVec Ideal S8x4096 .f32) :
    (Host.exp (subf x (broadcastInDim S8x4096x4096 ![0, 1, 2] bcast_S8x4096x1_S8x4096x4096_0_1_2 (broadcastInDim S8x4096x1 ![0, 1] bcast_S8x4096_S8x4096x1_0_1 y)))) (ix3 h i j) = (Ideal.exp (x (ix3 h i j) - y (ix2 h i)) : EReal) := by pointwise
theorem g33 (x : FVec Ideal S8x4096x4096 .f32) :
    (Host.reduceAdd x (constant S_ .f32 0x00000000#32) reducesTo_S8x4096x4096_S8x4096_d2 h_S_ : FVec Ideal S8x4096 .f32) (ix2 h i) = (∑ j, x (ix3 h i j) : EReal) := by pointwise
theorem g36 (x : FVec Ideal S8x4096x4096 .f32) (y : FVec Ideal S8x4096 .f32) :
    (Host.divf x (broadcastInDim S8x4096x4096 ![0, 1, 2] bcast_S8x4096x1_S8x4096x4096_0_1_2 (broadcastInDim S8x4096x1 ![0, 1] bcast_S8x4096_S8x4096x1_0_1 y))) (ix3 h i j) = (Ideal.div (x (ix3 h i j)) (y (ix2 h i)) : EReal) := by pointwise
theorem g37 (x : FVec Ideal S4096x8x128 .f32) (y : FVec Ideal S8x4096x4096 .f32) :
    (Host.dotGeneral dot_S4096x8x128_S8x4096x4096_S8x128x4096_0_2_2_1_1_0 none x y : FVec Ideal S8x128x4096 .f32) (ix3 h e i) = (∑ j, x (ix3 j h e) * y (ix3 h i j) : EReal) := by pointwise
theorem g40 (x y : FVec Ideal S8x4096 .f32) (z : Fin 1) :
    addf (broadcastInDim S8x4096x1 ![0, 1] bcast_S8x4096_S8x4096x1_0_1 x) (Host.log (broadcastInDim S8x4096x1 ![0, 1] bcast_S8x4096_S8x4096x1_0_1 y)) (ix3 h i z) = (x (ix2 h i) + Ideal.log (y (ix2 h i)) : EReal) := by pointwise
theorem g43 (x : FVec Ideal S8x4096 .f32) (z : Fin 1) :
    broadcastInDim S8x1x4096 ![0, 2] bcast_S8x4096_S8x1x4096_0_2 x (ix3 h z i) = (x (ix2 h i) : EReal) := by pointwise
theorem gT (a1 : A1) : transpose S8x4096 [1, 0] a1 transposes_S4096x8_S8x4096_1_0 (ix2 h i) = (a1 (ix2 i h) : EReal) := by pointwise
theorem g45 (x : FVec Ideal S8x4096 .f32) :
    broadcastInDim S8x4096x128 ![0, 1, 2] bcast_S8x4096x1_S8x4096x128_0_1_2 (broadcastInDim S8x4096x1 ![0, 1] bcast_S8x4096_S8x4096x1_0_1 x) (ix3 h i e) = (x (ix2 h i) : EReal) := by pointwise

/-- A column of the result is a head's. -/
theorem hc_split (n : Fin 1024) : n = hc ⟨n.val / 128, by omega⟩ ⟨n.val % 128, by omega⟩ :=
  Fin.ext (by show n.val = n.val / 128 * 128 + n.val % 128; omega)

theorem g47 (x : FVec Ideal S8x128x4096 .f32) :
    (shapeCast S4096x1024 (transpose S4096x8x128 [2, 0, 1] x transposes_S8x128x4096_S4096x8x128_2_0_1) shapeCasts_S4096x8x128_S4096x1024) (ix2 i (hc h e)) = (x (ix3 h e i) : EReal) := by
  have g : ∀ n : Fin 1024, (shapeCast S4096x1024 (transpose S4096x8x128 [2, 0, 1] x transposes_S8x128x4096_S4096x8x128_2_0_1) shapeCasts_S4096x8x128_S4096x1024) (ix2 i n) = (x (ix3 ⟨n.val / 128, by omega⟩ ⟨n.val % 128, by omega⟩ i) : EReal) := by
    intro n; pointwise
  rw [g]
  congr 2
  · exact Fin.ext (by show (h.val * 128 + e.val) / 128 = h.val; omega)
  · exact Fin.ext (by show (h.val * 128 + e.val) % 128 = e.val; omega)

end

/-! ## The arrays -/

section
variable (a0 : A0) (a1 : A1) (a2 : A2) (i j : Fin 4096) (h : Fin 8) (e : Fin 128)

theorem r2 : hv2 a0 a1 a2 (ix3 i h e) = (a0 (ix2 i (qc h e)) : EReal) := by unfold hv2; pointwise; rfl
theorem r5 : hv5 a0 a1 a2 (ix3 i h e) = (a0 (ix2 i (kc h e)) : EReal) := by unfold hv5; pointwise; rfl
theorem r8 : hv8 a0 a1 a2 (ix3 i h e) = (a0 (ix2 i (vc h e)) : EReal) := by unfold hv8; pointwise; rfl

variable {a0 a1 a2} (hn : Num a0 a1 a2)
include hn

theorem r9 : hv9 a0 a1 a2 (ix3 h i j) = ((∑ e, (zOf a0 a1 a2 h).Q i e * (zOf a0 a1 a2 h).K j e : ℝ) : EReal) := by
  unfold hv9
  refine (g9 _ _ _ _ _).trans ?_
  rw [← coe_sum_mul]
  refine Finset.sum_congr rfl fun e _ => ?_
  rw [r2, r5, q_eq hn, k_eq hn]

theorem r27 : hv27 a0 a1 a2 (ix3 h i j) = msk (zOf a0 a1 a2 h) i j := by
  unfold hv27
  refine (g27 _ _ _ _ _ _).trans ?_
  rw [g26, sel_mask, c_eq hn, c_eq hn]
  exact lg_eq _ _ _ _ (r9 _ _ _ hn)

theorem r28 : ∃ M : ℝ, hv28 a0 a1 a2 (ix2 h i) = ((M : ℝ) : EReal) := by
  unfold hv28
  obtain ⟨M, hM⟩ := max_msk (zOf a0 a1 a2 h) i
  refine ⟨M, (g28 _ _ _).trans ?_⟩
  rw [bot_bits, ← hM]
  exact congrArg (fun f => Finset.fold max ⊥ f Finset.univ) (funext fun j => r27 i j h hn)

theorem r32 (M : ℝ) (hM : hv28 a0 a1 a2 (ix2 h i) = ((M : ℝ) : EReal)) :
    hv32 a0 a1 a2 (ix3 h i j) = (((zOf a0 a1 a2 h).wM M i j : ℝ) : EReal) := by
  unfold hv32
  refine (g32 _ _ _ _ _).trans ?_
  rw [r27 i j h hn, hM, exp_msk]

theorem r33 (M : ℝ) (hM : hv28 a0 a1 a2 (ix2 h i) = ((M : ℝ) : EReal)) :
    hv33 a0 a1 a2 (ix2 h i) = ((∑ j, (zOf a0 a1 a2 h).wM M i j : ℝ) : EReal) := by
  unfold hv33
  refine (g33 _ _ _).trans ?_
  rw [← coe_sum]
  exact Finset.sum_congr rfl fun j _ => r32 i j h hn M hM

theorem r36 : hv36 a0 a1 a2 (ix3 h i j) = (((zOf a0 a1 a2 h).P i j : ℝ) : EReal) := by
  obtain ⟨M, hM⟩ := r28 i h hn
  unfold hv36
  refine (g36 _ _ _ _ _).trans ?_
  rw [r32 i j h hn M hM, r33 i h hn M hM, div_real ((zOf a0 a1 a2 h).sum_wM_pos M i).ne', Hd.wM_div]

theorem r37 : hv37 a0 a1 a2 (ix3 h e i) = (((zOf a0 a1 a2 h).yv i e : ℝ) : EReal) := by
  unfold hv37
  refine (g37 _ _ _ _ _).trans ?_
  unfold Hd.yv
  rw [← coe_sum_mul]
  refine Finset.sum_congr rfl fun j _ => ?_
  rw [r8, r36 i j h hn, v_eq hn, mul_comm]

theorem r41 : hv41 a0 a1 a2 (ix2 h i) = (((zOf a0 a1 a2 h).L i : ℝ) : EReal) := by
  obtain ⟨M, hM⟩ := r28 i h hn
  unfold hv41
  refine (sc_drop _ _ _ _).trans ?_
  unfold hv40
  refine (g40 _ _ _ _ _).trans ?_
  rw [r33 i h hn M hM, hM, Ideal.log_coe, if_neg (not_le.2 ((zOf a0 a1 a2 h).sum_wM_pos M i)), ← EReal.coe_add, Hd.log_sum_wM]

theorem r43 (z : Fin 1) : hv43 a0 a1 a2 (ix3 h z i) = (((zOf a0 a1 a2 h).C i : ℝ) : EReal) := by
  unfold hv43
  refine (g43 _ _ _ _).trans ?_
  refine (gT _ _ _).trans (c_eq hn _ _)
theorem r45 : hv45 a0 a1 a2 (ix3 h i e) = (((zOf a0 a1 a2 h).C i : ℝ) : EReal) := by
  unfold hv45
  refine (g45 _ _ _ _).trans ?_
  refine (gT _ _ _).trans (c_eq hn _ _)
theorem r46 (z : Fin 1) : hv46 a0 a1 a2 (ix3 h z i) = (((zOf a0 a1 a2 h).L i : ℝ) : EReal) := by
  unfold hv46
  refine (g43 _ _ _ _).trans (r41 i h hn)
theorem r47 : hv47 a0 a1 a2 (ix2 i (hc h e)) = (((zOf a0 a1 a2 h).yv i e : ℝ) : EReal) := by
  unfold hv47
  refine (g47 _ _ _ _).trans (r37 i h e hn)

end

end Cert.Proof.KI

end
-- ==== Proof.Place.lean ====
/-
  Where the blocks' entries lie in their arrays.
-/
module

public import proofs.«01_k».proof.Proof.Ind
public import proofs.«01_k».proof.Proof.Real
public import Idealize.ShloMosaic.Lib.Pipeline.ValueKit.Geometry

@[expose] public section

noncomputable section

namespace Cert.Proof.KI

open Cert.KernelIdeal Cert.KernelIdeal.Gen

open Idealize.ShloMosaic
open Idealize.ShloMosaic.TcCoe Idealize.ShloMosaic.Tactic

theorem qt_eq : ∀ t : Fin grid0.N, qt (grid0.coords t) = (QT (pr t)).val := by decide +kernel
theorem kt_eq : ∀ t : Fin grid0.N, kt (grid0.coords t) = (KT (pr t)).val := by decide +kernel

/-! ## Where a block's entry lies -/

section
variable (t : Fin grid0.N)

theorem emb_0 (q : Fin 1024) (e : Fin 128) : ((((cfg0 (F := Ideal) adm).win 0).blk t).view.emb (ix2 q e) : S4096x6144.Idx) = ix2 (row (QT (pr t)) q) (qc (hd t) e) := by
  funext a
  refine Fin.ext ?_
  fin_cases a
  · blk_simp
    refine (congrArg (fun n : ℕ => n * 1024 + q.val) (congrFun (index_eq (F := Ideal) 0 t) 0)).trans ?_
    show qt (grid0.coords t) * 1024 + q.val = 1024 * (QT (pr t)).val + q.val
    rw [qt_eq]; omega
  · blk_simp
    refine (congrArg (fun n : ℕ => n * 128 + e.val) (congrFun (index_eq (F := Ideal) 0 t) 1)).trans ?_
    show (grid0.coords t 0).val * 128 + e.val = (grid0.coords t 0).val * 128 + e.val
    omega
theorem emb_1 (q : Fin 1024) (e : Fin 128) : ((((cfg0 (F := Ideal) adm).win 1).blk t).view.emb (ix2 q e) : S4096x6144.Idx) = ix2 (row (KT (pr t)) q) (kc (hd t) e) := by
  funext a
  refine Fin.ext ?_
  fin_cases a
  · blk_simp
    refine (congrArg (fun n : ℕ => n * 1024 + q.val) (congrFun (index_eq (F := Ideal) 1 t) 0)).trans ?_
    show kt (grid0.coords t) * 1024 + q.val = 1024 * (KT (pr t)).val + q.val
    rw [kt_eq]; omega
  · blk_simp
    refine (congrArg (fun n : ℕ => n * 128 + e.val) (congrFun (index_eq (F := Ideal) 1 t) 1)).trans ?_
    show (8 + (grid0.coords t 0).val) * 128 + e.val = 1024 + ((grid0.coords t 0).val * 128 + e.val)
    omega
theorem emb_2 (q : Fin 1024) (e : Fin 128) : ((((cfg0 (F := Ideal) adm).win 2).blk t).view.emb (ix2 q e) : S4096x6144.Idx) = ix2 (row (KT (pr t)) q) (vc (hd t) e) := by
  funext a
  refine Fin.ext ?_
  fin_cases a
  · blk_simp
    refine (congrArg (fun n : ℕ => n * 1024 + q.val) (congrFun (index_eq (F := Ideal) 2 t) 0)).trans ?_
    show kt (grid0.coords t) * 1024 + q.val = 1024 * (KT (pr t)).val + q.val
    rw [kt_eq]; omega
  · blk_simp
    refine (congrArg (fun n : ℕ => n * 128 + e.val) (congrFun (index_eq (F := Ideal) 2 t) 1)).trans ?_
    show (16 + (grid0.coords t 0).val) * 128 + e.val = 2048 + ((grid0.coords t 0).val * 128 + e.val)
    omega
theorem emb_6 (q : Fin 1024) (e : Fin 128) : ((((cfg0 (F := Ideal) adm).win 6).blk t).view.emb (ix2 q e) : S4096x1024.Idx) = ix2 (row (QT (pr t)) q) (hc (hd t) e) := by
  funext a
  refine Fin.ext ?_
  fin_cases a
  · blk_simp
    refine (congrArg (fun n : ℕ => n * 1024 + q.val) (congrFun (index_eq (F := Ideal) 6 t) 0)).trans ?_
    show qt (grid0.coords t) * 1024 + q.val = 1024 * (QT (pr t)).val + q.val
    rw [qt_eq]; omega
  · blk_simp
    refine (congrArg (fun n : ℕ => n * 128 + e.val) (congrFun (index_eq (F := Ideal) 6 t) 1)).trans ?_
    show (grid0.coords t 0).val * 128 + e.val = (grid0.coords t 0).val * 128 + e.val
    omega
theorem emb_7 (q : Fin 1024) (e : Fin 128) : ((((cfg0 (F := Ideal) adm).win 7).blk t).view.emb (ix2 q e) : S4096x1024.Idx) = ix2 (row (QT (pr t)) q) (hc (hd t) e) := by
  funext a
  refine Fin.ext ?_
  fin_cases a
  · blk_simp
    refine (congrArg (fun n : ℕ => n * 1024 + q.val) (congrFun (index_eq (F := Ideal) 7 t) 0)).trans ?_
    show qt (grid0.coords t) * 1024 + q.val = 1024 * (QT (pr t)).val + q.val
    rw [qt_eq]; omega
  · blk_simp
    refine (congrArg (fun n : ℕ => n * 128 + e.val) (congrFun (index_eq (F := Ideal) 7 t) 1)).trans ?_
    show (grid0.coords t 0).val * 128 + e.val = (grid0.coords t 0).val * 128 + e.val
    omega
theorem emb_8 (q : Fin 1024) (e : Fin 128) : ((((cfg0 (F := Ideal) adm).win 8).blk t).view.emb (ix2 q e) : S4096x1024.Idx) = ix2 (row (QT (pr t)) q) (hc (hd t) e) := by
  funext a
  refine Fin.ext ?_
  fin_cases a
  · blk_simp
    refine (congrArg (fun n : ℕ => n * 1024 + q.val) (congrFun (index_eq (F := Ideal) 8 t) 0)).trans ?_
    show qt (grid0.coords t) * 1024 + q.val = 1024 * (QT (pr t)).val + q.val
    rw [qt_eq]; omega
  · blk_simp
    refine (congrArg (fun n : ℕ => n * 128 + e.val) (congrFun (index_eq (F := Ideal) 8 t) 1)).trans ?_
    show (grid0.coords t 0).val * 128 + e.val = (grid0.coords t 0).val * 128 + e.val
    omega
theorem emb_3 (q : Fin 1024) : ((((cfg0 (F := Ideal) adm).win 3).blk t).view.emb (ix3 0 0 q) : S8x1x4096.Idx) = ix3 (hd t) 0 (row (QT (pr t)) q) := by
  funext a
  refine Fin.ext ?_
  fin_cases a
  · blk_simp
    exact congrFun (index_eq (F := Ideal) 3 t) 0
  · blk_simp
    refine (congrArg (fun n : ℕ => n * 1 + 0) (congrFun (index_eq (F := Ideal) 3 t) 1)).trans ?_
    show 0 * 1 + 0 = 0
    omega
  · blk_simp
    refine (congrArg (fun n : ℕ => n * 1024 + q.val) (congrFun (index_eq (F := Ideal) 3 t) 2)).trans ?_
    show qt (grid0.coords t) * 1024 + q.val = 1024 * (QT (pr t)).val + q.val
    rw [qt_eq]; omega
theorem emb_5 (q : Fin 1024) : ((((cfg0 (F := Ideal) adm).win 5).blk t).view.emb (ix3 0 0 q) : S8x1x4096.Idx) = ix3 (hd t) 0 (row (QT (pr t)) q) := by
  funext a
  refine Fin.ext ?_
  fin_cases a
  · blk_simp
    exact congrFun (index_eq (F := Ideal) 5 t) 0
  · blk_simp
    refine (congrArg (fun n : ℕ => n * 1 + 0) (congrFun (index_eq (F := Ideal) 5 t) 1)).trans ?_
    show 0 * 1 + 0 = 0
    omega
  · blk_simp
    refine (congrArg (fun n : ℕ => n * 1024 + q.val) (congrFun (index_eq (F := Ideal) 5 t) 2)).trans ?_
    show qt (grid0.coords t) * 1024 + q.val = 1024 * (QT (pr t)).val + q.val
    rw [qt_eq]; omega
theorem emb_11 (q : Fin 1024) : ((((cfg0 (F := Ideal) adm).win 11).blk t).view.emb (ix3 0 0 q) : S8x1x4096.Idx) = ix3 (hd t) 0 (row (QT (pr t)) q) := by
  funext a
  refine Fin.ext ?_
  fin_cases a
  · blk_simp
    exact congrFun (index_eq (F := Ideal) 11 t) 0
  · blk_simp
    refine (congrArg (fun n : ℕ => n * 1 + 0) (congrFun (index_eq (F := Ideal) 11 t) 1)).trans ?_
    show 0 * 1 + 0 = 0
    omega
  · blk_simp
    refine (congrArg (fun n : ℕ => n * 1024 + q.val) (congrFun (index_eq (F := Ideal) 11 t) 2)).trans ?_
    show qt (grid0.coords t) * 1024 + q.val = 1024 * (QT (pr t)).val + q.val
    rw [qt_eq]; omega
theorem emb_4 (k : Fin 1024) (l : Fin 128) : ((((cfg0 (F := Ideal) adm).win 4).blk t).view.emb (ix3 0 k l) : S8x4096x128.Idx) = ix3 (hd t) (row (KT (pr t)) k) l := by
  funext a
  refine Fin.ext ?_
  fin_cases a
  · blk_simp
    exact congrFun (index_eq (F := Ideal) 4 t) 0
  · blk_simp
    refine (congrArg (fun n : ℕ => n * 1024 + k.val) (congrFun (index_eq (F := Ideal) 4 t) 1)).trans ?_
    show kt (grid0.coords t) * 1024 + k.val = 1024 * (KT (pr t)).val + k.val
    rw [kt_eq]; omega
  · blk_simp
    refine (congrArg (fun n : ℕ => n * 128 + l.val) (congrFun (index_eq (F := Ideal) 4 t) 2)).trans ?_
    show 0 * 128 + l.val = l.val
    omega
theorem emb_9 (j : Fin 4096) (e : Fin 128) : ((((cfg0 (F := Ideal) adm).win 9).blk t).view.emb (ix2 j e) : S4096x1024.Idx) = ix2 j (hc (hd t) e) := by
  funext a
  refine Fin.ext ?_
  fin_cases a
  · blk_simp
    refine (congrArg (fun n : ℕ => n * 4096 + j.val) (congrFun (index_eq (F := Ideal) 9 t) 0)).trans ?_
    show 0 * 4096 + j.val = j.val
    omega
  · blk_simp
    refine (congrArg (fun n : ℕ => n * 128 + e.val) (congrFun (index_eq (F := Ideal) 9 t) 1)).trans ?_
    show (grid0.coords t 0).val * 128 + e.val = (grid0.coords t 0).val * 128 + e.val
    omega
theorem emb_10 (j : Fin 4096) (e : Fin 128) : ((((cfg0 (F := Ideal) adm).win 10).blk t).view.emb (ix2 j e) : S4096x1024.Idx) = ix2 j (hc (hd t) e) := by
  funext a
  refine Fin.ext ?_
  fin_cases a
  · blk_simp
    refine (congrArg (fun n : ℕ => n * 4096 + j.val) (congrFun (index_eq (F := Ideal) 10 t) 0)).trans ?_
    show 0 * 4096 + j.val = j.val
    omega
  · blk_simp
    refine (congrArg (fun n : ℕ => n * 128 + e.val) (congrFun (index_eq (F := Ideal) 10 t) 1)).trans ?_
    show (grid0.coords t 0).val * 128 + e.val = (grid0.coords t 0).val * 128 + e.val
    omega
theorem emb_12 (j : Fin 4096) : ((((cfg0 (F := Ideal) adm).win 12).blk t).view.emb (ix3 0 0 j) : S8x1x4096.Idx) = ix3 (hd t) 0 j := by
  funext a
  refine Fin.ext ?_
  fin_cases a
  · blk_simp
    exact congrFun (index_eq (F := Ideal) 12 t) 0
  · blk_simp
    refine (congrArg (fun n : ℕ => n * 1 + 0) (congrFun (index_eq (F := Ideal) 12 t) 1)).trans ?_
    show 0 * 1 + 0 = 0
    omega
  · blk_simp
    refine (congrArg (fun n : ℕ => n * 4096 + j.val) (congrFun (index_eq (F := Ideal) 12 t) 2)).trans ?_
    show 0 * 4096 + j.val = j.val
    omega

end

end Cert.Proof.KI

end
-- ==== Proof.Blocks.lean ====
/-
  The blocks read at every point, as real numbers.
-/
module

public import proofs.«01_k».proof.Proof.HostVal
public import proofs.«01_k».proof.Proof.Place

@[expose] public section

noncomputable section

namespace Cert.Proof.KI

open Cert.KernelIdeal Cert.KernelIdeal.Gen

open Idealize.ShloMosaic
open Idealize.ShloMosaic.TcCoe Idealize.ShloMosaic.Tactic

variable (m : Mem Ideal) (c : Dev nD)

/-- The heads of a device's arguments. -/
abbrev zs : Fin 8 → Hd := zOf (m0 m c) (m1 m c) (m2 m c)

variable {m c} (t : Fin grid0.N)

/-! ## A block's entry is its array's -/

theorem at_0 (B : (Pipeline.arrRef spec0 0).ty.Idx → Elt Ideal (Pipeline.arrRef spec0 0).ty.elt) (q : Fin 1024) (e : Fin 128) :
    (((cfg0 (F := Ideal) adm).win 0).blk t).view.read (Elt Ideal) B (ix2 q e) = B ((((cfg0 (F := Ideal) adm).win 0).blk t).view.emb (ix2 q e)) := rfl
theorem bl_0 (q : Fin 1024) (e : Fin 128) : blk m c 0 t (ix2 q e) = V m c main_arg0 ((((cfg0 (F := Ideal) adm).win 0).blk t).view.emb (ix2 q e)) := by
  unfold blk; rw [at_0]
theorem at_1 (B : (Pipeline.arrRef spec0 1).ty.Idx → Elt Ideal (Pipeline.arrRef spec0 1).ty.elt) (q : Fin 1024) (e : Fin 128) :
    (((cfg0 (F := Ideal) adm).win 1).blk t).view.read (Elt Ideal) B (ix2 q e) = B ((((cfg0 (F := Ideal) adm).win 1).blk t).view.emb (ix2 q e)) := rfl
theorem bl_1 (q : Fin 1024) (e : Fin 128) : blk m c 1 t (ix2 q e) = V m c main_arg0 ((((cfg0 (F := Ideal) adm).win 1).blk t).view.emb (ix2 q e)) := by
  unfold blk; rw [at_1]
theorem at_2 (B : (Pipeline.arrRef spec0 2).ty.Idx → Elt Ideal (Pipeline.arrRef spec0 2).ty.elt) (q : Fin 1024) (e : Fin 128) :
    (((cfg0 (F := Ideal) adm).win 2).blk t).view.read (Elt Ideal) B (ix2 q e) = B ((((cfg0 (F := Ideal) adm).win 2).blk t).view.emb (ix2 q e)) := rfl
theorem bl_2 (q : Fin 1024) (e : Fin 128) : blk m c 2 t (ix2 q e) = V m c main_arg0 ((((cfg0 (F := Ideal) adm).win 2).blk t).view.emb (ix2 q e)) := by
  unfold blk; rw [at_2]
theorem at_3 (B : (Pipeline.arrRef spec0 3).ty.Idx → Elt Ideal (Pipeline.arrRef spec0 3).ty.elt) (q : Fin 1024) :
    (((cfg0 (F := Ideal) adm).win 3).blk t).view.read (Elt Ideal) B (ix3 0 0 q) = B ((((cfg0 (F := Ideal) adm).win 3).blk t).view.emb (ix3 0 0 q)) := rfl
theorem bl_3 (q : Fin 1024) : blk m c 3 t (ix3 0 0 q) = V m c main_v43 ((((cfg0 (F := Ideal) adm).win 3).blk t).view.emb (ix3 0 0 q)) := by
  unfold blk; rw [at_3]
theorem at_4 (B : (Pipeline.arrRef spec0 4).ty.Idx → Elt Ideal (Pipeline.arrRef spec0 4).ty.elt) (k : Fin 1024) (l : Fin 128) :
    (((cfg0 (F := Ideal) adm).win 4).blk t).view.read (Elt Ideal) B (ix3 0 k l) = B ((((cfg0 (F := Ideal) adm).win 4).blk t).view.emb (ix3 0 k l)) := rfl
theorem bl_4 (k : Fin 1024) (l : Fin 128) : blk m c 4 t (ix3 0 k l) = V m c main_v45 ((((cfg0 (F := Ideal) adm).win 4).blk t).view.emb (ix3 0 k l)) := by
  unfold blk; rw [at_4]
theorem at_5 (B : (Pipeline.arrRef spec0 5).ty.Idx → Elt Ideal (Pipeline.arrRef spec0 5).ty.elt) (q : Fin 1024) :
    (((cfg0 (F := Ideal) adm).win 5).blk t).view.read (Elt Ideal) B (ix3 0 0 q) = B ((((cfg0 (F := Ideal) adm).win 5).blk t).view.emb (ix3 0 0 q)) := rfl
theorem bl_5 (q : Fin 1024) : blk m c 5 t (ix3 0 0 q) = V m c main_v46 ((((cfg0 (F := Ideal) adm).win 5).blk t).view.emb (ix3 0 0 q)) := by
  unfold blk; rw [at_5]
theorem at_6 (B : (Pipeline.arrRef spec0 6).ty.Idx → Elt Ideal (Pipeline.arrRef spec0 6).ty.elt) (q : Fin 1024) (e : Fin 128) :
    (((cfg0 (F := Ideal) adm).win 6).blk t).view.read (Elt Ideal) B (ix2 q e) = B ((((cfg0 (F := Ideal) adm).win 6).blk t).view.emb (ix2 q e)) := rfl
theorem bl_6 (q : Fin 1024) (e : Fin 128) : blk m c 6 t (ix2 q e) = V m c main_v47 ((((cfg0 (F := Ideal) adm).win 6).blk t).view.emb (ix2 q e)) := by
  unfold blk; rw [at_6]
theorem at_7 (B : (Pipeline.arrRef spec0 7).ty.Idx → Elt Ideal (Pipeline.arrRef spec0 7).ty.elt) (q : Fin 1024) (e : Fin 128) :
    (((cfg0 (F := Ideal) adm).win 7).blk t).view.read (Elt Ideal) B (ix2 q e) = B ((((cfg0 (F := Ideal) adm).win 7).blk t).view.emb (ix2 q e)) := rfl
theorem bl_7 (q : Fin 1024) (e : Fin 128) : blk m c 7 t (ix2 q e) = V m c main_arg2 ((((cfg0 (F := Ideal) adm).win 7).blk t).view.emb (ix2 q e)) := by
  unfold blk; rw [at_7]

/-! ## The entries as numbers -/

variable (hn : Num (m0 m c) (m1 m c) (m2 m c))
include hn

theorem rd_q (q : Fin 1024) (e : Fin 128) : (X m c t).q (ix2 q e) = (((zs m c (hd t)).Q (row (QT (pr t)) q) e : ℝ) : EReal) := by
  unfold X
  exact (bl_0 t q e).trans ((congrFun (V_arg0 m c) _).trans ((congrArg (m0 m c) (emb_0 t q e)).trans (q_eq hn _ _ _)))
theorem rd_k (q : Fin 1024) (e : Fin 128) : (X m c t).k (ix2 q e) = (((zs m c (hd t)).K (row (KT (pr t)) q) e : ℝ) : EReal) := by
  unfold X
  exact (bl_1 t q e).trans ((congrFun (V_arg0 m c) _).trans ((congrArg (m0 m c) (emb_1 t q e)).trans (k_eq hn _ _ _)))
theorem rd_v (q : Fin 1024) (e : Fin 128) : (X m c t).v (ix2 q e) = (((zs m c (hd t)).W (row (KT (pr t)) q) e : ℝ) : EReal) := by
  unfold X
  exact (bl_2 t q e).trans ((congrFun (V_arg0 m c) _).trans ((congrArg (m0 m c) (emb_2 t q e)).trans (v_eq hn _ _ _)))
theorem rd_c (q : Fin 1024) : (X m c t).c (ix3 0 0 q) = (((zs m c (hd t)).C (row (QT (pr t)) q) : ℝ) : EReal) := by
  unfold X
  exact (bl_3 t q).trans ((congrFun (V_v43 m c) _).trans ((congrArg (hv43 (m0 m c) (m1 m c) (m2 m c)) (emb_3 t q)).trans (r43 _ _ hn _)))
theorem rd_ck (k : Fin 1024) (l : Fin 128) : (X m c t).ck (ix3 0 k l) = (((zs m c (hd t)).C (row (KT (pr t)) k) : ℝ) : EReal) := by
  unfold X
  exact (bl_4 t k l).trans ((congrFun (V_v45 m c) _).trans ((congrArg (hv45 (m0 m c) (m1 m c) (m2 m c)) (emb_4 t k l)).trans (r45 _ _ _ hn)))
theorem rd_lse (q : Fin 1024) : (X m c t).lse (ix3 0 0 q) = (((zs m c (hd t)).L (row (QT (pr t)) q) : ℝ) : EReal) := by
  unfold X
  exact (bl_5 t q).trans ((congrFun (V_v46 m c) _).trans ((congrArg (hv46 (m0 m c) (m1 m c) (m2 m c)) (emb_5 t q)).trans (r46 _ _ hn _)))
theorem rd_y (q : Fin 1024) (e : Fin 128) : (X m c t).y (ix2 q e) = (((zs m c (hd t)).yv (row (QT (pr t)) q) e : ℝ) : EReal) := by
  unfold X
  exact (bl_6 t q e).trans ((congrFun (V_v47 m c) _).trans ((congrArg (hv47 (m0 m c) (m1 m c) (m2 m c)) (emb_6 t q e)).trans (r47 _ _ _ hn)))
theorem rd_dy (q : Fin 1024) (e : Fin 128) : (X m c t).dy (ix2 q e) = (((zs m c (hd t)).D (row (QT (pr t)) q) e : ℝ) : EReal) := by
  unfold X
  exact (bl_7 t q e).trans ((congrFun (V_arg2 m c) _).trans ((congrArg (m2 m c) (emb_7 t q e)).trans (d_eq hn _ _ _)))

omit t in
theorem all_reads : AllReads m c (zs m c) := fun t =>
  ⟨rd_q t hn, rd_k t hn, rd_v t hn, rd_c t hn, rd_ck t hn, rd_lse t hn, rd_y t hn, rd_dy t hn⟩

end Cert.Proof.KI

end
-- ==== Proof.Out.lean ====
/-
  The arrays the call leaves, entry by entry, as real numbers.
-/
module

public import proofs.«01_k».proof.Proof.Blocks
public import proofs.«01_k».proof.Proof.Frame
public import Idealize.ShloMosaic.Lib.Pipeline.Value

@[expose] public section

noncomputable section

namespace Cert.Proof.KI

open Cert.KernelIdeal Cert.KernelIdeal.Gen

open Idealize.ShloMosaic
open Idealize.ShloMosaic.TcCoe Idealize.ShloMosaic.Tactic

theorem fl_8 : ∀ t : Fin grid0.N, flC 8 t = true → KT (pr t) = QT (pr t) := by decide +kernel
theorem fl_9 : ∀ t : Fin grid0.N, flC 9 t = true → pr t = 9 := by decide +kernel
theorem fl_10 : ∀ t : Fin grid0.N, flC 10 t = true → pr t = 9 := by decide +kernel
theorem fl_11 : ∀ t : Fin grid0.N, flC 11 t = true → KT (pr t) = QT (pr t) := by decide +kernel
theorem fl_12 : ∀ t : Fin grid0.N, flC 12 t = true → pr t = 9 := by decide +kernel
theorem cov_8 : ∀ h : Fin 8, ∀ n : Fin 4, ∃ t : Fin grid0.N, flC 8 t = true ∧ hd t = h ∧ QT (pr t) = n := by decide +kernel
theorem cov_9 : ∀ h : Fin 8, ∃ t : Fin grid0.N, flC 9 t = true ∧ hd t = h := by decide +kernel
theorem cov_10 : ∀ h : Fin 8, ∃ t : Fin grid0.N, flC 10 t = true ∧ hd t = h := by decide +kernel
theorem cov_11 : ∀ h : Fin 8, ∀ n : Fin 4, ∃ t : Fin grid0.N, flC 11 t = true ∧ hd t = h ∧ QT (pr t) = n := by decide +kernel
theorem cov_12 : ∀ h : Fin 8, ∃ t : Fin grid0.N, flC 12 t = true ∧ hd t = h := by decide +kernel

/-- A row is a tile's. -/
theorem row_split (i : Fin 4096) : row ⟨i.val / 1024, by omega⟩ ⟨i.val % 1024, by omega⟩ = i :=
  Fin.ext (by show 1024 * (i.val / 1024) + i.val % 1024 = i.val; omega)

theorem one_eq (z : Fin 1) : z = 0 := Subsingleton.elim _ _

variable {m : Mem Ideal} {c : Dev nD}

/-! ## Output 0 -/

theorem cx_8 (t : Fin grid0.N) (f : ((cfg0 (F := Ideal) adm).win 8).block.Idx → Elt Ideal ((cfg0 (F := Ideal) adm).win 8).elt) (q : Fin 1024) (e : Fin 128) :
    _root_.cast (congrArg (Elt Ideal) (((cfg0 (F := Ideal) adm).win 8).blk t).view.elt_eq.symm) (f (((cfg0 (F := Ideal) adm).win 8).xinj (grid0.coords t) (ix2 q e))) = f (ix2 q e) := rfl
theorem af_8 (hn : Num (m0 m c) (m1 m c) (m2 m c)) (t : Fin grid0.N) (hf : flC 8 t = true) (q : Fin 1024) (e : Fin 128) :
    aft m c 8 t (ix2 q e) = (((zs m c (hd t)).dq (row (QT (pr t)) q) e : ℝ) : EReal) := by
  unfold aft
  exact out_12 (all_reads hn) t (fl_8 t hf) q e
theorem final_8 (hn : Num (m0 m c) (m1 m c) (m2 m c)) (G : FVec Ideal S4096x1024 .bf16) (hG : ∀ (h : Fin 8) (i : Fin 4096) (e : Fin 128), G (ix2 i (hc h e)) = (((zs m c h).dq i e : ℝ) : EReal)) :
    (dats m 0 c).arrAt 8 (cfg0 (F := Ideal) adm).N = G := by
  refine (dats m 0 c).arrAt_eq_of_emb 8 G (fun t hf y => ?_) (fun i => ?_)
  · have hf' : flC 8 t = true := (flush_eq (F := Ideal) 8 t).symm.trans hf
    obtain ⟨q, e, rfl⟩ : ∃ (q : Fin 1024) (e : Fin 128), y = ix2 q e := ⟨y 0, y 1, (ix2_eta (n0 := 1024) (n1 := 128) y).symm⟩
    refine (cx_8 t (aft m c 8 t) q e).trans ((af_8 hn t hf' q e).trans ?_)
    exact ((congrArg G (emb_8 t q e)).trans (hG _ _ e)).symm
  · obtain ⟨t, hf, h1, h2⟩ := cov_8 ⟨(i 1).val / 128, Nat.div_lt_of_lt_mul (i 1).isLt⟩ ⟨(i 0).val / 1024, Nat.div_lt_of_lt_mul (i 0).isLt⟩
    have hi : i = (((cfg0 (F := Ideal) adm).win 8).blk t).view.emb (ix2 ⟨(i 0).val % 1024, Nat.mod_lt _ (by decide)⟩ ⟨(i 1).val % 128, Nat.mod_lt _ (by decide)⟩) := by
      refine Eq.trans ?_ (emb_8 t _ _).symm
      rw [h1, h2]
      refine (eq_ix2 (n0 := 4096) (n1 := 1024) i).trans ?_
      exact congrArg₂ ix2 (row_split (i 0)).symm (hc_split (i 1))
    rw [hi]
    exact ⟨t, (flush_eq (F := Ideal) 8 t).trans hf, View.emb_mem_set _ _⟩

/-! ## Output 1 -/

theorem cx_9 (t : Fin grid0.N) (f : ((cfg0 (F := Ideal) adm).win 9).block.Idx → Elt Ideal ((cfg0 (F := Ideal) adm).win 9).elt) (j : Fin 4096) (e : Fin 128) :
    _root_.cast (congrArg (Elt Ideal) (((cfg0 (F := Ideal) adm).win 9).blk t).view.elt_eq.symm) (f (((cfg0 (F := Ideal) adm).win 9).xinj (grid0.coords t) (ix2 j e))) = f (ix2 j e) := rfl
theorem af_9 (hn : Num (m0 m c) (m1 m c) (m2 m c)) (t : Fin grid0.N) (hf : flC 9 t = true) (j : Fin 4096) (e : Fin 128) :
    aft m c 9 t (ix2 j e) = (((zs m c (hd t)).dk (j) e : ℝ) : EReal) := by
  unfold aft
  rw [← row_split j]
  exact out_13 (all_reads hn) t (fl_9 t hf) _ _ e
theorem final_9 (hn : Num (m0 m c) (m1 m c) (m2 m c)) (G : FVec Ideal S4096x1024 .bf16) (hG : ∀ (h : Fin 8) (i : Fin 4096) (e : Fin 128), G (ix2 i (hc h e)) = (((zs m c h).dk i e : ℝ) : EReal)) :
    (dats m 0 c).arrAt 9 (cfg0 (F := Ideal) adm).N = G := by
  refine (dats m 0 c).arrAt_eq_of_emb 9 G (fun t hf y => ?_) (fun i => ?_)
  · have hf' : flC 9 t = true := (flush_eq (F := Ideal) 9 t).symm.trans hf
    obtain ⟨j, e, rfl⟩ : ∃ (j : Fin 4096) (e : Fin 128), y = ix2 j e := ⟨y 0, y 1, (ix2_eta (n0 := 4096) (n1 := 128) y).symm⟩
    refine (cx_9 t (aft m c 9 t) j e).trans ((af_9 hn t hf' j e).trans ?_)
    exact ((congrArg G (emb_9 t j e)).trans (hG _ _ e)).symm
  · obtain ⟨t, hf, h1⟩ := cov_9 ⟨(i 1).val / 128, Nat.div_lt_of_lt_mul (i 1).isLt⟩
    have hi : i = (((cfg0 (F := Ideal) adm).win 9).blk t).view.emb (ix2 (i 0) ⟨(i 1).val % 128, Nat.mod_lt _ (by decide)⟩) := by
      refine Eq.trans ?_ (emb_9 t _ _).symm
      rw [h1]
      refine (eq_ix2 (n0 := 4096) (n1 := 1024) i).trans ?_
      exact congrArg₂ ix2 rfl (hc_split (i 1))
    rw [hi]
    exact ⟨t, (flush_eq (F := Ideal) 9 t).trans hf, View.emb_mem_set _ _⟩

/-! ## Output 2 -/

theorem cx_10 (t : Fin grid0.N) (f : ((cfg0 (F := Ideal) adm).win 10).block.Idx → Elt Ideal ((cfg0 (F := Ideal) adm).win 10).elt) (j : Fin 4096) (e : Fin 128) :
    _root_.cast (congrArg (Elt Ideal) (((cfg0 (F := Ideal) adm).win 10).blk t).view.elt_eq.symm) (f (((cfg0 (F := Ideal) adm).win 10).xinj (grid0.coords t) (ix2 j e))) = f (ix2 j e) := rfl
theorem af_10 (hn : Num (m0 m c) (m1 m c) (m2 m c)) (t : Fin grid0.N) (hf : flC 10 t = true) (j : Fin 4096) (e : Fin 128) :
    aft m c 10 t (ix2 j e) = (((zs m c (hd t)).dv (j) e : ℝ) : EReal) := by
  unfold aft
  rw [← row_split j]
  exact out_14 (all_reads hn) t (fl_10 t hf) _ _ e
theorem final_10 (hn : Num (m0 m c) (m1 m c) (m2 m c)) (G : FVec Ideal S4096x1024 .bf16) (hG : ∀ (h : Fin 8) (i : Fin 4096) (e : Fin 128), G (ix2 i (hc h e)) = (((zs m c h).dv i e : ℝ) : EReal)) :
    (dats m 0 c).arrAt 10 (cfg0 (F := Ideal) adm).N = G := by
  refine (dats m 0 c).arrAt_eq_of_emb 10 G (fun t hf y => ?_) (fun i => ?_)
  · have hf' : flC 10 t = true := (flush_eq (F := Ideal) 10 t).symm.trans hf
    obtain ⟨j, e, rfl⟩ : ∃ (j : Fin 4096) (e : Fin 128), y = ix2 j e := ⟨y 0, y 1, (ix2_eta (n0 := 4096) (n1 := 128) y).symm⟩
    refine (cx_10 t (aft m c 10 t) j e).trans ((af_10 hn t hf' j e).trans ?_)
    exact ((congrArg G (emb_10 t j e)).trans (hG _ _ e)).symm
  · obtain ⟨t, hf, h1⟩ := cov_10 ⟨(i 1).val / 128, Nat.div_lt_of_lt_mul (i 1).isLt⟩
    have hi : i = (((cfg0 (F := Ideal) adm).win 10).blk t).view.emb (ix2 (i 0) ⟨(i 1).val % 128, Nat.mod_lt _ (by decide)⟩) := by
      refine Eq.trans ?_ (emb_10 t _ _).symm
      rw [h1]
      refine (eq_ix2 (n0 := 4096) (n1 := 1024) i).trans ?_
      exact congrArg₂ ix2 rfl (hc_split (i 1))
    rw [hi]
    exact ⟨t, (flush_eq (F := Ideal) 10 t).trans hf, View.emb_mem_set _ _⟩

/-! ## Output 3 -/

theorem cx_11 (t : Fin grid0.N) (f : ((cfg0 (F := Ideal) adm).win 11).block.Idx → Elt Ideal ((cfg0 (F := Ideal) adm).win 11).elt) (q : Fin 1024) :
    _root_.cast (congrArg (Elt Ideal) (((cfg0 (F := Ideal) adm).win 11).blk t).view.elt_eq.symm) (f (((cfg0 (F := Ideal) adm).win 11).xinj (grid0.coords t) (ix3 0 0 q))) = f (ix3 0 0 q) := rfl
theorem af_11 (hn : Num (m0 m c) (m1 m c) (m2 m c)) (t : Fin grid0.N) (hf : flC 11 t = true) (q : Fin 1024) :
    aft m c 11 t (ix3 0 0 q) = (((zs m c (hd t)).dcq (row (QT (pr t)) q) : ℝ) : EReal) := by
  unfold aft
  exact out_15 (all_reads hn) t (fl_11 t hf) q
theorem final_11 (hn : Num (m0 m c) (m1 m c) (m2 m c)) (G : FVec Ideal S8x1x4096 .f32) (hG : ∀ (h : Fin 8) (i : Fin 4096), G (ix3 h 0 i) = (((zs m c h).dcq i : ℝ) : EReal)) :
    (dats m 0 c).arrAt 11 (cfg0 (F := Ideal) adm).N = G := by
  refine (dats m 0 c).arrAt_eq_of_emb 11 G (fun t hf y => ?_) (fun i => ?_)
  · have hf' : flC 11 t = true := (flush_eq (F := Ideal) 11 t).symm.trans hf
    obtain ⟨q, rfl⟩ : ∃ (q : Fin 1024), y = ix3 (n0 := 1) (n1 := 1) 0 0 q := ⟨y 2, (eq_ix3 (n0 := 1) (n1 := 1) (n2 := 1024) y).trans (by rw [one_eq (y 0), one_eq (y 1)])⟩
    refine (cx_11 t (aft m c 11 t) q).trans ((af_11 hn t hf' q).trans ?_)
    exact ((congrArg G (emb_11 t q)).trans (hG _ _)).symm
  · obtain ⟨t, hf, h1, h2⟩ := cov_11 (i 0) ⟨(i 2).val / 1024, Nat.div_lt_of_lt_mul (i 2).isLt⟩
    have hi : i = (((cfg0 (F := Ideal) adm).win 11).blk t).view.emb (ix3 0 0 ⟨(i 2).val % 1024, Nat.mod_lt _ (by decide)⟩) := by
      refine Eq.trans ?_ (emb_11 t _).symm
      rw [h1, h2]
      refine (eq_ix3 (n0 := 8) (n1 := 1) (n2 := 4096) i).trans ?_
      rw [one_eq (i 1)]
      exact congrArg (ix3 (i 0) 0) (row_split (i 2)).symm
    rw [hi]
    exact ⟨t, (flush_eq (F := Ideal) 11 t).trans hf, View.emb_mem_set _ _⟩

/-! ## Output 4 -/

theorem cx_12 (t : Fin grid0.N) (f : ((cfg0 (F := Ideal) adm).win 12).block.Idx → Elt Ideal ((cfg0 (F := Ideal) adm).win 12).elt) (j : Fin 4096) :
    _root_.cast (congrArg (Elt Ideal) (((cfg0 (F := Ideal) adm).win 12).blk t).view.elt_eq.symm) (f (((cfg0 (F := Ideal) adm).win 12).xinj (grid0.coords t) (ix3 0 0 j))) = f (ix3 0 0 j) := rfl
theorem af_12 (hn : Num (m0 m c) (m1 m c) (m2 m c)) (t : Fin grid0.N) (hf : flC 12 t = true) (j : Fin 4096) :
    aft m c 12 t (ix3 0 0 j) = (((zs m c (hd t)).dck (j) : ℝ) : EReal) := by
  unfold aft
  rw [← row_split j]
  exact out_16 (all_reads hn) t (fl_12 t hf) _ _
theorem final_12 (hn : Num (m0 m c) (m1 m c) (m2 m c)) (G : FVec Ideal S8x1x4096 .f32) (hG : ∀ (h : Fin 8) (i : Fin 4096), G (ix3 h 0 i) = (((zs m c h).dck i : ℝ) : EReal)) :
    (dats m 0 c).arrAt 12 (cfg0 (F := Ideal) adm).N = G := by
  refine (dats m 0 c).arrAt_eq_of_emb 12 G (fun t hf y => ?_) (fun i => ?_)
  · have hf' : flC 12 t = true := (flush_eq (F := Ideal) 12 t).symm.trans hf
    obtain ⟨j, rfl⟩ : ∃ (j : Fin 4096), y = ix3 (n0 := 1) (n1 := 1) 0 0 j := ⟨y 2, (eq_ix3 (n0 := 1) (n1 := 1) (n2 := 4096) y).trans (by rw [one_eq (y 0), one_eq (y 1)])⟩
    refine (cx_12 t (aft m c 12 t) j).trans ((af_12 hn t hf' j).trans ?_)
    exact ((congrArg G (emb_12 t j)).trans (hG _ _)).symm
  · obtain ⟨t, hf, h1⟩ := cov_12 (i 0)
    have hi : i = (((cfg0 (F := Ideal) adm).win 12).blk t).view.emb (ix3 0 0 (i 2)) := by
      refine Eq.trans ?_ (emb_12 t _).symm
      rw [h1]
      refine (eq_ix3 (n0 := 8) (n1 := 1) (n2 := 4096) i).trans ?_
      rw [one_eq (i 1)]
    rw [hi]
    exact ⟨t, (flush_eq (F := Ideal) 12 t).trans hf, View.emb_mem_set _ _⟩

end Cert.Proof.KI

end
-- ==== Proof.Ref.lean ====
/-
  The arrays the reference computes, as functions of the arguments.
-/
module

public import proofs.«01_k».proof.Proof.Ind
public import Idealize.ShloMosaic.Lib.Pointwise
public import proofs.«01_k».proof.Proof.Gen.ReferenceIdeal.Run

@[expose] public section

noncomputable section

namespace Cert.Proof.RI

open Cert.ReferenceIdeal Cert.ReferenceIdeal.Gen

open Idealize.ShloMosaic
open Idealize.ShloMosaic.TcCoe Idealize.ShloMosaic.Tactic

def rv6 (a0 : FVec Ideal S4096x6144 .bf16) (a1 : FVec Ideal S4096x8 .f32) (a2 : FVec Ideal S4096x1024 .f32) : FVec Ideal S4096x8x128 .f32 := extf .f32 (shapeCast _ (extractStridedSlice S4096x1024 ![0, 0] a0 slices_S4096x6144_S4096x1024_0_0) shapeCasts_S4096x1024_S4096x8x128) bitsLt_bf16_f32
def rv7 (a0 : FVec Ideal S4096x6144 .bf16) (a1 : FVec Ideal S4096x8 .f32) (a2 : FVec Ideal S4096x1024 .f32) : FVec Ideal S4096x8x128 .f32 := extf .f32 (shapeCast _ (extractStridedSlice S4096x1024 ![0, 1024] a0 slices_S4096x6144_S4096x1024_0_1024) shapeCasts_S4096x1024_S4096x8x128) bitsLt_bf16_f32
def rv8 (a0 : FVec Ideal S4096x6144 .bf16) (a1 : FVec Ideal S4096x8 .f32) (a2 : FVec Ideal S4096x1024 .f32) : FVec Ideal S8x4096x4096 .f32 := Host.dotGeneral dot_S4096x8x128_S4096x8x128_S8x4096x4096_2_2_0_0_1_1 none (rv6 a0 a1 a2) (rv7 a0 a1 a2)
def rv25 (a0 : FVec Ideal S4096x6144 .bf16) (a1 : FVec Ideal S4096x8 .f32) (a2 : FVec Ideal S4096x1024 .f32) : IVec S4096x4096 1 := cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))
def rv26_0 (a0 : FVec Ideal S4096x6144 .bf16) (a1 : FVec Ideal S4096x8 .f32) (a2 : FVec Ideal S4096x1024 .f32) : FVec Ideal S8x4096x4096 .f32 := select (broadcastInDim S8x4096x4096 ![1, 2] bcast_S4096x4096_S8x4096x4096_1_2 (rv25 a0 a1 a2)) (addf (mulf (rv8 a0 a1 a2) (broadcastInDim S8x4096x4096 ![] bcast_S_S8x4096x4096 (constant S_ .f32 0x3DB504F3#32))) (subf (broadcastInDim S8x4096x4096 ![0, 1, 2] bcast_S8x4096x1_S8x4096x4096_0_1_2 (broadcastInDim S8x4096x1 ![0, 1] bcast_S8x4096_S8x4096x1_0_1 (transpose S8x4096 [1, 0] a1 transposes_S4096x8_S8x4096_1_0))) (broadcastInDim S8x4096x4096 ![0, 1, 2] bcast_S8x1x4096_S8x4096x4096_0_1_2 (broadcastInDim S8x1x4096 ![0, 2] bcast_S8x4096_S8x1x4096_0_2 (transpose S8x4096 [1, 0] a1 transposes_S4096x8_S8x4096_1_0))))) (broadcastInDim S8x4096x4096 ![] bcast_S_S8x4096x4096 ((constant S_ .f32 0xFF800000#32)))
def rv27 (a0 : FVec Ideal S4096x6144 .bf16) (a1 : FVec Ideal S4096x8 .f32) (a2 : FVec Ideal S4096x1024 .f32) : FVec Ideal S8x4096 .f32 := Host.reduce FloatOps.maximumf (rv26_0 a0 a1 a2) (constant S_ .f32 0xFF800000#32) reducesTo_S8x4096x4096_S8x4096_d2 h_S_
def rv34 (a0 : FVec Ideal S4096x6144 .bf16) (a1 : FVec Ideal S4096x8 .f32) (a2 : FVec Ideal S4096x1024 .f32) : FVec Ideal S8x4096 .f32 := maximumf (broadcastInDim S8x4096 ![] bcast_S_S8x4096 (constant S_ .f32 0xFF800000#32)) (rv27 a0 a1 a2)
def rv47 (a0 : FVec Ideal S4096x6144 .bf16) (a1 : FVec Ideal S4096x8 .f32) (a2 : FVec Ideal S4096x1024 .f32) : FVec Ideal S8x4096x4096 .f32 := Host.exp (subf (rv26_0 a0 a1 a2) (broadcastInDim S8x4096x4096 ![0, 1, 2] bcast_S8x4096x1_S8x4096x4096_0_1_2 (broadcastInDim S8x4096x1 ![0, 1] bcast_S8x4096_S8x4096x1_0_1 (rv34 a0 a1 a2))))
def rv48 (a0 : FVec Ideal S4096x6144 .bf16) (a1 : FVec Ideal S4096x8 .f32) (a2 : FVec Ideal S4096x1024 .f32) : FVec Ideal S8x4096 .f32 := Host.reduceAdd (rv47 a0 a1 a2) (constant S_ .f32 0x00000000#32) reducesTo_S8x4096x4096_S8x4096_d2 h_S_
def rv56 (a0 : FVec Ideal S4096x6144 .bf16) (a1 : FVec Ideal S4096x8 .f32) (a2 : FVec Ideal S4096x1024 .f32) : FVec Ideal S8x4096x4096 .f32 := extf .f32 (truncf .bf16 (Host.divf (rv47 a0 a1 a2) (broadcastInDim S8x4096x4096 ![0, 1, 2] bcast_S8x4096x1_S8x4096x4096_0_1_2 (broadcastInDim S8x4096x1 ![0, 1] bcast_S8x4096_S8x4096x1_0_1 (rv48 a0 a1 a2)))) bitsLt_bf16_f32) bitsLt_bf16_f32
def rv57 (a0 : FVec Ideal S4096x6144 .bf16) (a1 : FVec Ideal S4096x8 .f32) (a2 : FVec Ideal S4096x1024 .f32) : FVec Ideal S4096x8x128 .f32 := extf .f32 (shapeCast _ (extractStridedSlice S4096x1024 ![0, 2048] a0 slices_S4096x6144_S4096x1024_0_2048) shapeCasts_S4096x1024_S4096x8x128) bitsLt_bf16_f32
def rv65 (a0 : FVec Ideal S4096x6144 .bf16) (a1 : FVec Ideal S4096x8 .f32) (a2 : FVec Ideal S4096x1024 .f32) : FVec Ideal S8x128x4096 .f32 := transpose S8x128x4096 [1, 2, 0] (extf .f32 (truncf .bf16 (shapeCast _ a2 shapeCasts_S4096x1024_S4096x8x128) bitsLt_bf16_f32) bitsLt_bf16_f32) transposes_S4096x8x128_S8x128x4096_1_2_0
def rv66 (a0 : FVec Ideal S4096x6144 .bf16) (a1 : FVec Ideal S4096x8 .f32) (a2 : FVec Ideal S4096x1024 .f32) : FVec Ideal S8x4096x4096 .f32 := Host.dotGeneral dot_S8x128x4096_S4096x8x128_S8x4096x4096_1_2_2_0_0_1 none (rv65 a0 a1 a2) (rv57 a0 a1 a2)
def rv67 (a0 : FVec Ideal S4096x6144 .bf16) (a1 : FVec Ideal S4096x8 .f32) (a2 : FVec Ideal S4096x1024 .f32) : FVec Ideal S8x128x4096 .f32 := Host.dotGeneral dot_S8x128x4096_S8x4096x4096_S8x128x4096_2_1_1_2_0_0 none (rv65 a0 a1 a2) (rv56 a0 a1 a2)
def rv75 (a0 : FVec Ideal S4096x6144 .bf16) (a1 : FVec Ideal S4096x8 .f32) (a2 : FVec Ideal S4096x1024 .f32) : FVec Ideal S8x4096 .f32 := Host.reduceAdd (mulf (mulf (extf .f32 (truncf .bf16 (rv66 a0 a1 a2) bitsLt_bf16_f32) bitsLt_bf16_f32) (broadcastInDim S8x4096x4096 ![0, 1, 2] bcast_S8x4096x1_S8x4096x4096_0_1_2 (Host.divf (broadcastInDim S8x4096x1 ![] bcast_S_S8x4096x1 (constant S_ .f32 0x3F800000#32)) (mulf (broadcastInDim S8x4096x1 ![0, 1] bcast_S8x4096_S8x4096x1_0_1 (rv48 a0 a1 a2)) (broadcastInDim S8x4096x1 ![0, 1] bcast_S8x4096_S8x4096x1_0_1 (rv48 a0 a1 a2)))))) (rv47 a0 a1 a2)) (constant S_ .f32 0x00000000#32) reducesTo_S8x4096x4096_S8x4096_d2 h_S_
def rv76 (a0 : FVec Ideal S4096x6144 .bf16) (a1 : FVec Ideal S4096x8 .f32) (a2 : FVec Ideal S4096x1024 .f32) : FVec Ideal S8x4096x1 .f32 := shapeCast _ (rv75 a0 a1 a2) shapeCasts_S8x4096_S8x4096x1
def rv80 (a0 : FVec Ideal S4096x6144 .bf16) (a1 : FVec Ideal S4096x8 .f32) (a2 : FVec Ideal S4096x1024 .f32) : FVec Ideal S8x4096 .f32 := Host.reduceAdd (Host.negf (rv76 a0 a1 a2)) (constant S_ .f32 0x00000000#32) reducesTo_S8x4096x1_S8x4096_d2 h_S_
def rv83 (a0 : FVec Ideal S4096x6144 .bf16) (a1 : FVec Ideal S4096x8 .f32) (a2 : FVec Ideal S4096x1024 .f32) : FVec Ideal S8x4096x4096 .f32 := mulf (addf (Host.divf (extf .f32 (truncf .bf16 (rv66 a0 a1 a2) bitsLt_bf16_f32) bitsLt_bf16_f32) (broadcastInDim S8x4096x4096 ![0, 1, 2] bcast_S8x4096x1_S8x4096x4096_0_1_2 (broadcastInDim S8x4096x1 ![0, 1] bcast_S8x4096_S8x4096x1_0_1 (rv48 a0 a1 a2)))) (broadcastInDim S8x4096x4096 ![0, 1] bcast_S8x4096_S8x4096x4096_0_1 (rv80 a0 a1 a2))) (rv47 a0 a1 a2)
def rv84 (a0 : FVec Ideal S4096x6144 .bf16) (a1 : FVec Ideal S4096x8 .f32) (a2 : FVec Ideal S4096x1024 .f32) : FVec Ideal S8x4096x4096 .f32 := select (broadcastInDim S8x4096x4096 ![1, 2] bcast_S4096x4096_S8x4096x4096_1_2 (rv25 a0 a1 a2)) (rv83 a0 a1 a2) (broadcastInDim S8x4096x4096 ![] bcast_S_S8x4096x4096 (constant S_ .f32 0x00000000#32))
def rv85 (a0 : FVec Ideal S4096x6144 .bf16) (a1 : FVec Ideal S4096x8 .f32) (a2 : FVec Ideal S4096x1024 .f32) : FVec Ideal S8x4096 .f32 := Host.reduceAdd (rv84 a0 a1 a2) (constant S_ .f32 0x00000000#32) reducesTo_S8x4096x4096_S8x4096_d2 h_S_
def rv86 (a0 : FVec Ideal S4096x6144 .bf16) (a1 : FVec Ideal S4096x8 .f32) (a2 : FVec Ideal S4096x1024 .f32) : FVec Ideal S8x4096x1 .f32 := shapeCast _ (rv85 a0 a1 a2) shapeCasts_S8x4096_S8x4096x1
def rv88 (a0 : FVec Ideal S4096x6144 .bf16) (a1 : FVec Ideal S4096x8 .f32) (a2 : FVec Ideal S4096x1024 .f32) : FVec Ideal S8x4096 .f32 := Host.reduceAdd (Host.negf (rv84 a0 a1 a2)) (constant S_ .f32 0x00000000#32) reducesTo_S8x4096x4096_S8x4096_d1 h_S_
def rv89 (a0 : FVec Ideal S4096x6144 .bf16) (a1 : FVec Ideal S4096x8 .f32) (a2 : FVec Ideal S4096x1024 .f32) : FVec Ideal S8x1x4096 .f32 := shapeCast _ (rv88 a0 a1 a2) shapeCasts_S8x4096_S8x1x4096
def rv90 (a0 : FVec Ideal S4096x6144 .bf16) (a1 : FVec Ideal S4096x8 .f32) (a2 : FVec Ideal S4096x1024 .f32) : FVec Ideal S8x4096 .f32 := Host.reduceAdd (rv89 a0 a1 a2) (constant S_ .f32 0x00000000#32) reducesTo_S8x1x4096_S8x4096_d1 h_S_
def rv92 (a0 : FVec Ideal S4096x6144 .bf16) (a1 : FVec Ideal S4096x8 .f32) (a2 : FVec Ideal S4096x1024 .f32) : FVec Ideal S8x4096 .f32 := Host.reduceAdd (rv86 a0 a1 a2) (constant S_ .f32 0x00000000#32) reducesTo_S8x4096x1_S8x4096_d2 h_S_
def rv95 (a0 : FVec Ideal S4096x6144 .bf16) (a1 : FVec Ideal S4096x8 .f32) (a2 : FVec Ideal S4096x1024 .f32) : FVec Ideal S8x4096x4096 .f32 := mulf (rv84 a0 a1 a2) (broadcastInDim S8x4096x4096 ![] bcast_S_S8x4096x4096 (constant S_ .f32 0x3DB504F3#32))
def rv96 (a0 : FVec Ideal S4096x6144 .bf16) (a1 : FVec Ideal S4096x8 .f32) (a2 : FVec Ideal S4096x1024 .f32) : FVec Ideal S8x4096x128 .f32 := Host.dotGeneral dot_S8x4096x4096_S4096x8x128_S8x4096x128_1_0_2_2_0_1 none (rv95 a0 a1 a2) (rv6 a0 a1 a2)
def rv98 (a0 : FVec Ideal S4096x6144 .bf16) (a1 : FVec Ideal S4096x8 .f32) (a2 : FVec Ideal S4096x1024 .f32) : FVec Ideal S8x4096x128 .f32 := Host.dotGeneral dot_S8x4096x4096_S4096x8x128_S8x4096x128_2_0_1_2_0_1 none (rv95 a0 a1 a2) (rv7 a0 a1 a2)
def rv102 (a0 : FVec Ideal S4096x6144 .bf16) (a1 : FVec Ideal S4096x8 .f32) (a2 : FVec Ideal S4096x1024 .f32) : FVec Ideal S4096x1024 .bf16 := shapeCast _ (truncf .bf16 (transpose S4096x8x128 [1, 0, 2] (rv98 a0 a1 a2) transposes_S8x4096x128_S4096x8x128_1_0_2) bitsLt_bf16_f32) shapeCasts_S4096x8x128_S4096x1024
def rv103 (a0 : FVec Ideal S4096x6144 .bf16) (a1 : FVec Ideal S4096x8 .f32) (a2 : FVec Ideal S4096x1024 .f32) : FVec Ideal S4096x1024 .bf16 := shapeCast _ (truncf .bf16 (transpose S4096x8x128 [1, 0, 2] (rv96 a0 a1 a2) transposes_S8x4096x128_S4096x8x128_1_0_2) bitsLt_bf16_f32) shapeCasts_S4096x8x128_S4096x1024
def rv104 (a0 : FVec Ideal S4096x6144 .bf16) (a1 : FVec Ideal S4096x8 .f32) (a2 : FVec Ideal S4096x1024 .f32) : FVec Ideal S4096x1024 .bf16 := shapeCast _ (truncf .bf16 (transpose S4096x8x128 [2, 0, 1] (rv67 a0 a1 a2) transposes_S8x128x4096_S4096x8x128_2_0_1) bitsLt_bf16_f32) shapeCasts_S4096x8x128_S4096x1024
def rv106 (a0 : FVec Ideal S4096x6144 .bf16) (a1 : FVec Ideal S4096x8 .f32) (a2 : FVec Ideal S4096x1024 .f32) : FVec Ideal S8x1x4096 .f32 := broadcastInDim S8x1x4096 ![0, 2] bcast_S8x4096_S8x1x4096_0_2 (transpose S8x4096 [1, 0] (transpose S4096x8 [1, 0] (rv92 a0 a1 a2) transposes_S8x4096_S4096x8_1_0) transposes_S4096x8_S8x4096_1_0)
def rv108 (a0 : FVec Ideal S4096x6144 .bf16) (a1 : FVec Ideal S4096x8 .f32) (a2 : FVec Ideal S4096x1024 .f32) : FVec Ideal S8x1x4096 .f32 := broadcastInDim S8x1x4096 ![0, 2] bcast_S8x4096_S8x1x4096_0_2 (transpose S8x4096 [1, 0] (transpose S4096x8 [1, 0] (rv90 a0 a1 a2) transposes_S8x4096_S4096x8_1_0) transposes_S4096x8_S8x4096_1_0)

variable (m : (ℓ : Loc nD τ sig) → Buf (Elt Ideal) ℓ) (c : Dev nD)

abbrev m0 : FVec Ideal S4096x6144 .bf16 := m ((c.tc : Thread nD τ).loc main_arg0)
abbrev m1 : FVec Ideal S4096x8 .f32 := m ((c.tc : Thread nD τ).loc main_arg1)
abbrev m2 : FVec Ideal S4096x1024 .f32 := m ((c.tc : Thread nD τ).loc main_arg2)

set_option maxRecDepth 8192 in
theorem res_v102 : Value.res_main_v102 m c = rv102 (m0 m c) (m1 m c) (m2 m c) := by
  unfold Value.res_main_v102; rfl

set_option maxRecDepth 8192 in
theorem res_v103 : Value.res_main_v103 m c = rv103 (m0 m c) (m1 m c) (m2 m c) := by
  unfold Value.res_main_v103; rfl

set_option maxRecDepth 8192 in
theorem res_v104 : Value.res_main_v104 m c = rv104 (m0 m c) (m1 m c) (m2 m c) := by
  unfold Value.res_main_v104; rfl

set_option maxRecDepth 8192 in
theorem res_v106 : Value.res_main_v106 m c = rv106 (m0 m c) (m1 m c) (m2 m c) := by
  unfold Value.res_main_v106; rfl

set_option maxRecDepth 8192 in
theorem res_v108 : Value.res_main_v108 m c = rv108 (m0 m c) (m1 m c) (m2 m c) := by
  unfold Value.res_main_v108; rfl

end Cert.Proof.RI

end
-- ==== Proof.RefVal.lean ====
/-
  The arrays the reference computes, entry by entry, as real numbers.
-/
module

public import proofs.«01_k».proof.Proof.Ref
public import proofs.«01_k».proof.Proof.Real

@[expose] public section

noncomputable section

namespace Cert.Proof.RI

open Cert.ReferenceIdeal Cert.ReferenceIdeal.Gen

open Idealize.ShloMosaic
open Idealize.ShloMosaic.TcCoe Idealize.ShloMosaic.Tactic

open KI (Hd sg coe_sum coe_sum_mul)

/-! ## Each operation at an index -/

section
variable (i j : Fin 4096) (h : Fin 8) (e : Fin 128)

theorem g8 (x y : FVec Ideal S4096x8x128 .f32) :
    (Host.dotGeneral dot_S4096x8x128_S4096x8x128_S8x4096x4096_2_2_0_0_1_1 none x y : FVec Ideal S8x4096x4096 .f32) (ix3 h i j) = (∑ e, x (ix3 i h e) * y (ix3 j h e) : EReal) := by pointwise
theorem g25 (a0 : A0) (a1 : A1) (a2 : A2) : rv25 a0 a1 a2 (ix2 i j) = IntOp.cmpi .sle (BitVec.ofNat 32 j.val) (BitVec.ofNat 32 i.val) := by
  unfold rv25; pointwise
theorem g26 (k : IVec S4096x4096 1) (s : FVec Ideal S8x4096x4096 .f32) (a1 : A1) :
    select (broadcastInDim S8x4096x4096 ![1, 2] bcast_S4096x4096_S8x4096x4096_1_2 k) (addf (mulf s (broadcastInDim S8x4096x4096 ![] bcast_S_S8x4096x4096 (constant (F := Ideal) S_ .f32 0x3DB504F3#32))) (subf (broadcastInDim S8x4096x4096 ![0, 1, 2] bcast_S8x4096x1_S8x4096x4096_0_1_2 (broadcastInDim S8x4096x1 ![0, 1] bcast_S8x4096_S8x4096x1_0_1 (transpose S8x4096 [1, 0] a1 transposes_S4096x8_S8x4096_1_0))) (broadcastInDim S8x4096x4096 ![0, 1, 2] bcast_S8x1x4096_S8x4096x4096_0_1_2 (broadcastInDim S8x1x4096 ![0, 2] bcast_S8x4096_S8x1x4096_0_2 (transpose S8x4096 [1, 0] a1 transposes_S4096x8_S8x4096_1_0))))) (broadcastInDim S8x4096x4096 ![] bcast_S_S8x4096x4096 ((constant S_ .f32 0xFF800000#32))) (ix3 h i j)
    = (Scalar.select (k (ix2 i j)) (s (ix3 h i j) * Ideal.ofBits .f32 0x3DB504F3#32 + (a1 (ix2 i h) - a1 (ix2 j h))) (Ideal.ofBits .f32 0xFF800000#32) : EReal) := by pointwise
theorem g27 (x : FVec Ideal S8x4096x4096 .f32) :
    (Host.reduce FloatOps.maximumf x (constant S_ .f32 0xFF800000#32) reducesTo_S8x4096x4096_S8x4096_d2 h_S_ : FVec Ideal S8x4096 .f32) (ix2 h i) = (Finset.fold max (Ideal.ofBits .f32 0xFF800000#32) (fun j => x (ix3 h i j)) Finset.univ : EReal) := by pointwise
theorem g34 (x : FVec Ideal S8x4096 .f32) :
    maximumf (broadcastInDim S8x4096 ![] bcast_S_S8x4096 (constant S_ .f32 0xFF800000#32)) x (ix2 h i) = (max (Ideal.ofBits .f32 0xFF800000#32) (x (ix2 h i)) : EReal) := by pointwise
theorem g47 (x : FVec Ideal S8x4096x4096 .f32) (y : FVec Ideal S8x4096 .f32) :
    (Host.exp (subf x (broadcastInDim S8x4096x4096 ![0, 1, 2] bcast_S8x4096x1_S8x4096x4096_0_1_2 (broadcastInDim S8x4096x1 ![0, 1] bcast_S8x4096_S8x4096x1_0_1 y)))) (ix3 h i j) = (Ideal.exp (x (ix3 h i j) - y (ix2 h i)) : EReal) := by pointwise
theorem g48 (x : FVec Ideal S8x4096x4096 .f32) :
    (Host.reduceAdd x (constant S_ .f32 0x00000000#32) reducesTo_S8x4096x4096_S8x4096_d2 h_S_ : FVec Ideal S8x4096 .f32) (ix2 h i) = (∑ j, x (ix3 h i j) : EReal) := by pointwise
theorem g56 (x : FVec Ideal S8x4096x4096 .f32) (y : FVec Ideal S8x4096 .f32) :
    (extf .f32 (truncf .bf16 (Host.divf x (broadcastInDim S8x4096x4096 ![0, 1, 2] bcast_S8x4096x1_S8x4096x4096_0_1_2 (broadcastInDim S8x4096x1 ![0, 1] bcast_S8x4096_S8x4096x1_0_1 y))) bitsLt_bf16_f32) bitsLt_bf16_f32) (ix3 h i j) = (Ideal.div (x (ix3 h i j)) (y (ix2 h i)) : EReal) := by pointwise
theorem g66 (x : FVec Ideal S8x128x4096 .f32) (y : FVec Ideal S4096x8x128 .f32) :
    (Host.dotGeneral dot_S8x128x4096_S4096x8x128_S8x4096x4096_1_2_2_0_0_1 none x y : FVec Ideal S8x4096x4096 .f32) (ix3 h i j) = (∑ e, x (ix3 h e i) * y (ix3 j h e) : EReal) := by pointwise
theorem g67 (x : FVec Ideal S8x128x4096 .f32) (y : FVec Ideal S8x4096x4096 .f32) :
    (Host.dotGeneral dot_S8x128x4096_S8x4096x4096_S8x128x4096_2_1_1_2_0_0 none x y : FVec Ideal S8x128x4096 .f32) (ix3 h e j) = (∑ i, x (ix3 h e i) * y (ix3 h i j) : EReal) := by pointwise
theorem g75 (x w : FVec Ideal S8x4096x4096 .f32) (s : FVec Ideal S8x4096 .f32) :
    (Host.reduceAdd (mulf (mulf (extf .f32 (truncf .bf16 x bitsLt_bf16_f32) bitsLt_bf16_f32) (broadcastInDim S8x4096x4096 ![0, 1, 2] bcast_S8x4096x1_S8x4096x4096_0_1_2 (Host.divf (broadcastInDim S8x4096x1 ![] bcast_S_S8x4096x1 (constant S_ .f32 0x3F800000#32)) (mulf (broadcastInDim S8x4096x1 ![0, 1] bcast_S8x4096_S8x4096x1_0_1 s) (broadcastInDim S8x4096x1 ![0, 1] bcast_S8x4096_S8x4096x1_0_1 s))))) w) (constant S_ .f32 0x00000000#32) reducesTo_S8x4096x4096_S8x4096_d2 h_S_ : FVec Ideal S8x4096 .f32) (ix2 h i)
    = (∑ j, x (ix3 h i j) * Ideal.div (Ideal.ofBits .f32 0x3F800000#32) (s (ix2 h i) * s (ix2 h i)) * w (ix3 h i j) : EReal) := by pointwise
theorem g80 (x : FVec Ideal S8x4096x1 .f32) :
    (Host.reduceAdd (Host.negf x) (constant S_ .f32 0x00000000#32) reducesTo_S8x4096x1_S8x4096_d2 h_S_ : FVec Ideal S8x4096 .f32) (ix2 h i) = (∑ z : Fin 1, -x (ix3 h i z) : EReal) := by pointwise
theorem g83 (x w : FVec Ideal S8x4096x4096 .f32) (s d : FVec Ideal S8x4096 .f32) :
    mulf (addf (Host.divf (extf .f32 (truncf .bf16 x bitsLt_bf16_f32) bitsLt_bf16_f32) (broadcastInDim S8x4096x4096 ![0, 1, 2] bcast_S8x4096x1_S8x4096x4096_0_1_2 (broadcastInDim S8x4096x1 ![0, 1] bcast_S8x4096_S8x4096x1_0_1 s))) (broadcastInDim S8x4096x4096 ![0, 1] bcast_S8x4096_S8x4096x4096_0_1 d)) w (ix3 h i j)
    = ((Ideal.div (x (ix3 h i j)) (s (ix2 h i)) + d (ix2 h i)) * w (ix3 h i j) : EReal) := by pointwise
theorem g84 (k : IVec S4096x4096 1) (x : FVec Ideal S8x4096x4096 .f32) :
    select (broadcastInDim S8x4096x4096 ![1, 2] bcast_S4096x4096_S8x4096x4096_1_2 k) x (broadcastInDim S8x4096x4096 ![] bcast_S_S8x4096x4096 (constant S_ .f32 0x00000000#32)) (ix3 h i j)
    = (Scalar.select (k (ix2 i j)) (x (ix3 h i j)) (0 : EReal) : EReal) := by pointwise
theorem g88 (x : FVec Ideal S8x4096x4096 .f32) :
    (Host.reduceAdd (Host.negf x) (constant S_ .f32 0x00000000#32) reducesTo_S8x4096x4096_S8x4096_d1 h_S_ : FVec Ideal S8x4096 .f32) (ix2 h j) = (∑ i, -x (ix3 h i j) : EReal) := by pointwise
theorem g90 (x : FVec Ideal S8x1x4096 .f32) :
    (Host.reduceAdd x (constant S_ .f32 0x00000000#32) reducesTo_S8x1x4096_S8x4096_d1 h_S_ : FVec Ideal S8x4096 .f32) (ix2 h j) = (∑ z : Fin 1, x (ix3 h z j) : EReal) := by pointwise
theorem g92 (x : FVec Ideal S8x4096x1 .f32) :
    (Host.reduceAdd x (constant S_ .f32 0x00000000#32) reducesTo_S8x4096x1_S8x4096_d2 h_S_ : FVec Ideal S8x4096 .f32) (ix2 h i) = (∑ z : Fin 1, x (ix3 h i z) : EReal) := by pointwise
theorem g95 (x : FVec Ideal S8x4096x4096 .f32) :
    mulf x (broadcastInDim S8x4096x4096 ![] bcast_S_S8x4096x4096 (constant S_ .f32 0x3DB504F3#32)) (ix3 h i j) = (x (ix3 h i j) * Ideal.ofBits .f32 0x3DB504F3#32 : EReal) := by pointwise
theorem g96 (x : FVec Ideal S8x4096x4096 .f32) (y : FVec Ideal S4096x8x128 .f32) :
    (Host.dotGeneral dot_S8x4096x4096_S4096x8x128_S8x4096x128_1_0_2_2_0_1 none x y : FVec Ideal S8x4096x128 .f32) (ix3 h j e) = (∑ i, x (ix3 h i j) * y (ix3 i h e) : EReal) := by pointwise
theorem g98 (x : FVec Ideal S8x4096x4096 .f32) (y : FVec Ideal S4096x8x128 .f32) :
    (Host.dotGeneral dot_S8x4096x4096_S4096x8x128_S8x4096x128_2_0_1_2_0_1 none x y : FVec Ideal S8x4096x128 .f32) (ix3 h i e) = (∑ j, x (ix3 h i j) * y (ix3 j h e) : EReal) := by pointwise
theorem g102 (x : FVec Ideal S8x4096x128 .f32) :
    (shapeCast S4096x1024 (truncf .bf16 (transpose S4096x8x128 [1, 0, 2] x transposes_S8x4096x128_S4096x8x128_1_0_2) bitsLt_bf16_f32) shapeCasts_S4096x8x128_S4096x1024) (ix2 i (hc h e)) = (x (ix3 h i e) : EReal) := by
  have g : ∀ n : Fin 1024, (shapeCast S4096x1024 (truncf .bf16 (transpose S4096x8x128 [1, 0, 2] x transposes_S8x4096x128_S4096x8x128_1_0_2) bitsLt_bf16_f32) shapeCasts_S4096x8x128_S4096x1024) (ix2 i n) = (x (ix3 ⟨n.val / 128, by omega⟩ i ⟨n.val % 128, by omega⟩) : EReal) := by
    intro n; pointwise
  rw [g]
  congr 2
  · exact Fin.ext (by show (h.val * 128 + e.val) / 128 = h.val; omega)
  · exact Fin.ext (by show (h.val * 128 + e.val) % 128 = e.val; omega)
theorem g104 (x : FVec Ideal S8x128x4096 .f32) :
    (shapeCast S4096x1024 (truncf .bf16 (transpose S4096x8x128 [2, 0, 1] x transposes_S8x128x4096_S4096x8x128_2_0_1) bitsLt_bf16_f32) shapeCasts_S4096x8x128_S4096x1024) (ix2 i (hc h e)) = (x (ix3 h e i) : EReal) := by
  have g : ∀ n : Fin 1024, (shapeCast S4096x1024 (truncf .bf16 (transpose S4096x8x128 [2, 0, 1] x transposes_S8x128x4096_S4096x8x128_2_0_1) bitsLt_bf16_f32) shapeCasts_S4096x8x128_S4096x1024) (ix2 i n) = (x (ix3 ⟨n.val / 128, by omega⟩ ⟨n.val % 128, by omega⟩ i) : EReal) := by
    intro n; pointwise
  rw [g]
  congr 2
  · exact Fin.ext (by show (h.val * 128 + e.val) / 128 = h.val; omega)
  · exact Fin.ext (by show (h.val * 128 + e.val) % 128 = e.val; omega)
theorem g106 (x : FVec Ideal S8x4096 .f32) (z : Fin 1) :
    broadcastInDim S8x1x4096 ![0, 2] bcast_S8x4096_S8x1x4096_0_2 (transpose S8x4096 [1, 0] (transpose S4096x8 [1, 0] x transposes_S8x4096_S4096x8_1_0) transposes_S4096x8_S8x4096_1_0) (ix3 h z i) = (x (ix2 h i) : EReal) := by pointwise

end

/-! ## The arrays -/

section
variable (a0 : A0) (a1 : A1) (a2 : A2) (i j : Fin 4096) (h : Fin 8) (e : Fin 128)

theorem r6 : rv6 a0 a1 a2 (ix3 i h e) = (a0 (ix2 i (qc h e)) : EReal) := by unfold rv6; pointwise; rfl
theorem r7 : rv7 a0 a1 a2 (ix3 i h e) = (a0 (ix2 i (kc h e)) : EReal) := by unfold rv7; pointwise; rfl
theorem r57 : rv57 a0 a1 a2 (ix3 i h e) = (a0 (ix2 i (vc h e)) : EReal) := by unfold rv57; pointwise; rfl
theorem r65 : rv65 a0 a1 a2 (ix3 h e i) = (a2 (ix2 i (hc h e)) : EReal) := by unfold rv65; pointwise; rfl

variable {a0 a1 a2} (hn : Num a0 a1 a2)
include hn

theorem r8 : rv8 a0 a1 a2 (ix3 h i j) = ((∑ e, (zOf a0 a1 a2 h).Q i e * (zOf a0 a1 a2 h).K j e : ℝ) : EReal) := by
  unfold rv8
  refine (g8 _ _ _ _ _).trans ?_
  rw [← coe_sum_mul]
  refine Finset.sum_congr rfl fun e _ => ?_
  rw [r6, r7, q_eq hn, k_eq hn]

theorem r26 : rv26_0 a0 a1 a2 (ix3 h i j) = msk (zOf a0 a1 a2 h) i j := by
  unfold rv26_0
  refine (g26 _ _ _ _ _ _).trans ?_
  rw [g25, sel_mask, c_eq hn, c_eq hn]
  exact lg_eq _ _ _ _ (r8 _ _ _ hn)

theorem r34 : ∃ M : ℝ, rv34 a0 a1 a2 (ix2 h i) = ((M : ℝ) : EReal) := by
  obtain ⟨M, hM⟩ := max_msk (zOf a0 a1 a2 h) i
  refine ⟨M, ?_⟩
  unfold rv34
  refine (g34 _ _ _).trans ?_
  unfold rv27
  rw [g27, bot_bits, max_eq_right bot_le, ← hM]
  exact congrArg (fun f => Finset.fold max ⊥ f Finset.univ) (funext fun j => r26 i j h hn)

theorem r47 (M : ℝ) (hM : rv34 a0 a1 a2 (ix2 h i) = ((M : ℝ) : EReal)) :
    rv47 a0 a1 a2 (ix3 h i j) = (((zOf a0 a1 a2 h).wM M i j : ℝ) : EReal) := by
  unfold rv47
  refine (g47 _ _ _ _ _).trans ?_
  rw [r26 i j h hn, hM, exp_msk]

theorem r48 (M : ℝ) (hM : rv34 a0 a1 a2 (ix2 h i) = ((M : ℝ) : EReal)) :
    rv48 a0 a1 a2 (ix2 h i) = ((∑ j, (zOf a0 a1 a2 h).wM M i j : ℝ) : EReal) := by
  unfold rv48
  refine (g48 _ _ _).trans ?_
  rw [← coe_sum]
  exact Finset.sum_congr rfl fun j _ => r47 i j h hn M hM

theorem r56 : rv56 a0 a1 a2 (ix3 h i j) = (((zOf a0 a1 a2 h).P i j : ℝ) : EReal) := by
  obtain ⟨M, hM⟩ := r34 i h hn
  unfold rv56
  refine (g56 _ _ _ _ _).trans ?_
  rw [r47 i j h hn M hM, r48 i h hn M hM, div_real ((zOf a0 a1 a2 h).sum_wM_pos M i).ne', Hd.wM_div]

theorem r66 : rv66 a0 a1 a2 (ix3 h i j) = (((zOf a0 a1 a2 h).dp i j : ℝ) : EReal) := by
  unfold rv66
  refine (g66 _ _ _ _ _).trans ?_
  unfold Hd.dp
  rw [← coe_sum_mul]
  refine Finset.sum_congr rfl fun e _ => ?_
  rw [r65, r57, d_eq hn, v_eq hn]

theorem r67 : rv67 a0 a1 a2 (ix3 h e j) = (((zOf a0 a1 a2 h).dv j e : ℝ) : EReal) := by
  unfold rv67
  refine (g67 _ _ _ _ _).trans ?_
  unfold Hd.dv
  rw [← coe_sum_mul]
  refine Finset.sum_congr rfl fun i _ => ?_
  rw [r65, r56 i j h hn, d_eq hn, mul_comm]

theorem r80 (M : ℝ) (hM : rv34 a0 a1 a2 (ix2 h i) = ((M : ℝ) : EReal)) :
    rv80 a0 a1 a2 (ix2 h i) = ((-(∑ k, (zOf a0 a1 a2 h).dp i k * (1 / ((∑ k, (zOf a0 a1 a2 h).wM M i k) * (∑ k, (zOf a0 a1 a2 h).wM M i k))) * (zOf a0 a1 a2 h).wM M i k) : ℝ) : EReal) := by
  have hp := (zOf a0 a1 a2 h).sum_wM_pos M i
  unfold rv80
  refine (g80 _ _ _).trans ?_
  rw [Fin.sum_univ_one, EReal.coe_neg]
  refine congrArg (fun x : EReal => -x) ?_
  unfold rv76
  refine (sc_add _ _ _ _).trans ?_
  unfold rv75
  refine (g75 _ _ _ _ _).trans ?_
  rw [← coe_sum]
  refine Finset.sum_congr rfl fun k _ => ?_
  rw [r66 i k h hn, r48 i h hn M hM, r47 i k h hn M hM, one_bits, ← EReal.coe_mul, div_real (mul_pos hp hp).ne', ← EReal.coe_mul, ← EReal.coe_mul]

theorem r83 : rv83 a0 a1 a2 (ix3 h i j) = (((zOf a0 a1 a2 h).dsr i j : ℝ) : EReal) := by
  obtain ⟨M, hM⟩ := r34 i h hn
  have hp := (zOf a0 a1 a2 h).sum_wM_pos M i
  unfold rv83
  refine (g83 _ _ _ _ _ _ _).trans ?_
  rw [r66 i j h hn, r48 i h hn M hM, r47 i j h hn M hM, r80 i h hn M hM, div_real hp.ne', ← EReal.coe_add, ← EReal.coe_mul, Hd.dsr_quot]

theorem r84 : rv84 a0 a1 a2 (ix3 h i j) = (((zOf a0 a1 a2 h).dsr i j : ℝ) : EReal) := by
  unfold rv84
  refine (g84 _ _ _ _ _).trans ?_
  rw [g25, sel_mask, r83 i j h hn]
  split
  · rfl
  · rename_i hh; rw [Hd.dsr_of_not _ hh]; rfl

theorem r95 : rv95 a0 a1 a2 (ix3 h i j) = (((zOf a0 a1 a2 h).dsr i j * sg : ℝ) : EReal) := by
  unfold rv95
  refine (g95 _ _ _ _).trans ?_
  rw [r84 i j h hn, show Ideal.ofBits .f32 0x3DB504F3#32 = ((sg : ℝ) : EReal) from KI.cS_coe, ← EReal.coe_mul]

theorem r102 : rv102 a0 a1 a2 (ix2 i (hc h e)) = (((zOf a0 a1 a2 h).dq i e : ℝ) : EReal) := by
  unfold rv102
  refine (g102 _ _ _ _).trans ?_
  unfold rv98
  refine (g98 _ _ _ _ _).trans ?_
  unfold Hd.dq
  rw [← coe_sum_mul]
  refine Finset.sum_congr rfl fun j _ => ?_
  rw [r95 i j h hn, r7, k_eq hn]

theorem r103 : rv103 a0 a1 a2 (ix2 j (hc h e)) = (((zOf a0 a1 a2 h).dk j e : ℝ) : EReal) := by
  unfold rv103
  refine (g102 _ _ _ _).trans ?_
  unfold rv96
  refine (g96 _ _ _ _ _).trans ?_
  unfold Hd.dk
  rw [← coe_sum_mul]
  refine Finset.sum_congr rfl fun i _ => ?_
  rw [r95 i j h hn, r6, q_eq hn]

theorem r104 : rv104 a0 a1 a2 (ix2 j (hc h e)) = (((zOf a0 a1 a2 h).dv j e : ℝ) : EReal) := by
  unfold rv104
  exact (g104 _ _ _ _).trans (r67 j h e hn)

theorem r106 (z : Fin 1) : rv106 a0 a1 a2 (ix3 h z i) = (((zOf a0 a1 a2 h).dcq i : ℝ) : EReal) := by
  unfold rv106
  refine (g106 _ _ _ _).trans ?_
  unfold rv92
  refine (g92 _ _ _).trans ?_
  rw [Fin.sum_univ_one]
  unfold rv86
  refine (sc_add _ _ _ _).trans ?_
  unfold rv85
  refine (g48 _ _ _).trans ?_
  unfold Hd.dcq
  rw [← coe_sum]
  exact Finset.sum_congr rfl fun j _ => r84 i j h hn

theorem r108 (z : Fin 1) : rv108 a0 a1 a2 (ix3 h z j) = (((zOf a0 a1 a2 h).dck j : ℝ) : EReal) := by
  unfold rv108
  refine (g106 _ _ _ _).trans ?_
  unfold rv90
  refine (g90 _ _ _).trans ?_
  rw [Fin.sum_univ_one]
  unfold rv89
  refine (sc_mid _ _ _ _).trans ?_
  unfold rv88
  refine (g88 _ _ _).trans ?_
  unfold Hd.dck
  rw [← Finset.sum_neg_distrib, ← coe_sum]
  refine Finset.sum_congr rfl fun i _ => ?_
  rw [r84 i j h hn, EReal.coe_neg]

end

end Cert.Proof.RI

end
-- ==== Proof.Alg.lean ====
/-
  The kernel's results are the reference's.
-/
module

public import proofs.«01_k».proof.Proof.Out
public import proofs.«01_k».proof.Proof.RefVal

@[expose] public section

noncomputable section

namespace Cert.Proof

open Idealize.ShloMosaic Idealize.SL.Sem

open Cert.KernelIdeal in
/-- What every run of the kernel ends with, of arguments that are numbers. -/
theorem KI.values (m : KI.Mem Ideal) (g : Dev nD → PrngReg) (hn : ∀ c, Num (KI.m0 m c) (KI.m1 m c) (KI.m2 m c)) :
    θ_run (defs (F := Ideal)) (onTc (τ := τ) (main (F := Ideal))) ⟨m, fun _ => 0, g⟩ (fun r => ∀ c : Dev nD,
      r.2.mem ((c.tc : Thread nD τ).loc main_v48_0) = RI.rv102 (KI.m0 m c) (KI.m1 m c) (KI.m2 m c)
      ∧ r.2.mem ((c.tc : Thread nD τ).loc main_v48_1) = RI.rv103 (KI.m0 m c) (KI.m1 m c) (KI.m2 m c)
      ∧ r.2.mem ((c.tc : Thread nD τ).loc main_v48_2) = RI.rv104 (KI.m0 m c) (KI.m1 m c) (KI.m2 m c)
      ∧ r.2.mem ((c.tc : Thread nD τ).loc main_v48_3) = RI.rv106 (KI.m0 m c) (KI.m1 m c) (KI.m2 m c)
      ∧ r.2.mem ((c.tc : Thread nD τ).loc main_v48_4) = RI.rv108 (KI.m0 m c) (KI.m1 m c) (KI.m2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h.1 c).1 8).trans (KI.final_8 (hn c) _ fun a i e => RI.r102 i a e (hn c)),
      ((h.1 c).1 9).trans (KI.final_9 (hn c) _ fun a i e => RI.r103 i a e (hn c)),
      ((h.1 c).1 10).trans (KI.final_10 (hn c) _ fun a i e => RI.r104 i a e (hn c)),
      ((h.1 c).1 11).trans (KI.final_11 (hn c) _ fun a i => RI.r106 i a (hn c) 0),
      ((h.1 c).1 12).trans (KI.final_12 (hn c) _ fun a i => RI.r108 i a (hn c) 0),
      KI.post_args m r h.1 c⟩) (KI.run_main m g)

open Cert.ReferenceIdeal in
/-- What every run of the reference ends with. -/
theorem RI.values (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v102) = RI.rv102 (RI.m0 m c) (RI.m1 m c) (RI.m2 m c)
      ∧ r.2.mem ((c.tc : Thread nD τ).loc main_v103) = RI.rv103 (RI.m0 m c) (RI.m1 m c) (RI.m2 m c)
      ∧ r.2.mem ((c.tc : Thread nD τ).loc main_v104) = RI.rv104 (RI.m0 m c) (RI.m1 m c) (RI.m2 m c)
      ∧ r.2.mem ((c.tc : Thread nD τ).loc main_v106) = RI.rv106 (RI.m0 m c) (RI.m1 m c) (RI.m2 m c)
      ∧ r.2.mem ((c.tc : Thread nD τ).loc main_v108) = RI.rv108 (RI.m0 m c) (RI.m1 m c) (RI.m2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c).1.trans (RI.res_v102 m c), (h c).2.1.trans (RI.res_v103 m c), (h c).2.2.1.trans (RI.res_v104 m c),
      (h c).2.2.2.1.trans (RI.res_v106 m c), (h c).2.2.2.2.1.trans (RI.res_v108 m c), (h c).2.2.2.2.2⟩) (Value.run (F := Ideal) m g)

end Cert.Proof

end
-- ==== Proof.Tile.lean ====
/-
  A position of an axis cut into blocks, and a sum over such an axis.
-/
module

public import Idealize.ShloMosaic.Lib.Pointwise

@[expose] public section

noncomputable section

namespace Cert.Proof

/-- Position `r` of block `i`, the blocks `B` long. -/
def pos (B n : ℕ) {N : ℕ} (h : n * B = N) (i : Fin n) (r : Fin B) : Fin N :=
  ⟨i.val * B + r.val, by
    have h1 := Nat.mul_le_mul_right B (Nat.succ_le_of_lt i.isLt)
    rw [Nat.succ_mul] at h1
    have h2 := r.isLt
    omega⟩

/-- The block a position is in. -/
def blkOf (B n : ℕ) {N : ℕ} (h : n * B = N) (p : Fin N) : Fin n := ⟨p.val / B, Nat.div_lt_of_lt_mul (by rw [Nat.mul_comm, h]; exact p.isLt)⟩

/-- Where in its block a position is. -/
def inBlk (B n : ℕ) {N : ℕ} (h : n * B = N) (p : Fin N) : Fin B :=
  ⟨p.val % B, Nat.mod_lt _ (Nat.pos_of_ne_zero fun hB => by subst hB; subst h; exact absurd p.isLt (by simp))⟩

theorem pos_split (B n : ℕ) {N : ℕ} (h : n * B = N) (p : Fin N) : p = pos B n h (blkOf B n h p) (inBlk B n h p) :=
  Fin.ext (by show p.val = p.val / B * B + p.val % B; rw [Nat.mul_comm]; exact (Nat.div_add_mod _ _).symm)

/-- A sum over an axis, block by block. -/
theorem sum_pos {M : Type} [AddCommMonoid M] (B n : ℕ) {N : ℕ} (h : n * B = N) (f : Fin N → M) :
    ∑ p, f p = ∑ i : Fin n, ∑ r : Fin B, f (pos B n h i r) := by
  subst h
  rw [← Finset.sum_product', Finset.univ_product_univ]
  refine (Equiv.sum_comp finProdFinEquiv f).symm.trans (Finset.sum_congr rfl fun x _ => congrArg f (Fin.ext ?_))
  show x.2.val + B * x.1.val = x.1.val * B + x.2.val
  rw [Nat.mul_comm, Nat.add_comm]

end Cert.Proof

end
-- ==== Proof.Mlp2.lean ====
/-
  The gradient of the second weight's left factor: what the call leaves, entry by entry, and the reference's entry.
-/
module

public import proofs.«01_k».proof.Proof.Tile
public import proofs.«01_k».proof.Defs
public import proofs.«01_k».proof.Proof.Gen.Kernel2Ideal.Value
public import proofs.«01_k».proof.Proof.Gen.Reference2Ideal.Run
public import Idealize.ShloMosaic.Lib.Pipeline.ValueKit.Geometry
public import Idealize.ShloMosaic.Lib.Pipeline.Value
public import Idealize.ShloMosaic.Lib.StableHlo.RunRead

@[expose] public section

noncomputable section

namespace Cert.Proof.M2

open Cert.Kernel2Ideal Cert.Kernel2Ideal.Gen Cert.Kernel2Ideal.Value

open Idealize.ShloMosaic Idealize.SL.Sem
open Idealize.ShloMosaic.TcCoe Idealize.ShloMosaic.Tactic

/-! ## The grid -/

/-- The tile of rows a point writes, and its tile of columns. -/
abbrev I (t : Fin grid0.N) : Fin 4 := grid0.coords t 0
abbrev J (t : Fin grid0.N) : Fin 8 := grid0.coords t 1

theorem idx_0 : ∀ t : Fin grid0.N, win0_0.index t 0 = (I t).val ∧ win0_0.index t 1 = 0 := by decide +kernel
theorem idx_1 : ∀ t : Fin grid0.N, win0_1.index t 0 = (J t).val ∧ win0_1.index t 1 = 0 := by decide +kernel
theorem idx_2 : ∀ t : Fin grid0.N, win0_2.index t 0 = (I t).val ∧ win0_2.index t 1 = (J t).val := by decide +kernel
theorem idx_3 : ∀ t : Fin grid0.N, win0_3.index t 0 = (I t).val ∧ win0_3.index t 1 = (J t).val := by decide +kernel
theorem cov_3 : ∀ i : Fin 4, ∀ j : Fin 8, ∃ t : Fin grid0.N, (cfg0.win 3).flush t = true ∧ I t = i ∧ J t = j := by decide +kernel

/-- Row `r` of tile `i`, and column `s` of tile `j`. -/
abbrev rowOf (i : Fin 4) (r : Fin 1024) : Fin 4096 := pos 1024 4 rfl i r
abbrev colOf (j : Fin 8) (s : Fin 1024) : Fin 8192 := pos 1024 8 rfl j s

section
variable (t : Fin grid0.N)

theorem emb_0 (r : Fin 1024) (k : Fin 2048) : (((cfg0.win 0).blk t).view.emb (ix2 r k) : S4096x2048.Idx) = ix2 (rowOf (I t) r) k := by
  funext a
  refine Fin.ext ?_
  fin_cases a
  · blk_simp
    exact congrArg (fun n : ℕ => n * 1024 + r.val) (idx_0 t).1
  · blk_simp
    refine (congrArg (fun n : ℕ => n * 2048 + k.val) (idx_0 t).2).trans ?_
    show 0 * 2048 + k.val = k.val
    omega
theorem emb_1 (s : Fin 1024) (k : Fin 2048) : (((cfg0.win 1).blk t).view.emb (ix2 s k) : S8192x2048.Idx) = ix2 (colOf (J t) s) k := by
  funext a
  refine Fin.ext ?_
  fin_cases a
  · blk_simp
    exact congrArg (fun n : ℕ => n * 1024 + s.val) (idx_1 t).1
  · blk_simp
    refine (congrArg (fun n : ℕ => n * 2048 + k.val) (idx_1 t).2).trans ?_
    show 0 * 2048 + k.val = k.val
    omega
theorem emb_2 (r s : Fin 1024) : (((cfg0.win 2).blk t).view.emb (ix2 r s) : S4096x8192.Idx) = ix2 (rowOf (I t) r) (colOf (J t) s) := by
  funext a
  refine Fin.ext ?_
  fin_cases a
  · blk_simp
    exact congrArg (fun n : ℕ => n * 1024 + r.val) (idx_2 t).1
  · blk_simp
    exact congrArg (fun n : ℕ => n * 1024 + s.val) (idx_2 t).2
theorem emb_3 (r s : Fin 1024) : (((cfg0.win 3).blk t).view.emb (ix2 r s) : S4096x8192.Idx) = ix2 (rowOf (I t) r) (colOf (J t) s) := by
  funext a
  refine Fin.ext ?_
  fin_cases a
  · blk_simp
    exact congrArg (fun n : ℕ => n * 1024 + r.val) (idx_3 t).1
  · blk_simp
    exact congrArg (fun n : ℕ => n * 1024 + s.val) (idx_3 t).2

end

/-! ## Each operation at an index -/

theorem hz : (![0, 0] : Fin 2 → Nat) = fun _ => 0 := funext fun a => by fin_cases a <;> rfl

theorem out_eq (x0 x1 : Vec Ideal S1024x2048 .bf16) (x2 : Vec Ideal S1024x1024 .bf16) : out0_3 x0 x1 x2 = k0_pay1 x1 x0 x2 := by
  unfold out0_3
  rw [View.canon_unit_zero hz, View.ld_unit_zero hz, View.ld_unit_zero hz, View.ld_unit_zero hz]

/-- One tile: the product of a tile of the cotangent and a tile of the weight, times twice the saved factor. -/
theorem pay_eq (x1 x0 : FVec Ideal S1024x2048 .bf16) (x2 : FVec Ideal S1024x1024 .bf16) (r s : Fin 1024) :
    (k0_pay1 x1 x0 x2 : FVec Ideal S1024x1024 .bf16) (ix2 r s) = ((∑ k, x0 (ix2 r k) * x1 (ix2 s k)) * (Ideal.ofBits .f32 0x40000000#32 * x2 (ix2 r s)) : EReal) := by
  unfold k0_pay1; pointwise

/-- What the host saves: the positive part. -/
theorem relu_eq (u : FVec Ideal S4096x8192 .f32) (i : Fin 4096) (j : Fin 8192) :
    (truncf .bf16 (maximumf u (broadcastInDim S4096x8192 ![] bcast_S_S4096x8192 (constant (F := Ideal) S_ .f32 0x00000000#32))) bitsLt_bf16_f32 : FVec Ideal S4096x8192 .bf16) (ix2 i j) = (max (u (ix2 i j)) 0 : EReal) := by pointwise

/-- The gradient the reference computes, of the three arguments. -/
abbrev G (u : FVec Ideal S4096x8192 .f32) (w : FVec Ideal S8192x2048 .bf16) (dx : FVec Ideal S4096x2048 .bf16) : FVec Ideal S4096x8192 .bf16 :=
  truncf .bf16 (select (cmpf .ogt u (broadcastInDim S4096x8192 ![] bcast_S_S4096x8192 (constant (F := Ideal) S_ .f32 0x00000000#32))) (mulf (Host.dotGeneral Cert.Reference2Ideal.dot_S4096x2048_S8192x2048_S4096x8192_1_1_0_0_n_n none (extf .f32 dx bitsLt_bf16_f32) (extf .f32 w bitsLt_bf16_f32)) (mulf (broadcastInDim S4096x8192 ![] bcast_S_S4096x8192 (constant S_ .f32 0x40000000#32)) (maximumf u (broadcastInDim S4096x8192 ![] bcast_S_S4096x8192 (constant S_ .f32 0x00000000#32))))) (broadcastInDim S4096x8192 ![] bcast_S_S4096x8192 (constant S_ .f32 0x00000000#32))) bitsLt_bf16_f32

/-- The reference at an entry. -/
theorem ref_eq (u : FVec Ideal S4096x8192 .f32) (w : FVec Ideal S8192x2048 .bf16) (dx : FVec Ideal S4096x2048 .bf16) (i : Fin 4096) (j : Fin 8192) :
    G u w dx (ix2 i j) = (Scalar.select (Ideal.cmp .ogt (u (ix2 i j)) 0) ((∑ k, dx (ix2 i k) * w (ix2 j k)) * (Ideal.ofBits .f32 0x40000000#32 * max (u (ix2 i j)) 0)) 0 : EReal) := by
  unfold G; pointwise

/-! ## The equation -/

/-- Where the factor is not positive both sides are zero. -/
theorem gate (a b u : EReal) : a * (b * max u 0) = Scalar.select (Ideal.cmp .ogt u 0) (a * (b * max u 0)) 0 := by
  by_cases h : (0 : EReal) < u
  · have h1 : Ideal.cmp .ogt u 0 = 1#1 := by simp [Ideal.cmp, h]
    rw [h1]; rfl
  · have h0 : Ideal.cmp .ogt u 0 = 0#1 := by simp [Ideal.cmp, h]
    rw [h0, max_eq_right (not_lt.mp h), mul_zero, mul_zero]; rfl

/-! ## The call -/

abbrev Mem := (ℓ : Loc nD τ sig) → Buf (Elt Ideal) ℓ

section
variable (m : Mem) (c : Dev nD)

abbrev a0 : FVec Ideal S4096x8192 .f32 := m ((c.tc : Thread nD τ).loc main_arg0)
abbrev a1 : FVec Ideal S8192x2048 .bf16 := m ((c.tc : Thread nD τ).loc main_arg1)
abbrev a2 : FVec Ideal S4096x2048 .bf16 := m ((c.tc : Thread nD τ).loc main_arg2)

theorem V_v2 : V m c main_v2 = truncf .bf16 (maximumf (a0 m c) (broadcastInDim S4096x8192 ![] bcast_S_S4096x8192 (constant (F := Ideal) S_ .f32 0x00000000#32))) bitsLt_bf16_f32 := by
  unfold V
  after_reads_simp <;> rfl

variable (t : Fin grid0.N)

theorem at_0 (B : (Pipeline.arrRef spec0 0).ty.Idx → Elt Ideal (Pipeline.arrRef spec0 0).ty.elt) (r : Fin 1024) (k : Fin 2048) :
    ((cfg0.win 0).blk t).view.read (Elt Ideal) B (ix2 r k) = B (((cfg0.win 0).blk t).view.emb (ix2 r k)) := rfl
theorem at_1 (B : (Pipeline.arrRef spec0 1).ty.Idx → Elt Ideal (Pipeline.arrRef spec0 1).ty.elt) (r : Fin 1024) (k : Fin 2048) :
    ((cfg0.win 1).blk t).view.read (Elt Ideal) B (ix2 r k) = B (((cfg0.win 1).blk t).view.emb (ix2 r k)) := rfl
theorem at_2 (B : (Pipeline.arrRef spec0 2).ty.Idx → Elt Ideal (Pipeline.arrRef spec0 2).ty.elt) (r s : Fin 1024) :
    ((cfg0.win 2).blk t).view.read (Elt Ideal) B (ix2 r s) = B (((cfg0.win 2).blk t).view.emb (ix2 r s)) := rfl

theorem bl_0 (r : Fin 1024) (k : Fin 2048) : iblk m c 0 t (ix2 r k) = a2 m c (ix2 (rowOf (I t) r) k) := by
  unfold iblk
  exact (at_0 t _ r k).trans ((congrFun (V_main_arg2 m c) _).trans (congrArg (a2 m c) (emb_0 t r k)))
theorem bl_1 (s : Fin 1024) (k : Fin 2048) : iblk m c 1 t (ix2 s k) = a1 m c (ix2 (colOf (J t) s) k) := by
  unfold iblk
  exact (at_1 t _ s k).trans ((congrFun (V_main_arg1 m c) _).trans (congrArg (a1 m c) (emb_1 t s k)))
theorem bl_2 (r s : Fin 1024) : iblk m c 2 t (ix2 r s) = max (a0 m c (ix2 (rowOf (I t) r) (colOf (J t) s))) 0 := by
  unfold iblk
  exact (at_2 t _ r s).trans ((congrFun (V_v2 m c) _).trans ((congrArg _ (emb_2 t r s)).trans (relu_eq (a0 m c) _ _)))

/-- The tile a point writes. -/
theorem tile (r s : Fin 1024) : (out0_3 (iblk m c 0 t) (iblk m c 1 t) (iblk m c 2 t)) (ix2 r s)
    = ((∑ k, a2 m c (ix2 (rowOf (I t) r) k) * a1 m c (ix2 (colOf (J t) s) k)) * (Ideal.ofBits .f32 0x40000000#32 * max (a0 m c (ix2 (rowOf (I t) r) (colOf (J t) s))) 0) : EReal) := by
  rw [out_eq]
  refine (pay_eq _ _ _ r s).trans ?_
  rw [bl_2]
  refine congrArg (fun x : EReal => x * _) (Finset.sum_congr rfl fun k _ => ?_)
  rw [bl_0, bl_1]

theorem cx_3 (f : (cfg0.win 3).block.Idx → Elt Ideal (cfg0.win 3).elt) (r s : Fin 1024) :
    _root_.cast (congrArg (Elt Ideal) ((cfg0.win 3).blk t).view.elt_eq.symm) (f ((cfg0.win 3).xinj (grid0.coords t) (ix2 r s))) = f (ix2 r s) := rfl

end

/-- The array the call leaves is the reference's. -/
theorem final (m : Mem) (c : Dev nD) (G : FVec Ideal S4096x8192 .bf16)
    (hG : ∀ i j, G (ix2 i j) = ((∑ k, a2 m c (ix2 i k) * a1 m c (ix2 j k)) * (Ideal.ofBits .f32 0x40000000#32 * max (a0 m c (ix2 i j)) 0) : EReal)) :
    (dats m 0 c).arrAt 3 cfg0.N = G := by
  refine (dats m 0 c).arrAt_eq_of_emb 3 G (fun t hf y => ?_) (fun i => ?_)
  · obtain ⟨r, s, rfl⟩ : ∃ (r s : Fin 1024), y = ix2 r s := ⟨y 0, y 1, (ix2_eta (n0 := 1024) (n1 := 1024) y).symm⟩
    refine (cx_3 t ((dats m 0 c).after 3 t) r s).trans ?_
    rw [after0_3]
    refine (tile m c t r s).trans ?_
    exact ((congrArg G (emb_3 t r s)).trans (hG _ _)).symm
  · obtain ⟨t, hf, h1, h2⟩ := cov_3 (blkOf 1024 4 rfl (i 0)) (blkOf 1024 8 rfl (i 1))
    have hi : i = ((cfg0.win 3).blk t).view.emb (ix2 (inBlk 1024 4 rfl (i 0)) (inBlk 1024 8 rfl (i 1))) := by
      refine Eq.trans ?_ (emb_3 t _ _).symm
      rw [h1, h2]
      refine (eq_ix2 (n0 := 4096) (n1 := 8192) i).trans ?_
      exact congrArg₂ ix2 (pos_split 1024 4 rfl (i 0)) (pos_split 1024 8 rfl (i 1))
    rw [hi]
    exact ⟨t, hf, View.emb_mem_set _ _⟩

end Cert.Proof.M2

namespace Cert.Proof

open Idealize.ShloMosaic Idealize.SL.Sem

/-- The second call's result is its reference's, of any arguments. -/
theorem value2 : Cert.algebraic_Kernel2Ideal_Reference2Ideal := fun m g m' g' _ hm => by
  refine ⟨fun c => M2.G (M2.a0 m c) (M2.a1 m c) (M2.a2 m c),
    (θ_run Cert.Kernel2Ideal.defs _ _).mono (fun _ h c => ⟨(h c).1.trans (M2.final m c _ fun i j => (M2.ref_eq _ _ _ i j).trans (M2.gate _ _ _).symm), (h c).2⟩) (Cert.Kernel2Ideal.Value.run_blocks m g), ?_⟩
  refine (θ_run Cert.Reference2Ideal.defs _ _).mono (fun r h c => ⟨(h c).1.trans ?_, (h c).2⟩) (Cert.Reference2Ideal.Value.run (F := Ideal) m' g')
  rw [(hm c).1, (hm c).2.1, (hm c).2.2]

end Cert.Proof

end
-- ==== Proof.Mlp3.lean ====
/-
  The gradient of the second weight: what the call leaves, entry by entry, and the reference's entry.
-/
module

public import proofs.«01_k».proof.Proof.Tile
public import proofs.«01_k».proof.Defs
public import proofs.«01_k».proof.Proof.Gen.Kernel3Ideal.Value
public import proofs.«01_k».proof.Proof.Gen.Reference3Ideal.Run
public import Idealize.ShloMosaic.Lib.Pipeline.ValueKit.Geometry
public import Idealize.ShloMosaic.Lib.Pipeline.Value
public import Idealize.ShloMosaic.Lib.StableHlo.RunRead

@[expose] public section

noncomputable section

namespace Cert.Proof.M3

open Cert.Kernel3Ideal Cert.Kernel3Ideal.Gen Cert.Kernel3Ideal.Value

open Idealize.ShloMosaic Idealize.SL.Sem
open Idealize.ShloMosaic.TcCoe Idealize.ShloMosaic.Tactic

/-! ## The grid -/

/-- The tile of rows a point adds to, its tile of columns, and the part of the sum it adds. -/
abbrev I (t : Fin grid0.N) : Fin 8 := grid0.coords t 0
abbrev J (t : Fin grid0.N) : Fin 2 := grid0.coords t 1
abbrev K (t : Fin grid0.N) : Fin 2 := grid0.coords t 2

/-- The point before. -/
def prev (t : Fin grid0.N) : Fin grid0.N := ⟨t.val - 1, Nat.lt_of_le_of_lt (Nat.sub_le _ _) t.isLt⟩

theorem idx_0 : ∀ t : Fin grid0.N, win0_0.index t 0 = (K t).val ∧ win0_0.index t 1 = (I t).val := by decide +kernel
theorem idx_1 : ∀ t : Fin grid0.N, win0_1.index t 0 = (K t).val ∧ win0_1.index t 1 = (J t).val := by decide +kernel
theorem idx_2 : ∀ t : Fin grid0.N, win0_2.index t 0 = (I t).val ∧ win0_2.index t 1 = (J t).val := by decide +kernel
theorem last : ∀ t : Fin grid0.N, t.val % 2 = 1 → K t = 1 ∧ K (prev t) = 0 ∧ I (prev t) = I t ∧ J (prev t) = J t ∧ (prev t).val % 2 = 0 := by decide +kernel
theorem cov : ∀ i : Fin 8, ∀ j : Fin 2, ∃ t : Fin grid0.N, t.val % 2 = 1 ∧ I t = i ∧ J t = j := by decide +kernel

/-- Row `r` of tile `i`, column `s` of tile `j`, and term `k` of part `κ` of the sum. -/
abbrev rowOf (i : Fin 8) (r : Fin 1024) : Fin 8192 := pos 1024 8 rfl i r
abbrev colOf (j : Fin 2) (s : Fin 1024) : Fin 2048 := pos 1024 2 rfl j s
abbrev midOf (κ : Fin 2) (k : Fin 2048) : Fin 4096 := pos 2048 2 rfl κ k

section
variable (t : Fin grid0.N)

theorem emb_0 (k : Fin 2048) (r : Fin 1024) : (((cfg0.win 0).blk t).view.emb (ix2 k r) : S4096x8192.Idx) = ix2 (midOf (K t) k) (rowOf (I t) r) := by
  funext a
  refine Fin.ext ?_
  fin_cases a
  · blk_simp
    exact congrArg (fun n : ℕ => n * 2048 + k.val) (idx_0 t).1
  · blk_simp
    exact congrArg (fun n : ℕ => n * 1024 + r.val) (idx_0 t).2
theorem emb_1 (k : Fin 2048) (s : Fin 1024) : (((cfg0.win 1).blk t).view.emb (ix2 k s) : S4096x2048.Idx) = ix2 (midOf (K t) k) (colOf (J t) s) := by
  funext a
  refine Fin.ext ?_
  fin_cases a
  · blk_simp
    exact congrArg (fun n : ℕ => n * 2048 + k.val) (idx_1 t).1
  · blk_simp
    exact congrArg (fun n : ℕ => n * 1024 + s.val) (idx_1 t).2
theorem emb_2 (r s : Fin 1024) : (((cfg0.win 2).blk t).view.emb (ix2 r s) : S8192x2048.Idx) = ix2 (rowOf (I t) r) (colOf (J t) s) := by
  funext a
  refine Fin.ext ?_
  fin_cases a
  · blk_simp
    exact congrArg (fun n : ℕ => n * 1024 + r.val) (idx_2 t).1
  · blk_simp
    exact congrArg (fun n : ℕ => n * 1024 + s.val) (idx_2 t).2

end

/-! ## The body -/

theorem hz : (![0, 0] : Fin 2 → Nat) = fun _ => 0 := funext fun a => by fin_cases a <;> rfl

section
variable (c : Dev nD) (i : grid0.Coords) (b0 : Memref sig .tc .vmem S2048x1024 .bf16) (h0 : b0.IsWhole) (b1 : Memref sig .tc .vmem S2048x1024 .bf16) (h1 : b1.IsWhole)
  (b2 : Memref sig .tc .vmem S1024x1024 .f32) (h2 : b2.IsWhole) (x0 x1 : Vec Ideal S2048x1024 .bf16) (x2 : Vec Ideal S1024x1024 .f32)

theorem out_A (hc0 : cond0_0 i) (hc1 : ¬cond0_1 i) : out0_A_2 c i b0 h0 b1 h1 b2 h2 hc0 hc1 x0 x1 = k0_pay1 x1 x0 := by
  unfold out0_A_2
  rw [View.read_writes_eq_canon _ _ _ (cover0_A_2 c i b0 h0 b1 h1 b2 h2 hc0 hc1 x0 x1)]
  unfold kernelRun0_A
  dsimp only
  rw [View.canon_unit_zero hz]
  simp only [View.readAt_eq_ld, h0.read_unread, h1.read_unread, View.ld_unit_zero (S := S2048x1024) hz, View.ld_unit_zero (S := S1024x1024) hz]
theorem out_B (hc0 : ¬cond0_0 i) (hc1 : cond0_1 i) : out0_B_2 c i b0 h0 b1 h1 b2 h2 hc0 hc1 x0 x1 x2 = k0_pay2 x1 x0 x2 := by
  unfold out0_B_2
  rw [View.read_writes_eq_canon _ _ _ (cover0_B_2 c i b0 h0 b1 h1 b2 h2 hc0 hc1 x0 x1 x2)]
  unfold kernelRun0_B
  dsimp only
  rw [View.canon_unit_zero hz]
  simp only [View.readAt_eq_ld, h0.read_unread, h1.read_unread, h2.read_unread, View.ld_unit_zero (S := S2048x1024) hz, View.ld_unit_zero (S := S1024x1024) hz]

end

/-! ## Each operation at an index -/

theorem pay1_eq (x1 x0 : FVec Ideal S2048x1024 .bf16) (r s : Fin 1024) :
    (k0_pay1 x1 x0 : FVec Ideal S1024x1024 .f32) (ix2 r s) = (∑ k, x0 (ix2 k r) * x1 (ix2 k s) : EReal) := by
  unfold k0_pay1; pointwise
theorem pay2_eq (x1 x0 : FVec Ideal S2048x1024 .bf16) (x2 : FVec Ideal S1024x1024 .f32) (r s : Fin 1024) :
    (k0_pay2 x1 x0 x2 : FVec Ideal S1024x1024 .f32) (ix2 r s) = (x2 (ix2 r s) + k0_pay1 (F := Ideal) x1 x0 (ix2 r s) : EReal) := by
  unfold k0_pay2; pointwise

/-- What the host saves: the square of the positive part. -/
abbrev act (u : FVec Ideal S4096x8192 .f32) : FVec Ideal S4096x8192 .bf16 :=
  truncf .bf16 (mulf (maximumf u (broadcastInDim S4096x8192 ![] bcast_S_S4096x8192 (constant (F := Ideal) S_ .f32 0x00000000#32))) (maximumf u (broadcastInDim S4096x8192 ![] bcast_S_S4096x8192 (constant (F := Ideal) S_ .f32 0x00000000#32)))) bitsLt_bf16_f32

theorem act_eq (u : FVec Ideal S4096x8192 .f32) (n : Fin 4096) (p : Fin 8192) : act u (ix2 n p) = (max (u (ix2 n p)) 0 * max (u (ix2 n p)) 0 : EReal) := by
  unfold act; pointwise

/-- The gradient the reference computes, of the two arguments. -/
abbrev G (u : FVec Ideal S4096x8192 .f32) (dx : FVec Ideal S4096x2048 .bf16) : FVec Ideal S8192x2048 .f32 :=
  transpose S8192x2048 [1, 0] (Host.dotGeneral Cert.Reference3Ideal.dot_S4096x2048_S4096x8192_S2048x8192_0_0_1_1_n_n none (extf .f32 dx bitsLt_bf16_f32) (mulf (maximumf u (broadcastInDim S4096x8192 ![] bcast_S_S4096x8192 (constant (F := Ideal) S_ .f32 0x00000000#32))) (maximumf u (broadcastInDim S4096x8192 ![] bcast_S_S4096x8192 (constant (F := Ideal) S_ .f32 0x00000000#32))))) Cert.Reference3Ideal.Gen.transposes_S2048x8192_S8192x2048_1_0

theorem ref_eq (u : FVec Ideal S4096x8192 .f32) (dx : FVec Ideal S4096x2048 .bf16) (p : Fin 8192) (q : Fin 2048) :
    G u dx (ix2 p q) = (∑ n, dx (ix2 n q) * (max (u (ix2 n p)) 0 * max (u (ix2 n p)) 0) : EReal) := by
  unfold G; pointwise

/-! ## The call -/

abbrev Mem := (ℓ : Loc nD τ sig) → Buf (Elt Ideal) ℓ

section
variable (m : Mem) (c : Dev nD)

abbrev a0 : FVec Ideal S4096x8192 .f32 := m ((c.tc : Thread nD τ).loc main_arg0)
abbrev a1 : FVec Ideal S4096x2048 .bf16 := m ((c.tc : Thread nD τ).loc main_arg1)

theorem V_v3 : V m c main_v3 = act (a0 m c) := by
  unfold V
  after_reads_simp <;> rfl

section
variable (t : Fin grid0.N)

theorem at_0 (B : (Pipeline.arrRef spec0 0).ty.Idx → Elt Ideal (Pipeline.arrRef spec0 0).ty.elt) (k : Fin 2048) (r : Fin 1024) :
    ((cfg0.win 0).blk t).view.read (Elt Ideal) B (ix2 k r) = B (((cfg0.win 0).blk t).view.emb (ix2 k r)) := rfl
theorem at_1 (B : (Pipeline.arrRef spec0 1).ty.Idx → Elt Ideal (Pipeline.arrRef spec0 1).ty.elt) (k : Fin 2048) (s : Fin 1024) :
    ((cfg0.win 1).blk t).view.read (Elt Ideal) B (ix2 k s) = B (((cfg0.win 1).blk t).view.emb (ix2 k s)) := rfl

theorem bl_0 (k : Fin 2048) (r : Fin 1024) : iblk m c 0 t (ix2 k r) = act (a0 m c) (ix2 (midOf (K t) k) (rowOf (I t) r)) := by
  unfold iblk
  exact (at_0 t _ k r).trans ((congrFun (V_v3 m c) _).trans (congrArg _ (emb_0 t k r)))
theorem bl_1 (k : Fin 2048) (s : Fin 1024) : iblk m c 1 t (ix2 k s) = a1 m c (ix2 (midOf (K t) k) (colOf (J t) s)) := by
  unfold iblk
  exact (at_1 t _ k s).trans ((congrFun (V_main_arg1 m c) _).trans (congrArg (a1 m c) (emb_1 t k s)))

/-- The part of the sum a point computes. -/
theorem part (r s : Fin 1024) : (k0_pay1 (iblk m c 1 t) (iblk m c 0 t) : FVec Ideal S1024x1024 .f32) (ix2 r s)
    = (∑ k, act (a0 m c) (ix2 (midOf (K t) k) (rowOf (I t) r)) * a1 m c (ix2 (midOf (K t) k) (colOf (J t) s)) : EReal) := by
  refine (pay1_eq _ _ r s).trans (Finset.sum_congr rfl fun k _ => ?_)
  rw [bl_0, bl_1]

/-- After the first part the tile holds that part. -/
theorem first (h : t.val % 2 = 0) : outsAt0 m c t.val t.isLt = k0_pay1 (iblk m c 1 t) (iblk m c 0 t) :=
  (outsAt0_A m c t h (by omega)).trans (out_A c _ _ _ _ _ _ _ _ _ _ _)

/-- After the last part the tile holds the whole sum. -/
theorem tile (h : t.val % 2 = 1) (r s : Fin 1024) : outsAt0 m c t.val t.isLt (ix2 r s)
    = (∑ n, act (a0 m c) (ix2 n (rowOf (I t) r)) * a1 m c (ix2 n (colOf (J t) s)) : EReal) := by
  obtain ⟨hk, hk', hi, hj, hp⟩ := last t h
  have e : outsAt0 m c (t.val - 1) (Nat.lt_of_le_of_lt (Nat.sub_le _ _) t.isLt) = k0_pay1 (iblk m c 1 (prev t)) (iblk m c 0 (prev t)) := first m c (prev t) hp
  rw [outsAt0_B m c t (by omega) h, e, out_B]
  refine (pay2_eq _ _ _ r s).trans ?_
  rw [part, part, hk, hk', hi, hj, sum_pos 2048 2 rfl, Fin.sum_univ_two]

theorem cx_2 (f : (cfg0.win 2).block.Idx → Elt Ideal (cfg0.win 2).elt) (r s : Fin 1024) :
    _root_.cast (congrArg (Elt Ideal) ((cfg0.win 2).blk t).view.elt_eq.symm) (f ((cfg0.win 2).xinj (grid0.coords t) (ix2 r s))) = f (ix2 r s) := rfl

end

/-- The array the call leaves. -/
theorem final (G : FVec Ideal S8192x2048 .f32) (hG : ∀ p q, G (ix2 p q) = (∑ n, act (a0 m c) (ix2 n p) * a1 m c (ix2 n q) : EReal)) :
    (dats m 0 c).arrAt 2 cfg0.N = G := by
  refine (dats m 0 c).arrAt_eq_of_emb 2 G (fun t hf y => ?_) (fun i => ?_)
  · obtain ⟨r, s, rfl⟩ : ∃ (r s : Fin 1024), y = ix2 r s := ⟨y 0, y 1, (ix2_eta (n0 := 1024) (n1 := 1024) y).symm⟩
    refine (cx_2 t ((dats m 0 c).after 2 t) r s).trans ?_
    rw [after0_2]
    refine (tile m c t ((flush0_2 t).mp hf) r s).trans ?_
    exact ((congrArg G (emb_2 t r s)).trans (hG _ _)).symm
  · obtain ⟨t, hf, h1, h2⟩ := cov (blkOf 1024 8 rfl (i 0)) (blkOf 1024 2 rfl (i 1))
    have hi : i = ((cfg0.win 2).blk t).view.emb (ix2 (inBlk 1024 8 rfl (i 0)) (inBlk 1024 2 rfl (i 1))) := by
      refine Eq.trans ?_ (emb_2 t _ _).symm
      rw [h1, h2]
      refine (eq_ix2 (n0 := 8192) (n1 := 2048) i).trans ?_
      exact congrArg₂ ix2 (pos_split 1024 8 rfl (i 0)) (pos_split 1024 2 rfl (i 1))
    rw [hi]
    exact ⟨t, (flush0_2 t).mpr hf, View.emb_mem_set _ _⟩

theorem final_G : (dats m 0 c).arrAt 2 cfg0.N = G (a0 m c) (a1 m c) :=
  final m c _ fun p q => (ref_eq _ _ p q).trans (Finset.sum_congr rfl fun n _ => by rw [act_eq, mul_comm])

end

end Cert.Proof.M3

namespace Cert.Proof

open Idealize.ShloMosaic Idealize.SL.Sem

/-- The third call's result is its reference's, of any arguments. -/
theorem value3 : Cert.algebraic_Kernel3Ideal_Reference3Ideal := fun m g m' g' _ hm => by
  refine ⟨fun c => M3.G (M3.a0 m c) (M3.a1 m c),
    (θ_run Cert.Kernel3Ideal.defs _ _).mono (fun _ h c => ⟨(h c).1.trans (M3.final_G m c), (h c).2⟩) (Cert.Kernel3Ideal.Value.run_blocks m g), ?_⟩
  refine (θ_run Cert.Reference3Ideal.defs _ _).mono (fun r h c => ⟨(h c).1.trans ?_, (h c).2⟩) (Cert.Reference3Ideal.Value.run (F := Ideal) m' g')
  rw [(hm c).1, (hm c).2]

end Cert.Proof

end
-- ==== Proof.Mlp4.lean ====
/-
  The gradient of the first product's left factor: what the call leaves, entry by entry, and the reference's entry.
-/
module

public import proofs.«01_k».proof.Proof.Tile
public import proofs.«01_k».proof.Defs
public import proofs.«01_k».proof.Proof.Gen.Kernel4Ideal.Value
public import proofs.«01_k».proof.Proof.Gen.Reference4Ideal.Run
public import Idealize.ShloMosaic.Lib.Pipeline.ValueKit.Geometry
public import Idealize.ShloMosaic.Lib.Pipeline.ValueKit.Tiles
public import Idealize.ShloMosaic.Lib.Pipeline.Value
public import Idealize.ShloMosaic.Lib.StableHlo.RunRead

@[expose] public section

noncomputable section

namespace Cert.Proof.M4

open Cert.Kernel4Ideal Cert.Kernel4Ideal.Gen Cert.Kernel4Ideal.Value

open Idealize.ShloMosaic Idealize.SL.Sem
open Idealize.ShloMosaic.TcCoe Idealize.ShloMosaic.Tactic

/-! ## The grid -/

/-- The tile of rows a point adds to, its tile of columns, and the part of the sum it adds. -/
abbrev I (t : Fin grid0.N) : Fin 4 := grid0.coords t 0
abbrev J (t : Fin grid0.N) : Fin 2 := grid0.coords t 1
abbrev K (t : Fin grid0.N) : Fin 4 := grid0.coords t 2

/-- The point before. -/
def prev (t : Fin grid0.N) : Fin grid0.N := ⟨t.val - 1, Nat.lt_of_le_of_lt (Nat.sub_le _ _) t.isLt⟩

theorem idx_0 : ∀ t : Fin grid0.N, win0_0.index t 0 = (I t).val ∧ win0_0.index t 1 = (K t).val := by decide +kernel
theorem idx_1 : ∀ t : Fin grid0.N, win0_1.index t 0 = (K t).val ∧ win0_1.index t 1 = (J t).val ∧ win0_1.index t 2 = 0 := by decide +kernel
theorem idx_2 : ∀ t : Fin grid0.N, win0_2.index t 0 = (I t).val ∧ win0_2.index t 1 = (J t).val := by decide +kernel
theorem K_eq : ∀ t : Fin grid0.N, (K t).val = t.val % 4 := by decide +kernel
theorem back : ∀ t : Fin grid0.N, 1 ≤ t.val % 4 → I (prev t) = I t ∧ J (prev t) = J t ∧ (prev t).val % 4 = t.val % 4 - 1 := by decide +kernel
theorem cov : ∀ i : Fin 4, ∀ j : Fin 2, ∃ t : Fin grid0.N, t.val % 4 = 3 ∧ I t = i ∧ J t = j := by decide +kernel

/-- Row `r` of tile `i`, column `s` of tile `j`, slab `e` of part `κ` of the sum, and term `k` of a slab. -/
abbrev rowOf (i : Fin 4) (r : Fin 1024) : Fin 4096 := pos 1024 4 rfl i r
abbrev colOf (j : Fin 2) (s : Fin 1024) : Fin 2048 := pos 1024 2 rfl j s
abbrev slab (κ : Fin 4) (e : Fin 2) : Fin 8 := pos 2 4 rfl κ e
abbrev midOf (a : Fin 8) (k : Fin 1024) : Fin 8192 := pos 1024 8 rfl a k

section
variable (t : Fin grid0.N)

theorem emb_0 (r k : Fin 1024) (e : Fin 2) : (((cfg0.win 0).blk t).view.emb (ix2 r (pos 1024 2 rfl e k : Fin 2048)) : S4096x8192.Idx) = ix2 (rowOf (I t) r) (midOf (slab (K t) e) k) := by
  funext a
  refine Fin.ext ?_
  fin_cases a
  · blk_simp
    exact congrArg (fun n : ℕ => n * 1024 + r.val) (idx_0 t).1
  · blk_simp
    refine (congrArg (fun n : ℕ => n * 2048 + (e.val * 1024 + k.val)) (idx_0 t).2).trans ?_
    show (K t).val * 2048 + (e.val * 1024 + k.val) = ((K t).val * 2 + e.val) * 1024 + k.val
    omega
theorem emb_1 (e : Fin 2) (s k : Fin 1024) : (((cfg0.win 1).blk t).view.emb (ix3 e s k) : S8x2048x1024.Idx) = ix3 (slab (K t) e) (colOf (J t) s) k := by
  funext a
  refine Fin.ext ?_
  fin_cases a
  · blk_simp
    exact congrArg (fun n : ℕ => n * 2 + e.val) (idx_1 t).1
  · blk_simp
    exact congrArg (fun n : ℕ => n * 1024 + s.val) (idx_1 t).2.1
  · blk_simp
    refine (congrArg (fun n : ℕ => n * 1024 + k.val) (idx_1 t).2.2).trans ?_
    show 0 * 1024 + k.val = k.val
    omega
theorem emb_2 (r s : Fin 1024) : (((cfg0.win 2).blk t).view.emb (ix2 r s) : S4096x2048.Idx) = ix2 (rowOf (I t) r) (colOf (J t) s) := by
  funext a
  refine Fin.ext ?_
  fin_cases a
  · blk_simp
    exact congrArg (fun n : ℕ => n * 1024 + r.val) (idx_2 t).1
  · blk_simp
    exact congrArg (fun n : ℕ => n * 1024 + s.val) (idx_2 t).2

end

/-! ## The body -/

theorem hz : (![0, 0] : Fin 2 → Nat) = fun _ => 0 := funext fun a => by fin_cases a <;> rfl

/-- The two runs of columns of a block of the left factor, and the two slabs of a block of the weight. -/
abbrev left0 (x0 : FVec Ideal S1024x2048 .bf16) : FVec Ideal S1024x1024 .bf16 := View.ld (Val := Elt Ideal) (e' := EltTy.bf16) x0 (Rect.unit (s := S1024x2048) ![0, 0] S1024x1024.size inb_S1024x2048_S1024x1024_0_0)
abbrev left1 (x0 : FVec Ideal S1024x2048 .bf16) : FVec Ideal S1024x1024 .bf16 := View.ld (Val := Elt Ideal) (e' := EltTy.bf16) x0 (Rect.unit (s := S1024x2048) ![0, 1024] S1024x1024.size inb_S1024x2048_S1024x1024_0_1024)
abbrev slab0 (x1 : FVec Ideal S2x1024x1024 .bf16) : FVec Ideal S1x1024x1024 .bf16 := View.ld (Val := Elt Ideal) (e' := EltTy.bf16) x1 (Rect.unit (s := S2x1024x1024) ![0, 0, 0] S1x1024x1024.size inb_S2x1024x1024_S1x1024x1024_0_0_0)
abbrev slab1 (x1 : FVec Ideal S2x1024x1024 .bf16) : FVec Ideal S1x1024x1024 .bf16 := View.ld (Val := Elt Ideal) (e' := EltTy.bf16) x1 (Rect.unit (s := S2x1024x1024) ![1, 0, 0] S1x1024x1024.size inb_S2x1024x1024_S1x1024x1024_1_0_0)

section
variable (c : Dev nD) (i : grid0.Coords) (b0 : Memref sig .tc .vmem S1024x2048 .bf16) (h0 : b0.IsWhole) (b1 : Memref sig .tc .vmem S2x1024x1024 .bf16) (h1 : b1.IsWhole)
  (b2 : Memref sig .tc .vmem S1024x1024 .f32) (h2 : b2.IsWhole) (x0 : Vec Ideal S1024x2048 .bf16) (x1 : Vec Ideal S2x1024x1024 .bf16) (x2 : Vec Ideal S1024x1024 .f32)

theorem out_A (hc0 : cond0_0 i) (hc1 : ¬cond0_1 i) : out0_A_2 c i b0 h0 b1 h1 b2 h2 hc0 hc1 x0 x1 = k0_pay1 (F := Ideal) (left0 x0) (slab0 x1) (left1 x0) (slab1 x1) := by
  unfold out0_A_2
  rw [View.read_writes_eq_canon _ _ _ (cover0_A_2 c i b0 h0 b1 h1 b2 h2 hc0 hc1 x0 x1)]
  unfold kernelRun0_A
  dsimp only
  rw [View.canon_unit_zero hz]
  simp only [View.readAt_eq_ld, h0.read_unread, h1.read_unread]
theorem out_B (hc0 : ¬cond0_0 i) (hc1 : cond0_1 i) : out0_B_2 c i b0 h0 b1 h1 b2 h2 hc0 hc1 x0 x1 x2 = k0_pay2 (F := Ideal) (left0 x0) (slab0 x1) (left1 x0) (slab1 x1) x2 := by
  unfold out0_B_2
  rw [View.read_writes_eq_canon _ _ _ (cover0_B_2 c i b0 h0 b1 h1 b2 h2 hc0 hc1 x0 x1 x2)]
  unfold kernelRun0_B
  dsimp only
  rw [View.canon_unit_zero hz]
  simp only [View.readAt_eq_ld, h0.read_unread, h1.read_unread, h2.read_unread, View.ld_unit_zero (S := S1024x1024) hz]

end

/-! ## Each operation at an index -/

theorem left0_eq (x0 : FVec Ideal S1024x2048 .bf16) (r k : Fin 1024) : left0 x0 (ix2 r k) = x0 (ix2 r (pos 1024 2 rfl (0 : Fin 2) k)) := by
  refine View.ld_unit_apply_of _ _ _ _ _ _ fun a => ?_
  fin_cases a <;> simp [pos]
theorem left1_eq (x0 : FVec Ideal S1024x2048 .bf16) (r k : Fin 1024) : left1 x0 (ix2 r k) = x0 (ix2 r (pos 1024 2 rfl (1 : Fin 2) k)) := by
  refine View.ld_unit_apply_of _ _ _ _ _ _ fun a => ?_
  fin_cases a <;> simp [pos]
theorem slab0_eq (x1 : FVec Ideal S2x1024x1024 .bf16) (s k : Fin 1024) : slab0 x1 (ix3 0 s k) = x1 (ix3 0 s k) := by
  refine View.ld_unit_apply_of _ _ _ _ _ _ fun a => ?_
  fin_cases a <;> simp
theorem slab1_eq (x1 : FVec Ideal S2x1024x1024 .bf16) (s k : Fin 1024) : slab1 x1 (ix3 0 s k) = x1 (ix3 1 s k) := by
  refine View.ld_unit_apply_of _ _ _ _ _ _ fun a => ?_
  fin_cases a <;> simp

/-- A tile's entry of the product of two blocks. -/
def dotAt (x0 : FVec Ideal S1024x2048 .bf16) (x1 : FVec Ideal S2x1024x1024 .bf16) (r s : Fin 1024) (e : Fin 2) : EReal := ∑ k, (x0 (ix2 r (pos 1024 2 rfl e k)) * x1 (ix3 e s k) : EReal)

theorem both_eq (y0 y1 : FVec Ideal S1024x1024 .bf16) (z0 z1 : FVec Ideal S1x1024x1024 .bf16) (r s : Fin 1024) :
    (k0_pay1 y0 z0 y1 z1 : FVec Ideal S1024x1024 .f32) (ix2 r s) = ((∑ k, y0 (ix2 r k) * z0 (ix3 0 s k)) + (∑ k, y1 (ix2 r k) * z1 (ix3 0 s k)) : EReal) := by
  unfold k0_pay1; pointwise
theorem pay1_eq (x0 : FVec Ideal S1024x2048 .bf16) (x1 : FVec Ideal S2x1024x1024 .bf16) (r s : Fin 1024) :
    (k0_pay1 (left0 x0) (slab0 x1) (left1 x0) (slab1 x1) : FVec Ideal S1024x1024 .f32) (ix2 r s) = (dotAt x0 x1 r s 0 + dotAt x0 x1 r s 1 : EReal) := by
  refine (both_eq _ _ _ _ r s).trans ?_
  unfold dotAt
  refine congrArg₂ (fun x y : EReal => x + y) (Finset.sum_congr rfl fun k _ => ?_) (Finset.sum_congr rfl fun k _ => ?_)
  · exact congrArg₂ (fun x y : EReal => x * y) (left0_eq x0 r k) (slab0_eq x1 s k)
  · exact congrArg₂ (fun x y : EReal => x * y) (left1_eq x0 r k) (slab1_eq x1 s k)
theorem add_eq (y0 y1 : FVec Ideal S1024x1024 .bf16) (z0 z1 : FVec Ideal S1x1024x1024 .bf16) (x2 : FVec Ideal S1024x1024 .f32) (r s : Fin 1024) :
    (k0_pay2 y0 z0 y1 z1 x2 : FVec Ideal S1024x1024 .f32) (ix2 r s) = (x2 (ix2 r s) + k0_pay1 (F := Ideal) y0 z0 y1 z1 (ix2 r s) : EReal) := by
  unfold k0_pay2; pointwise

/-! ## The reference's weight -/

/-- A slab of an array. -/
abbrev piece (W : FVec Ideal S8x2048x1024 .bf16) (o : Fin 3 → ℕ) (h : Cert.Reference4Ideal.S8x2048x1024.Slices o Cert.Reference4Ideal.S1x2048x1024) : FVec Ideal Cert.Reference4Ideal.S2048x1024 .f32 :=
  extf .f32 (shapeCast Cert.Reference4Ideal.S2048x1024 (extractStridedSlice Cert.Reference4Ideal.S1x2048x1024 o W h) Cert.Reference4Ideal.Gen.shapeCasts_S1x2048x1024_S2048x1024) Cert.Reference4Ideal.Gen.bitsLt_bf16_f32

theorem piece_eq (W : FVec Ideal S8x2048x1024 .bf16) (a : Fin 8) (h : Cert.Reference4Ideal.S8x2048x1024.Slices ![a.val, 0, 0] Cert.Reference4Ideal.S1x2048x1024) (q : Fin 2048) (k : Fin 1024) :
    piece W ![a.val, 0, 0] h (ix2 q k) = (W (ix3 a q k) : EReal) := by
  unfold piece; pointwise

abbrev slabs (W : FVec Ideal S8x2048x1024 .bf16) : List ((s : Shape) × (s.Idx → EReal)) :=
  [⟨Cert.Reference4Ideal.S2048x1024, piece W ![0, 0, 0] Cert.Reference4Ideal.Gen.slices_S8x2048x1024_S1x2048x1024_0_0_0⟩, ⟨Cert.Reference4Ideal.S2048x1024, piece W ![1, 0, 0] Cert.Reference4Ideal.Gen.slices_S8x2048x1024_S1x2048x1024_1_0_0⟩, ⟨Cert.Reference4Ideal.S2048x1024, piece W ![2, 0, 0] Cert.Reference4Ideal.Gen.slices_S8x2048x1024_S1x2048x1024_2_0_0⟩, ⟨Cert.Reference4Ideal.S2048x1024, piece W ![3, 0, 0] Cert.Reference4Ideal.Gen.slices_S8x2048x1024_S1x2048x1024_3_0_0⟩, ⟨Cert.Reference4Ideal.S2048x1024, piece W ![4, 0, 0] Cert.Reference4Ideal.Gen.slices_S8x2048x1024_S1x2048x1024_4_0_0⟩, ⟨Cert.Reference4Ideal.S2048x1024, piece W ![5, 0, 0] Cert.Reference4Ideal.Gen.slices_S8x2048x1024_S1x2048x1024_5_0_0⟩, ⟨Cert.Reference4Ideal.S2048x1024, piece W ![6, 0, 0] Cert.Reference4Ideal.Gen.slices_S8x2048x1024_S1x2048x1024_6_0_0⟩, ⟨Cert.Reference4Ideal.S2048x1024, piece W ![7, 0, 0] Cert.Reference4Ideal.Gen.slices_S8x2048x1024_S1x2048x1024_7_0_0⟩]

/-- The eight slabs of an array, one beside the other. -/
abbrev cat (W : FVec Ideal S8x2048x1024 .bf16) : FVec Ideal Cert.Reference4Ideal.S2048x8192 .f32 :=
  concatenate Cert.Reference4Ideal.S2048x8192 1 (slabs W) Cert.Reference4Ideal.Gen.concatenates_S2048x1024_S2048x1024_S2048x1024_S2048x1024_S2048x1024_S2048x1024_S2048x1024_S2048x1024_S2048x8192_d1

/-- The width of the slabs before a slab. -/
theorem before : ∀ a : Fin 8, ((List.replicate a.val Cert.Reference4Ideal.S2048x1024).map fun s => if h : s.rank = Cert.Reference4Ideal.S2048x8192.rank then s.size ((1 : Fin Cert.Reference4Ideal.S2048x8192.rank).cast h.symm) else 0).sum = a.val * 1024 := by
  decide +kernel

theorem pick (W : FVec Ideal S8x2048x1024 .bf16) (q : Fin 2048) (k : Fin 1024) (a : Fin 8) (h : Cert.Reference4Ideal.S8x2048x1024.Slices ![a.val, 0, 0] Cert.Reference4Ideal.S1x2048x1024)
    (hx : (slabs W)[a.val]'a.isLt = ⟨Cert.Reference4Ideal.S2048x1024, piece W ![a.val, 0, 0] h⟩)
    (hs : ((slabs W).take a.val).map (·.1) = List.replicate a.val Cert.Reference4Ideal.S2048x1024) :
    cat W (ix2 q (midOf a k)) = (W (ix3 a q k) : EReal) := by
  refine (concatenate_apply_piece 1 (slabs W) _ (ix2 q (midOf a k)) a.val a.isLt Cert.Reference4Ideal.S2048x1024 _ hx rfl (a.val * 1024) ((congrArg (fun l => (List.map _ l).sum) hs).trans (before a)) (ix2 q k) (fun b hb => ?_) ?_).trans ?_
  · fin_cases b
    · rfl
    · exact absurd rfl hb
  · rfl
  · exact piece_eq W a h q k

theorem cat_eq (W : FVec Ideal S8x2048x1024 .bf16) (a : Fin 8) (q : Fin 2048) (k : Fin 1024) : cat W (ix2 q (midOf a k)) = (W (ix3 a q k) : EReal) := by
  match a with
  | 0 => exact pick W q k 0 _ rfl rfl
  | 1 => exact pick W q k 1 _ rfl rfl
  | 2 => exact pick W q k 2 _ rfl rfl
  | 3 => exact pick W q k 3 _ rfl rfl
  | 4 => exact pick W q k 4 _ rfl rfl
  | 5 => exact pick W q k 5 _ rfl rfl
  | 6 => exact pick W q k 6 _ rfl rfl
  | 7 => exact pick W q k 7 _ rfl rfl

/-- The gradient the reference computes, of the two arguments. -/
abbrev G (du : FVec Ideal S4096x8192 .bf16) (W : FVec Ideal S8x2048x1024 .bf16) : FVec Ideal S4096x2048 .f32 :=
  Host.dotGeneral Cert.Reference4Ideal.dot_S4096x8192_S2048x8192_S4096x2048_1_1_0_0_n_n none (extf .f32 du Cert.Reference4Ideal.Gen.bitsLt_bf16_f32) (cat W)

theorem dot_eq (x : FVec Ideal Cert.Reference4Ideal.S4096x8192 .f32) (y : FVec Ideal Cert.Reference4Ideal.S2048x8192 .f32) (p : Fin 4096) (q : Fin 2048) :
    (Host.dotGeneral Cert.Reference4Ideal.dot_S4096x8192_S2048x8192_S4096x2048_1_1_0_0_n_n none x y : FVec Ideal Cert.Reference4Ideal.S4096x2048 .f32) (ix2 p q) = (∑ n, x (ix2 p n) * y (ix2 q n) : EReal) := by pointwise
theorem wide_eq (x : FVec Ideal S4096x8192 .bf16) (p : Fin 4096) (n : Fin 8192) : (extf .f32 x Cert.Reference4Ideal.Gen.bitsLt_bf16_f32 : FVec Ideal S4096x8192 .f32) (ix2 p n) = (x (ix2 p n) : EReal) := by pointwise

theorem ref_eq (du : FVec Ideal S4096x8192 .bf16) (W : FVec Ideal S8x2048x1024 .bf16) (p : Fin 4096) (q : Fin 2048) :
    G du W (ix2 p q) = (∑ a : Fin 8, ∑ k : Fin 1024, du (ix2 p (midOf a k)) * W (ix3 a q k) : EReal) := by
  refine (dot_eq _ _ p q).trans ((sum_pos 1024 8 rfl _).trans (Finset.sum_congr rfl fun a _ => Finset.sum_congr rfl fun k _ => ?_))
  exact congrArg₂ (fun x y : EReal => x * y) (wide_eq du p _) (cat_eq W a q k)

/-! ## The call -/

abbrev Mem := (ℓ : Loc nD τ sig) → Buf (Elt Ideal) ℓ

section
variable (m : Mem) (c : Dev nD)

abbrev a0 : FVec Ideal S4096x8192 .bf16 := m ((c.tc : Thread nD τ).loc main_arg0)
abbrev a1 : FVec Ideal S8x2048x1024 .bf16 := m ((c.tc : Thread nD τ).loc main_arg1)

/-- The term of the sum a slab of the weight gives. -/
def term (p : Fin 4096) (q : Fin 2048) (a : Fin 8) : EReal := ∑ k : Fin 1024, (a0 m c (ix2 p (midOf a k)) * a1 m c (ix3 a q k) : EReal)

section
variable (t : Fin grid0.N)

theorem at_0 (B : (Pipeline.arrRef spec0 0).ty.Idx → Elt Ideal (Pipeline.arrRef spec0 0).ty.elt) (r : Fin 1024) (k : Fin 2048) :
    ((cfg0.win 0).blk t).view.read (Elt Ideal) B (ix2 r k) = B (((cfg0.win 0).blk t).view.emb (ix2 r k)) := rfl
theorem at_1 (B : (Pipeline.arrRef spec0 1).ty.Idx → Elt Ideal (Pipeline.arrRef spec0 1).ty.elt) (e : Fin 2) (s k : Fin 1024) :
    ((cfg0.win 1).blk t).view.read (Elt Ideal) B (ix3 e s k) = B (((cfg0.win 1).blk t).view.emb (ix3 e s k)) := rfl

theorem bl_0 (r k : Fin 1024) (e : Fin 2) : iblk m c 0 t (ix2 r (pos 1024 2 rfl e k : Fin 2048)) = a0 m c (ix2 (rowOf (I t) r) (midOf (slab (K t) e) k)) := by
  unfold iblk
  exact (at_0 t _ r _).trans ((congrFun (V_main_arg0 m c) _).trans (congrArg (a0 m c) (emb_0 t r k e)))
theorem bl_1 (e : Fin 2) (s k : Fin 1024) : iblk m c 1 t (ix3 e s k) = a1 m c (ix3 (slab (K t) e) (colOf (J t) s) k) := by
  unfold iblk
  exact (at_1 t _ e s k).trans ((congrFun (V_main_arg1 m c) _).trans (congrArg (a1 m c) (emb_1 t e s k)))

theorem part (r s : Fin 1024) (e : Fin 2) : dotAt (iblk m c 0 t) (iblk m c 1 t) r s e = term m c (rowOf (I t) r) (colOf (J t) s) (slab (K t) e) := by
  unfold dotAt term
  refine Finset.sum_congr rfl fun k _ => ?_
  rw [bl_0, bl_1]

/-- The part of the sum a point computes. -/
theorem step (r s : Fin 1024) : (k0_pay1 (left0 (iblk m c 0 t)) (slab0 (iblk m c 1 t)) (left1 (iblk m c 0 t)) (slab1 (iblk m c 1 t)) : FVec Ideal S1024x1024 .f32) (ix2 r s)
    = term m c (rowOf (I t) r) (colOf (J t) s) (slab (K t) 0) + term m c (rowOf (I t) r) (colOf (J t) s) (slab (K t) 1) := by
  refine (pay1_eq _ _ r s).trans ?_
  rw [part, part]

/-- After the first part the tile holds that part. -/
theorem first (h : t.val % 4 = 0) (r s : Fin 1024) : outsAt0 m c t.val t.isLt (ix2 r s)
    = term m c (rowOf (I t) r) (colOf (J t) s) (slab (K t) 0) + term m c (rowOf (I t) r) (colOf (J t) s) (slab (K t) 1) := by
  rw [outsAt0_A m c t h (by omega), out_A]
  exact step m c t r s

/-- After a further part it holds what it held and that part. -/
theorem next (h : 1 ≤ t.val % 4) (r s : Fin 1024) : outsAt0 m c t.val t.isLt (ix2 r s)
    = (outsAt0 m c (prev t).val (prev t).isLt (ix2 r s) + (term m c (rowOf (I t) r) (colOf (J t) s) (slab (K t) 0) + term m c (rowOf (I t) r) (colOf (J t) s) (slab (K t) 1)) : EReal) := by
  rw [outsAt0_B m c t (by omega) h, out_B]
  refine (add_eq _ _ _ _ _ r s).trans ?_
  rw [step]
  rfl

/-- After the last part the tile holds the whole sum. -/
theorem tile (h : t.val % 4 = 3) (r s : Fin 1024) : outsAt0 m c t.val t.isLt (ix2 r s) = ∑ a, term m c (rowOf (I t) r) (colOf (J t) s) a := by
  obtain ⟨i1, j1, k1⟩ := back t (by omega)
  obtain ⟨i2, j2, k2⟩ := back (prev t) (by omega)
  obtain ⟨i3, j3, k3⟩ := back (prev (prev t)) (by omega)
  have q0 : K t = 3 := Fin.ext ((K_eq t).trans h)
  have q1 : K (prev t) = 2 := Fin.ext ((K_eq _).trans (k1.trans (by rw [h]; rfl)))
  have q2 : K (prev (prev t)) = 1 := Fin.ext ((K_eq _).trans (k2.trans (by rw [k1, h]; rfl)))
  have q3 : K (prev (prev (prev t))) = 0 := Fin.ext ((K_eq _).trans (k3.trans (by rw [k2, k1, h]; rfl)))
  rw [next m c t (by omega), next m c (prev t) (by omega), next m c (prev (prev t)) (by omega), first m c (prev (prev (prev t))) (by omega),
    q0, q1, q2, q3, i3, j3, i2, j2, i1, j1, sum_pos 2 4 rfl]
  simp only [Fin.sum_univ_four, Fin.sum_univ_two]

theorem cx_2 (f : (cfg0.win 2).block.Idx → Elt Ideal (cfg0.win 2).elt) (r s : Fin 1024) :
    _root_.cast (congrArg (Elt Ideal) ((cfg0.win 2).blk t).view.elt_eq.symm) (f ((cfg0.win 2).xinj (grid0.coords t) (ix2 r s))) = f (ix2 r s) := rfl

end

/-- The array the call leaves. -/
theorem final (G : FVec Ideal S4096x2048 .f32) (hG : ∀ p q, G (ix2 p q) = ∑ a, term m c p q a) :
    (dats m 0 c).arrAt 2 cfg0.N = G := by
  refine (dats m 0 c).arrAt_eq_of_emb 2 G (fun t hf y => ?_) (fun i => ?_)
  · obtain ⟨r, s, rfl⟩ : ∃ (r s : Fin 1024), y = ix2 r s := ⟨y 0, y 1, (ix2_eta (n0 := 1024) (n1 := 1024) y).symm⟩
    refine (cx_2 t ((dats m 0 c).after 2 t) r s).trans ?_
    rw [after0_2]
    refine (tile m c t ((flush0_2 t).mp hf) r s).trans ?_
    exact ((congrArg G (emb_2 t r s)).trans (hG _ _)).symm
  · obtain ⟨t, hf, h1, h2⟩ := cov (blkOf 1024 4 rfl (i 0)) (blkOf 1024 2 rfl (i 1))
    have hi : i = ((cfg0.win 2).blk t).view.emb (ix2 (inBlk 1024 4 rfl (i 0)) (inBlk 1024 2 rfl (i 1))) := by
      refine Eq.trans ?_ (emb_2 t _ _).symm
      rw [h1, h2]
      refine (eq_ix2 (n0 := 4096) (n1 := 2048) i).trans ?_
      exact congrArg₂ ix2 (pos_split 1024 4 rfl (i 0)) (pos_split 1024 2 rfl (i 1))
    rw [hi]
    exact ⟨t, (flush0_2 t).mpr hf, View.emb_mem_set _ _⟩

theorem final_G : (dats m 0 c).arrAt 2 cfg0.N = G (a0 m c) (a1 m c) :=
  final m c _ fun p q => ref_eq _ _ p q

end

end Cert.Proof.M4

namespace Cert.Proof

open Idealize.ShloMosaic Idealize.SL.Sem

/-- The fourth call's result is its reference's, of any arguments. -/
theorem value4 : Cert.algebraic_Kernel4Ideal_Reference4Ideal := fun m g m' g' _ hm => by
  refine ⟨fun c => M4.G (M4.a0 m c) (M4.a1 m c),
    (θ_run Cert.Kernel4Ideal.defs _ _).mono (fun _ h c => ⟨(h c).1.trans (M4.final_G m c), (h c).2⟩) (Cert.Kernel4Ideal.Value.run_blocks m g), ?_⟩
  refine (θ_run Cert.Reference4Ideal.defs _ _).mono (fun r h c => ⟨(h c).1.trans ?_, (h c).2⟩) (Cert.Reference4Ideal.Value.run (F := Ideal) m' g')
  rw [(hm c).1, (hm c).2]

end Cert.Proof

end
-- ==== Proof.Mlp5.lean ====
/-
  The gradient of the first weight: what the call leaves, entry by entry, and the reference's entry.
-/
module

public import proofs.«01_k».proof.Proof.Tile
public import proofs.«01_k».proof.Defs
public import proofs.«01_k».proof.Proof.Gen.Kernel5Ideal.Value
public import proofs.«01_k».proof.Proof.Gen.Reference5Ideal.Run
public import Idealize.ShloMosaic.Lib.Pipeline.ValueKit.Geometry
public import Idealize.ShloMosaic.Lib.Pipeline.Value
public import Idealize.ShloMosaic.Lib.StableHlo.RunRead

@[expose] public section

noncomputable section

namespace Cert.Proof.M5

open Cert.Kernel5Ideal Cert.Kernel5Ideal.Gen Cert.Kernel5Ideal.Value

open Idealize.ShloMosaic Idealize.SL.Sem
open Idealize.ShloMosaic.TcCoe Idealize.ShloMosaic.Tactic

/-! ## The grid -/

/-- The tile of rows a point adds to, its tile of columns, and the part of the sum it adds. -/
abbrev I (t : Fin grid0.N) : Fin 2 := grid0.coords t 0
abbrev J (t : Fin grid0.N) : Fin 8 := grid0.coords t 1
abbrev K (t : Fin grid0.N) : Fin 2 := grid0.coords t 2

/-- The point before. -/
def prev (t : Fin grid0.N) : Fin grid0.N := ⟨t.val - 1, Nat.lt_of_le_of_lt (Nat.sub_le _ _) t.isLt⟩

theorem idx_0 : ∀ t : Fin grid0.N, win0_0.index t 0 = (K t).val ∧ win0_0.index t 1 = (I t).val := by decide +kernel
theorem idx_1 : ∀ t : Fin grid0.N, win0_1.index t 0 = (K t).val ∧ win0_1.index t 1 = (J t).val := by decide +kernel
theorem idx_2 : ∀ t : Fin grid0.N, win0_2.index t 0 = (J t).val ∧ win0_2.index t 1 = (I t).val ∧ win0_2.index t 2 = 0 := by decide +kernel
theorem last : ∀ t : Fin grid0.N, t.val % 2 = 1 → K t = 1 ∧ K (prev t) = 0 ∧ I (prev t) = I t ∧ J (prev t) = J t ∧ (prev t).val % 2 = 0 := by decide +kernel
theorem cov : ∀ i : Fin 2, ∀ j : Fin 8, ∃ t : Fin grid0.N, t.val % 2 = 1 ∧ I t = i ∧ J t = j := by decide +kernel

/-- Row `r` of tile `i`, column `s` of run `j`, and term `k` of part `κ` of the sum. -/
abbrev rowOf (i : Fin 2) (r : Fin 1024) : Fin 2048 := pos 1024 2 rfl i r
abbrev colOf (j : Fin 8) (s : Fin 1024) : Fin 8192 := pos 1024 8 rfl j s
abbrev midOf (κ : Fin 2) (k : Fin 2048) : Fin 4096 := pos 2048 2 rfl κ k

section
variable (t : Fin grid0.N)

theorem emb_0 (k : Fin 2048) (r : Fin 1024) : (((cfg0.win 0).blk t).view.emb (ix2 k r) : S4096x2048.Idx) = ix2 (midOf (K t) k) (rowOf (I t) r) := by
  funext a
  refine Fin.ext ?_
  fin_cases a
  · blk_simp
    exact congrArg (fun n : ℕ => n * 2048 + k.val) (idx_0 t).1
  · blk_simp
    exact congrArg (fun n : ℕ => n * 1024 + r.val) (idx_0 t).2
theorem emb_1 (k : Fin 2048) (s : Fin 1024) : (((cfg0.win 1).blk t).view.emb (ix2 k s) : S4096x8192.Idx) = ix2 (midOf (K t) k) (colOf (J t) s) := by
  funext a
  refine Fin.ext ?_
  fin_cases a
  · blk_simp
    exact congrArg (fun n : ℕ => n * 2048 + k.val) (idx_1 t).1
  · blk_simp
    exact congrArg (fun n : ℕ => n * 1024 + s.val) (idx_1 t).2
theorem emb_2 (r s : Fin 1024) : (((cfg0.win 2).blk t).view.emb (ix3 0 r s) : S8x2048x1024.Idx) = ix3 (J t) (rowOf (I t) r) s := by
  funext a
  refine Fin.ext ?_
  fin_cases a
  · blk_simp
    exact (idx_2 t).1
  · blk_simp
    exact congrArg (fun n : ℕ => n * 1024 + r.val) (idx_2 t).2.1
  · blk_simp
    refine (congrArg (fun n : ℕ => n * 1024 + s.val) (idx_2 t).2.2).trans ?_
    show 0 * 1024 + s.val = s.val
    omega

end

/-! ## The body -/

theorem hz : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid0.Coords) (b0 : Memref sig .tc .vmem S2048x1024 .bf16) (h0 : b0.IsWhole) (b1 : Memref sig .tc .vmem S2048x1024 .bf16) (h1 : b1.IsWhole)
  (b2 : Memref sig .tc .vmem S1x1024x1024 .f32) (h2 : b2.IsWhole) (x0 x1 : Vec Ideal S2048x1024 .bf16) (x2 : Vec Ideal S1x1024x1024 .f32)

theorem out_A (hc0 : cond0_0 i) (hc1 : ¬cond0_1 i) : out0_A_2 c i b0 h0 b1 h1 b2 h2 hc0 hc1 x0 x1 = k0_pay2 x1 x0 := by
  unfold out0_A_2
  rw [View.read_writes_eq_canon _ _ _ (cover0_A_2 c i b0 h0 b1 h1 b2 h2 hc0 hc1 x0 x1)]
  unfold kernelRun0_A
  dsimp only
  rw [View.canon_unit_zero hz3]
  simp only [View.readAt_eq_ld, h0.read_unread, h1.read_unread, View.ld_unit_zero (S := S2048x1024) hz, View.ld_unit_zero (S := S1x1024x1024) hz3]
theorem out_B (hc0 : ¬cond0_0 i) (hc1 : cond0_1 i) : out0_B_2 c i b0 h0 b1 h1 b2 h2 hc0 hc1 x0 x1 x2 = k0_pay3 x1 x0 x2 := by
  unfold out0_B_2
  rw [View.read_writes_eq_canon _ _ _ (cover0_B_2 c i b0 h0 b1 h1 b2 h2 hc0 hc1 x0 x1 x2)]
  unfold kernelRun0_B
  dsimp only
  rw [View.canon_unit_zero hz3]
  simp only [View.readAt_eq_ld, h0.read_unread, h1.read_unread, h2.read_unread, View.ld_unit_zero (S := S2048x1024) hz, View.ld_unit_zero (S := S1x1024x1024) hz3]

end

/-! ## Each operation at an index -/

/-- A tile's entry of the product of two blocks. -/
def dotAt (x1 x0 : FVec Ideal S2048x1024 .bf16) (r s : Fin 1024) : EReal := ∑ k, (x0 (ix2 k r) * x1 (ix2 k s) : EReal)

theorem pay1_eq (x1 x0 : FVec Ideal S2048x1024 .bf16) (r s : Fin 1024) :
    (k0_pay1 x1 x0 : FVec Ideal S1024x1024 .f32) (ix2 r s) = dotAt x1 x0 r s := by
  unfold k0_pay1 dotAt; pointwise
theorem slab_eq (y : FVec Ideal S1024x1024 .f32) (r s : Fin 1024) : shapeCast S1x1024x1024 y shapeCasts_S1024x1024_S1x1024x1024 (ix3 0 r s) = (y (ix2 r s) : EReal) := by pointwise
theorem sum_eq (x : FVec Ideal S1x1024x1024 .f32) (y : FVec Ideal S1024x1024 .f32) (r s : Fin 1024) :
    shapeCast S1x1024x1024 (addf (shapeCast S1024x1024 x shapeCasts_S1x1024x1024_S1024x1024) y) shapeCasts_S1024x1024_S1x1024x1024 (ix3 0 r s) = (x (ix3 0 r s) + y (ix2 r s) : EReal) := by pointwise
theorem pay2_eq (x1 x0 : FVec Ideal S2048x1024 .bf16) (r s : Fin 1024) :
    (k0_pay2 x1 x0 : FVec Ideal S1x1024x1024 .f32) (ix3 0 r s) = dotAt x1 x0 r s := by
  unfold k0_pay2
  exact (slab_eq _ r s).trans (pay1_eq x1 x0 r s)
theorem pay3_eq (x1 x0 : FVec Ideal S2048x1024 .bf16) (x2 : FVec Ideal S1x1024x1024 .f32) (r s : Fin 1024) :
    (k0_pay3 x1 x0 x2 : FVec Ideal S1x1024x1024 .f32) (ix3 0 r s) = (x2 (ix3 0 r s) + dotAt x1 x0 r s : EReal) := by
  unfold k0_pay3
  refine (sum_eq _ _ r s).trans ?_
  rw [pay1_eq]

/-- A run of columns of an array, as one slab. -/
abbrev piece (T : FVec Ideal Cert.Reference5Ideal.S2048x8192 .f32) (o : Fin 2 → ℕ) (h : Cert.Reference5Ideal.S2048x8192.Slices o Cert.Reference5Ideal.S2048x1024) : FVec Ideal Cert.Reference5Ideal.S1x2048x1024 .f32 :=
  broadcastInDim Cert.Reference5Ideal.S1x2048x1024 ![1, 2] Cert.Reference5Ideal.Gen.bcast_S2048x1024_S1x2048x1024_1_2 (extractStridedSlice Cert.Reference5Ideal.S2048x1024 o T h)

theorem piece_eq (T : FVec Ideal Cert.Reference5Ideal.S2048x8192 .f32) (o : ℕ) (h : Cert.Reference5Ideal.S2048x8192.Slices ![0, o] Cert.Reference5Ideal.S2048x1024) (p : Fin 2048) (s : Fin 1024) (ho : o + s.val < 8192) :
    piece T ![0, o] h (ix3 0 p s) = (T (ix2 p ⟨o + s.val, ho⟩) : EReal) := by
  unfold piece; pointwise

abbrev slabs (T : FVec Ideal Cert.Reference5Ideal.S2048x8192 .f32) : List ((s : Shape) × (s.Idx → EReal)) :=
  [⟨Cert.Reference5Ideal.S1x2048x1024, piece T ![0, 0] Cert.Reference5Ideal.Gen.slices_S2048x8192_S2048x1024_0_0⟩, ⟨Cert.Reference5Ideal.S1x2048x1024, piece T ![0, 1024] Cert.Reference5Ideal.Gen.slices_S2048x8192_S2048x1024_0_1024⟩, ⟨Cert.Reference5Ideal.S1x2048x1024, piece T ![0, 2048] Cert.Reference5Ideal.Gen.slices_S2048x8192_S2048x1024_0_2048⟩, ⟨Cert.Reference5Ideal.S1x2048x1024, piece T ![0, 3072] Cert.Reference5Ideal.Gen.slices_S2048x8192_S2048x1024_0_3072⟩, ⟨Cert.Reference5Ideal.S1x2048x1024, piece T ![0, 4096] Cert.Reference5Ideal.Gen.slices_S2048x8192_S2048x1024_0_4096⟩, ⟨Cert.Reference5Ideal.S1x2048x1024, piece T ![0, 5120] Cert.Reference5Ideal.Gen.slices_S2048x8192_S2048x1024_0_5120⟩, ⟨Cert.Reference5Ideal.S1x2048x1024, piece T ![0, 6144] Cert.Reference5Ideal.Gen.slices_S2048x8192_S2048x1024_0_6144⟩, ⟨Cert.Reference5Ideal.S1x2048x1024, piece T ![0, 7168] Cert.Reference5Ideal.Gen.slices_S2048x8192_S2048x1024_0_7168⟩]

/-- The eight runs of columns of an array, one above the other. -/
abbrev cat (T : FVec Ideal Cert.Reference5Ideal.S2048x8192 .f32) : FVec Ideal S8x2048x1024 .f32 :=
  concatenate S8x2048x1024 0 (slabs T) Cert.Reference5Ideal.Gen.concatenates_S1x2048x1024_S1x2048x1024_S1x2048x1024_S1x2048x1024_S1x2048x1024_S1x2048x1024_S1x2048x1024_S1x2048x1024_S8x2048x1024_d0

theorem pick (T : FVec Ideal Cert.Reference5Ideal.S2048x8192 .f32) (p : Fin 2048) (s : Fin 1024) (k : Fin 8) (h : Cert.Reference5Ideal.S2048x8192.Slices ![0, k.val * 1024] Cert.Reference5Ideal.S2048x1024)
    (hx : (slabs T)[k.val]'k.isLt = ⟨Cert.Reference5Ideal.S1x2048x1024, piece T ![0, k.val * 1024] h⟩)
    (hp : ((((slabs T).take k.val).map (·.1)).map fun s => if h : s.rank = S8x2048x1024.rank then s.size ((0 : Fin S8x2048x1024.rank).cast h.symm) else 0).sum = k.val) :
    cat T (ix3 k p s) = (T (ix2 p (pos 1024 8 rfl k s)) : EReal) := by
  refine (concatenate_apply_piece 0 (slabs T) _ (ix3 k p s) k.val k.isLt Cert.Reference5Ideal.S1x2048x1024 _ hx rfl k.val hp (ix3 0 p s) (fun b hb => ?_) ?_).trans ?_
  · fin_cases b
    · exact absurd rfl hb
    · rfl
    · rfl
  · rfl
  · exact piece_eq T _ h p s _

theorem cat_eq (T : FVec Ideal Cert.Reference5Ideal.S2048x8192 .f32) (j : Fin 8) (p : Fin 2048) (s : Fin 1024) : cat T (ix3 j p s) = (T (ix2 p (pos 1024 8 rfl j s)) : EReal) := by
  match j with
  | 0 => exact pick T p s 0 _ rfl rfl
  | 1 => exact pick T p s 1 _ rfl rfl
  | 2 => exact pick T p s 2 _ rfl rfl
  | 3 => exact pick T p s 3 _ rfl rfl
  | 4 => exact pick T p s 4 _ rfl rfl
  | 5 => exact pick T p s 5 _ rfl rfl
  | 6 => exact pick T p s 6 _ rfl rfl
  | 7 => exact pick T p s 7 _ rfl rfl

/-- The gradient the reference computes, of the two arguments. -/
abbrev G (h : FVec Ideal S4096x2048 .bf16) (du : FVec Ideal S4096x8192 .bf16) : FVec Ideal S8x2048x1024 .f32 :=
  cat (transpose Cert.Reference5Ideal.S2048x8192 [1, 0] (Host.dotGeneral Cert.Reference5Ideal.dot_S4096x8192_S4096x2048_S8192x2048_0_0_1_1_n_n none (extf .f32 du Cert.Reference5Ideal.Gen.bitsLt_bf16_f32) (extf .f32 h Cert.Reference5Ideal.Gen.bitsLt_bf16_f32)) Cert.Reference5Ideal.Gen.transposes_S8192x2048_S2048x8192_1_0)

theorem dot_eq (h : FVec Ideal S4096x2048 .bf16) (du : FVec Ideal S4096x8192 .bf16) (p : Fin 2048) (q : Fin 8192) :
    transpose Cert.Reference5Ideal.S2048x8192 [1, 0] (Host.dotGeneral Cert.Reference5Ideal.dot_S4096x8192_S4096x2048_S8192x2048_0_0_1_1_n_n none (extf .f32 du Cert.Reference5Ideal.Gen.bitsLt_bf16_f32) (extf .f32 h Cert.Reference5Ideal.Gen.bitsLt_bf16_f32)) Cert.Reference5Ideal.Gen.transposes_S8192x2048_S2048x8192_1_0 (ix2 p q)
    = (∑ n, du (ix2 n q) * h (ix2 n p) : EReal) := by pointwise

theorem ref_eq (h : FVec Ideal S4096x2048 .bf16) (du : FVec Ideal S4096x8192 .bf16) (j : Fin 8) (p : Fin 2048) (s : Fin 1024) :
    G h du (ix3 j p s) = (∑ n, du (ix2 n (colOf j s)) * h (ix2 n p) : EReal) :=
  (cat_eq _ j p s).trans (dot_eq h du p _)

/-! ## The call -/

abbrev Mem := (ℓ : Loc nD τ sig) → Buf (Elt Ideal) ℓ

section
variable (m : Mem) (c : Dev nD)

abbrev a0 : FVec Ideal S4096x2048 .bf16 := m ((c.tc : Thread nD τ).loc main_arg0)
abbrev a1 : FVec Ideal S4096x8192 .bf16 := m ((c.tc : Thread nD τ).loc main_arg1)

section
variable (t : Fin grid0.N)

theorem at_0 (B : (Pipeline.arrRef spec0 0).ty.Idx → Elt Ideal (Pipeline.arrRef spec0 0).ty.elt) (k : Fin 2048) (r : Fin 1024) :
    ((cfg0.win 0).blk t).view.read (Elt Ideal) B (ix2 k r) = B (((cfg0.win 0).blk t).view.emb (ix2 k r)) := rfl
theorem at_1 (B : (Pipeline.arrRef spec0 1).ty.Idx → Elt Ideal (Pipeline.arrRef spec0 1).ty.elt) (k : Fin 2048) (s : Fin 1024) :
    ((cfg0.win 1).blk t).view.read (Elt Ideal) B (ix2 k s) = B (((cfg0.win 1).blk t).view.emb (ix2 k s)) := rfl

theorem bl_0 (k : Fin 2048) (r : Fin 1024) : iblk m c 0 t (ix2 k r) = a0 m c (ix2 (midOf (K t) k) (rowOf (I t) r)) := by
  unfold iblk
  exact (at_0 t _ k r).trans ((congrFun (V_main_arg0 m c) _).trans (congrArg (a0 m c) (emb_0 t k r)))
theorem bl_1 (k : Fin 2048) (s : Fin 1024) : iblk m c 1 t (ix2 k s) = a1 m c (ix2 (midOf (K t) k) (colOf (J t) s)) := by
  unfold iblk
  exact (at_1 t _ k s).trans ((congrFun (V_main_arg1 m c) _).trans (congrArg (a1 m c) (emb_1 t k s)))

/-- The part of the sum a point computes. -/
theorem part (r s : Fin 1024) : dotAt (iblk m c 1 t) (iblk m c 0 t) r s
    = (∑ k, a0 m c (ix2 (midOf (K t) k) (rowOf (I t) r)) * a1 m c (ix2 (midOf (K t) k) (colOf (J t) s)) : EReal) := by
  unfold dotAt
  refine Finset.sum_congr rfl fun k _ => ?_
  rw [bl_0, bl_1]

/-- After the first part the tile holds that part. -/
theorem first (h : t.val % 2 = 0) : outsAt0 m c t.val t.isLt = k0_pay2 (iblk m c 1 t) (iblk m c 0 t) :=
  (outsAt0_A m c t h (by omega)).trans (out_A c _ _ _ _ _ _ _ _ _ _ _)

/-- After the last part the tile holds the whole sum. -/
theorem tile (h : t.val % 2 = 1) (r s : Fin 1024) : outsAt0 m c t.val t.isLt (ix3 0 r s)
    = (∑ n, a0 m c (ix2 n (rowOf (I t) r)) * a1 m c (ix2 n (colOf (J t) s)) : EReal) := by
  obtain ⟨hk, hk', hi, hj, hp⟩ := last t h
  have e : outsAt0 m c (t.val - 1) (Nat.lt_of_le_of_lt (Nat.sub_le _ _) t.isLt) = k0_pay2 (iblk m c 1 (prev t)) (iblk m c 0 (prev t)) := first m c (prev t) hp
  rw [outsAt0_B m c t (by omega) h, e, out_B]
  refine (pay3_eq _ _ _ r s).trans ?_
  rw [pay2_eq, part, part, hk, hk', hi, hj, sum_pos 2048 2 rfl, Fin.sum_univ_two]

theorem cx_2 (f : (cfg0.win 2).block.Idx → Elt Ideal (cfg0.win 2).elt) (r s : Fin 1024) :
    _root_.cast (congrArg (Elt Ideal) ((cfg0.win 2).blk t).view.elt_eq.symm) (f ((cfg0.win 2).xinj (grid0.coords t) (ix3 0 r s))) = f (ix3 0 r s) := rfl

end

/-- The array the call leaves. -/
theorem final (G : FVec Ideal S8x2048x1024 .f32) (hG : ∀ j p s, G (ix3 j p s) = (∑ n, a0 m c (ix2 n p) * a1 m c (ix2 n (colOf j s)) : EReal)) :
    (dats m 0 c).arrAt 2 cfg0.N = G := by
  refine (dats m 0 c).arrAt_eq_of_emb 2 G (fun t hf y => ?_) (fun i => ?_)
  · obtain ⟨z, r, s, rfl⟩ : ∃ (z : Fin 1) (r s : Fin 1024), y = ix3 z r s := ⟨y 0, y 1, y 2, eq_ix3 (n0 := 1) (n1 := 1024) (n2 := 1024) y⟩
    obtain rfl : z = 0 := Subsingleton.elim _ _
    refine (cx_2 t ((dats m 0 c).after 2 t) r s).trans ?_
    rw [after0_2]
    refine (tile m c t ((flush0_2 t).mp hf) r s).trans ?_
    exact ((congrArg G (emb_2 t r s)).trans (hG _ _ _)).symm
  · obtain ⟨t, hf, h1, h2⟩ := cov (blkOf 1024 2 rfl (i 1)) (i 0)
    have hi : i = ((cfg0.win 2).blk t).view.emb (ix3 0 (inBlk 1024 2 rfl (i 1)) (i 2)) := by
      refine Eq.trans ?_ (emb_2 t _ _).symm
      rw [h1, h2]
      refine (eq_ix3 (n0 := 8) (n1 := 2048) (n2 := 1024) i).trans ?_
      exact congrArg (fun x => ix3 (i 0) x (i 2)) (pos_split 1024 2 rfl (i 1))
    rw [hi]
    exact ⟨t, (flush0_2 t).mpr hf, View.emb_mem_set _ _⟩

theorem final_G : (dats m 0 c).arrAt 2 cfg0.N = G (a0 m c) (a1 m c) :=
  final m c _ fun j p s => (ref_eq _ _ j p s).trans (Finset.sum_congr rfl fun n _ => mul_comm _ _)

end

end Cert.Proof.M5

namespace Cert.Proof

open Idealize.ShloMosaic Idealize.SL.Sem

/-- The fifth call's result is its reference's, of any arguments. -/
theorem value5 : Cert.algebraic_Kernel5Ideal_Reference5Ideal := fun m g m' g' _ hm => by
  refine ⟨fun c => M5.G (M5.a0 m c) (M5.a1 m c),
    (θ_run Cert.Kernel5Ideal.defs _ _).mono (fun _ h c => ⟨(h c).1.trans (M5.final_G m c), (h c).2⟩) (Cert.Kernel5Ideal.Value.run_blocks m g), ?_⟩
  refine (θ_run Cert.Reference5Ideal.defs _ _).mono (fun r h c => ⟨(h c).1.trans ?_, (h c).2⟩) (Cert.Reference5Ideal.Value.run (F := Ideal) m' g')
  unfold Cert.Reference5Ideal.Value.res_main_v22
  rw [(hm c).1, (hm c).2]

end Cert.Proof

end
-- ==== Proof.Proj6.lean ====
/-
  The gradient of the input of the projection to q, k and v: what the call leaves, entry by entry, and the reference's entry.
-/
module

public import proofs.«01_k».proof.Proof.Tile
public import proofs.«01_k».proof.Defs
public import proofs.«01_k».proof.Proof.Gen.Kernel6Ideal.Value
public import proofs.«01_k».proof.Proof.Gen.Reference6Ideal.Run
public import Idealize.ShloMosaic.Lib.Pipeline.ValueKit.Geometry
public import Idealize.ShloMosaic.Lib.Pipeline.Value
public import Idealize.ShloMosaic.Lib.StableHlo.RunRead

@[expose] public section

noncomputable section

namespace Cert.Proof.M6

open Cert.Kernel6Ideal Cert.Kernel6Ideal.Gen Cert.Kernel6Ideal.Value

open Idealize.ShloMosaic Idealize.SL.Sem
open Idealize.ShloMosaic.TcCoe Idealize.ShloMosaic.Tactic

/-! ## The grid -/

/-- The tile of rows a point adds to, its tile of columns, and the part of the sum it adds. -/
abbrev I (t : Fin grid0.N) : Fin 4 := grid0.coords t 0
abbrev J (t : Fin grid0.N) : Fin 2 := grid0.coords t 1
abbrev K (t : Fin grid0.N) : Fin 3 := grid0.coords t 2

/-- The point before. -/
def prev (t : Fin grid0.N) : Fin grid0.N := ⟨t.val - 1, Nat.lt_of_le_of_lt (Nat.sub_le _ _) t.isLt⟩

theorem idx_0 : ∀ t : Fin grid0.N, win0_0.index t 0 = (I t).val ∧ win0_0.index t 1 = (K t).val := by decide +kernel
theorem idx_1 : ∀ t : Fin grid0.N, win0_1.index t 0 = (J t).val ∧ win0_1.index t 1 = (K t).val := by decide +kernel
theorem idx_2 : ∀ t : Fin grid0.N, win0_2.index t 0 = (I t).val ∧ win0_2.index t 1 = (J t).val := by decide +kernel
theorem idx_3 : ∀ t : Fin grid0.N, win0_3.index t 0 = (I t).val ∧ win0_3.index t 1 = (J t).val := by decide +kernel
theorem K_eq : ∀ t : Fin grid0.N, (K t).val = t.val % 3 := by decide +kernel
theorem back : ∀ t : Fin grid0.N, 1 ≤ t.val % 3 → I (prev t) = I t ∧ J (prev t) = J t ∧ (prev t).val % 3 = t.val % 3 - 1 := by decide +kernel
theorem cov : ∀ i : Fin 4, ∀ j : Fin 2, ∃ t : Fin grid0.N, t.val % 3 = 2 ∧ I t = i ∧ J t = j := by decide +kernel

/-- Row `r` of tile `i`, column `s` of tile `j`, and term `k` of part `κ` of the sum. -/
abbrev rowOf (i : Fin 4) (r : Fin 1024) : Fin 4096 := pos 1024 4 rfl i r
abbrev colOf (j : Fin 2) (s : Fin 1024) : Fin 2048 := pos 1024 2 rfl j s
abbrev midOf (κ : Fin 3) (k : Fin 2048) : Fin 6144 := pos 2048 3 rfl κ k

section
variable (t : Fin grid0.N)

theorem emb_0 (r : Fin 1024) (k : Fin 2048) : (((cfg0.win 0).blk t).view.emb (ix2 r k) : S4096x6144.Idx) = ix2 (rowOf (I t) r) (midOf (K t) k) := by
  funext a
  refine Fin.ext ?_
  fin_cases a
  · blk_simp
    exact congrArg (fun n : ℕ => n * 1024 + r.val) (idx_0 t).1
  · blk_simp
    exact congrArg (fun n : ℕ => n * 2048 + k.val) (idx_0 t).2
theorem emb_1 (s : Fin 1024) (k : Fin 2048) : (((cfg0.win 1).blk t).view.emb (ix2 s k) : S2048x6144.Idx) = ix2 (colOf (J t) s) (midOf (K t) k) := by
  funext a
  refine Fin.ext ?_
  fin_cases a
  · blk_simp
    exact congrArg (fun n : ℕ => n * 1024 + s.val) (idx_1 t).1
  · blk_simp
    exact congrArg (fun n : ℕ => n * 2048 + k.val) (idx_1 t).2
theorem emb_2 (r s : Fin 1024) : (((cfg0.win 2).blk t).view.emb (ix2 r s) : S4096x2048.Idx) = ix2 (rowOf (I t) r) (colOf (J t) s) := by
  funext a
  refine Fin.ext ?_
  fin_cases a
  · blk_simp
    exact congrArg (fun n : ℕ => n * 1024 + r.val) (idx_2 t).1
  · blk_simp
    exact congrArg (fun n : ℕ => n * 1024 + s.val) (idx_2 t).2
theorem emb_3 (r s : Fin 1024) : (((cfg0.win 3).blk t).view.emb (ix2 r s) : S4096x2048.Idx) = ix2 (rowOf (I t) r) (colOf (J t) s) := by
  funext a
  refine Fin.ext ?_
  fin_cases a
  · blk_simp
    exact congrArg (fun n : ℕ => n * 1024 + r.val) (idx_3 t).1
  · blk_simp
    exact congrArg (fun n : ℕ => n * 1024 + s.val) (idx_3 t).2

end

/-! ## The body -/

theorem hz : (![0, 0] : Fin 2 → Nat) = fun _ => 0 := funext fun a => by fin_cases a <;> rfl

section
variable (c : Dev nD) (i : grid0.Coords) (b0 : Memref sig .tc .vmem S1024x2048 .bf16) (h0 : b0.IsWhole) (b1 : Memref sig .tc .vmem S1024x2048 .bf16) (h1 : b1.IsWhole)
  (b2 : Memref sig .tc .vmem S1024x1024 .f32) (h2 : b2.IsWhole) (b3 : Memref sig .tc .vmem S1024x1024 .f32) (h3 : b3.IsWhole)
  (x0 x1 : Vec Ideal S1024x2048 .bf16) (x2 x3 : Vec Ideal S1024x1024 .f32)

theorem out_A (hc0 : cond0_0 i) (hc1 : ¬cond0_1 i) : out0_A_3 c i b0 h0 b1 h1 b2 h2 b3 h3 hc0 hc1 x0 x1 x2 = k0_pay2 (F := Ideal) x1 x0 x2 := by
  unfold out0_A_3
  rw [View.read_writes_eq_canon _ _ _ (cover0_A_3 c i b0 h0 b1 h1 b2 h2 b3 h3 hc0 hc1 x0 x1 x2)]
  unfold kernelRun0_A
  dsimp only
  rw [View.canon_unit_zero hz]
  simp only [View.readAt_eq_ld, h0.read_unread, h1.read_unread, h2.read_unread, View.ld_unit_zero (S := S1024x2048) hz, View.ld_unit_zero (S := S1024x1024) hz]
theorem out_B (hc0 : ¬cond0_0 i) (hc1 : cond0_1 i) : out0_B_3 c i b0 h0 b1 h1 b2 h2 b3 h3 hc0 hc1 x0 x1 x2 x3 = k0_pay3 (F := Ideal) x1 x0 x3 := by
  unfold out0_B_3
  rw [View.read_writes_eq_canon _ _ _ (cover0_B_3 c i b0 h0 b1 h1 b2 h2 b3 h3 hc0 hc1 x0 x1 x2 x3)]
  unfold kernelRun0_B
  dsimp only
  rw [View.canon_unit_zero hz]
  simp only [View.readAt_eq_ld, h0.read_unread, h1.read_unread, h3.read_unread, View.ld_unit_zero (S := S1024x2048) hz, View.ld_unit_zero (S := S1024x1024) hz]

end

/-! ## Each operation at an index -/

theorem pay1_eq (x1 x0 : FVec Ideal S1024x2048 .bf16) (r s : Fin 1024) :
    (k0_pay1 x1 x0 : FVec Ideal S1024x1024 .f32) (ix2 r s) = (∑ k, x0 (ix2 r k) * x1 (ix2 s k) : EReal) := by
  unfold k0_pay1; pointwise
theorem pay2_eq (x1 x0 : FVec Ideal S1024x2048 .bf16) (g : FVec Ideal S1024x1024 .f32) (r s : Fin 1024) :
    (k0_pay2 x1 x0 g : FVec Ideal S1024x1024 .f32) (ix2 r s) = (k0_pay1 (F := Ideal) x1 x0 (ix2 r s) + g (ix2 r s) : EReal) := by
  unfold k0_pay2; pointwise
theorem pay3_eq (x1 x0 : FVec Ideal S1024x2048 .bf16) (x3 : FVec Ideal S1024x1024 .f32) (r s : Fin 1024) :
    (k0_pay3 x1 x0 x3 : FVec Ideal S1024x1024 .f32) (ix2 r s) = (x3 (ix2 r s) + k0_pay1 (F := Ideal) x1 x0 (ix2 r s) : EReal) := by
  unfold k0_pay3; pointwise

/-- The gates' part of the gradient, as the call is given it. -/
abbrev gate (df : FVec Ideal S4096x8 .f32) (wf : FVec Ideal S2048x8 .bf16) : FVec Ideal S4096x2048 .f32 :=
  Host.dotGeneral dot_S4096x8_S2048x8_S4096x2048_1_1_0_0_n_n none df (extf .f32 wf bitsLt_bf16_f32)

/-- What the reference computes, of the four arguments. -/
abbrev G (d : FVec Ideal S4096x6144 .bf16) (df : FVec Ideal S4096x8 .f32) (w : FVec Ideal S2048x6144 .bf16) (wf : FVec Ideal S2048x8 .bf16) : FVec Ideal S4096x2048 .f32 :=
  addf (Host.dotGeneral Cert.Reference6Ideal.dot_S4096x8_S2048x8_S4096x2048_1_1_0_0_n_n none df (extf .f32 wf Cert.Reference6Ideal.Gen.bitsLt_bf16_f32))
    (Host.dotGeneral Cert.Reference6Ideal.dot_S4096x6144_S2048x6144_S4096x2048_1_1_0_0_n_n none (extf .f32 d Cert.Reference6Ideal.Gen.bitsLt_bf16_f32) (extf .f32 w Cert.Reference6Ideal.Gen.bitsLt_bf16_f32))

theorem gate_eq (df : FVec Ideal S4096x8 .f32) (wf : FVec Ideal S2048x8 .bf16) (p : Fin 4096) (q : Fin 2048) :
    gate df wf (ix2 p q) = (∑ n, df (ix2 p n) * wf (ix2 q n) : EReal) := by
  unfold gate; pointwise
theorem G_eq (d : FVec Ideal S4096x6144 .bf16) (df : FVec Ideal S4096x8 .f32) (w : FVec Ideal S2048x6144 .bf16) (wf : FVec Ideal S2048x8 .bf16) (p : Fin 4096) (q : Fin 2048) :
    G d df w wf (ix2 p q) = ((∑ n, df (ix2 p n) * wf (ix2 q n)) + (∑ k, d (ix2 p k) * w (ix2 q k)) : EReal) := by
  unfold G; pointwise

/-! ## The call -/

abbrev Mem := (ℓ : Loc nD τ sig) → Buf (Elt Ideal) ℓ

section
variable (m : Mem) (c : Dev nD)

abbrev a0 : FVec Ideal S4096x6144 .bf16 := m ((c.tc : Thread nD τ).loc main_arg0)
abbrev a1 : FVec Ideal S4096x8 .f32 := m ((c.tc : Thread nD τ).loc main_arg1)
abbrev a2 : FVec Ideal S2048x6144 .bf16 := m ((c.tc : Thread nD τ).loc main_arg2)
abbrev a3 : FVec Ideal S2048x8 .bf16 := m ((c.tc : Thread nD τ).loc main_arg3)

theorem V_v1 : V m c main_v1 = gate (a1 m c) (a3 m c) := by
  unfold V
  after_reads_simp <;> rfl

/-- A part of the sum. -/
def term (p : Fin 4096) (q : Fin 2048) (κ : Fin 3) : EReal := ∑ k : Fin 2048, (a0 m c (ix2 p (midOf κ k)) * a2 m c (ix2 q (midOf κ k)) : EReal)

theorem ref_eq (p : Fin 4096) (q : Fin 2048) : G (a0 m c) (a1 m c) (a2 m c) (a3 m c) (ix2 p q) = (gate (a1 m c) (a3 m c) (ix2 p q) + ∑ κ, term m c p q κ : EReal) := by
  refine (G_eq _ _ _ _ p q).trans (congrArg₂ (fun x y : EReal => x + y) (gate_eq _ _ p q).symm ?_)
  exact sum_pos 2048 3 rfl _

section
variable (t : Fin grid0.N)

theorem at_0 (B : (Pipeline.arrRef spec0 0).ty.Idx → Elt Ideal (Pipeline.arrRef spec0 0).ty.elt) (r : Fin 1024) (k : Fin 2048) :
    ((cfg0.win 0).blk t).view.read (Elt Ideal) B (ix2 r k) = B (((cfg0.win 0).blk t).view.emb (ix2 r k)) := rfl
theorem at_1 (B : (Pipeline.arrRef spec0 1).ty.Idx → Elt Ideal (Pipeline.arrRef spec0 1).ty.elt) (s : Fin 1024) (k : Fin 2048) :
    ((cfg0.win 1).blk t).view.read (Elt Ideal) B (ix2 s k) = B (((cfg0.win 1).blk t).view.emb (ix2 s k)) := rfl
theorem at_2 (B : (Pipeline.arrRef spec0 2).ty.Idx → Elt Ideal (Pipeline.arrRef spec0 2).ty.elt) (r s : Fin 1024) :
    ((cfg0.win 2).blk t).view.read (Elt Ideal) B (ix2 r s) = B (((cfg0.win 2).blk t).view.emb (ix2 r s)) := rfl

theorem bl_0 (r : Fin 1024) (k : Fin 2048) : iblk m c 0 t (ix2 r k) = a0 m c (ix2 (rowOf (I t) r) (midOf (K t) k)) := by
  unfold iblk
  exact (at_0 t _ r k).trans ((congrFun (V_main_arg0 m c) _).trans (congrArg (a0 m c) (emb_0 t r k)))
theorem bl_1 (s : Fin 1024) (k : Fin 2048) : iblk m c 1 t (ix2 s k) = a2 m c (ix2 (colOf (J t) s) (midOf (K t) k)) := by
  unfold iblk
  exact (at_1 t _ s k).trans ((congrFun (V_main_arg2 m c) _).trans (congrArg (a2 m c) (emb_1 t s k)))
theorem bl_2 (r s : Fin 1024) : iblk m c 2 t (ix2 r s) = gate (a1 m c) (a3 m c) (ix2 (rowOf (I t) r) (colOf (J t) s)) := by
  unfold iblk
  exact (at_2 t _ r s).trans ((congrFun (V_v1 m c) _).trans (congrArg (gate (a1 m c) (a3 m c)) (emb_2 t r s)))

/-- The part of the sum a point computes. -/
theorem step (r s : Fin 1024) : (k0_pay1 (iblk m c 1 t) (iblk m c 0 t) : FVec Ideal S1024x1024 .f32) (ix2 r s) = term m c (rowOf (I t) r) (colOf (J t) s) (K t) := by
  refine (pay1_eq _ _ r s).trans ?_
  unfold term
  refine Finset.sum_congr rfl fun k _ => ?_
  rw [bl_0, bl_1]

/-- After the first part the tile holds that part and the gates'. -/
theorem first (h : t.val % 3 = 0) (r s : Fin 1024) : outsAt0 m c t.val t.isLt (ix2 r s)
    = (term m c (rowOf (I t) r) (colOf (J t) s) (K t) + gate (a1 m c) (a3 m c) (ix2 (rowOf (I t) r) (colOf (J t) s)) : EReal) := by
  rw [outsAt0_A m c t h (by omega), out_A]
  refine (pay2_eq _ _ _ r s).trans ?_
  rw [step, bl_2]

/-- After a further part it holds what it held and that part. -/
theorem next (h : 1 ≤ t.val % 3) (r s : Fin 1024) : outsAt0 m c t.val t.isLt (ix2 r s)
    = (outsAt0 m c (prev t).val (prev t).isLt (ix2 r s) + term m c (rowOf (I t) r) (colOf (J t) s) (K t) : EReal) := by
  rw [outsAt0_B m c t (by omega) h, out_B]
  refine (pay3_eq _ _ _ r s).trans ?_
  rw [step]
  rfl

/-- After the last part the tile holds the gates' part and the whole sum. -/
theorem tile (h : t.val % 3 = 2) (r s : Fin 1024) : outsAt0 m c t.val t.isLt (ix2 r s)
    = (gate (a1 m c) (a3 m c) (ix2 (rowOf (I t) r) (colOf (J t) s)) + ∑ κ, term m c (rowOf (I t) r) (colOf (J t) s) κ : EReal) := by
  obtain ⟨i1, j1, k1⟩ := back t (by omega)
  obtain ⟨i2, j2, k2⟩ := back (prev t) (by omega)
  have q0 : K t = 2 := Fin.ext ((K_eq t).trans h)
  have q1 : K (prev t) = 1 := Fin.ext ((K_eq _).trans (k1.trans (by rw [h]; rfl)))
  have q2 : K (prev (prev t)) = 0 := Fin.ext ((K_eq _).trans (k2.trans (by rw [k1, h]; rfl)))
  rw [next m c t (by omega), next m c (prev t) (by omega), first m c (prev (prev t)) (by omega), q0, q1, q2, i2, j2, i1, j1, Fin.sum_univ_three]
  rw [add_comm (term m c _ _ 0) (gate _ _ _), add_assoc, add_assoc, ← add_assoc (term m c _ _ 0)]

theorem cx_3 (f : (cfg0.win 3).block.Idx → Elt Ideal (cfg0.win 3).elt) (r s : Fin 1024) :
    _root_.cast (congrArg (Elt Ideal) ((cfg0.win 3).blk t).view.elt_eq.symm) (f ((cfg0.win 3).xinj (grid0.coords t) (ix2 r s))) = f (ix2 r s) := rfl

end

/-- The array the call leaves is the reference's. -/
theorem final : (dats m 0 c).arrAt 3 cfg0.N = G (a0 m c) (a1 m c) (a2 m c) (a3 m c) := by
  refine (dats m 0 c).arrAt_eq_of_emb 3 (G (a0 m c) (a1 m c) (a2 m c) (a3 m c)) (fun t hf y => ?_) (fun i => ?_)
  · obtain ⟨r, s, rfl⟩ : ∃ (r s : Fin 1024), y = ix2 r s := ⟨y 0, y 1, (ix2_eta (n0 := 1024) (n1 := 1024) y).symm⟩
    refine (cx_3 t ((dats m 0 c).after 3 t) r s).trans ?_
    rw [after0_3]
    refine (tile m c t ((flush0_3 t).mp hf) r s).trans ?_
    exact ((congrArg (G (a0 m c) (a1 m c) (a2 m c) (a3 m c)) (emb_3 t r s)).trans (ref_eq m c _ _)).symm
  · obtain ⟨t, hf, h1, h2⟩ := cov (blkOf 1024 4 rfl (i 0)) (blkOf 1024 2 rfl (i 1))
    have hi : i = ((cfg0.win 3).blk t).view.emb (ix2 (inBlk 1024 4 rfl (i 0)) (inBlk 1024 2 rfl (i 1))) := by
      refine Eq.trans ?_ (emb_3 t _ _).symm
      rw [h1, h2]
      refine (eq_ix2 (n0 := 4096) (n1 := 2048) i).trans ?_
      exact congrArg₂ ix2 (pos_split 1024 4 rfl (i 0)) (pos_split 1024 2 rfl (i 1))
    rw [hi]
    exact ⟨t, (flush0_3 t).mpr hf, View.emb_mem_set _ _⟩

end

end Cert.Proof.M6

namespace Cert.Proof

open Idealize.ShloMosaic Idealize.SL.Sem

/-- The sixth call's result is its reference's, of any arguments. -/
theorem value6 : Cert.algebraic_Kernel6Ideal_Reference6Ideal := fun m g m' g' _ hm => by
  refine ⟨fun c => M6.G (M6.a0 m c) (M6.a1 m c) (M6.a2 m c) (M6.a3 m c),
    (θ_run Cert.Kernel6Ideal.defs _ _).mono (fun _ h c => ⟨(h c).1.trans (M6.final m c), (h c).2⟩) (Cert.Kernel6Ideal.Value.run_blocks m g), ?_⟩
  refine (θ_run Cert.Reference6Ideal.defs _ _).mono (fun r h c => ⟨(h c).1.trans ?_, (h c).2⟩) (Cert.Reference6Ideal.Value.run (F := Ideal) m' g')
  rw [(hm c).1, (hm c).2.1, (hm c).2.2.1, (hm c).2.2.2]

end Cert.Proof

end
-- ==== Proof.Proj7.lean ====
/-
  The gradient of the input projection's weight: what the call leaves, entry by entry, and the reference's entry.
-/
module

public import proofs.«01_k».proof.Proof.Tile
public import proofs.«01_k».proof.Defs
public import proofs.«01_k».proof.Proof.Gen.Kernel7Ideal.Value
public import proofs.«01_k».proof.Proof.Gen.Reference7Ideal.Run
public import Idealize.ShloMosaic.Lib.Pipeline.ValueKit.Geometry
public import Idealize.ShloMosaic.Lib.Pipeline.Value
public import Idealize.ShloMosaic.Lib.StableHlo.RunRead

@[expose] public section

noncomputable section

namespace Cert.Proof.M7

open Cert.Kernel7Ideal Cert.Kernel7Ideal.Gen Cert.Kernel7Ideal.Value

open Idealize.ShloMosaic Idealize.SL.Sem
open Idealize.ShloMosaic.TcCoe Idealize.ShloMosaic.Tactic

/-! ## The grid -/

/-- The tile of rows a point adds to, its tile of columns, and the part of the sum it adds. -/
abbrev I (t : Fin grid0.N) : Fin 2 := grid0.coords t 0
abbrev J (t : Fin grid0.N) : Fin 6 := grid0.coords t 1
abbrev K (t : Fin grid0.N) : Fin 2 := grid0.coords t 2

/-- The point before. -/
def prev (t : Fin grid0.N) : Fin grid0.N := ⟨t.val - 1, Nat.lt_of_le_of_lt (Nat.sub_le _ _) t.isLt⟩

theorem idx_0 : ∀ t : Fin grid0.N, win0_0.index t 0 = (K t).val ∧ win0_0.index t 1 = (I t).val := by decide +kernel
theorem idx_1 : ∀ t : Fin grid0.N, win0_1.index t 0 = (K t).val ∧ win0_1.index t 1 = (J t).val := by decide +kernel
theorem idx_2 : ∀ t : Fin grid0.N, win0_2.index t 0 = (I t).val ∧ win0_2.index t 1 = (J t).val := by decide +kernel
theorem last : ∀ t : Fin grid0.N, t.val % 2 = 1 → K t = 1 ∧ K (prev t) = 0 ∧ I (prev t) = I t ∧ J (prev t) = J t ∧ (prev t).val % 2 = 0 := by decide +kernel
theorem cov : ∀ i : Fin 2, ∀ j : Fin 6, ∃ t : Fin grid0.N, t.val % 2 = 1 ∧ I t = i ∧ J t = j := by decide +kernel

/-- Row `r` of tile `i`, column `s` of tile `j`, and term `k` of part `κ` of the sum. -/
abbrev rowOf (i : Fin 2) (r : Fin 1024) : Fin 2048 := pos 1024 2 rfl i r
abbrev colOf (j : Fin 6) (s : Fin 1024) : Fin 6144 := pos 1024 6 rfl j s
abbrev midOf (κ : Fin 2) (k : Fin 2048) : Fin 4096 := pos 2048 2 rfl κ k

section
variable (t : Fin grid0.N)

theorem emb_0 (k : Fin 2048) (r : Fin 1024) : (((cfg0.win 0).blk t).view.emb (ix2 k r) : S4096x2048.Idx) = ix2 (midOf (K t) k) (rowOf (I t) r) := by
  funext a
  refine Fin.ext ?_
  fin_cases a
  · blk_simp
    exact congrArg (fun n : ℕ => n * 2048 + k.val) (idx_0 t).1
  · blk_simp
    exact congrArg (fun n : ℕ => n * 1024 + r.val) (idx_0 t).2
theorem emb_1 (k : Fin 2048) (s : Fin 1024) : (((cfg0.win 1).blk t).view.emb (ix2 k s) : S4096x6144.Idx) = ix2 (midOf (K t) k) (colOf (J t) s) := by
  funext a
  refine Fin.ext ?_
  fin_cases a
  · blk_simp
    exact congrArg (fun n : ℕ => n * 2048 + k.val) (idx_1 t).1
  · blk_simp
    exact congrArg (fun n : ℕ => n * 1024 + s.val) (idx_1 t).2
theorem emb_2 (r s : Fin 1024) : (((cfg0.win 2).blk t).view.emb (ix2 r s) : S2048x6144.Idx) = ix2 (rowOf (I t) r) (colOf (J t) s) := by
  funext a
  refine Fin.ext ?_
  fin_cases a
  · blk_simp
    exact congrArg (fun n : ℕ => n * 1024 + r.val) (idx_2 t).1
  · blk_simp
    exact congrArg (fun n : ℕ => n * 1024 + s.val) (idx_2 t).2

end

/-! ## The body -/

theorem hz : (![0, 0] : Fin 2 → Nat) = fun _ => 0 := funext fun a => by fin_cases a <;> rfl

section
variable (c : Dev nD) (i : grid0.Coords) (b0 : Memref sig .tc .vmem S2048x1024 .bf16) (h0 : b0.IsWhole) (b1 : Memref sig .tc .vmem S2048x1024 .bf16) (h1 : b1.IsWhole)
  (b2 : Memref sig .tc .vmem S1024x1024 .f32) (h2 : b2.IsWhole) (x0 x1 : Vec Ideal S2048x1024 .bf16) (x2 : Vec Ideal S1024x1024 .f32)

theorem out_A (hc0 : cond0_0 i) (hc1 : ¬cond0_1 i) : out0_A_2 c i b0 h0 b1 h1 b2 h2 hc0 hc1 x0 x1 = k0_pay1 x1 x0 := by
  unfold out0_A_2
  rw [View.read_writes_eq_canon _ _ _ (cover0_A_2 c i b0 h0 b1 h1 b2 h2 hc0 hc1 x0 x1)]
  unfold kernelRun0_A
  dsimp only
  rw [View.canon_unit_zero hz]
  simp only [View.readAt_eq_ld, h0.read_unread, h1.read_unread, View.ld_unit_zero (S := S2048x1024) hz, View.ld_unit_zero (S := S1024x1024) hz]
theorem out_B (hc0 : ¬cond0_0 i) (hc1 : cond0_1 i) : out0_B_2 c i b0 h0 b1 h1 b2 h2 hc0 hc1 x0 x1 x2 = k0_pay2 x1 x0 x2 := by
  unfold out0_B_2
  rw [View.read_writes_eq_canon _ _ _ (cover0_B_2 c i b0 h0 b1 h1 b2 h2 hc0 hc1 x0 x1 x2)]
  unfold kernelRun0_B
  dsimp only
  rw [View.canon_unit_zero hz]
  simp only [View.readAt_eq_ld, h0.read_unread, h1.read_unread, h2.read_unread, View.ld_unit_zero (S := S2048x1024) hz, View.ld_unit_zero (S := S1024x1024) hz]

end

/-! ## Each operation at an index -/

theorem pay1_eq (x1 x0 : FVec Ideal S2048x1024 .bf16) (r s : Fin 1024) :
    (k0_pay1 x1 x0 : FVec Ideal S1024x1024 .f32) (ix2 r s) = (∑ k, x0 (ix2 k r) * x1 (ix2 k s) : EReal) := by
  unfold k0_pay1; pointwise
theorem pay2_eq (x1 x0 : FVec Ideal S2048x1024 .bf16) (x2 : FVec Ideal S1024x1024 .f32) (r s : Fin 1024) :
    (k0_pay2 x1 x0 x2 : FVec Ideal S1024x1024 .f32) (ix2 r s) = (x2 (ix2 r s) + k0_pay1 (F := Ideal) x1 x0 (ix2 r s) : EReal) := by
  unfold k0_pay2; pointwise

/-- The gradient the reference computes, of the two arguments. -/
abbrev G (h : FVec Ideal S4096x2048 .bf16) (d : FVec Ideal S4096x6144 .bf16) : FVec Ideal S2048x6144 .f32 :=
  transpose S2048x6144 [1, 0] (Host.dotGeneral Cert.Reference7Ideal.dot_S4096x6144_S4096x2048_S6144x2048_0_0_1_1_n_n none (extf .f32 d Cert.Reference7Ideal.Gen.bitsLt_bf16_f32) (extf .f32 h Cert.Reference7Ideal.Gen.bitsLt_bf16_f32)) Cert.Reference7Ideal.Gen.transposes_S6144x2048_S2048x6144_1_0

theorem ref_eq (h : FVec Ideal S4096x2048 .bf16) (d : FVec Ideal S4096x6144 .bf16) (p : Fin 2048) (q : Fin 6144) :
    G h d (ix2 p q) = (∑ n, d (ix2 n q) * h (ix2 n p) : EReal) := by
  unfold G; pointwise

/-! ## The call -/

abbrev Mem := (ℓ : Loc nD τ sig) → Buf (Elt Ideal) ℓ

section
variable (m : Mem) (c : Dev nD)

abbrev a0 : FVec Ideal S4096x2048 .bf16 := m ((c.tc : Thread nD τ).loc main_arg0)
abbrev a1 : FVec Ideal S4096x6144 .bf16 := m ((c.tc : Thread nD τ).loc main_arg1)

section
variable (t : Fin grid0.N)

theorem at_0 (B : (Pipeline.arrRef spec0 0).ty.Idx → Elt Ideal (Pipeline.arrRef spec0 0).ty.elt) (k : Fin 2048) (r : Fin 1024) :
    ((cfg0.win 0).blk t).view.read (Elt Ideal) B (ix2 k r) = B (((cfg0.win 0).blk t).view.emb (ix2 k r)) := rfl
theorem at_1 (B : (Pipeline.arrRef spec0 1).ty.Idx → Elt Ideal (Pipeline.arrRef spec0 1).ty.elt) (k : Fin 2048) (s : Fin 1024) :
    ((cfg0.win 1).blk t).view.read (Elt Ideal) B (ix2 k s) = B (((cfg0.win 1).blk t).view.emb (ix2 k s)) := rfl

theorem bl_0 (k : Fin 2048) (r : Fin 1024) : iblk m c 0 t (ix2 k r) = a0 m c (ix2 (midOf (K t) k) (rowOf (I t) r)) := by
  unfold iblk
  exact (at_0 t _ k r).trans ((congrFun (V_main_arg0 m c) _).trans (congrArg (a0 m c) (emb_0 t k r)))
theorem bl_1 (k : Fin 2048) (s : Fin 1024) : iblk m c 1 t (ix2 k s) = a1 m c (ix2 (midOf (K t) k) (colOf (J t) s)) := by
  unfold iblk
  exact (at_1 t _ k s).trans ((congrFun (V_main_arg1 m c) _).trans (congrArg (a1 m c) (emb_1 t k s)))

/-- The part of the sum a point computes. -/
theorem part (r s : Fin 1024) : (k0_pay1 (iblk m c 1 t) (iblk m c 0 t) : FVec Ideal S1024x1024 .f32) (ix2 r s)
    = (∑ k, a0 m c (ix2 (midOf (K t) k) (rowOf (I t) r)) * a1 m c (ix2 (midOf (K t) k) (colOf (J t) s)) : EReal) := by
  refine (pay1_eq _ _ r s).trans (Finset.sum_congr rfl fun k _ => ?_)
  rw [bl_0, bl_1]

/-- After the first part the tile holds that part. -/
theorem first (h : t.val % 2 = 0) : outsAt0 m c t.val t.isLt = k0_pay1 (iblk m c 1 t) (iblk m c 0 t) :=
  (outsAt0_A m c t h (by omega)).trans (out_A c _ _ _ _ _ _ _ _ _ _ _)

/-- After the last part the tile holds the whole sum. -/
theorem tile (h : t.val % 2 = 1) (r s : Fin 1024) : outsAt0 m c t.val t.isLt (ix2 r s)
    = (∑ n, a0 m c (ix2 n (rowOf (I t) r)) * a1 m c (ix2 n (colOf (J t) s)) : EReal) := by
  obtain ⟨hk, hk', hi, hj, hp⟩ := last t h
  have e : outsAt0 m c (t.val - 1) (Nat.lt_of_le_of_lt (Nat.sub_le _ _) t.isLt) = k0_pay1 (iblk m c 1 (prev t)) (iblk m c 0 (prev t)) := first m c (prev t) hp
  rw [outsAt0_B m c t (by omega) h, e, out_B]
  refine (pay2_eq _ _ _ r s).trans ?_
  rw [part, part, hk, hk', hi, hj, sum_pos 2048 2 rfl, Fin.sum_univ_two]

theorem cx_2 (f : (cfg0.win 2).block.Idx → Elt Ideal (cfg0.win 2).elt) (r s : Fin 1024) :
    _root_.cast (congrArg (Elt Ideal) ((cfg0.win 2).blk t).view.elt_eq.symm) (f ((cfg0.win 2).xinj (grid0.coords t) (ix2 r s))) = f (ix2 r s) := rfl

end

/-- The array the call leaves. -/
theorem final (G : FVec Ideal S2048x6144 .f32) (hG : ∀ p q, G (ix2 p q) = (∑ n, a0 m c (ix2 n p) * a1 m c (ix2 n q) : EReal)) :
    (dats m 0 c).arrAt 2 cfg0.N = G := by
  refine (dats m 0 c).arrAt_eq_of_emb 2 G (fun t hf y => ?_) (fun i => ?_)
  · obtain ⟨r, s, rfl⟩ : ∃ (r s : Fin 1024), y = ix2 r s := ⟨y 0, y 1, (ix2_eta (n0 := 1024) (n1 := 1024) y).symm⟩
    refine (cx_2 t ((dats m 0 c).after 2 t) r s).trans ?_
    rw [after0_2]
    refine (tile m c t ((flush0_2 t).mp hf) r s).trans ?_
    exact ((congrArg G (emb_2 t r s)).trans (hG _ _)).symm
  · obtain ⟨t, hf, h1, h2⟩ := cov (blkOf 1024 2 rfl (i 0)) (blkOf 1024 6 rfl (i 1))
    have hi : i = ((cfg0.win 2).blk t).view.emb (ix2 (inBlk 1024 2 rfl (i 0)) (inBlk 1024 6 rfl (i 1))) := by
      refine Eq.trans ?_ (emb_2 t _ _).symm
      rw [h1, h2]
      refine (eq_ix2 (n0 := 2048) (n1 := 6144) i).trans ?_
      exact congrArg₂ ix2 (pos_split 1024 2 rfl (i 0)) (pos_split 1024 6 rfl (i 1))
    rw [hi]
    exact ⟨t, (flush0_2 t).mpr hf, View.emb_mem_set _ _⟩

theorem final_G : (dats m 0 c).arrAt 2 cfg0.N = G (a0 m c) (a1 m c) :=
  final m c _ fun p q => (ref_eq _ _ p q).trans (Finset.sum_congr rfl fun n _ => mul_comm _ _)

end

end Cert.Proof.M7

namespace Cert.Proof

open Idealize.ShloMosaic Idealize.SL.Sem

/-- The seventh call's result is its reference's, of any arguments. -/
theorem value7 : Cert.algebraic_Kernel7Ideal_Reference7Ideal := fun m g m' g' _ hm => by
  refine ⟨fun c => M7.G (M7.a0 m c) (M7.a1 m c),
    (θ_run Cert.Kernel7Ideal.defs _ _).mono (fun _ h c => ⟨(h c).1.trans (M7.final_G m c), (h c).2⟩) (Cert.Kernel7Ideal.Value.run_blocks m g), ?_⟩
  refine (θ_run Cert.Reference7Ideal.defs _ _).mono (fun r h c => ⟨(h c).1.trans ?_, (h c).2⟩) (Cert.Reference7Ideal.Value.run (F := Ideal) m' g')
  rw [(hm c).1, (hm c).2]

end Cert.Proof

end
-- ==== Proof.Mlp8.lean ====
/-
  The hidden layer's relu and its square: what the call leaves, entry by entry, and the reference's entry.
-/
module

public import proofs.«01_k».proof.Proof.Mlp4
public import proofs.«01_k».proof.Defs
public import proofs.«01_k».proof.Proof.Gen.Kernel8Ideal.Value
public import proofs.«01_k».proof.Proof.Gen.Reference8Ideal.Run
public import Idealize.ShloMosaic.Lib.Pipeline.ValueKit.Geometry
public import Idealize.ShloMosaic.Lib.Pipeline.Value
public import Idealize.ShloMosaic.Lib.StableHlo.RunRead

@[expose] public section

noncomputable section

namespace Cert.Proof.M8

open Cert.Kernel8Ideal Cert.Kernel8Ideal.Gen Cert.Kernel8Ideal.Value

open Idealize.ShloMosaic Idealize.SL.Sem
open Idealize.ShloMosaic.TcCoe Idealize.ShloMosaic.Tactic

/-! ## The grid -/

/-- The tile of rows a point writes, and its tile of columns. -/
abbrev I (t : Fin grid0.N) : Fin 4 := grid0.coords t 0
abbrev J (t : Fin grid0.N) : Fin 8 := grid0.coords t 1

theorem idx_0 : ∀ t : Fin grid0.N, win0_0.index t 0 = (I t).val ∧ win0_0.index t 1 = 0 := by decide +kernel
theorem idx_1 : ∀ t : Fin grid0.N, win0_1.index t 0 = (J t).val ∧ win0_1.index t 1 = 0 ∧ win0_1.index t 2 = 0 := by decide +kernel
theorem idx_2 : ∀ t : Fin grid0.N, win0_2.index t 0 = (I t).val ∧ win0_2.index t 1 = (J t).val := by decide +kernel
theorem idx_3 : ∀ t : Fin grid0.N, win0_3.index t 0 = (I t).val ∧ win0_3.index t 1 = (J t).val := by decide +kernel
theorem cov : ∀ i : Fin 4, ∀ j : Fin 8, ∃ t : Fin grid0.N, I t = i ∧ J t = j := by decide +kernel

/-- Row `r` of tile `i`, and column `s` of tile `j`. -/
abbrev rowOf (i : Fin 4) (r : Fin 1024) : Fin 4096 := pos 1024 4 rfl i r
abbrev colOf (j : Fin 8) (s : Fin 1024) : Fin 8192 := pos 1024 8 rfl j s

section
variable (t : Fin grid0.N)

theorem emb_0 (r : Fin 1024) (k : Fin 2048) : (((cfg0.win 0).blk t).view.emb (ix2 r k) : S4096x2048.Idx) = ix2 (rowOf (I t) r) k := by
  funext a
  refine Fin.ext ?_
  fin_cases a
  · blk_simp
    exact congrArg (fun n : ℕ => n * 1024 + r.val) (idx_0 t).1
  · blk_simp
    refine (congrArg (fun n : ℕ => n * 2048 + k.val) (idx_0 t).2).trans ?_
    show 0 * 2048 + k.val = k.val
    omega
theorem emb_1 (k : Fin 2048) (s : Fin 1024) : (((cfg0.win 1).blk t).view.emb (ix3 0 k s) : S8x2048x1024.Idx) = ix3 (J t) k s := by
  funext a
  refine Fin.ext ?_
  fin_cases a
  · blk_simp
    exact (idx_1 t).1
  · blk_simp
    refine (congrArg (fun n : ℕ => n * 2048 + k.val) (idx_1 t).2.1).trans ?_
    show 0 * 2048 + k.val = k.val
    omega
  · blk_simp
    refine (congrArg (fun n : ℕ => n * 1024 + s.val) (idx_1 t).2.2).trans ?_
    show 0 * 1024 + s.val = s.val
    omega
theorem emb_2 (r s : Fin 1024) : (((cfg0.win 2).blk t).view.emb (ix2 r s) : S4096x8192.Idx) = ix2 (rowOf (I t) r) (colOf (J t) s) := by
  funext a
  refine Fin.ext ?_
  fin_cases a
  · blk_simp
    exact congrArg (fun n : ℕ => n * 1024 + r.val) (idx_2 t).1
  · blk_simp
    exact congrArg (fun n : ℕ => n * 1024 + s.val) (idx_2 t).2
theorem emb_3 (r s : Fin 1024) : (((cfg0.win 3).blk t).view.emb (ix2 r s) : S4096x8192.Idx) = ix2 (rowOf (I t) r) (colOf (J t) s) := by
  funext a
  refine Fin.ext ?_
  fin_cases a
  · blk_simp
    exact congrArg (fun n : ℕ => n * 1024 + r.val) (idx_3 t).1
  · blk_simp
    exact congrArg (fun n : ℕ => n * 1024 + s.val) (idx_3 t).2

end

/-! ## Each operation at an index -/

theorem hz : (![0, 0] : Fin 2 → Nat) = fun _ => 0 := funext fun a => by fin_cases a <;> rfl

theorem hz3 : (![0, 0, 0] : Fin 3 → Nat) = fun _ => 0 := funext fun a => by fin_cases a <;> rfl

theorem out_2 (x0 : Vec Ideal S1024x2048 .bf16) (x1 : Vec Ideal S1x2048x1024 .bf16) : out0_2 x0 x1 = k0_pay2 x1 x0 := by
  unfold out0_2
  rw [View.canon_unit_zero hz, View.ld_unit_zero hz3, View.ld_unit_zero hz]
theorem out_3 (x0 : Vec Ideal S1024x2048 .bf16) (x1 : Vec Ideal S1x2048x1024 .bf16) : out0_3 x0 x1 = k0_pay3 x1 x0 := by
  unfold out0_3
  rw [View.canon_unit_zero hz, View.ld_unit_zero hz3, View.ld_unit_zero hz]

theorem pay1_eq (x1 : FVec Ideal S1x2048x1024 .bf16) (x0 : FVec Ideal S1024x2048 .bf16) (r s : Fin 1024) :
    (k0_pay1 x1 x0 : FVec Ideal S1024x1024 .f32) (ix2 r s) = (max (∑ k, x0 (ix2 r k) * x1 (ix3 0 k s)) 0 : EReal) := by
  unfold k0_pay1; pointwise
theorem pay2_eq (x1 : FVec Ideal S1x2048x1024 .bf16) (x0 : FVec Ideal S1024x2048 .bf16) (r s : Fin 1024) :
    (k0_pay2 x1 x0 : FVec Ideal S1024x1024 .bf16) (ix2 r s) = (k0_pay1 (F := Ideal) x1 x0 (ix2 r s) : EReal) := by
  unfold k0_pay2; pointwise
theorem pay3_eq (x1 : FVec Ideal S1x2048x1024 .bf16) (x0 : FVec Ideal S1024x2048 .bf16) (r s : Fin 1024) :
    (k0_pay3 x1 x0 : FVec Ideal S1024x1024 .bf16) (ix2 r s) = (k0_pay1 (F := Ideal) x1 x0 (ix2 r s) * k0_pay1 (F := Ideal) x1 x0 (ix2 r s) : EReal) := by
  unfold k0_pay3; pointwise

/-- The hidden layer's positive part, of the input and of the whole weight. -/
abbrev relu (h : FVec Ideal S4096x2048 .bf16) (W : FVec Ideal Cert.Reference8Ideal.S2048x8192 .f32) : FVec Ideal S4096x8192 .f32 :=
  maximumf (Host.dotGeneral Cert.Reference8Ideal.dot_S4096x2048_S2048x8192_S4096x8192_1_0_0_1_n_n none (extf .f32 h Cert.Reference8Ideal.Gen.bitsLt_bf16_f32) W) (broadcastInDim S4096x8192 ![] Cert.Reference8Ideal.Gen.bcast_S_S4096x8192 (constant (F := Ideal) Cert.Reference8Ideal.S_ .f32 0x00000000#32))

theorem relu_eq (h : FVec Ideal S4096x2048 .bf16) (W : FVec Ideal Cert.Reference8Ideal.S2048x8192 .f32) (p : Fin 4096) (q : Fin 8192) :
    relu h W (ix2 p q) = (max (∑ k, h (ix2 p k) * W (ix2 k q)) 0 : EReal) := by
  unfold relu; pointwise

/-- The two results of the reference. -/
abbrev G (h : FVec Ideal S4096x2048 .bf16) (w : FVec Ideal S8x2048x1024 .bf16) : FVec Ideal S4096x8192 .bf16 := truncf .bf16 (relu h (M4.cat w)) bitsLt_bf16_f32
abbrev H (h : FVec Ideal S4096x2048 .bf16) (w : FVec Ideal S8x2048x1024 .bf16) : FVec Ideal S4096x8192 .bf16 := truncf .bf16 (mulf (relu h (M4.cat w)) (relu h (M4.cat w))) bitsLt_bf16_f32

theorem cut_eq (x : FVec Ideal S4096x8192 .f32) (p : Fin 4096) (q : Fin 8192) : (truncf .bf16 x bitsLt_bf16_f32 : FVec Ideal S4096x8192 .bf16) (ix2 p q) = (x (ix2 p q) : EReal) := by pointwise
theorem square_eq (x : FVec Ideal S4096x8192 .f32) (p : Fin 4096) (q : Fin 8192) : (truncf .bf16 (mulf x x) bitsLt_bf16_f32 : FVec Ideal S4096x8192 .bf16) (ix2 p q) = (x (ix2 p q) * x (ix2 p q) : EReal) := by pointwise

/-- The positive part in column `s` of slab `j`. -/
theorem ref_eq (h : FVec Ideal S4096x2048 .bf16) (w : FVec Ideal S8x2048x1024 .bf16) (p : Fin 4096) (j : Fin 8) (s : Fin 1024) :
    relu h (M4.cat w) (ix2 p (colOf j s)) = (max (∑ k, h (ix2 p k) * w (ix3 j k s)) 0 : EReal) := by
  refine (relu_eq h _ p _).trans (congrArg (fun x : EReal => max x 0) (Finset.sum_congr rfl fun k _ => ?_))
  exact congrArg (fun x : EReal => h (ix2 p k) * x) (M4.cat_eq w j k s)

/-! ## The call -/

abbrev Mem := (ℓ : Loc nD τ sig) → Buf (Elt Ideal) ℓ

section
variable (m : Mem) (c : Dev nD)

abbrev a0 : FVec Ideal S4096x2048 .bf16 := m ((c.tc : Thread nD τ).loc main_arg0)
abbrev a1 : FVec Ideal S8x2048x1024 .bf16 := m ((c.tc : Thread nD τ).loc main_arg1)

section
variable (t : Fin grid0.N)

theorem at_0 (B : (Pipeline.arrRef spec0 0).ty.Idx → Elt Ideal (Pipeline.arrRef spec0 0).ty.elt) (r : Fin 1024) (k : Fin 2048) :
    ((cfg0.win 0).blk t).view.read (Elt Ideal) B (ix2 r k) = B (((cfg0.win 0).blk t).view.emb (ix2 r k)) := rfl
theorem at_1 (B : (Pipeline.arrRef spec0 1).ty.Idx → Elt Ideal (Pipeline.arrRef spec0 1).ty.elt) (k : Fin 2048) (s : Fin 1024) :
    ((cfg0.win 1).blk t).view.read (Elt Ideal) B (ix3 0 k s) = B (((cfg0.win 1).blk t).view.emb (ix3 0 k s)) := rfl

theorem bl_0 (r : Fin 1024) (k : Fin 2048) : iblk m c 0 t (ix2 r k) = a0 m c (ix2 (rowOf (I t) r) k) := by
  unfold iblk
  exact (at_0 t _ r k).trans ((congrFun (V_main_arg0 m c) _).trans (congrArg (a0 m c) (emb_0 t r k)))
theorem bl_1 (k : Fin 2048) (s : Fin 1024) : iblk m c 1 t (ix3 0 k s) = a1 m c (ix3 (J t) k s) := by
  unfold iblk
  exact (at_1 t _ k s).trans ((congrFun (V_main_arg1 m c) _).trans (congrArg (a1 m c) (emb_1 t k s)))

/-- The positive part a point computes is the reference's. -/
theorem part (r s : Fin 1024) : (k0_pay1 (iblk m c 1 t) (iblk m c 0 t) : FVec Ideal S1024x1024 .f32) (ix2 r s)
    = (relu (a0 m c) (M4.cat (a1 m c)) (ix2 (rowOf (I t) r) (colOf (J t) s)) : EReal) := by
  refine (pay1_eq _ _ r s).trans (Eq.trans ?_ (ref_eq _ _ _ _ _).symm)
  refine congrArg (fun x : EReal => max x 0) (Finset.sum_congr rfl fun k _ => ?_)
  rw [bl_0, bl_1]

/-- The tiles a point writes. -/
theorem tile_2 (r s : Fin 1024) : (out0_2 (iblk m c 0 t) (iblk m c 1 t)) (ix2 r s) = G (a0 m c) (a1 m c) (ix2 (rowOf (I t) r) (colOf (J t) s)) := by
  rw [out_2]
  exact (pay2_eq _ _ r s).trans ((part m c t r s).trans (cut_eq _ _ _).symm)
theorem tile_3 (r s : Fin 1024) : (out0_3 (iblk m c 0 t) (iblk m c 1 t)) (ix2 r s) = H (a0 m c) (a1 m c) (ix2 (rowOf (I t) r) (colOf (J t) s)) := by
  rw [out_3]
  exact (pay3_eq _ _ r s).trans ((congrArg₂ (fun x y : EReal => x * y) (part m c t r s) (part m c t r s)).trans (square_eq _ _ _).symm)

theorem cx_2 (f : (cfg0.win 2).block.Idx → Elt Ideal (cfg0.win 2).elt) (r s : Fin 1024) :
    _root_.cast (congrArg (Elt Ideal) ((cfg0.win 2).blk t).view.elt_eq.symm) (f ((cfg0.win 2).xinj (grid0.coords t) (ix2 r s))) = f (ix2 r s) := rfl
theorem cx_3 (f : (cfg0.win 3).block.Idx → Elt Ideal (cfg0.win 3).elt) (r s : Fin 1024) :
    _root_.cast (congrArg (Elt Ideal) ((cfg0.win 3).blk t).view.elt_eq.symm) (f ((cfg0.win 3).xinj (grid0.coords t) (ix2 r s))) = f (ix2 r s) := rfl

end

/-- Every entry lies in some point's tile. -/
theorem place (i : S4096x8192.Idx) : ∃ t : Fin grid0.N, i = ix2 (rowOf (I t) (inBlk 1024 4 rfl (i 0))) (colOf (J t) (inBlk 1024 8 rfl (i 1))) := by
  obtain ⟨t, h1, h2⟩ := cov (blkOf 1024 4 rfl (i 0)) (blkOf 1024 8 rfl (i 1))
  refine ⟨t, ?_⟩
  rw [h1, h2]
  refine (eq_ix2 (n0 := 4096) (n1 := 8192) i).trans ?_
  exact congrArg₂ ix2 (pos_split 1024 4 rfl (i 0)) (pos_split 1024 8 rfl (i 1))

/-- The two arrays the call leaves are the reference's. -/
theorem final_2 : (dats m 0 c).arrAt 2 cfg0.N = G (a0 m c) (a1 m c) := by
  refine (dats m 0 c).arrAt_eq_of_emb 2 (G (a0 m c) (a1 m c)) (fun t hf y => ?_) (fun i => ?_)
  · obtain ⟨r, s, rfl⟩ : ∃ (r s : Fin 1024), y = ix2 r s := ⟨y 0, y 1, (ix2_eta (n0 := 1024) (n1 := 1024) y).symm⟩
    refine (cx_2 t ((dats m 0 c).after 2 t) r s).trans ?_
    rw [after0_2]
    refine (tile_2 m c t r s).trans ?_
    exact (congrArg (G (a0 m c) (a1 m c)) (emb_2 t r s)).symm
  · obtain ⟨t, hi⟩ := place i
    exact ⟨t, flush0_2 t, by rw [hi, ← emb_2 t]; exact View.emb_mem_set _ _⟩
theorem final_3 : (dats m 0 c).arrAt 3 cfg0.N = H (a0 m c) (a1 m c) := by
  refine (dats m 0 c).arrAt_eq_of_emb 3 (H (a0 m c) (a1 m c)) (fun t hf y => ?_) (fun i => ?_)
  · obtain ⟨r, s, rfl⟩ : ∃ (r s : Fin 1024), y = ix2 r s := ⟨y 0, y 1, (ix2_eta (n0 := 1024) (n1 := 1024) y).symm⟩
    refine (cx_3 t ((dats m 0 c).after 3 t) r s).trans ?_
    rw [after0_3]
    refine (tile_3 m c t r s).trans ?_
    exact (congrArg (H (a0 m c) (a1 m c)) (emb_3 t r s)).symm
  · obtain ⟨t, hi⟩ := place i
    exact ⟨t, flush0_3 t, by rw [hi, ← emb_3 t]; exact View.emb_mem_set _ _⟩

end

end Cert.Proof.M8

namespace Cert.Proof

open Idealize.ShloMosaic Idealize.SL.Sem

/-- The eighth call's two results are its reference's, of any arguments. -/
theorem value8 : Cert.algebraic_Kernel8Ideal_Reference8Ideal := fun m g m' g' _ hm => by
  refine ⟨fun c => M8.G (M8.a0 m c) (M8.a1 m c), fun c => M8.H (M8.a0 m c) (M8.a1 m c),
    (θ_run Cert.Kernel8Ideal.defs _ _).mono (fun _ h c => ⟨(h c).1.trans (M8.final_2 m c), (h c).2.1.trans (M8.final_3 m c), (h c).2.2⟩) (Cert.Kernel8Ideal.Value.run_blocks m g), ?_⟩
  refine (θ_run Cert.Reference8Ideal.defs _ _).mono (fun r h c => ⟨(h c).1.trans ?_, (h c).2.1.trans ?_, (h c).2.2⟩) (Cert.Reference8Ideal.Value.run (F := Ideal) m' g')
  · rw [(hm c).1, (hm c).2]
  · unfold Cert.Reference8Ideal.Value.res_main_v30
    rw [(hm c).1, (hm c).2]

end Cert.Proof

end
-- ==== Proof.Proj9.lean ====
/-
  The projection to q, k and v: what the call leaves, entry by entry, and the reference's entry.
-/
module

public import proofs.«01_k».proof.Proof.Tile
public import proofs.«01_k».proof.Defs
public import proofs.«01_k».proof.Proof.Gen.Kernel9Ideal.Value
public import proofs.«01_k».proof.Proof.Gen.Reference9Ideal.Run
public import Idealize.ShloMosaic.Lib.Pipeline.ValueKit.Geometry
public import Idealize.ShloMosaic.Lib.Pipeline.Value
public import Idealize.ShloMosaic.Lib.StableHlo.RunRead

@[expose] public section

noncomputable section

namespace Cert.Proof.M9

open Cert.Kernel9Ideal Cert.Kernel9Ideal.Gen Cert.Kernel9Ideal.Value

open Idealize.ShloMosaic Idealize.SL.Sem
open Idealize.ShloMosaic.TcCoe Idealize.ShloMosaic.Tactic

/-! ## The grid -/

/-- The tile of rows a point writes, and its tile of columns. -/
abbrev I (t : Fin grid0.N) : Fin 4 := grid0.coords t 0
abbrev J (t : Fin grid0.N) : Fin 6 := grid0.coords t 1

theorem idx_0 : ∀ t : Fin grid0.N, win0_0.index t 0 = (I t).val ∧ win0_0.index t 1 = 0 := by decide +kernel
theorem idx_1 : ∀ t : Fin grid0.N, win0_1.index t 0 = 0 ∧ win0_1.index t 1 = (J t).val := by decide +kernel
theorem idx_2 : ∀ t : Fin grid0.N, win0_2.index t 0 = (I t).val ∧ win0_2.index t 1 = (J t).val := by decide +kernel
theorem cov : ∀ i : Fin 4, ∀ j : Fin 6, ∃ t : Fin grid0.N, I t = i ∧ J t = j := by decide +kernel

/-- Row `r` of tile `i`, and column `s` of tile `j`. -/
abbrev rowOf (i : Fin 4) (r : Fin 1024) : Fin 4096 := pos 1024 4 rfl i r
abbrev colOf (j : Fin 6) (s : Fin 1024) : Fin 6144 := pos 1024 6 rfl j s

section
variable (t : Fin grid0.N)

theorem emb_0 (r : Fin 1024) (k : Fin 2048) : (((cfg0.win 0).blk t).view.emb (ix2 r k) : S4096x2048.Idx) = ix2 (rowOf (I t) r) k := by
  funext a
  refine Fin.ext ?_
  fin_cases a
  · blk_simp
    exact congrArg (fun n : ℕ => n * 1024 + r.val) (idx_0 t).1
  · blk_simp
    refine (congrArg (fun n : ℕ => n * 2048 + k.val) (idx_0 t).2).trans ?_
    show 0 * 2048 + k.val = k.val
    omega
theorem emb_1 (k : Fin 2048) (s : Fin 1024) : (((cfg0.win 1).blk t).view.emb (ix2 k s) : S2048x6144.Idx) = ix2 k (colOf (J t) s) := by
  funext a
  refine Fin.ext ?_
  fin_cases a
  · blk_simp
    refine (congrArg (fun n : ℕ => n * 2048 + k.val) (idx_1 t).1).trans ?_
    show 0 * 2048 + k.val = k.val
    omega
  · blk_simp
    exact congrArg (fun n : ℕ => n * 1024 + s.val) (idx_1 t).2
theorem emb_2 (r s : Fin 1024) : (((cfg0.win 2).blk t).view.emb (ix2 r s) : S4096x6144.Idx) = ix2 (rowOf (I t) r) (colOf (J t) s) := by
  funext a
  refine Fin.ext ?_
  fin_cases a
  · blk_simp
    exact congrArg (fun n : ℕ => n * 1024 + r.val) (idx_2 t).1
  · blk_simp
    exact congrArg (fun n : ℕ => n * 1024 + s.val) (idx_2 t).2

end

/-! ## Each operation at an index -/

theorem hz : (![0, 0] : Fin 2 → Nat) = fun _ => 0 := funext fun a => by fin_cases a <;> rfl

theorem out_eq (x0 : Vec Ideal S1024x2048 .bf16) (x1 : Vec Ideal S2048x1024 .bf16) : out0_2 x0 x1 = k0_pay1 x1 x0 := by
  unfold out0_2
  rw [View.canon_unit_zero hz, View.ld_unit_zero hz, View.ld_unit_zero hz]

theorem pay_eq (x1 : FVec Ideal S2048x1024 .bf16) (x0 : FVec Ideal S1024x2048 .bf16) (r s : Fin 1024) :
    (k0_pay1 x1 x0 : FVec Ideal S1024x1024 .bf16) (ix2 r s) = (∑ k, x0 (ix2 r k) * x1 (ix2 k s) : EReal) := by
  unfold k0_pay1; pointwise

/-- The product the reference computes, of the two arguments. -/
abbrev G (h : FVec Ideal S4096x2048 .bf16) (w : FVec Ideal S2048x6144 .bf16) : FVec Ideal S4096x6144 .bf16 :=
  truncf .bf16 (Host.dotGeneral Cert.Reference9Ideal.dot_S4096x2048_S2048x6144_S4096x6144_1_0_0_1_n_n none (extf .f32 h Cert.Reference9Ideal.Gen.bitsLt_bf16_f32) (extf .f32 w Cert.Reference9Ideal.Gen.bitsLt_bf16_f32)) bitsLt_bf16_f32

theorem ref_eq (h : FVec Ideal S4096x2048 .bf16) (w : FVec Ideal S2048x6144 .bf16) (p : Fin 4096) (q : Fin 6144) :
    G h w (ix2 p q) = (∑ k, h (ix2 p k) * w (ix2 k q) : EReal) := by
  unfold G; pointwise

/-! ## The call -/

abbrev Mem := (ℓ : Loc nD τ sig) → Buf (Elt Ideal) ℓ

section
variable (m : Mem) (c : Dev nD)

abbrev a0 : FVec Ideal S4096x2048 .bf16 := m ((c.tc : Thread nD τ).loc main_arg0)
abbrev a1 : FVec Ideal S2048x6144 .bf16 := m ((c.tc : Thread nD τ).loc main_arg1)

section
variable (t : Fin grid0.N)

theorem at_0 (B : (Pipeline.arrRef spec0 0).ty.Idx → Elt Ideal (Pipeline.arrRef spec0 0).ty.elt) (r : Fin 1024) (k : Fin 2048) :
    ((cfg0.win 0).blk t).view.read (Elt Ideal) B (ix2 r k) = B (((cfg0.win 0).blk t).view.emb (ix2 r k)) := rfl
theorem at_1 (B : (Pipeline.arrRef spec0 1).ty.Idx → Elt Ideal (Pipeline.arrRef spec0 1).ty.elt) (k : Fin 2048) (s : Fin 1024) :
    ((cfg0.win 1).blk t).view.read (Elt Ideal) B (ix2 k s) = B (((cfg0.win 1).blk t).view.emb (ix2 k s)) := rfl

theorem bl_0 (r : Fin 1024) (k : Fin 2048) : iblk m c 0 t (ix2 r k) = a0 m c (ix2 (rowOf (I t) r) k) := by
  unfold iblk
  exact (at_0 t _ r k).trans ((congrFun (V_main_arg0 m c) _).trans (congrArg (a0 m c) (emb_0 t r k)))
theorem bl_1 (k : Fin 2048) (s : Fin 1024) : iblk m c 1 t (ix2 k s) = a1 m c (ix2 k (colOf (J t) s)) := by
  unfold iblk
  exact (at_1 t _ k s).trans ((congrFun (V_main_arg1 m c) _).trans (congrArg (a1 m c) (emb_1 t k s)))

/-- The tile a point writes. -/
theorem tile (r s : Fin 1024) : (out0_2 (iblk m c 0 t) (iblk m c 1 t)) (ix2 r s)
    = (∑ k, a0 m c (ix2 (rowOf (I t) r) k) * a1 m c (ix2 k (colOf (J t) s)) : EReal) := by
  rw [out_eq]
  refine (pay_eq _ _ r s).trans (Finset.sum_congr rfl fun k _ => ?_)
  rw [bl_0, bl_1]

theorem cx_2 (f : (cfg0.win 2).block.Idx → Elt Ideal (cfg0.win 2).elt) (r s : Fin 1024) :
    _root_.cast (congrArg (Elt Ideal) ((cfg0.win 2).blk t).view.elt_eq.symm) (f ((cfg0.win 2).xinj (grid0.coords t) (ix2 r s))) = f (ix2 r s) := rfl

end

/-- The array the call leaves is the reference's. -/
theorem final : (dats m 0 c).arrAt 2 cfg0.N = G (a0 m c) (a1 m c) := by
  refine (dats m 0 c).arrAt_eq_of_emb 2 (G (a0 m c) (a1 m c)) (fun t hf y => ?_) (fun i => ?_)
  · obtain ⟨r, s, rfl⟩ : ∃ (r s : Fin 1024), y = ix2 r s := ⟨y 0, y 1, (ix2_eta (n0 := 1024) (n1 := 1024) y).symm⟩
    refine (cx_2 t ((dats m 0 c).after 2 t) r s).trans ?_
    rw [after0_2]
    refine (tile m c t r s).trans ?_
    exact ((congrArg (G (a0 m c) (a1 m c)) (emb_2 t r s)).trans (ref_eq _ _ _ _)).symm
  · obtain ⟨t, h1, h2⟩ := cov (blkOf 1024 4 rfl (i 0)) (blkOf 1024 6 rfl (i 1))
    have hi : i = ((cfg0.win 2).blk t).view.emb (ix2 (inBlk 1024 4 rfl (i 0)) (inBlk 1024 6 rfl (i 1))) := by
      refine Eq.trans ?_ (emb_2 t _ _).symm
      rw [h1, h2]
      refine (eq_ix2 (n0 := 4096) (n1 := 6144) i).trans ?_
      exact congrArg₂ ix2 (pos_split 1024 4 rfl (i 0)) (pos_split 1024 6 rfl (i 1))
    rw [hi]
    exact ⟨t, flush0_2 t, View.emb_mem_set _ _⟩

end

end Cert.Proof.M9

namespace Cert.Proof

open Idealize.ShloMosaic Idealize.SL.Sem

/-- The ninth call's result is its reference's, of any arguments. -/
theorem value9 : Cert.algebraic_Kernel9Ideal_Reference9Ideal := fun m g m' g' _ hm => by
  refine ⟨fun c => M9.G (M9.a0 m c) (M9.a1 m c),
    (θ_run Cert.Kernel9Ideal.defs _ _).mono (fun _ h c => ⟨(h c).1.trans (M9.final m c), (h c).2⟩) (Cert.Kernel9Ideal.Value.run_blocks m g), ?_⟩
  refine (θ_run Cert.Reference9Ideal.defs _ _).mono (fun r h c => ⟨(h c).1.trans ?_, (h c).2⟩) (Cert.Reference9Ideal.Value.run (F := Ideal) m' g')
  rw [(hm c).1, (hm c).2]

end Cert.Proof

end
-- ==== Proof.Proj10.lean ====
/-
  The gradient of the output projection's input: what the call leaves, entry by entry, and the reference's entry.
-/
module

public import proofs.«01_k».proof.Proof.Tile
public import proofs.«01_k».proof.Defs
public import proofs.«01_k».proof.Proof.Gen.Kernel10Ideal.Value
public import proofs.«01_k».proof.Proof.Gen.Reference10Ideal.Run
public import Idealize.ShloMosaic.Lib.Pipeline.ValueKit.Geometry
public import Idealize.ShloMosaic.Lib.Pipeline.Value
public import Idealize.ShloMosaic.Lib.StableHlo.RunRead

@[expose] public section

noncomputable section

namespace Cert.Proof.M10

open Cert.Kernel10Ideal Cert.Kernel10Ideal.Gen Cert.Kernel10Ideal.Value

open Idealize.ShloMosaic Idealize.SL.Sem
open Idealize.ShloMosaic.TcCoe Idealize.ShloMosaic.Tactic

/-! ## The grid -/

/-- The tile of rows a point writes, and its tile of columns. -/
abbrev I (t : Fin grid0.N) : Fin 4 := grid0.coords t 0
abbrev J (t : Fin grid0.N) : Fin 2 := grid0.coords t 1

theorem idx_0 : ∀ t : Fin grid0.N, win0_0.index t 0 = (I t).val ∧ win0_0.index t 1 = 0 := by decide +kernel
theorem idx_1 : ∀ t : Fin grid0.N, win0_1.index t 0 = (J t).val ∧ win0_1.index t 1 = 0 := by decide +kernel
theorem idx_2 : ∀ t : Fin grid0.N, win0_2.index t 0 = (I t).val ∧ win0_2.index t 1 = (J t).val := by decide +kernel
theorem cov : ∀ i : Fin 4, ∀ j : Fin 2, ∃ t : Fin grid0.N, I t = i ∧ J t = j := by decide +kernel

/-- Row `r` of tile `i`, and column `s` of tile `j`. -/
abbrev rowOf (i : Fin 4) (r : Fin 1024) : Fin 4096 := pos 1024 4 rfl i r
abbrev colOf (j : Fin 2) (s : Fin 1024) : Fin 2048 := pos 1024 2 rfl j s

section
variable (t : Fin grid0.N)

theorem emb_0 (r : Fin 1024) (k : Fin 2048) : (((cfg0.win 0).blk t).view.emb (ix2 r k) : S4096x2048.Idx) = ix2 (rowOf (I t) r) k := by
  funext a
  refine Fin.ext ?_
  fin_cases a
  · blk_simp
    exact congrArg (fun n : ℕ => n * 1024 + r.val) (idx_0 t).1
  · blk_simp
    refine (congrArg (fun n : ℕ => n * 2048 + k.val) (idx_0 t).2).trans ?_
    show 0 * 2048 + k.val = k.val
    omega
theorem emb_1 (s : Fin 1024) (k : Fin 2048) : (((cfg0.win 1).blk t).view.emb (ix2 s k) : S2048x2048.Idx) = ix2 (colOf (J t) s) k := by
  funext a
  refine Fin.ext ?_
  fin_cases a
  · blk_simp
    exact congrArg (fun n : ℕ => n * 1024 + s.val) (idx_1 t).1
  · blk_simp
    refine (congrArg (fun n : ℕ => n * 2048 + k.val) (idx_1 t).2).trans ?_
    show 0 * 2048 + k.val = k.val
    omega
theorem emb_2 (r s : Fin 1024) : (((cfg0.win 2).blk t).view.emb (ix2 r s) : S4096x2048.Idx) = ix2 (rowOf (I t) r) (colOf (J t) s) := by
  funext a
  refine Fin.ext ?_
  fin_cases a
  · blk_simp
    exact congrArg (fun n : ℕ => n * 1024 + r.val) (idx_2 t).1
  · blk_simp
    exact congrArg (fun n : ℕ => n * 1024 + s.val) (idx_2 t).2

end

/-! ## Each operation at an index -/

theorem hz : (![0, 0] : Fin 2 → Nat) = fun _ => 0 := funext fun a => by fin_cases a <;> rfl

theorem out_eq (x0 : Vec Ideal S1024x2048 .bf16) (x1 : Vec Ideal S1024x2048 .bf16) : out0_2 x0 x1 = k0_pay1 x1 x0 := by
  unfold out0_2
  rw [View.canon_unit_zero hz, View.ld_unit_zero hz, View.ld_unit_zero hz]

theorem pay_eq (x1 : FVec Ideal S1024x2048 .bf16) (x0 : FVec Ideal S1024x2048 .bf16) (r s : Fin 1024) :
    (k0_pay1 x1 x0 : FVec Ideal S1024x1024 .f32) (ix2 r s) = (∑ k, x0 (ix2 r k) * x1 (ix2 s k) : EReal) := by
  unfold k0_pay1; pointwise

/-- The gradient the reference computes, of the two arguments. -/
abbrev G (h : FVec Ideal S4096x2048 .bf16) (w : FVec Ideal S2048x2048 .bf16) : FVec Ideal S4096x2048 .f32 :=
  Host.dotGeneral Cert.Reference10Ideal.dot_S4096x2048_S2048x2048_S4096x2048_1_1_0_0_n_n none (extf .f32 h Cert.Reference10Ideal.Gen.bitsLt_bf16_f32) (extf .f32 w Cert.Reference10Ideal.Gen.bitsLt_bf16_f32)

theorem ref_eq (h : FVec Ideal S4096x2048 .bf16) (w : FVec Ideal S2048x2048 .bf16) (p : Fin 4096) (q : Fin 2048) :
    G h w (ix2 p q) = (∑ k, h (ix2 p k) * w (ix2 q k) : EReal) := by
  unfold G; pointwise

/-! ## The call -/

abbrev Mem := (ℓ : Loc nD τ sig) → Buf (Elt Ideal) ℓ

section
variable (m : Mem) (c : Dev nD)

abbrev a0 : FVec Ideal S4096x2048 .bf16 := m ((c.tc : Thread nD τ).loc main_arg0)
abbrev a1 : FVec Ideal S2048x2048 .bf16 := m ((c.tc : Thread nD τ).loc main_arg1)

section
variable (t : Fin grid0.N)

theorem at_0 (B : (Pipeline.arrRef spec0 0).ty.Idx → Elt Ideal (Pipeline.arrRef spec0 0).ty.elt) (r : Fin 1024) (k : Fin 2048) :
    ((cfg0.win 0).blk t).view.read (Elt Ideal) B (ix2 r k) = B (((cfg0.win 0).blk t).view.emb (ix2 r k)) := rfl
theorem at_1 (B : (Pipeline.arrRef spec0 1).ty.Idx → Elt Ideal (Pipeline.arrRef spec0 1).ty.elt) (s : Fin 1024) (k : Fin 2048) :
    ((cfg0.win 1).blk t).view.read (Elt Ideal) B (ix2 s k) = B (((cfg0.win 1).blk t).view.emb (ix2 s k)) := rfl

theorem bl_0 (r : Fin 1024) (k : Fin 2048) : iblk m c 0 t (ix2 r k) = a0 m c (ix2 (rowOf (I t) r) k) := by
  unfold iblk
  exact (at_0 t _ r k).trans ((congrFun (V_main_arg0 m c) _).trans (congrArg (a0 m c) (emb_0 t r k)))
theorem bl_1 (s : Fin 1024) (k : Fin 2048) : iblk m c 1 t (ix2 s k) = a1 m c (ix2 (colOf (J t) s) k) := by
  unfold iblk
  exact (at_1 t _ s k).trans ((congrFun (V_main_arg1 m c) _).trans (congrArg (a1 m c) (emb_1 t s k)))

/-- The tile a point writes. -/
theorem tile (r s : Fin 1024) : (out0_2 (iblk m c 0 t) (iblk m c 1 t)) (ix2 r s)
    = (∑ k, a0 m c (ix2 (rowOf (I t) r) k) * a1 m c (ix2 (colOf (J t) s) k) : EReal) := by
  rw [out_eq]
  refine (pay_eq _ _ r s).trans (Finset.sum_congr rfl fun k _ => ?_)
  rw [bl_0, bl_1]

theorem cx_2 (f : (cfg0.win 2).block.Idx → Elt Ideal (cfg0.win 2).elt) (r s : Fin 1024) :
    _root_.cast (congrArg (Elt Ideal) ((cfg0.win 2).blk t).view.elt_eq.symm) (f ((cfg0.win 2).xinj (grid0.coords t) (ix2 r s))) = f (ix2 r s) := rfl

end

/-- The array the call leaves is the reference's. -/
theorem final : (dats m 0 c).arrAt 2 cfg0.N = G (a0 m c) (a1 m c) := by
  refine (dats m 0 c).arrAt_eq_of_emb 2 (G (a0 m c) (a1 m c)) (fun t hf y => ?_) (fun i => ?_)
  · obtain ⟨r, s, rfl⟩ : ∃ (r s : Fin 1024), y = ix2 r s := ⟨y 0, y 1, (ix2_eta (n0 := 1024) (n1 := 1024) y).symm⟩
    refine (cx_2 t ((dats m 0 c).after 2 t) r s).trans ?_
    rw [after0_2]
    refine (tile m c t r s).trans ?_
    exact ((congrArg (G (a0 m c) (a1 m c)) (emb_2 t r s)).trans (ref_eq _ _ _ _)).symm
  · obtain ⟨t, h1, h2⟩ := cov (blkOf 1024 4 rfl (i 0)) (blkOf 1024 2 rfl (i 1))
    have hi : i = ((cfg0.win 2).blk t).view.emb (ix2 (inBlk 1024 4 rfl (i 0)) (inBlk 1024 2 rfl (i 1))) := by
      refine Eq.trans ?_ (emb_2 t _ _).symm
      rw [h1, h2]
      refine (eq_ix2 (n0 := 4096) (n1 := 2048) i).trans ?_
      exact congrArg₂ ix2 (pos_split 1024 4 rfl (i 0)) (pos_split 1024 2 rfl (i 1))
    rw [hi]
    exact ⟨t, flush0_2 t, View.emb_mem_set _ _⟩

end

end Cert.Proof.M10

namespace Cert.Proof

open Idealize.ShloMosaic Idealize.SL.Sem

/-- The tenth call's result is its reference's, of any arguments. -/
theorem value10 : Cert.algebraic_Kernel10Ideal_Reference10Ideal := fun m g m' g' _ hm => by
  refine ⟨fun c => M10.G (M10.a0 m c) (M10.a1 m c),
    (θ_run Cert.Kernel10Ideal.defs _ _).mono (fun _ h c => ⟨(h c).1.trans (M10.final m c), (h c).2⟩) (Cert.Kernel10Ideal.Value.run_blocks m g), ?_⟩
  refine (θ_run Cert.Reference10Ideal.defs _ _).mono (fun r h c => ⟨(h c).1.trans ?_, (h c).2⟩) (Cert.Reference10Ideal.Value.run (F := Ideal) m' g')
  rw [(hm c).1, (hm c).2]

end Cert.Proof

end
-- ==== Proof.Proj11.lean ====
/-
  The gradient of the output projection's weight: what the call leaves, entry by entry, and the reference's entry.
-/
module

public import proofs.«01_k».proof.Proof.Tile
public import proofs.«01_k».proof.Defs
public import proofs.«01_k».proof.Proof.Gen.Kernel11Ideal.Value
public import proofs.«01_k».proof.Proof.Gen.Reference11Ideal.Run
public import Idealize.ShloMosaic.Lib.Pipeline.ValueKit.Geometry
public import Idealize.ShloMosaic.Lib.Pipeline.Value
public import Idealize.ShloMosaic.Lib.StableHlo.RunRead

@[expose] public section

noncomputable section

namespace Cert.Proof.M11

open Cert.Kernel11Ideal Cert.Kernel11Ideal.Gen Cert.Kernel11Ideal.Value

open Idealize.ShloMosaic Idealize.SL.Sem
open Idealize.ShloMosaic.TcCoe Idealize.ShloMosaic.Tactic

/-! ## The grid -/

/-- The tile of rows a point adds to, its tile of columns, and the part of the sum it adds. -/
abbrev I (t : Fin grid0.N) : Fin 2 := grid0.coords t 0
abbrev J (t : Fin grid0.N) : Fin 2 := grid0.coords t 1
abbrev K (t : Fin grid0.N) : Fin 2 := grid0.coords t 2

/-- The point before. -/
def prev (t : Fin grid0.N) : Fin grid0.N := ⟨t.val - 1, Nat.lt_of_le_of_lt (Nat.sub_le _ _) t.isLt⟩

theorem idx_0 : ∀ t : Fin grid0.N, win0_0.index t 0 = (K t).val ∧ win0_0.index t 1 = (I t).val := by decide +kernel
theorem idx_1 : ∀ t : Fin grid0.N, win0_1.index t 0 = (K t).val ∧ win0_1.index t 1 = (J t).val := by decide +kernel
theorem idx_2 : ∀ t : Fin grid0.N, win0_2.index t 0 = (I t).val ∧ win0_2.index t 1 = (J t).val := by decide +kernel
theorem last : ∀ t : Fin grid0.N, t.val % 2 = 1 → K t = 1 ∧ K (prev t) = 0 ∧ I (prev t) = I t ∧ J (prev t) = J t ∧ (prev t).val % 2 = 0 := by decide +kernel
theorem cov : ∀ i : Fin 2, ∀ j : Fin 2, ∃ t : Fin grid0.N, t.val % 2 = 1 ∧ I t = i ∧ J t = j := by decide +kernel

/-- Row `r` of tile `i`, column `s` of tile `j`, and term `k` of part `κ` of the sum. -/
abbrev rowOf (i : Fin 2) (r : Fin 1024) : Fin 2048 := pos 1024 2 rfl i r
abbrev colOf (j : Fin 2) (s : Fin 1024) : Fin 2048 := pos 1024 2 rfl j s
abbrev midOf (κ : Fin 2) (k : Fin 2048) : Fin 4096 := pos 2048 2 rfl κ k

section
variable (t : Fin grid0.N)

theorem emb_0 (k : Fin 2048) (r : Fin 1024) : (((cfg0.win 0).blk t).view.emb (ix2 k r) : S4096x2048.Idx) = ix2 (midOf (K t) k) (rowOf (I t) r) := by
  funext a
  refine Fin.ext ?_
  fin_cases a
  · blk_simp
    exact congrArg (fun n : ℕ => n * 2048 + k.val) (idx_0 t).1
  · blk_simp
    exact congrArg (fun n : ℕ => n * 1024 + r.val) (idx_0 t).2
theorem emb_1 (k : Fin 2048) (s : Fin 1024) : (((cfg0.win 1).blk t).view.emb (ix2 k s) : S4096x2048.Idx) = ix2 (midOf (K t) k) (colOf (J t) s) := by
  funext a
  refine Fin.ext ?_
  fin_cases a
  · blk_simp
    exact congrArg (fun n : ℕ => n * 2048 + k.val) (idx_1 t).1
  · blk_simp
    exact congrArg (fun n : ℕ => n * 1024 + s.val) (idx_1 t).2
theorem emb_2 (r s : Fin 1024) : (((cfg0.win 2).blk t).view.emb (ix2 r s) : S2048x2048.Idx) = ix2 (rowOf (I t) r) (colOf (J t) s) := by
  funext a
  refine Fin.ext ?_
  fin_cases a
  · blk_simp
    exact congrArg (fun n : ℕ => n * 1024 + r.val) (idx_2 t).1
  · blk_simp
    exact congrArg (fun n : ℕ => n * 1024 + s.val) (idx_2 t).2

end

/-! ## The body -/

theorem hz : (![0, 0] : Fin 2 → Nat) = fun _ => 0 := funext fun a => by fin_cases a <;> rfl

section
variable (c : Dev nD) (i : grid0.Coords) (b0 : Memref sig .tc .vmem S2048x1024 .bf16) (h0 : b0.IsWhole) (b1 : Memref sig .tc .vmem S2048x1024 .bf16) (h1 : b1.IsWhole)
  (b2 : Memref sig .tc .vmem S1024x1024 .f32) (h2 : b2.IsWhole) (x0 x1 : Vec Ideal S2048x1024 .bf16) (x2 : Vec Ideal S1024x1024 .f32)

theorem out_A (hc0 : cond0_0 i) (hc1 : ¬cond0_1 i) : out0_A_2 c i b0 h0 b1 h1 b2 h2 hc0 hc1 x0 x1 = k0_pay1 x1 x0 := by
  unfold out0_A_2
  rw [View.read_writes_eq_canon _ _ _ (cover0_A_2 c i b0 h0 b1 h1 b2 h2 hc0 hc1 x0 x1)]
  unfold kernelRun0_A
  dsimp only
  rw [View.canon_unit_zero hz]
  simp only [View.readAt_eq_ld, h0.read_unread, h1.read_unread, View.ld_unit_zero (S := S2048x1024) hz, View.ld_unit_zero (S := S1024x1024) hz]
theorem out_B (hc0 : ¬cond0_0 i) (hc1 : cond0_1 i) : out0_B_2 c i b0 h0 b1 h1 b2 h2 hc0 hc1 x0 x1 x2 = k0_pay2 x1 x0 x2 := by
  unfold out0_B_2
  rw [View.read_writes_eq_canon _ _ _ (cover0_B_2 c i b0 h0 b1 h1 b2 h2 hc0 hc1 x0 x1 x2)]
  unfold kernelRun0_B
  dsimp only
  rw [View.canon_unit_zero hz]
  simp only [View.readAt_eq_ld, h0.read_unread, h1.read_unread, h2.read_unread, View.ld_unit_zero (S := S2048x1024) hz, View.ld_unit_zero (S := S1024x1024) hz]

end

/-! ## Each operation at an index -/

theorem pay1_eq (x1 x0 : FVec Ideal S2048x1024 .bf16) (r s : Fin 1024) :
    (k0_pay1 x1 x0 : FVec Ideal S1024x1024 .f32) (ix2 r s) = (∑ k, x0 (ix2 k r) * x1 (ix2 k s) : EReal) := by
  unfold k0_pay1; pointwise
theorem pay2_eq (x1 x0 : FVec Ideal S2048x1024 .bf16) (x2 : FVec Ideal S1024x1024 .f32) (r s : Fin 1024) :
    (k0_pay2 x1 x0 x2 : FVec Ideal S1024x1024 .f32) (ix2 r s) = (x2 (ix2 r s) + k0_pay1 (F := Ideal) x1 x0 (ix2 r s) : EReal) := by
  unfold k0_pay2; pointwise

/-- The gradient the reference computes, of the two arguments. -/
abbrev G (h : FVec Ideal S4096x2048 .bf16) (d : FVec Ideal S4096x2048 .bf16) : FVec Ideal S2048x2048 .f32 :=
  transpose S2048x2048 [1, 0] (Host.dotGeneral Cert.Reference11Ideal.dot_S4096x2048_S4096x2048_S2048x2048_0_0_1_1_n_n none (extf .f32 d Cert.Reference11Ideal.Gen.bitsLt_bf16_f32) (extf .f32 h Cert.Reference11Ideal.Gen.bitsLt_bf16_f32)) Cert.Reference11Ideal.Gen.transposes_S2048x2048_S2048x2048_1_0

theorem ref_eq (h : FVec Ideal S4096x2048 .bf16) (d : FVec Ideal S4096x2048 .bf16) (p : Fin 2048) (q : Fin 2048) :
    G h d (ix2 p q) = (∑ n, d (ix2 n q) * h (ix2 n p) : EReal) := by
  unfold G; pointwise

/-! ## The call -/

abbrev Mem := (ℓ : Loc nD τ sig) → Buf (Elt Ideal) ℓ

section
variable (m : Mem) (c : Dev nD)

abbrev a0 : FVec Ideal S4096x2048 .bf16 := m ((c.tc : Thread nD τ).loc main_arg0)
abbrev a1 : FVec Ideal S4096x2048 .bf16 := m ((c.tc : Thread nD τ).loc main_arg1)

section
variable (t : Fin grid0.N)

theorem at_0 (B : (Pipeline.arrRef spec0 0).ty.Idx → Elt Ideal (Pipeline.arrRef spec0 0).ty.elt) (k : Fin 2048) (r : Fin 1024) :
    ((cfg0.win 0).blk t).view.read (Elt Ideal) B (ix2 k r) = B (((cfg0.win 0).blk t).view.emb (ix2 k r)) := rfl
theorem at_1 (B : (Pipeline.arrRef spec0 1).ty.Idx → Elt Ideal (Pipeline.arrRef spec0 1).ty.elt) (k : Fin 2048) (s : Fin 1024) :
    ((cfg0.win 1).blk t).view.read (Elt Ideal) B (ix2 k s) = B (((cfg0.win 1).blk t).view.emb (ix2 k s)) := rfl

theorem bl_0 (k : Fin 2048) (r : Fin 1024) : iblk m c 0 t (ix2 k r) = a0 m c (ix2 (midOf (K t) k) (rowOf (I t) r)) := by
  unfold iblk
  exact (at_0 t _ k r).trans ((congrFun (V_main_arg0 m c) _).trans (congrArg (a0 m c) (emb_0 t k r)))
theorem bl_1 (k : Fin 2048) (s : Fin 1024) : iblk m c 1 t (ix2 k s) = a1 m c (ix2 (midOf (K t) k) (colOf (J t) s)) := by
  unfold iblk
  exact (at_1 t _ k s).trans ((congrFun (V_main_arg1 m c) _).trans (congrArg (a1 m c) (emb_1 t k s)))

/-- The part of the sum a point computes. -/
theorem part (r s : Fin 1024) : (k0_pay1 (iblk m c 1 t) (iblk m c 0 t) : FVec Ideal S1024x1024 .f32) (ix2 r s)
    = (∑ k, a0 m c (ix2 (midOf (K t) k) (rowOf (I t) r)) * a1 m c (ix2 (midOf (K t) k) (colOf (J t) s)) : EReal) := by
  refine (pay1_eq _ _ r s).trans (Finset.sum_congr rfl fun k _ => ?_)
  rw [bl_0, bl_1]

/-- After the first part the tile holds that part. -/
theorem first (h : t.val % 2 = 0) : outsAt0 m c t.val t.isLt = k0_pay1 (iblk m c 1 t) (iblk m c 0 t) :=
  (outsAt0_A m c t h (by omega)).trans (out_A c _ _ _ _ _ _ _ _ _ _ _)

/-- After the last part the tile holds the whole sum. -/
theorem tile (h : t.val % 2 = 1) (r s : Fin 1024) : outsAt0 m c t.val t.isLt (ix2 r s)
    = (∑ n, a0 m c (ix2 n (rowOf (I t) r)) * a1 m c (ix2 n (colOf (J t) s)) : EReal) := by
  obtain ⟨hk, hk', hi, hj, hp⟩ := last t h
  have e : outsAt0 m c (t.val - 1) (Nat.lt_of_le_of_lt (Nat.sub_le _ _) t.isLt) = k0_pay1 (iblk m c 1 (prev t)) (iblk m c 0 (prev t)) := first m c (prev t) hp
  rw [outsAt0_B m c t (by omega) h, e, out_B]
  refine (pay2_eq _ _ _ r s).trans ?_
  rw [part, part, hk, hk', hi, hj, sum_pos 2048 2 rfl, Fin.sum_univ_two]

theorem cx_2 (f : (cfg0.win 2).block.Idx → Elt Ideal (cfg0.win 2).elt) (r s : Fin 1024) :
    _root_.cast (congrArg (Elt Ideal) ((cfg0.win 2).blk t).view.elt_eq.symm) (f ((cfg0.win 2).xinj (grid0.coords t) (ix2 r s))) = f (ix2 r s) := rfl

end

/-- The array the call leaves. -/
theorem final (G : FVec Ideal S2048x2048 .f32) (hG : ∀ p q, G (ix2 p q) = (∑ n, a0 m c (ix2 n p) * a1 m c (ix2 n q) : EReal)) :
    (dats m 0 c).arrAt 2 cfg0.N = G := by
  refine (dats m 0 c).arrAt_eq_of_emb 2 G (fun t hf y => ?_) (fun i => ?_)
  · obtain ⟨r, s, rfl⟩ : ∃ (r s : Fin 1024), y = ix2 r s := ⟨y 0, y 1, (ix2_eta (n0 := 1024) (n1 := 1024) y).symm⟩
    refine (cx_2 t ((dats m 0 c).after 2 t) r s).trans ?_
    rw [after0_2]
    refine (tile m c t ((flush0_2 t).mp hf) r s).trans ?_
    exact ((congrArg G (emb_2 t r s)).trans (hG _ _)).symm
  · obtain ⟨t, hf, h1, h2⟩ := cov (blkOf 1024 2 rfl (i 0)) (blkOf 1024 2 rfl (i 1))
    have hi : i = ((cfg0.win 2).blk t).view.emb (ix2 (inBlk 1024 2 rfl (i 0)) (inBlk 1024 2 rfl (i 1))) := by
      refine Eq.trans ?_ (emb_2 t _ _).symm
      rw [h1, h2]
      refine (eq_ix2 (n0 := 2048) (n1 := 2048) i).trans ?_
      exact congrArg₂ ix2 (pos_split 1024 2 rfl (i 0)) (pos_split 1024 2 rfl (i 1))
    rw [hi]
    exact ⟨t, (flush0_2 t).mpr hf, View.emb_mem_set _ _⟩

theorem final_G : (dats m 0 c).arrAt 2 cfg0.N = G (a0 m c) (a1 m c) :=
  final m c _ fun p q => (ref_eq _ _ p q).trans (Finset.sum_congr rfl fun n _ => mul_comm _ _)

end

end Cert.Proof.M11

namespace Cert.Proof

open Idealize.ShloMosaic Idealize.SL.Sem

/-- The eleventh call's result is its reference's, of any arguments. -/
theorem value11 : Cert.algebraic_Kernel11Ideal_Reference11Ideal := fun m g m' g' _ hm => by
  refine ⟨fun c => M11.G (M11.a0 m c) (M11.a1 m c),
    (θ_run Cert.Kernel11Ideal.defs _ _).mono (fun _ h c => ⟨(h c).1.trans (M11.final_G m c), (h c).2⟩) (Cert.Kernel11Ideal.Value.run_blocks m g), ?_⟩
  refine (θ_run Cert.Reference11Ideal.defs _ _).mono (fun r h c => ⟨(h c).1.trans ?_, (h c).2⟩) (Cert.Reference11Ideal.Value.run (F := Ideal) m' g')
  rw [(hm c).1, (hm c).2]

end Cert.Proof

end
-- ==== Proof.Mlp12.lean ====
/-
  The perceptron's second product, added to the residual: what the call leaves, entry by entry, and the reference's entry.
-/
module

public import proofs.«01_k».proof.Proof.Tile
public import proofs.«01_k».proof.Defs
public import proofs.«01_k».proof.Proof.Gen.Kernel12Ideal.Value
public import proofs.«01_k».proof.Proof.Gen.Reference12Ideal.Run
public import Idealize.ShloMosaic.Lib.Pipeline.ValueKit.Geometry
public import Idealize.ShloMosaic.Lib.Pipeline.Value
public import Idealize.ShloMosaic.Lib.StableHlo.RunRead

@[expose] public section

noncomputable section

namespace Cert.Proof.M12

open Cert.Kernel12Ideal Cert.Kernel12Ideal.Gen Cert.Kernel12Ideal.Value

open Idealize.ShloMosaic Idealize.SL.Sem
open Idealize.ShloMosaic.TcCoe Idealize.ShloMosaic.Tactic

/-! ## The grid -/

/-- The tile of rows a point adds to, its tile of columns, and the part of the sum it adds. -/
abbrev I (t : Fin grid0.N) : Fin 4 := grid0.coords t 0
abbrev J (t : Fin grid0.N) : Fin 2 := grid0.coords t 1
abbrev K (t : Fin grid0.N) : Fin 4 := grid0.coords t 2

/-- The point before. -/
def prev (t : Fin grid0.N) : Fin grid0.N := ⟨t.val - 1, Nat.lt_of_le_of_lt (Nat.sub_le _ _) t.isLt⟩

theorem idx_0 : ∀ t : Fin grid0.N, win0_0.index t 0 = (I t).val ∧ win0_0.index t 1 = (K t).val := by decide +kernel
theorem idx_1 : ∀ t : Fin grid0.N, win0_1.index t 0 = (K t).val ∧ win0_1.index t 1 = (J t).val := by decide +kernel
theorem idx_2 : ∀ t : Fin grid0.N, win0_2.index t 0 = (I t).val ∧ win0_2.index t 1 = (J t).val := by decide +kernel
theorem idx_3 : ∀ t : Fin grid0.N, win0_3.index t 0 = (I t).val ∧ win0_3.index t 1 = (J t).val := by decide +kernel
theorem K_eq : ∀ t : Fin grid0.N, (K t).val = t.val % 4 := by decide +kernel
theorem back : ∀ t : Fin grid0.N, 1 ≤ t.val % 4 → I (prev t) = I t ∧ J (prev t) = J t ∧ (prev t).val % 4 = t.val % 4 - 1 := by decide +kernel
theorem cov : ∀ i : Fin 4, ∀ j : Fin 2, ∃ t : Fin grid0.N, t.val % 4 = 3 ∧ I t = i ∧ J t = j := by decide +kernel

/-- Row `r` of tile `i`, column `s` of tile `j`, and term `k` of part `κ` of the sum. -/
abbrev rowOf (i : Fin 4) (r : Fin 1024) : Fin 4096 := pos 1024 4 rfl i r
abbrev colOf (j : Fin 2) (s : Fin 1024) : Fin 2048 := pos 1024 2 rfl j s
abbrev midOf (κ : Fin 4) (k : Fin 2048) : Fin 8192 := pos 2048 4 rfl κ k

section
variable (t : Fin grid0.N)

theorem emb_0 (r : Fin 1024) (k : Fin 2048) : (((cfg0.win 0).blk t).view.emb (ix2 r k) : S4096x8192.Idx) = ix2 (rowOf (I t) r) (midOf (K t) k) := by
  funext a
  refine Fin.ext ?_
  fin_cases a
  · blk_simp
    exact congrArg (fun n : ℕ => n * 1024 + r.val) (idx_0 t).1
  · blk_simp
    exact congrArg (fun n : ℕ => n * 2048 + k.val) (idx_0 t).2
theorem emb_1 (k : Fin 2048) (s : Fin 1024) : (((cfg0.win 1).blk t).view.emb (ix2 k s) : S8192x2048.Idx) = ix2 (midOf (K t) k) (colOf (J t) s) := by
  funext a
  refine Fin.ext ?_
  fin_cases a
  · blk_simp
    exact congrArg (fun n : ℕ => n * 2048 + k.val) (idx_1 t).1
  · blk_simp
    exact congrArg (fun n : ℕ => n * 1024 + s.val) (idx_1 t).2
theorem emb_2 (r s : Fin 1024) : (((cfg0.win 2).blk t).view.emb (ix2 r s) : S4096x2048.Idx) = ix2 (rowOf (I t) r) (colOf (J t) s) := by
  funext a
  refine Fin.ext ?_
  fin_cases a
  · blk_simp
    exact congrArg (fun n : ℕ => n * 1024 + r.val) (idx_2 t).1
  · blk_simp
    exact congrArg (fun n : ℕ => n * 1024 + s.val) (idx_2 t).2
theorem emb_3 (r s : Fin 1024) : (((cfg0.win 3).blk t).view.emb (ix2 r s) : S4096x2048.Idx) = ix2 (rowOf (I t) r) (colOf (J t) s) := by
  funext a
  refine Fin.ext ?_
  fin_cases a
  · blk_simp
    exact congrArg (fun n : ℕ => n * 1024 + r.val) (idx_3 t).1
  · blk_simp
    exact congrArg (fun n : ℕ => n * 1024 + s.val) (idx_3 t).2

end

/-! ## The body -/

theorem hz : (![0, 0] : Fin 2 → Nat) = fun _ => 0 := funext fun a => by fin_cases a <;> rfl

section
variable (c : Dev nD) (i : grid0.Coords) (b0 : Memref sig .tc .vmem S1024x2048 .bf16) (h0 : b0.IsWhole) (b1 : Memref sig .tc .vmem S2048x1024 .bf16) (h1 : b1.IsWhole)
  (b2 : Memref sig .tc .vmem S1024x1024 .f32) (h2 : b2.IsWhole) (b3 : Memref sig .tc .vmem S1024x1024 .f32) (h3 : b3.IsWhole)
  (x0 : Vec Ideal S1024x2048 .bf16) (x1 : Vec Ideal S2048x1024 .bf16) (x2 x3 : Vec Ideal S1024x1024 .f32)

theorem out_A (hc0 : cond0_0 i) (hc1 : ¬cond0_1 i) : out0_A_3 c i b0 h0 b1 h1 b2 h2 b3 h3 hc0 hc1 x0 x1 x2 = k0_pay2 (F := Ideal) x1 x0 x2 := by
  unfold out0_A_3
  rw [View.read_writes_eq_canon _ _ _ (cover0_A_3 c i b0 h0 b1 h1 b2 h2 b3 h3 hc0 hc1 x0 x1 x2)]
  unfold kernelRun0_A
  dsimp only
  rw [View.canon_unit_zero hz]
  simp only [View.readAt_eq_ld, h0.read_unread, h1.read_unread, h2.read_unread, View.ld_unit_zero (S := S1024x2048) hz, View.ld_unit_zero (S := S2048x1024) hz, View.ld_unit_zero (S := S1024x1024) hz]
theorem out_B (hc0 : ¬cond0_0 i) (hc1 : cond0_1 i) : out0_B_3 c i b0 h0 b1 h1 b2 h2 b3 h3 hc0 hc1 x0 x1 x2 x3 = k0_pay3 (F := Ideal) x1 x0 x3 := by
  unfold out0_B_3
  rw [View.read_writes_eq_canon _ _ _ (cover0_B_3 c i b0 h0 b1 h1 b2 h2 b3 h3 hc0 hc1 x0 x1 x2 x3)]
  unfold kernelRun0_B
  dsimp only
  rw [View.canon_unit_zero hz]
  simp only [View.readAt_eq_ld, h0.read_unread, h1.read_unread, h3.read_unread, View.ld_unit_zero (S := S1024x2048) hz, View.ld_unit_zero (S := S2048x1024) hz, View.ld_unit_zero (S := S1024x1024) hz]

end

/-! ## Each operation at an index -/

theorem pay1_eq (x0 : FVec Ideal S1024x2048 .bf16) (x1 : FVec Ideal S2048x1024 .bf16) (r s : Fin 1024) :
    (k0_pay1 x1 x0 : FVec Ideal S1024x1024 .f32) (ix2 r s) = (∑ k, x0 (ix2 r k) * x1 (ix2 k s) : EReal) := by
  unfold k0_pay1; pointwise
theorem pay2_eq (x0 : FVec Ideal S1024x2048 .bf16) (x1 : FVec Ideal S2048x1024 .bf16) (g : FVec Ideal S1024x1024 .f32) (r s : Fin 1024) :
    (k0_pay2 x1 x0 g : FVec Ideal S1024x1024 .f32) (ix2 r s) = (k0_pay1 (F := Ideal) x1 x0 (ix2 r s) + g (ix2 r s) : EReal) := by
  unfold k0_pay2; pointwise
theorem pay3_eq (x0 : FVec Ideal S1024x2048 .bf16) (x1 : FVec Ideal S2048x1024 .bf16) (x3 : FVec Ideal S1024x1024 .f32) (r s : Fin 1024) :
    (k0_pay3 x1 x0 x3 : FVec Ideal S1024x1024 .f32) (ix2 r s) = (x3 (ix2 r s) + k0_pay1 (F := Ideal) x1 x0 (ix2 r s) : EReal) := by
  unfold k0_pay3; pointwise

/-- What the reference computes, of the three arguments. -/
abbrev G (u : FVec Ideal S4096x8192 .bf16) (w : FVec Ideal S8192x2048 .bf16) (x : FVec Ideal S4096x2048 .f32) : FVec Ideal S4096x2048 .f32 :=
  addf x (Host.dotGeneral Cert.Reference12Ideal.dot_S4096x8192_S8192x2048_S4096x2048_1_0_0_1_n_n none (extf .f32 u Cert.Reference12Ideal.Gen.bitsLt_bf16_f32) (extf .f32 w Cert.Reference12Ideal.Gen.bitsLt_bf16_f32))

theorem G_eq (u : FVec Ideal S4096x8192 .bf16) (w : FVec Ideal S8192x2048 .bf16) (x : FVec Ideal S4096x2048 .f32) (p : Fin 4096) (q : Fin 2048) :
    G u w x (ix2 p q) = (x (ix2 p q) + (∑ k, u (ix2 p k) * w (ix2 k q)) : EReal) := by
  unfold G; pointwise

/-! ## The call -/

abbrev Mem := (ℓ : Loc nD τ sig) → Buf (Elt Ideal) ℓ

section
variable (m : Mem) (c : Dev nD)

abbrev a0 : FVec Ideal S4096x8192 .bf16 := m ((c.tc : Thread nD τ).loc main_arg0)
abbrev a1 : FVec Ideal S8192x2048 .bf16 := m ((c.tc : Thread nD τ).loc main_arg1)
abbrev a2 : FVec Ideal S4096x2048 .f32 := m ((c.tc : Thread nD τ).loc main_arg2)

/-- A part of the sum. -/
def term (p : Fin 4096) (q : Fin 2048) (κ : Fin 4) : EReal := ∑ k : Fin 2048, (a0 m c (ix2 p (midOf κ k)) * a1 m c (ix2 (midOf κ k) q) : EReal)

theorem ref_eq (p : Fin 4096) (q : Fin 2048) : G (a0 m c) (a1 m c) (a2 m c) (ix2 p q) = (a2 m c (ix2 p q) + ∑ κ, term m c p q κ : EReal) := by
  refine (G_eq _ _ _ p q).trans (congrArg₂ (fun x y : EReal => x + y) rfl ?_)
  exact sum_pos 2048 4 rfl _

section
variable (t : Fin grid0.N)

theorem at_0 (B : (Pipeline.arrRef spec0 0).ty.Idx → Elt Ideal (Pipeline.arrRef spec0 0).ty.elt) (r : Fin 1024) (k : Fin 2048) :
    ((cfg0.win 0).blk t).view.read (Elt Ideal) B (ix2 r k) = B (((cfg0.win 0).blk t).view.emb (ix2 r k)) := rfl
theorem at_1 (B : (Pipeline.arrRef spec0 1).ty.Idx → Elt Ideal (Pipeline.arrRef spec0 1).ty.elt) (k : Fin 2048) (s : Fin 1024) :
    ((cfg0.win 1).blk t).view.read (Elt Ideal) B (ix2 k s) = B (((cfg0.win 1).blk t).view.emb (ix2 k s)) := rfl
theorem at_2 (B : (Pipeline.arrRef spec0 2).ty.Idx → Elt Ideal (Pipeline.arrRef spec0 2).ty.elt) (r s : Fin 1024) :
    ((cfg0.win 2).blk t).view.read (Elt Ideal) B (ix2 r s) = B (((cfg0.win 2).blk t).view.emb (ix2 r s)) := rfl

theorem bl_0 (r : Fin 1024) (k : Fin 2048) : iblk m c 0 t (ix2 r k) = a0 m c (ix2 (rowOf (I t) r) (midOf (K t) k)) := by
  unfold iblk
  exact (at_0 t _ r k).trans ((congrFun (V_main_arg0 m c) _).trans (congrArg (a0 m c) (emb_0 t r k)))
theorem bl_1 (k : Fin 2048) (s : Fin 1024) : iblk m c 1 t (ix2 k s) = a1 m c (ix2 (midOf (K t) k) (colOf (J t) s)) := by
  unfold iblk
  exact (at_1 t _ k s).trans ((congrFun (V_main_arg1 m c) _).trans (congrArg (a1 m c) (emb_1 t k s)))
theorem bl_2 (r s : Fin 1024) : iblk m c 2 t (ix2 r s) = a2 m c (ix2 (rowOf (I t) r) (colOf (J t) s)) := by
  unfold iblk
  exact (at_2 t _ r s).trans ((congrFun (V_main_arg2 m c) _).trans (congrArg (a2 m c) (emb_2 t r s)))

/-- The part of the sum a point computes. -/
theorem step (r s : Fin 1024) : (k0_pay1 (iblk m c 1 t) (iblk m c 0 t) : FVec Ideal S1024x1024 .f32) (ix2 r s) = term m c (rowOf (I t) r) (colOf (J t) s) (K t) := by
  refine (pay1_eq _ _ r s).trans ?_
  unfold term
  refine Finset.sum_congr rfl fun k _ => ?_
  rw [bl_0, bl_1]

/-- After the first part the tile holds that part and the residual. -/
theorem first (h : t.val % 4 = 0) (r s : Fin 1024) : outsAt0 m c t.val t.isLt (ix2 r s)
    = (term m c (rowOf (I t) r) (colOf (J t) s) (K t) + a2 m c (ix2 (rowOf (I t) r) (colOf (J t) s)) : EReal) := by
  rw [outsAt0_A m c t h (by omega), out_A]
  refine (pay2_eq _ _ _ r s).trans ?_
  rw [step, bl_2]

/-- After a further part it holds what it held and that part. -/
theorem next (h : 1 ≤ t.val % 4) (r s : Fin 1024) : outsAt0 m c t.val t.isLt (ix2 r s)
    = (outsAt0 m c (prev t).val (prev t).isLt (ix2 r s) + term m c (rowOf (I t) r) (colOf (J t) s) (K t) : EReal) := by
  rw [outsAt0_B m c t (by omega) h, out_B]
  refine (pay3_eq _ _ _ r s).trans ?_
  rw [step]
  rfl

/-- After the last part the tile holds the residual and the whole sum. -/
theorem tile (h : t.val % 4 = 3) (r s : Fin 1024) : outsAt0 m c t.val t.isLt (ix2 r s)
    = (a2 m c (ix2 (rowOf (I t) r) (colOf (J t) s)) + ∑ κ, term m c (rowOf (I t) r) (colOf (J t) s) κ : EReal) := by
  obtain ⟨i1, j1, k1⟩ := back t (by omega)
  obtain ⟨i2, j2, k2⟩ := back (prev t) (by omega)
  obtain ⟨i3, j3, k3⟩ := back (prev (prev t)) (by omega)
  have q0 : K t = 3 := Fin.ext ((K_eq t).trans h)
  have q1 : K (prev t) = 2 := Fin.ext ((K_eq _).trans (k1.trans (by rw [h]; rfl)))
  have q2 : K (prev (prev t)) = 1 := Fin.ext ((K_eq _).trans (k2.trans (by rw [k1, h]; rfl)))
  have q3 : K (prev (prev (prev t))) = 0 := Fin.ext ((K_eq _).trans (k3.trans (by rw [k2, k1, h]; rfl)))
  rw [next m c t (by omega), next m c (prev t) (by omega), next m c (prev (prev t)) (by omega), first m c (prev (prev (prev t))) (by omega),
    q0, q1, q2, q3, i3, j3, i2, j2, i1, j1, Fin.sum_univ_four]
  rw [add_comm (term m c _ _ 0) (a2 m c _), add_assoc, add_assoc, add_assoc, ← add_assoc (term m c _ _ 1), ← add_assoc (term m c _ _ 0), ← add_assoc (term m c _ _ 0)]

theorem cx_3 (f : (cfg0.win 3).block.Idx → Elt Ideal (cfg0.win 3).elt) (r s : Fin 1024) :
    _root_.cast (congrArg (Elt Ideal) ((cfg0.win 3).blk t).view.elt_eq.symm) (f ((cfg0.win 3).xinj (grid0.coords t) (ix2 r s))) = f (ix2 r s) := rfl

end

/-- The array the call leaves is the reference's. -/
theorem final : (dats m 0 c).arrAt 3 cfg0.N = G (a0 m c) (a1 m c) (a2 m c) := by
  refine (dats m 0 c).arrAt_eq_of_emb 3 (G (a0 m c) (a1 m c) (a2 m c)) (fun t hf y => ?_) (fun i => ?_)
  · obtain ⟨r, s, rfl⟩ : ∃ (r s : Fin 1024), y = ix2 r s := ⟨y 0, y 1, (ix2_eta (n0 := 1024) (n1 := 1024) y).symm⟩
    refine (cx_3 t ((dats m 0 c).after 3 t) r s).trans ?_
    rw [after0_3]
    refine (tile m c t ((flush0_3 t).mp hf) r s).trans ?_
    exact ((congrArg (G (a0 m c) (a1 m c) (a2 m c)) (emb_3 t r s)).trans (ref_eq m c _ _)).symm
  · obtain ⟨t, hf, h1, h2⟩ := cov (blkOf 1024 4 rfl (i 0)) (blkOf 1024 2 rfl (i 1))
    have hi : i = ((cfg0.win 3).blk t).view.emb (ix2 (inBlk 1024 4 rfl (i 0)) (inBlk 1024 2 rfl (i 1))) := by
      refine Eq.trans ?_ (emb_3 t _ _).symm
      rw [h1, h2]
      refine (eq_ix2 (n0 := 4096) (n1 := 2048) i).trans ?_
      exact congrArg₂ ix2 (pos_split 1024 4 rfl (i 0)) (pos_split 1024 2 rfl (i 1))
    rw [hi]
    exact ⟨t, (flush0_3 t).mpr hf, View.emb_mem_set _ _⟩

end

end Cert.Proof.M12

namespace Cert.Proof

open Idealize.ShloMosaic Idealize.SL.Sem

/-- The twelfth call's result is its reference's, of any arguments. -/
theorem value12 : Cert.algebraic_Kernel12Ideal_Reference12Ideal := fun m g m' g' _ hm => by
  refine ⟨fun c => M12.G (M12.a0 m c) (M12.a1 m c) (M12.a2 m c),
    (θ_run Cert.Kernel12Ideal.defs _ _).mono (fun _ h c => ⟨(h c).1.trans (M12.final m c), (h c).2⟩) (Cert.Kernel12Ideal.Value.run_blocks m g), ?_⟩
  refine (θ_run Cert.Reference12Ideal.defs _ _).mono (fun r h c => ⟨(h c).1.trans ?_, (h c).2⟩) (Cert.Reference12Ideal.Value.run (F := Ideal) m' g')
  rw [(hm c).1, (hm c).2.1, (hm c).2.2]

end Cert.Proof

end
-- ==== Proof.lean ====
/-
  The proof of `Cert.Claim`.

  The frames of the kernel and of its idealization are one proof, written for each of the two programs (they differ in the
  three named constants): `Cert.Proof.K.quiet` (Proof/K/Frame.lean) and `Cert.Proof.KI.quiet` (Proof/Frame.lean). The
  reference's frame is the generated run. The value is `KI.values` and `RI.values` (Proof/Alg.lean): both programs' results are
  the gradients of Proof/Math.lean.

  The four products of the backward pass of the multilayer perceptron (the second to the fifth program) have generated frames.
  Their values are in Proof/Mlp2.lean to Proof/Mlp5.lean, with the shared facts on tiles in Proof/Tile.lean.

  So have the two products of the backward pass of the projection to q, k and v (the sixth and the seventh program), the forward
  product of the perceptron's hidden layer (the eighth) and the projection itself (the ninth), the two products
  of the backward pass of the output projection (the tenth and the eleventh) and the perceptron's second product with the residual
  (the twelfth). Their values are in Proof/Proj6.lean, Proof/Proj7.lean, Proof/Mlp8.lean, Proof/Proj9.lean, Proof/Proj10.lean,
  Proof/Proj11.lean and Proof/Mlp12.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Pre_finite
public import proofs.«01_k».proof.Proof.Frame
public import proofs.«01_k».proof.Proof.K.Frame
public import proofs.«01_k».proof.Proof.Pre
public import proofs.«01_k».proof.Proof.Alg
public import proofs.«01_k».proof.Proof.Mlp2
public import proofs.«01_k».proof.Proof.Mlp3
public import proofs.«01_k».proof.Proof.Mlp4
public import proofs.«01_k».proof.Proof.Mlp5
public import proofs.«01_k».proof.Proof.Proj6
public import proofs.«01_k».proof.Proof.Proj7
public import proofs.«01_k».proof.Proof.Mlp8
public import proofs.«01_k».proof.Proof.Proj9
public import proofs.«01_k».proof.Proof.Proj10
public import proofs.«01_k».proof.Proof.Proj11
public import proofs.«01_k».proof.Proof.Mlp12
public import Idealize.ShloMosaic.Adequacy
public import Idealize.ShloMosaic.Init

@[expose] public section

noncomputable section

namespace Cert.Proof

open Idealize.ShloMosaic Idealize.SL.Sem

/-- The kernel's runs end, the arguments unchanged, the semaphores at zero. -/
theorem frame_kernel : Cert.quiescent_Kernel := fun m g _ => K.quiet (F := Bits) m g

/-- The same of its idealization. -/
theorem frame_ideal : Cert.quiescent_KernelIdeal := fun m g _ => KI.quiet (F := Ideal) m g

/-- The same of the reference, which declares no semaphore. -/
theorem frame_reference : Cert.quiescent_ReferenceIdeal := fun m g _ =>
  (θ_run Cert.ReferenceIdeal.defs _ _).mono
    (fun _ h => ⟨fun c => (h c).2.2.2.2.2, Idealize.ShloMosaic.sem_eq_zero_of_no_sems (by decide) _⟩)
    (Cert.ReferenceIdeal.Value.run (F := Ideal) m g)

/-- Each of the three named constants is rounded to the kernel's literal. -/
theorem preserved : Cert.preserves_Kernel_KernelIdeal :=
  ⟨IdealRules.named_const.statement Cert.KernelIdeal.κ "log2e" .f32 _ _ rfl,
    IdealRules.named_const.statement Cert.KernelIdeal.κ "scale2" .f32 _ _ rfl,
    IdealRules.named_const.statement Cert.KernelIdeal.κ "mask" .f32 _ _ rfl⟩

/-- Of arguments that are numbers, the kernel's five results are the reference's. -/
theorem value [Cert.Pre_finite.Facts] : Cert.algebraic_KernelIdeal_ReferenceIdeal_pre_finite := fun m g m' g' hp hm => by
  refine ⟨fun c => RI.rv102 (KI.m0 m c) (KI.m1 m c) (KI.m2 m c), fun c => RI.rv103 (KI.m0 m c) (KI.m1 m c) (KI.m2 m c),
    fun c => RI.rv104 (KI.m0 m c) (KI.m1 m c) (KI.m2 m c), fun c => RI.rv106 (KI.m0 m c) (KI.m1 m c) (KI.m2 m c),
    fun c => RI.rv108 (KI.m0 m c) (KI.m1 m c) (KI.m2 m c), KI.values m g (fun c => num_of_pre _ _ _ (hp c)), ?_⟩
  refine (θ_run Cert.ReferenceIdeal.defs _ _).mono (fun r h c => ?_) (RI.values m' g')
  have e0 : RI.m0 m' c = KI.m0 m c := (hm c).1
  have e1 : RI.m1 m' c = KI.m1 m c := (hm c).2.1
  have e2 : RI.m2 m' c = KI.m2 m c := (hm c).2.2
  have hc := h c
  rw [e0, e1, e2] at hc
  exact hc

/-- The frames of the second call, of its idealization and of its reference. -/
theorem frame_kernel2 : Cert.quiescent_Kernel2 := fun m ρ _ => Cert.Kernel2.Gen.frame m ρ
theorem frame_ideal2 : Cert.quiescent_Kernel2Ideal := fun m ρ _ => Cert.Kernel2Ideal.Gen.frame m ρ
theorem frame_reference2 : Cert.quiescent_Reference2Ideal := fun m g _ =>
  (θ_run Cert.Reference2Ideal.defs _ _).mono (fun _ h => ⟨fun c => (h c).2, Idealize.ShloMosaic.sem_eq_zero_of_no_sems (by decide) _⟩)
    (Cert.Reference2Ideal.Value.run (F := Ideal) m g)

/-- The frames of the third call, of its idealization and of its reference. -/
theorem frame_kernel3 : Cert.quiescent_Kernel3 := fun m ρ _ => Cert.Kernel3.Gen.frame m ρ
theorem frame_ideal3 : Cert.quiescent_Kernel3Ideal := fun m ρ _ => Cert.Kernel3Ideal.Gen.frame m ρ
theorem frame_reference3 : Cert.quiescent_Reference3Ideal := fun m g _ =>
  (θ_run Cert.Reference3Ideal.defs _ _).mono (fun _ h => ⟨fun c => (h c).2, Idealize.ShloMosaic.sem_eq_zero_of_no_sems (by decide) _⟩)
    (Cert.Reference3Ideal.Value.run (F := Ideal) m g)

/-- The frames of the fourth call, of its idealization and of its reference. -/
theorem frame_kernel4 : Cert.quiescent_Kernel4 := fun m ρ _ => Cert.Kernel4.Gen.frame m ρ
theorem frame_ideal4 : Cert.quiescent_Kernel4Ideal := fun m ρ _ => Cert.Kernel4Ideal.Gen.frame m ρ
theorem frame_reference4 : Cert.quiescent_Reference4Ideal := fun m g _ =>
  (θ_run Cert.Reference4Ideal.defs _ _).mono (fun _ h => ⟨fun c => (h c).2, Idealize.ShloMosaic.sem_eq_zero_of_no_sems (by decide) _⟩)
    (Cert.Reference4Ideal.Value.run (F := Ideal) m g)

/-- The frames of the fifth call, of its idealization and of its reference. -/
theorem frame_kernel5 : Cert.quiescent_Kernel5 := fun m ρ _ => Cert.Kernel5.Gen.frame m ρ
theorem frame_ideal5 : Cert.quiescent_Kernel5Ideal := fun m ρ _ => Cert.Kernel5Ideal.Gen.frame m ρ
theorem frame_reference5 : Cert.quiescent_Reference5Ideal := fun m g _ =>
  (θ_run Cert.Reference5Ideal.defs _ _).mono (fun _ h => ⟨fun c => (h c).2, Idealize.ShloMosaic.sem_eq_zero_of_no_sems (by decide) _⟩)
    (Cert.Reference5Ideal.Value.run (F := Ideal) m g)

/-- The frames of the sixth call, of its idealization and of its reference. -/
theorem frame_kernel6 : Cert.quiescent_Kernel6 := fun m ρ _ => Cert.Kernel6.Gen.frame m ρ
theorem frame_ideal6 : Cert.quiescent_Kernel6Ideal := fun m ρ _ => Cert.Kernel6Ideal.Gen.frame m ρ
theorem frame_reference6 : Cert.quiescent_Reference6Ideal := fun m g _ =>
  (θ_run Cert.Reference6Ideal.defs _ _).mono (fun _ h => ⟨fun c => (h c).2, Idealize.ShloMosaic.sem_eq_zero_of_no_sems (by decide) _⟩)
    (Cert.Reference6Ideal.Value.run (F := Ideal) m g)

/-- The frames of the seventh call, of its idealization and of its reference. -/
theorem frame_kernel7 : Cert.quiescent_Kernel7 := fun m ρ _ => Cert.Kernel7.Gen.frame m ρ
theorem frame_ideal7 : Cert.quiescent_Kernel7Ideal := fun m ρ _ => Cert.Kernel7Ideal.Gen.frame m ρ
theorem frame_reference7 : Cert.quiescent_Reference7Ideal := fun m g _ =>
  (θ_run Cert.Reference7Ideal.defs _ _).mono (fun _ h => ⟨fun c => (h c).2, Idealize.ShloMosaic.sem_eq_zero_of_no_sems (by decide) _⟩)
    (Cert.Reference7Ideal.Value.run (F := Ideal) m g)

/-- The frames of the eighth call, of its idealization and of its reference. -/
theorem frame_kernel8 : Cert.quiescent_Kernel8 := fun m ρ _ => Cert.Kernel8.Gen.frame m ρ
theorem frame_ideal8 : Cert.quiescent_Kernel8Ideal := fun m ρ _ => Cert.Kernel8Ideal.Gen.frame m ρ
theorem frame_reference8 : Cert.quiescent_Reference8Ideal := fun m g _ =>
  (θ_run Cert.Reference8Ideal.defs _ _).mono (fun _ h => ⟨fun c => (h c).2.2, Idealize.ShloMosaic.sem_eq_zero_of_no_sems (by decide) _⟩)
    (Cert.Reference8Ideal.Value.run (F := Ideal) m g)

/-- The frames of the ninth call, of its idealization and of its reference. -/
theorem frame_kernel9 : Cert.quiescent_Kernel9 := fun m ρ _ => Cert.Kernel9.Gen.frame m ρ
theorem frame_ideal9 : Cert.quiescent_Kernel9Ideal := fun m ρ _ => Cert.Kernel9Ideal.Gen.frame m ρ
theorem frame_reference9 : Cert.quiescent_Reference9Ideal := fun m g _ =>
  (θ_run Cert.Reference9Ideal.defs _ _).mono (fun _ h => ⟨fun c => (h c).2, Idealize.ShloMosaic.sem_eq_zero_of_no_sems (by decide) _⟩)
    (Cert.Reference9Ideal.Value.run (F := Ideal) m g)

/-- The frames of the tenth call, of its idealization and of its reference. -/
theorem frame_kernel10 : Cert.quiescent_Kernel10 := fun m ρ _ => Cert.Kernel10.Gen.frame m ρ
theorem frame_ideal10 : Cert.quiescent_Kernel10Ideal := fun m ρ _ => Cert.Kernel10Ideal.Gen.frame m ρ
theorem frame_reference10 : Cert.quiescent_Reference10Ideal := fun m g _ =>
  (θ_run Cert.Reference10Ideal.defs _ _).mono (fun _ h => ⟨fun c => (h c).2, Idealize.ShloMosaic.sem_eq_zero_of_no_sems (by decide) _⟩)
    (Cert.Reference10Ideal.Value.run (F := Ideal) m g)

/-- The frames of the eleventh call, of its idealization and of its reference. -/
theorem frame_kernel11 : Cert.quiescent_Kernel11 := fun m ρ _ => Cert.Kernel11.Gen.frame m ρ
theorem frame_ideal11 : Cert.quiescent_Kernel11Ideal := fun m ρ _ => Cert.Kernel11Ideal.Gen.frame m ρ
theorem frame_reference11 : Cert.quiescent_Reference11Ideal := fun m g _ =>
  (θ_run Cert.Reference11Ideal.defs _ _).mono (fun _ h => ⟨fun c => (h c).2, Idealize.ShloMosaic.sem_eq_zero_of_no_sems (by decide) _⟩)
    (Cert.Reference11Ideal.Value.run (F := Ideal) m g)

/-- The frames of the twelfth call, of its idealization and of its reference. -/
theorem frame_kernel12 : Cert.quiescent_Kernel12 := fun m ρ _ => Cert.Kernel12.Gen.frame m ρ
theorem frame_ideal12 : Cert.quiescent_Kernel12Ideal := fun m ρ _ => Cert.Kernel12Ideal.Gen.frame m ρ
theorem frame_reference12 : Cert.quiescent_Reference12Ideal := fun m g _ =>
  (θ_run Cert.Reference12Ideal.defs _ _).mono (fun _ h => ⟨fun c => (h c).2, Idealize.ShloMosaic.sem_eq_zero_of_no_sems (by decide) _⟩)
    (Cert.Reference12Ideal.Value.run (F := Ideal) m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Pre_finite.Gen.facts,
  frame_kernel, frame_ideal, fun m g _ => frame_ideal m g trivial, frame_reference, fun m g _ => frame_reference m g trivial,
  frame_kernel2, frame_ideal2, frame_reference2,
  frame_kernel3, frame_ideal3, frame_reference3,
  frame_kernel4, frame_ideal4, frame_reference4,
  frame_kernel5, frame_ideal5, frame_reference5,
  frame_kernel6, frame_ideal6, frame_reference6,
  frame_kernel7, frame_ideal7, frame_reference7,
  frame_kernel8, frame_ideal8, frame_reference8,
  frame_kernel9, frame_ideal9, frame_reference9,
  frame_kernel10, frame_ideal10, frame_reference10,
  frame_kernel11, frame_ideal11, frame_reference11,
  frame_kernel12, frame_ideal12, frame_reference12,
  preserved, value, trivial, value2, trivial, value3, trivial, value4, trivial, value5, trivial, value6, trivial, value7, trivial, value8, trivial, value9, trivial, value10, trivial, value11,
  trivial, value12⟩

end Cert.Proof

end
